-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwRefIdeal (m : (ℓ : Loc Cert.GateUpDwRefIdeal.nD Cert.GateUpDwRefIdeal.τ Cert.GateUpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateUpDx (m : (ℓ : Loc Cert.GateUpDx.nD Cert.GateUpDx.τ Cert.GateUpDx.sig) → Buf (Elt Bits) ℓ) : Prop :=
  True

def Pre_GateUpDxIdeal (m : (ℓ : Loc Cert.GateUpDxIdeal.nD Cert.GateUpDxIdeal.τ Cert.GateUpDxIdeal.sig) → Buf (Elt Ideal) ℓ) : Prop :=
  True

def Pre_GateUpDxRefIdeal (m : (ℓ : Loc Cert.GateUpDxRefIdeal.nD Cert.GateUpDxRefIdeal.τ Cert.GateUpDxRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_InProjAg (m : (ℓ : Loc Cert.InProjAg.nD Cert.InProjAg.τ Cert.InProjAg.sig) → Buf (Elt Bits) ℓ) : Prop :=
  True

def Pre_InProjAgIdeal (m : (ℓ : Loc Cert.InProjAgIdeal.nD Cert.InProjAgIdeal.τ Cert.InProjAgIdeal.sig) → Buf (Elt Ideal) ℓ) : Prop :=
  True

def Pre_InProjAgRefIdeal (m : (ℓ : Loc Cert.InProjAgRefIdeal.nD Cert.InProjAgRefIdeal.τ Cert.InProjAgRefIdeal.sig) → Buf (Elt Ideal) ℓ) : Prop :=
  True

def Pre_InProjAgDw (m : (ℓ : Loc Cert.InProjAgDw.nD Cert.InProjAgDw.τ Cert.InProjAgDw.sig) → Buf (Elt Bits) ℓ) : Prop :=
  True

def Pre_InProjAgDwIdeal (m : (ℓ : Loc Cert.InProjAgDwIdeal.nD Cert.InProjAgDwIdeal.τ Cert.InProjAgDwIdeal.sig) → Buf (Elt Ideal) ℓ) : Prop :=
  True

def Pre_InProjAgDwRefIdeal (m : (ℓ : Loc Cert.InProjAgDwRefIdeal.nD Cert.InProjAgDwRefIdeal.τ Cert.InProjAgDwRefIdeal.sig) → Buf (Elt Ideal) ℓ) : Prop :=
  True

def Pre_InProjZ2 (m : (ℓ : Loc Cert.InProjZ2.nD Cert.InProjZ2.τ Cert.InProjZ2.sig) → Buf (Elt Bits) ℓ) : Prop :=
  True

def Pre_InProjZ2Ideal (m : (ℓ : Loc Cert.InProjZ2Ideal.nD Cert.InProjZ2Ideal.τ Cert.InProjZ2Ideal.sig) → Buf (Elt Ideal) ℓ) : Prop :=
  True

def Pre_InProjZ2RefIdeal (m : (ℓ : Loc Cert.InProjZ2RefIdeal.nD Cert.InProjZ2RefIdeal.τ Cert.InProjZ2RefIdeal.sig) → Buf (Elt Ideal) ℓ) : Prop :=
  True

def Pre_InProjZ2Dw (m : (ℓ : Loc Cert.InProjZ2Dw.nD Cert.InProjZ2Dw.τ Cert.InProjZ2Dw.sig) → Buf (Elt Bits) ℓ) : Prop :=
  True

def Pre_InProjZ2DwIdeal (m : (ℓ : Loc Cert.InProjZ2DwIdeal.nD Cert.InProjZ2DwIdeal.τ Cert.InProjZ2DwIdeal.sig) → Buf (Elt Ideal) ℓ) : Prop :=
  True

def Pre_InProjZ2DwRefIdeal (m : (ℓ : Loc Cert.InProjZ2DwRefIdeal.nD Cert.InProjZ2DwRefIdeal.τ Cert.InProjZ2DwRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_QUpDx (m : (ℓ : Loc Cert.QUpDx.nD Cert.QUpDx.τ Cert.QUpDx.sig) → Buf (Elt Bits) ℓ) : Prop :=
  True

def Pre_QUpDxIdeal (m : (ℓ : Loc Cert.QUpDxIdeal.nD Cert.QUpDxIdeal.τ Cert.QUpDxIdeal.sig) → Buf (Elt Ideal) ℓ) : Prop :=
  True

def Pre_QUpDxRefIdeal (m : (ℓ : Loc Cert.QUpDxRefIdeal.nD Cert.QUpDxRefIdeal.τ Cert.QUpDxRefIdeal.sig) → Buf (Elt Ideal) ℓ) : Prop :=
  True

def Pre_QUpDw (m : (ℓ : Loc Cert.QUpDw.nD Cert.QUpDw.τ Cert.QUpDw.sig) → Buf (Elt Bits) ℓ) : Prop :=
  True

def Pre_QUpDwIdeal (m : (ℓ : Loc Cert.QUpDwIdeal.nD Cert.QUpDwIdeal.τ Cert.QUpDwIdeal.sig) → Buf (Elt Ideal) ℓ) : Prop :=
  True

def Pre_QUpDwRefIdeal (m : (ℓ : Loc Cert.QUpDwRefIdeal.nD Cert.QUpDwRefIdeal.τ Cert.QUpDwRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_KvUpDx (m : (ℓ : Loc Cert.KvUpDx.nD Cert.KvUpDx.τ Cert.KvUpDx.sig) → Buf (Elt Bits) ℓ) : Prop :=
  True

def Pre_KvUpDxIdeal (m : (ℓ : Loc Cert.KvUpDxIdeal.nD Cert.KvUpDxIdeal.τ Cert.KvUpDxIdeal.sig) → Buf (Elt Ideal) ℓ) : Prop :=
  True

def Pre_KvUpDxRefIdeal (m : (ℓ : Loc Cert.KvUpDxRefIdeal.nD Cert.KvUpDxRefIdeal.τ Cert.KvUpDxRefIdeal.sig) → Buf (Elt Ideal) ℓ) : Prop :=
  True

def Pre_KvUpDw (m : (ℓ : Loc Cert.KvUpDw.nD Cert.KvUpDw.τ Cert.KvUpDw.sig) → Buf (Elt Bits) ℓ) : Prop :=
  True

def Pre_KvUpDwIdeal (m : (ℓ : Loc Cert.KvUpDwIdeal.nD Cert.KvUpDwIdeal.τ Cert.KvUpDwIdeal.sig) → Buf (Elt Ideal) ℓ) : Prop :=
  True

def Pre_KvUpDwRefIdeal (m : (ℓ : Loc Cert.KvUpDwRefIdeal.nD Cert.KvUpDwRefIdeal.τ Cert.KvUpDwRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxIdeal_finite3 [hPre_finite3 : Cert.Pre_finite3.Facts] (m : (ℓ : Loc Cert.DownDxIdeal.nD Cert.DownDxIdeal.τ Cert.DownDxIdeal.sig) → Buf (Elt Ideal) ℓ) : Prop :=
  ∀ c : Dev Cert.DownDxIdeal.nD,
    (Cert.Pre_finite3.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))).1 = (fun _ => 1#1)
    ∧ (Cert.Pre_finite3.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))).2.1 = (fun _ => 1#1)
    ∧ (Cert.Pre_finite3.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))).2.2 = (fun _ => 1#1)

def Pre_DownDxRefIdeal (m : (ℓ : Loc Cert.DownDxRefIdeal.nD Cert.DownDxRefIdeal.τ Cert.DownDxRefIdeal.sig) → Buf (Elt Ideal) ℓ) : Prop :=
  True

def Pre_DownDxRefIdeal_finite3 [hPre_finite3 : Cert.Pre_finite3.Facts] (m : (ℓ : Loc Cert.DownDxRefIdeal.nD Cert.DownDxRefIdeal.τ Cert.DownDxRefIdeal.sig) → Buf (Elt Ideal) ℓ) : Prop :=
  ∀ c : Dev Cert.DownDxRefIdeal.nD,
    (Cert.Pre_finite3.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))).1 = (fun _ => 1#1)
    ∧ (Cert.Pre_finite3.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))).2.1 = (fun _ => 1#1)
    ∧ (Cert.Pre_finite3.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ r.2.sem = fun _ => 0)

def quiescent_GateUpDwRefIdeal [hGateUpDwRefIdeal : Cert.GateUpDwRefIdeal.Facts] : Prop :=
  ∀ (m : (ℓ : Loc Cert.GateUpDwRefIdeal.nD Cert.GateUpDwRefIdeal.τ Cert.GateUpDwRefIdeal.sig) → Buf (Elt Ideal) ℓ) (g : Dev Cert.GateUpDwRefIdeal.nD → PrngReg), Pre_GateUpDwRefIdeal m →
    θ_run (Cert.GateUpDwRefIdeal.defs (F := Ideal)) (onTc (τ := Cert.GateUpDwRefIdeal.τ) (Cert.GateUpDwRefIdeal.main (F := Ideal))) ⟨m, fun _ => 0, g⟩ (fun r => (∀ c : Dev Cert.GateUpDwRefIdeal.nD,
      r.2.mem ((c.tc : Thread Cert.GateUpDwRefIdeal.nD Cert.GateUpDwRefIdeal.τ).loc Cert.GateUpDwRefIdeal.main_arg0) = m ((c.tc : Thread Cert.GateUpDwRefIdeal.nD Cert.GateUpDwRefIdeal.τ).loc Cert.GateUpDwRefIdeal.main_arg0)
      ∧ r.2.mem ((c.tc : Thread Cert.GateUpDwRefIdeal.nD Cert.GateUpDwRefIdeal.τ).loc Cert.GateUpDwRefIdeal.main_arg1) = m ((c.tc : Thread Cert.GateUpDwRefIdeal.nD Cert.GateUpDwRefIdeal.τ).loc Cert.GateUpDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GateUpDx [hGateUpDx : Cert.GateUpDx.Facts] : Prop :=
  ∀ (m : (ℓ : Loc Cert.GateUpDx.nD Cert.GateUpDx.τ Cert.GateUpDx.sig) → Buf (Elt Bits) ℓ) (g : Dev Cert.GateUpDx.nD → PrngReg), Pre_GateUpDx m →
    θ_run (Cert.GateUpDx.defs (F := Bits)) (onTc (τ := Cert.GateUpDx.τ) (Cert.GateUpDx.main (F := Bits))) ⟨m, fun _ => 0, g⟩ (fun r => (∀ c : Dev Cert.GateUpDx.nD,
      r.2.mem ((c.tc : Thread Cert.GateUpDx.nD Cert.GateUpDx.τ).loc Cert.GateUpDx.main_arg0) = m ((c.tc : Thread Cert.GateUpDx.nD Cert.GateUpDx.τ).loc Cert.GateUpDx.main_arg0)
      ∧ r.2.mem ((c.tc : Thread Cert.GateUpDx.nD Cert.GateUpDx.τ).loc Cert.GateUpDx.main_arg1) = m ((c.tc : Thread Cert.GateUpDx.nD Cert.GateUpDx.τ).loc Cert.GateUpDx.main_arg1))
      ∧ r.2.sem = fun _ => 0)

def quiescent_GateUpDxIdeal [hGateUpDxIdeal : Cert.GateUpDxIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1))
      ∧ r.2.sem = fun _ => 0)

def quiescent_GateUpDxRefIdeal [hGateUpDxRefIdeal : Cert.GateUpDxRefIdeal.Facts] : Prop :=
  ∀ (m : (ℓ : Loc Cert.GateUpDxRefIdeal.nD Cert.GateUpDxRefIdeal.τ Cert.GateUpDxRefIdeal.sig) → Buf (Elt Ideal) ℓ) (g : Dev Cert.GateUpDxRefIdeal.nD → PrngReg), Pre_GateUpDxRefIdeal m →
    θ_run (Cert.GateUpDxRefIdeal.defs (F := Ideal)) (onTc (τ := Cert.GateUpDxRefIdeal.τ) (Cert.GateUpDxRefIdeal.main (F := Ideal))) ⟨m, fun _ => 0, g⟩ (fun r => (∀ c : Dev Cert.GateUpDxRefIdeal.nD,
      r.2.mem ((c.tc : Thread Cert.GateUpDxRefIdeal.nD Cert.GateUpDxRefIdeal.τ).loc Cert.GateUpDxRefIdeal.main_arg0) = m ((c.tc : Thread Cert.GateUpDxRefIdeal.nD Cert.GateUpDxRefIdeal.τ).loc Cert.GateUpDxRefIdeal.main_arg0)
      ∧ r.2.mem ((c.tc : Thread Cert.GateUpDxRefIdeal.nD Cert.GateUpDxRefIdeal.τ).loc Cert.GateUpDxRefIdeal.main_arg1) = m ((c.tc : Thread Cert.GateUpDxRefIdeal.nD Cert.GateUpDxRefIdeal.τ).loc Cert.GateUpDxRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_InProjAg [hInProjAg : Cert.InProjAg.Facts] : Prop :=
  ∀ (m : (ℓ : Loc Cert.InProjAg.nD Cert.InProjAg.τ Cert.InProjAg.sig) → Buf (Elt Bits) ℓ) (g : Dev Cert.InProjAg.nD → PrngReg), Pre_InProjAg m →
    θ_run (Cert.InProjAg.defs (F := Bits)) (onTc (τ := Cert.InProjAg.τ) (Cert.InProjAg.main (F := Bits))) ⟨m, fun _ => 0, g⟩ (fun r => (∀ c : Dev Cert.InProjAg.nD,
      r.2.mem ((c.tc : Thread Cert.InProjAg.nD Cert.InProjAg.τ).loc Cert.InProjAg.main_arg0) = m ((c.tc : Thread Cert.InProjAg.nD Cert.InProjAg.τ).loc Cert.InProjAg.main_arg0)
      ∧ r.2.mem ((c.tc : Thread Cert.InProjAg.nD Cert.InProjAg.τ).loc Cert.InProjAg.main_arg1) = m ((c.tc : Thread Cert.InProjAg.nD Cert.InProjAg.τ).loc Cert.InProjAg.main_arg1))
      ∧ r.2.sem = fun _ => 0)

def quiescent_InProjAgIdeal [hInProjAgIdeal : Cert.InProjAgIdeal.Facts] : Prop :=
  ∀ (m : (ℓ : Loc Cert.InProjAgIdeal.nD Cert.InProjAgIdeal.τ Cert.InProjAgIdeal.sig) → Buf (Elt Ideal) ℓ) (g : Dev Cert.InProjAgIdeal.nD → PrngReg), Pre_InProjAgIdeal m →
    θ_run (Cert.InProjAgIdeal.defs (F := Ideal)) (onTc (τ := Cert.InProjAgIdeal.τ) (Cert.InProjAgIdeal.main (F := Ideal))) ⟨m, fun _ => 0, g⟩ (fun r => (∀ c : Dev Cert.InProjAgIdeal.nD,
      r.2.mem ((c.tc : Thread Cert.InProjAgIdeal.nD Cert.InProjAgIdeal.τ).loc Cert.InProjAgIdeal.main_arg0) = m ((c.tc : Thread Cert.InProjAgIdeal.nD Cert.InProjAgIdeal.τ).loc Cert.InProjAgIdeal.main_arg0)
      ∧ r.2.mem ((c.tc : Thread Cert.InProjAgIdeal.nD Cert.InProjAgIdeal.τ).loc Cert.InProjAgIdeal.main_arg1) = m ((c.tc : Thread Cert.InProjAgIdeal.nD Cert.InProjAgIdeal.τ).loc Cert.InProjAgIdeal.main_arg1))
      ∧ r.2.sem = fun _ => 0)

def quiescent_InProjAgRefIdeal [hInProjAgRefIdeal : Cert.InProjAgRefIdeal.Facts] : Prop :=
  ∀ (m : (ℓ : Loc Cert.InProjAgRefIdeal.nD Cert.InProjAgRefIdeal.τ Cert.InProjAgRefIdeal.sig) → Buf (Elt Ideal) ℓ) (g : Dev Cert.InProjAgRefIdeal.nD → PrngReg), Pre_InProjAgRefIdeal m →
    θ_run (Cert.InProjAgRefIdeal.defs (F := Ideal)) (onTc (τ := Cert.InProjAgRefIdeal.τ) (Cert.InProjAgRefIdeal.main (F := Ideal))) ⟨m, fun _ => 0, g⟩ (fun r => (∀ c : Dev Cert.InProjAgRefIdeal.nD,
      r.2.mem ((c.tc : Thread Cert.InProjAgRefIdeal.nD Cert.InProjAgRefIdeal.τ).loc Cert.InProjAgRefIdeal.main_arg0) = m ((c.tc : Thread Cert.InProjAgRefIdeal.nD Cert.InProjAgRefIdeal.τ).loc Cert.InProjAgRefIdeal.main_arg0)
      ∧ r.2.mem ((c.tc : Thread Cert.InProjAgRefIdeal.nD Cert.InProjAgRefIdeal.τ).loc Cert.InProjAgRefIdeal.main_arg1) = m ((c.tc : Thread Cert.InProjAgRefIdeal.nD Cert.InProjAgRefIdeal.τ).loc Cert.InProjAgRefIdeal.main_arg1))
      ∧ r.2.sem = fun _ => 0)

def quiescent_InProjAgDw [hInProjAgDw : Cert.InProjAgDw.Facts] : Prop :=
  ∀ (m : (ℓ : Loc Cert.InProjAgDw.nD Cert.InProjAgDw.τ Cert.InProjAgDw.sig) → Buf (Elt Bits) ℓ) (g : Dev Cert.InProjAgDw.nD → PrngReg), Pre_InProjAgDw m →
    θ_run (Cert.InProjAgDw.defs (F := Bits)) (onTc (τ := Cert.InProjAgDw.τ) (Cert.InProjAgDw.main (F := Bits))) ⟨m, fun _ => 0, g⟩ (fun r => (∀ c : Dev Cert.InProjAgDw.nD,
      r.2.mem ((c.tc : Thread Cert.InProjAgDw.nD Cert.InProjAgDw.τ).loc Cert.InProjAgDw.main_arg0) = m ((c.tc : Thread Cert.InProjAgDw.nD Cert.InProjAgDw.τ).loc Cert.InProjAgDw.main_arg0)
      ∧ r.2.mem ((c.tc : Thread Cert.InProjAgDw.nD Cert.InProjAgDw.τ).loc Cert.InProjAgDw.main_arg1) = m ((c.tc : Thread Cert.InProjAgDw.nD Cert.InProjAgDw.τ).loc Cert.InProjAgDw.main_arg1))
      ∧ r.2.sem = fun _ => 0)

def quiescent_InProjAgDwIdeal [hInProjAgDwIdeal : Cert.InProjAgDwIdeal.Facts] : Prop :=
  ∀ (m : (ℓ : Loc Cert.InProjAgDwIdeal.nD Cert.InProjAgDwIdeal.τ Cert.InProjAgDwIdeal.sig) → Buf (Elt Ideal) ℓ) (g : Dev Cert.InProjAgDwIdeal.nD → PrngReg), Pre_InProjAgDwIdeal m →
    θ_run (Cert.InProjAgDwIdeal.defs (F := Ideal)) (onTc (τ := Cert.InProjAgDwIdeal.τ) (Cert.InProjAgDwIdeal.main (F := Ideal))) ⟨m, fun _ => 0, g⟩ (fun r => (∀ c : Dev Cert.InProjAgDwIdeal.nD,
      r.2.mem ((c.tc : Thread Cert.InProjAgDwIdeal.nD Cert.InProjAgDwIdeal.τ).loc Cert.InProjAgDwIdeal.main_arg0) = m ((c.tc : Thread Cert.InProjAgDwIdeal.nD Cert.InProjAgDwIdeal.τ).loc Cert.InProjAgDwIdeal.main_arg0)
      ∧ r.2.mem ((c.tc : Thread Cert.InProjAgDwIdeal.nD Cert.InProjAgDwIdeal.τ).loc Cert.InProjAgDwIdeal.main_arg1) = m ((c.tc : Thread Cert.InProjAgDwIdeal.nD Cert.InProjAgDwIdeal.τ).loc Cert.InProjAgDwIdeal.main_arg1))
      ∧ r.2.sem = fun _ => 0)

def quiescent_InProjAgDwRefIdeal [hInProjAgDwRefIdeal : Cert.InProjAgDwRefIdeal.Facts] : Prop :=
  ∀ (m : (ℓ : Loc Cert.InProjAgDwRefIdeal.nD Cert.InProjAgDwRefIdeal.τ Cert.InProjAgDwRefIdeal.sig) → Buf (Elt Ideal) ℓ) (g : Dev Cert.InProjAgDwRefIdeal.nD → PrngReg), Pre_InProjAgDwRefIdeal m →
    θ_run (Cert.InProjAgDwRefIdeal.defs (F := Ideal)) (onTc (τ := Cert.InProjAgDwRefIdeal.τ) (Cert.InProjAgDwRefIdeal.main (F := Ideal))) ⟨m, fun _ => 0, g⟩ (fun r => (∀ c : Dev Cert.InProjAgDwRefIdeal.nD,
      r.2.mem ((c.tc : Thread Cert.InProjAgDwRefIdeal.nD Cert.InProjAgDwRefIdeal.τ).loc Cert.InProjAgDwRefIdeal.main_arg0) = m ((c.tc : Thread Cert.InProjAgDwRefIdeal.nD Cert.InProjAgDwRefIdeal.τ).loc Cert.InProjAgDwRefIdeal.main_arg0)
      ∧ r.2.mem ((c.tc : Thread Cert.InProjAgDwRefIdeal.nD Cert.InProjAgDwRefIdeal.τ).loc Cert.InProjAgDwRefIdeal.main_arg1) = m ((c.tc : Thread Cert.InProjAgDwRefIdeal.nD Cert.InProjAgDwRefIdeal.τ).loc Cert.InProjAgDwRefIdeal.main_arg1))
      ∧ r.2.sem = fun _ => 0)

def quiescent_InProjZ2 [hInProjZ2 : Cert.InProjZ2.Facts] : Prop :=
  ∀ (m : (ℓ : Loc Cert.InProjZ2.nD Cert.InProjZ2.τ Cert.InProjZ2.sig) → Buf (Elt Bits) ℓ) (g : Dev Cert.InProjZ2.nD → PrngReg), Pre_InProjZ2 m →
    θ_run (Cert.InProjZ2.defs (F := Bits)) (onTc (τ := Cert.InProjZ2.τ) (Cert.InProjZ2.main (F := Bits))) ⟨m, fun _ => 0, g⟩ (fun r => (∀ c : Dev Cert.InProjZ2.nD,
      r.2.mem ((c.tc : Thread Cert.InProjZ2.nD Cert.InProjZ2.τ).loc Cert.InProjZ2.main_arg0) = m ((c.tc : Thread Cert.InProjZ2.nD Cert.InProjZ2.τ).loc Cert.InProjZ2.main_arg0)
      ∧ r.2.mem ((c.tc : Thread Cert.InProjZ2.nD Cert.InProjZ2.τ).loc Cert.InProjZ2.main_arg1) = m ((c.tc : Thread Cert.InProjZ2.nD Cert.InProjZ2.τ).loc Cert.InProjZ2.main_arg1))
      ∧ r.2.sem = fun _ => 0)

def quiescent_InProjZ2Ideal [hInProjZ2Ideal : Cert.InProjZ2Ideal.Facts] : Prop :=
  ∀ (m : (ℓ : Loc Cert.InProjZ2Ideal.nD Cert.InProjZ2Ideal.τ Cert.InProjZ2Ideal.sig) → Buf (Elt Ideal) ℓ) (g : Dev Cert.InProjZ2Ideal.nD → PrngReg), Pre_InProjZ2Ideal m →
    θ_run (Cert.InProjZ2Ideal.defs (F := Ideal)) (onTc (τ := Cert.InProjZ2Ideal.τ) (Cert.InProjZ2Ideal.main (F := Ideal))) ⟨m, fun _ => 0, g⟩ (fun r => (∀ c : Dev Cert.InProjZ2Ideal.nD,
      r.2.mem ((c.tc : Thread Cert.InProjZ2Ideal.nD Cert.InProjZ2Ideal.τ).loc Cert.InProjZ2Ideal.main_arg0) = m ((c.tc : Thread Cert.InProjZ2Ideal.nD Cert.InProjZ2Ideal.τ).loc Cert.InProjZ2Ideal.main_arg0)
      ∧ r.2.mem ((c.tc : Thread Cert.InProjZ2Ideal.nD Cert.InProjZ2Ideal.τ).loc Cert.InProjZ2Ideal.main_arg1) = m ((c.tc : Thread Cert.InProjZ2Ideal.nD Cert.InProjZ2Ideal.τ).loc Cert.InProjZ2Ideal.main_arg1))
      ∧ r.2.sem = fun _ => 0)

def quiescent_InProjZ2RefIdeal [hInProjZ2RefIdeal : Cert.InProjZ2RefIdeal.Facts] : Prop :=
  ∀ (m : (ℓ : Loc Cert.InProjZ2RefIdeal.nD Cert.InProjZ2RefIdeal.τ Cert.InProjZ2RefIdeal.sig) → Buf (Elt Ideal) ℓ) (g : Dev Cert.InProjZ2RefIdeal.nD → PrngReg), Pre_InProjZ2RefIdeal m →
    θ_run (Cert.InProjZ2RefIdeal.defs (F := Ideal)) (onTc (τ := Cert.InProjZ2RefIdeal.τ) (Cert.InProjZ2RefIdeal.main (F := Ideal))) ⟨m, fun _ => 0, g⟩ (fun r => (∀ c : Dev Cert.InProjZ2RefIdeal.nD,
      r.2.mem ((c.tc : Thread Cert.InProjZ2RefIdeal.nD Cert.InProjZ2RefIdeal.τ).loc Cert.InProjZ2RefIdeal.main_arg0) = m ((c.tc : Thread Cert.InProjZ2RefIdeal.nD Cert.InProjZ2RefIdeal.τ).loc Cert.InProjZ2RefIdeal.main_arg0)
      ∧ r.2.mem ((c.tc : Thread Cert.InProjZ2RefIdeal.nD Cert.InProjZ2RefIdeal.τ).loc Cert.InProjZ2RefIdeal.main_arg1) = m ((c.tc : Thread Cert.InProjZ2RefIdeal.nD Cert.InProjZ2RefIdeal.τ).loc Cert.InProjZ2RefIdeal.main_arg1))
      ∧ r.2.sem = fun _ => 0)

def quiescent_InProjZ2Dw [hInProjZ2Dw : Cert.InProjZ2Dw.Facts] : Prop :=
  ∀ (m : (ℓ : Loc Cert.InProjZ2Dw.nD Cert.InProjZ2Dw.τ Cert.InProjZ2Dw.sig) → Buf (Elt Bits) ℓ) (g : Dev Cert.InProjZ2Dw.nD → PrngReg), Pre_InProjZ2Dw m →
    θ_run (Cert.InProjZ2Dw.defs (F := Bits)) (onTc (τ := Cert.InProjZ2Dw.τ) (Cert.InProjZ2Dw.main (F := Bits))) ⟨m, fun _ => 0, g⟩ (fun r => (∀ c : Dev Cert.InProjZ2Dw.nD,
      r.2.mem ((c.tc : Thread Cert.InProjZ2Dw.nD Cert.InProjZ2Dw.τ).loc Cert.InProjZ2Dw.main_arg0) = m ((c.tc : Thread Cert.InProjZ2Dw.nD Cert.InProjZ2Dw.τ).loc Cert.InProjZ2Dw.main_arg0)
      ∧ r.2.mem ((c.tc : Thread Cert.InProjZ2Dw.nD Cert.InProjZ2Dw.τ).loc Cert.InProjZ2Dw.main_arg1) = m ((c.tc : Thread Cert.InProjZ2Dw.nD Cert.InProjZ2Dw.τ).loc Cert.InProjZ2Dw.main_arg1))
      ∧ r.2.sem = fun _ => 0)

def quiescent_InProjZ2DwIdeal [hInProjZ2DwIdeal : Cert.InProjZ2DwIdeal.Facts] : Prop :=
  ∀ (m : (ℓ : Loc Cert.InProjZ2DwIdeal.nD Cert.InProjZ2DwIdeal.τ Cert.InProjZ2DwIdeal.sig) → Buf (Elt Ideal) ℓ) (g : Dev Cert.InProjZ2DwIdeal.nD → PrngReg), Pre_InProjZ2DwIdeal m →
    θ_run (Cert.InProjZ2DwIdeal.defs (F := Ideal)) (onTc (τ := Cert.InProjZ2DwIdeal.τ) (Cert.InProjZ2DwIdeal.main (F := Ideal))) ⟨m, fun _ => 0, g⟩ (fun r => (∀ c : Dev Cert.InProjZ2DwIdeal.nD,
      r.2.mem ((c.tc : Thread Cert.InProjZ2DwIdeal.nD Cert.InProjZ2DwIdeal.τ).loc Cert.InProjZ2DwIdeal.main_arg0) = m ((c.tc : Thread Cert.InProjZ2DwIdeal.nD Cert.InProjZ2DwIdeal.τ).loc Cert.InProjZ2DwIdeal.main_arg0)
      ∧ r.2.mem ((c.tc : Thread Cert.InProjZ2DwIdeal.nD Cert.InProjZ2DwIdeal.τ).loc Cert.InProjZ2DwIdeal.main_arg1) = m ((c.tc : Thread Cert.InProjZ2DwIdeal.nD Cert.InProjZ2DwIdeal.τ).loc Cert.InProjZ2DwIdeal.main_arg1))
      ∧ r.2.sem = fun _ => 0)

def quiescent_InProjZ2DwRefIdeal [hInProjZ2DwRefIdeal : Cert.InProjZ2DwRefIdeal.Facts] : Prop :=
  ∀ (m : (ℓ : Loc Cert.InProjZ2DwRefIdeal.nD Cert.InProjZ2DwRefIdeal.τ Cert.InProjZ2DwRefIdeal.sig) → Buf (Elt Ideal) ℓ) (g : Dev Cert.InProjZ2DwRefIdeal.nD → PrngReg), Pre_InProjZ2DwRefIdeal m →
    θ_run (Cert.InProjZ2DwRefIdeal.defs (F := Ideal)) (onTc (τ := Cert.InProjZ2DwRefIdeal.τ) (Cert.InProjZ2DwRefIdeal.main (F := Ideal))) ⟨m, fun _ => 0, g⟩ (fun r => (∀ c : Dev Cert.InProjZ2DwRefIdeal.nD,
      r.2.mem ((c.tc : Thread Cert.InProjZ2DwRefIdeal.nD Cert.InProjZ2DwRefIdeal.τ).loc Cert.InProjZ2DwRefIdeal.main_arg0) = m ((c.tc : Thread Cert.InProjZ2DwRefIdeal.nD Cert.InProjZ2DwRefIdeal.τ).loc Cert.InProjZ2DwRefIdeal.main_arg0)
      ∧ r.2.mem ((c.tc : Thread Cert.InProjZ2DwRefIdeal.nD Cert.InProjZ2DwRefIdeal.τ).loc Cert.InProjZ2DwRefIdeal.main_arg1) = m ((c.tc : Thread Cert.InProjZ2DwRefIdeal.nD Cert.InProjZ2DwRefIdeal.τ).loc Cert.InProjZ2DwRefIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1))
      ∧ r.2.sem = fun _ => 0)

def quiescent_QUpDx [hQUpDx : Cert.QUpDx.Facts] : Prop :=
  ∀ (m : (ℓ : Loc Cert.QUpDx.nD Cert.QUpDx.τ Cert.QUpDx.sig) → Buf (Elt Bits) ℓ) (g : Dev Cert.QUpDx.nD → PrngReg), Pre_QUpDx m →
    θ_run (Cert.QUpDx.defs (F := Bits)) (onTc (τ := Cert.QUpDx.τ) (Cert.QUpDx.main (F := Bits))) ⟨m, fun _ => 0, g⟩ (fun r => (∀ c : Dev Cert.QUpDx.nD,
      r.2.mem ((c.tc : Thread Cert.QUpDx.nD Cert.QUpDx.τ).loc Cert.QUpDx.main_arg0) = m ((c.tc : Thread Cert.QUpDx.nD Cert.QUpDx.τ).loc Cert.QUpDx.main_arg0)
      ∧ r.2.mem ((c.tc : Thread Cert.QUpDx.nD Cert.QUpDx.τ).loc Cert.QUpDx.main_arg1) = m ((c.tc : Thread Cert.QUpDx.nD Cert.QUpDx.τ).loc Cert.QUpDx.main_arg1))
      ∧ r.2.sem = fun _ => 0)

def quiescent_QUpDxIdeal [hQUpDxIdeal : Cert.QUpDxIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg), Pre_QUpDxIdeal m →
    θ_run (Cert.QUpDxIdeal.defs (F := Ideal)) (onTc (τ := Cert.QUpDxIdeal.τ) (Cert.QUpDxIdeal.main (F := Ideal))) ⟨m, fun _ => 0, g⟩ (fun r => (∀ c : Dev Cert.QUpDxIdeal.nD,
      r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
      ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ r.2.sem = fun _ => 0)

def quiescent_QUpDxRefIdeal [hQUpDxRefIdeal : Cert.QUpDxRefIdeal.Facts] : Prop :=
  ∀ (m : (ℓ : Loc Cert.QUpDxRefIdeal.nD Cert.QUpDxRefIdeal.τ Cert.QUpDxRefIdeal.sig) → Buf (Elt Ideal) ℓ) (g : Dev Cert.QUpDxRefIdeal.nD → PrngReg), Pre_QUpDxRefIdeal m →
    θ_run (Cert.QUpDxRefIdeal.defs (F := Ideal)) (onTc (τ := Cert.QUpDxRefIdeal.τ) (Cert.QUpDxRefIdeal.main (F := Ideal))) ⟨m, fun _ => 0, g⟩ (fun r => (∀ c : Dev Cert.QUpDxRefIdeal.nD,
      r.2.mem ((c.tc : Thread Cert.QUpDxRefIdeal.nD Cert.QUpDxRefIdeal.τ).loc Cert.QUpDxRefIdeal.main_arg0) = m ((c.tc : Thread Cert.QUpDxRefIdeal.nD Cert.QUpDxRefIdeal.τ).loc Cert.QUpDxRefIdeal.main_arg0)
      ∧ r.2.mem ((c.tc : Thread Cert.QUpDxRefIdeal.nD Cert.QUpDxRefIdeal.τ).loc Cert.QUpDxRefIdeal.main_arg1) = m ((c.tc : Thread Cert.QUpDxRefIdeal.nD Cert.QUpDxRefIdeal.τ).loc Cert.QUpDxRefIdeal.main_arg1))
      ∧ r.2.sem = fun _ => 0)

def quiescent_QUpDw [hQUpDw : Cert.QUpDw.Facts] : Prop :=
  ∀ (m : (ℓ : Loc Cert.QUpDw.nD Cert.QUpDw.τ Cert.QUpDw.sig) → Buf (Elt Bits) ℓ) (g : Dev Cert.QUpDw.nD → PrngReg), Pre_QUpDw m →
    θ_run (Cert.QUpDw.defs (F := Bits)) (onTc (τ := Cert.QUpDw.τ) (Cert.QUpDw.main (F := Bits))) ⟨m, fun _ => 0, g⟩ (fun r => (∀ c : Dev Cert.QUpDw.nD,
      r.2.mem ((c.tc : Thread Cert.QUpDw.nD Cert.QUpDw.τ).loc Cert.QUpDw.main_arg0) = m ((c.tc : Thread Cert.QUpDw.nD Cert.QUpDw.τ).loc Cert.QUpDw.main_arg0)
      ∧ r.2.mem ((c.tc : Thread Cert.QUpDw.nD Cert.QUpDw.τ).loc Cert.QUpDw.main_arg1) = m ((c.tc : Thread Cert.QUpDw.nD Cert.QUpDw.τ).loc Cert.QUpDw.main_arg1))
      ∧ r.2.sem = fun _ => 0)

def quiescent_QUpDwIdeal [hQUpDwIdeal : Cert.QUpDwIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg), Pre_QUpDwIdeal m →
    θ_run (Cert.QUpDwIdeal.defs (F := Ideal)) (onTc (τ := Cert.QUpDwIdeal.τ) (Cert.QUpDwIdeal.main (F := Ideal))) ⟨m, fun _ => 0, g⟩ (fun r => (∀ c : Dev Cert.QUpDwIdeal.nD,
      r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
      ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ r.2.sem = fun _ => 0)

def quiescent_QUpDwRefIdeal [hQUpDwRefIdeal : Cert.QUpDwRefIdeal.Facts] : Prop :=
  ∀ (m : (ℓ : Loc Cert.QUpDwRefIdeal.nD Cert.QUpDwRefIdeal.τ Cert.QUpDwRefIdeal.sig) → Buf (Elt Ideal) ℓ) (g : Dev Cert.QUpDwRefIdeal.nD → PrngReg), Pre_QUpDwRefIdeal m →
    θ_run (Cert.QUpDwRefIdeal.defs (F := Ideal)) (onTc (τ := Cert.QUpDwRefIdeal.τ) (Cert.QUpDwRefIdeal.main (F := Ideal))) ⟨m, fun _ => 0, g⟩ (fun r => (∀ c : Dev Cert.QUpDwRefIdeal.nD,
      r.2.mem ((c.tc : Thread Cert.QUpDwRefIdeal.nD Cert.QUpDwRefIdeal.τ).loc Cert.QUpDwRefIdeal.main_arg0) = m ((c.tc : Thread Cert.QUpDwRefIdeal.nD Cert.QUpDwRefIdeal.τ).loc Cert.QUpDwRefIdeal.main_arg0)
      ∧ r.2.mem ((c.tc : Thread Cert.QUpDwRefIdeal.nD Cert.QUpDwRefIdeal.τ).loc Cert.QUpDwRefIdeal.main_arg1) = m ((c.tc : Thread Cert.QUpDwRefIdeal.nD Cert.QUpDwRefIdeal.τ).loc Cert.QUpDwRefIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1))
      ∧ r.2.sem = fun _ => 0)

def quiescent_KvUpDx [hKvUpDx : Cert.KvUpDx.Facts] : Prop :=
  ∀ (m : (ℓ : Loc Cert.KvUpDx.nD Cert.KvUpDx.τ Cert.KvUpDx.sig) → Buf (Elt Bits) ℓ) (g : Dev Cert.KvUpDx.nD → PrngReg), Pre_KvUpDx m →
    θ_run (Cert.KvUpDx.defs (F := Bits)) (onTc (τ := Cert.KvUpDx.τ) (Cert.KvUpDx.main (F := Bits))) ⟨m, fun _ => 0, g⟩ (fun r => (∀ c : Dev Cert.KvUpDx.nD,
      r.2.mem ((c.tc : Thread Cert.KvUpDx.nD Cert.KvUpDx.τ).loc Cert.KvUpDx.main_arg0) = m ((c.tc : Thread Cert.KvUpDx.nD Cert.KvUpDx.τ).loc Cert.KvUpDx.main_arg0)
      ∧ r.2.mem ((c.tc : Thread Cert.KvUpDx.nD Cert.KvUpDx.τ).loc Cert.KvUpDx.main_arg1) = m ((c.tc : Thread Cert.KvUpDx.nD Cert.KvUpDx.τ).loc Cert.KvUpDx.main_arg1))
      ∧ r.2.sem = fun _ => 0)

def quiescent_KvUpDxIdeal [hKvUpDxIdeal : Cert.KvUpDxIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg), Pre_KvUpDxIdeal m →
    θ_run (Cert.KvUpDxIdeal.defs (F := Ideal)) (onTc (τ := Cert.KvUpDxIdeal.τ) (Cert.KvUpDxIdeal.main (F := Ideal))) ⟨m, fun _ => 0, g⟩ (fun r => (∀ c : Dev Cert.KvUpDxIdeal.nD,
      r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
      ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1))
      ∧ r.2.sem = fun _ => 0)

def quiescent_KvUpDxRefIdeal [hKvUpDxRefIdeal : Cert.KvUpDxRefIdeal.Facts] : Prop :=
  ∀ (m : (ℓ : Loc Cert.KvUpDxRefIdeal.nD Cert.KvUpDxRefIdeal.τ Cert.KvUpDxRefIdeal.sig) → Buf (Elt Ideal) ℓ) (g : Dev Cert.KvUpDxRefIdeal.nD → PrngReg), Pre_KvUpDxRefIdeal m →
    θ_run (Cert.KvUpDxRefIdeal.defs (F := Ideal)) (onTc (τ := Cert.KvUpDxRefIdeal.τ) (Cert.KvUpDxRefIdeal.main (F := Ideal))) ⟨m, fun _ => 0, g⟩ (fun r => (∀ c : Dev Cert.KvUpDxRefIdeal.nD,
      r.2.mem ((c.tc : Thread Cert.KvUpDxRefIdeal.nD Cert.KvUpDxRefIdeal.τ).loc Cert.KvUpDxRefIdeal.main_arg0) = m ((c.tc : Thread Cert.KvUpDxRefIdeal.nD Cert.KvUpDxRefIdeal.τ).loc Cert.KvUpDxRefIdeal.main_arg0)
      ∧ r.2.mem ((c.tc : Thread Cert.KvUpDxRefIdeal.nD Cert.KvUpDxRefIdeal.τ).loc Cert.KvUpDxRefIdeal.main_arg1) = m ((c.tc : Thread Cert.KvUpDxRefIdeal.nD Cert.KvUpDxRefIdeal.τ).loc Cert.KvUpDxRefIdeal.main_arg1))
      ∧ r.2.sem = fun _ => 0)

def quiescent_KvUpDw [hKvUpDw : Cert.KvUpDw.Facts] : Prop :=
  ∀ (m : (ℓ : Loc Cert.KvUpDw.nD Cert.KvUpDw.τ Cert.KvUpDw.sig) → Buf (Elt Bits) ℓ) (g : Dev Cert.KvUpDw.nD → PrngReg), Pre_KvUpDw m →
    θ_run (Cert.KvUpDw.defs (F := Bits)) (onTc (τ := Cert.KvUpDw.τ) (Cert.KvUpDw.main (F := Bits))) ⟨m, fun _ => 0, g⟩ (fun r => (∀ c : Dev Cert.KvUpDw.nD,
      r.2.mem ((c.tc : Thread Cert.KvUpDw.nD Cert.KvUpDw.τ).loc Cert.KvUpDw.main_arg0) = m ((c.tc : Thread Cert.KvUpDw.nD Cert.KvUpDw.τ).loc Cert.KvUpDw.main_arg0)
      ∧ r.2.mem ((c.tc : Thread Cert.KvUpDw.nD Cert.KvUpDw.τ).loc Cert.KvUpDw.main_arg1) = m ((c.tc : Thread Cert.KvUpDw.nD Cert.KvUpDw.τ).loc Cert.KvUpDw.main_arg1))
      ∧ r.2.sem = fun _ => 0)

def quiescent_KvUpDwIdeal [hKvUpDwIdeal : Cert.KvUpDwIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg), Pre_KvUpDwIdeal m →
    θ_run (Cert.KvUpDwIdeal.defs (F := Ideal)) (onTc (τ := Cert.KvUpDwIdeal.τ) (Cert.KvUpDwIdeal.main (F := Ideal))) ⟨m, fun _ => 0, g⟩ (fun r => (∀ c : Dev Cert.KvUpDwIdeal.nD,
      r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
      ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ r.2.sem = fun _ => 0)

def quiescent_KvUpDwRefIdeal [hKvUpDwRefIdeal : Cert.KvUpDwRefIdeal.Facts] : Prop :=
  ∀ (m : (ℓ : Loc Cert.KvUpDwRefIdeal.nD Cert.KvUpDwRefIdeal.τ Cert.KvUpDwRefIdeal.sig) → Buf (Elt Ideal) ℓ) (g : Dev Cert.KvUpDwRefIdeal.nD → PrngReg), Pre_KvUpDwRefIdeal m →
    θ_run (Cert.KvUpDwRefIdeal.defs (F := Ideal)) (onTc (τ := Cert.KvUpDwRefIdeal.τ) (Cert.KvUpDwRefIdeal.main (F := Ideal))) ⟨m, fun _ => 0, g⟩ (fun r => (∀ c : Dev Cert.KvUpDwRefIdeal.nD,
      r.2.mem ((c.tc : Thread Cert.KvUpDwRefIdeal.nD Cert.KvUpDwRefIdeal.τ).loc Cert.KvUpDwRefIdeal.main_arg0) = m ((c.tc : Thread Cert.KvUpDwRefIdeal.nD Cert.KvUpDwRefIdeal.τ).loc Cert.KvUpDwRefIdeal.main_arg0)
      ∧ r.2.mem ((c.tc : Thread Cert.KvUpDwRefIdeal.nD Cert.KvUpDwRefIdeal.τ).loc Cert.KvUpDwRefIdeal.main_arg1) = m ((c.tc : Thread Cert.KvUpDwRefIdeal.nD Cert.KvUpDwRefIdeal.τ).loc Cert.KvUpDwRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2)
      ∧ r.2.mem ((c.tc : Thread Cert.InProjDx.nD Cert.InProjDx.τ).loc Cert.InProjDx.main_arg3) = m ((c.tc : Thread Cert.InProjDx.nD Cert.InProjDx.τ).loc Cert.InProjDx.main_arg3))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxIdeal_pre_finite3 [hDownDxIdeal : Cert.DownDxIdeal.Facts] [hPre_finite3 : Cert.Pre_finite3.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal_finite3 m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDxRefIdeal_pre_finite3 [hDownDxRefIdeal : Cert.DownDxRefIdeal.Facts] [hPre_finite3 : Cert.Pre_finite3.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal_finite3 m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_GateUpDw_GateUpDwIdeal : Prop :=
  True

def algebraic_GateUpDwIdeal_GateUpDwRefIdeal [hGateUpDwIdeal : Cert.GateUpDwIdeal.Facts] [hGateUpDwRefIdeal : Cert.GateUpDwRefIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwRefIdeal.nD Cert.GateUpDwRefIdeal.τ Cert.GateUpDwRefIdeal.sig) → Buf (Elt Ideal) ℓ) (g' : Dev Cert.GateUpDwRefIdeal.nD → PrngReg), Pre_GateUpDwIdeal m →
    (∀ c : Dev Cert.GateUpDwIdeal.nD,
      m' ((c.tc : Thread Cert.GateUpDwRefIdeal.nD Cert.GateUpDwRefIdeal.τ).loc Cert.GateUpDwRefIdeal.main_arg0) = m ((c.tc : Thread Cert.GateUpDwIdeal.nD Cert.GateUpDwIdeal.τ).loc Cert.GateUpDwIdeal.main_arg0)
      ∧ m' ((c.tc : Thread Cert.GateUpDwRefIdeal.nD Cert.GateUpDwRefIdeal.τ).loc Cert.GateUpDwRefIdeal.main_arg1) = m ((c.tc : Thread Cert.GateUpDwIdeal.nD Cert.GateUpDwIdeal.τ).loc Cert.GateUpDwIdeal.main_arg1)) →
    ∃ (v0 : (c : Dev Cert.GateUpDwIdeal.nD) → Buf (Elt Ideal) ((c.tc : Thread Cert.GateUpDwIdeal.nD Cert.GateUpDwIdeal.τ).loc Cert.GateUpDwIdeal.main_v0)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v0) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ θ_run (Cert.GateUpDwRefIdeal.defs (F := Ideal)) (onTc (τ := Cert.GateUpDwRefIdeal.τ) (Cert.GateUpDwRefIdeal.main (F := Ideal))) ⟨m', fun _ => 0, g'⟩ (fun r => ∀ c : Dev Cert.GateUpDwRefIdeal.nD,
          r.2.mem ((c.tc : Thread Cert.GateUpDwRefIdeal.nD Cert.GateUpDwRefIdeal.τ).loc Cert.GateUpDwRefIdeal.main_v8) = v0 c
          ∧ r.2.mem ((c.tc : Thread Cert.GateUpDwRefIdeal.nD Cert.GateUpDwRefIdeal.τ).loc Cert.GateUpDwRefIdeal.main_arg0) = m' ((c.tc : Thread Cert.GateUpDwRefIdeal.nD Cert.GateUpDwRefIdeal.τ).loc Cert.GateUpDwRefIdeal.main_arg0)
          ∧ r.2.mem ((c.tc : Thread Cert.GateUpDwRefIdeal.nD Cert.GateUpDwRefIdeal.τ).loc Cert.GateUpDwRefIdeal.main_arg1) = m' ((c.tc : Thread Cert.GateUpDwRefIdeal.nD Cert.GateUpDwRefIdeal.τ).loc Cert.GateUpDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GateUpDx_GateUpDxIdeal : Prop :=
  True

def algebraic_GateUpDxIdeal_GateUpDxRefIdeal [hGateUpDxIdeal : Cert.GateUpDxIdeal.Facts] [hGateUpDxRefIdeal : Cert.GateUpDxRefIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg)
    (m' : (ℓ : Loc Cert.GateUpDxRefIdeal.nD Cert.GateUpDxRefIdeal.τ Cert.GateUpDxRefIdeal.sig) → Buf (Elt Ideal) ℓ) (g' : Dev Cert.GateUpDxRefIdeal.nD → PrngReg), Pre_GateUpDxIdeal m →
    (∀ c : Dev Cert.GateUpDxIdeal.nD,
      m' ((c.tc : Thread Cert.GateUpDxRefIdeal.nD Cert.GateUpDxRefIdeal.τ).loc Cert.GateUpDxRefIdeal.main_arg0) = m ((c.tc : Thread Cert.GateUpDxIdeal.nD Cert.GateUpDxIdeal.τ).loc Cert.GateUpDxIdeal.main_arg0)
      ∧ m' ((c.tc : Thread Cert.GateUpDxRefIdeal.nD Cert.GateUpDxRefIdeal.τ).loc Cert.GateUpDxRefIdeal.main_arg1) = m ((c.tc : Thread Cert.GateUpDxIdeal.nD Cert.GateUpDxIdeal.τ).loc Cert.GateUpDxIdeal.main_arg1)) →
    ∃ (v0 : (c : Dev Cert.GateUpDxIdeal.nD) → Buf (Elt Ideal) ((c.tc : Thread Cert.GateUpDxIdeal.nD Cert.GateUpDxIdeal.τ).loc Cert.GateUpDxIdeal.main_v0)),
      θ_run (Cert.GateUpDxIdeal.defs (F := Ideal)) (onTc (τ := Cert.GateUpDxIdeal.τ) (Cert.GateUpDxIdeal.main (F := Ideal))) ⟨m, fun _ => 0, g⟩ (fun r => ∀ c : Dev Cert.GateUpDxIdeal.nD,
          r.2.mem ((c.tc : Thread Cert.GateUpDxIdeal.nD Cert.GateUpDxIdeal.τ).loc Cert.GateUpDxIdeal.main_v0) = v0 c
          ∧ r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
          ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1))
      ∧ θ_run (Cert.GateUpDxRefIdeal.defs (F := Ideal)) (onTc (τ := Cert.GateUpDxRefIdeal.τ) (Cert.GateUpDxRefIdeal.main (F := Ideal))) ⟨m', fun _ => 0, g'⟩ (fun r => ∀ c : Dev Cert.GateUpDxRefIdeal.nD,
          r.2.mem ((c.tc : Thread Cert.GateUpDxRefIdeal.nD Cert.GateUpDxRefIdeal.τ).loc Cert.GateUpDxRefIdeal.main_v6) = v0 c
          ∧ r.2.mem ((c.tc : Thread Cert.GateUpDxRefIdeal.nD Cert.GateUpDxRefIdeal.τ).loc Cert.GateUpDxRefIdeal.main_arg0) = m' ((c.tc : Thread Cert.GateUpDxRefIdeal.nD Cert.GateUpDxRefIdeal.τ).loc Cert.GateUpDxRefIdeal.main_arg0)
          ∧ r.2.mem ((c.tc : Thread Cert.GateUpDxRefIdeal.nD Cert.GateUpDxRefIdeal.τ).loc Cert.GateUpDxRefIdeal.main_arg1) = m' ((c.tc : Thread Cert.GateUpDxRefIdeal.nD Cert.GateUpDxRefIdeal.τ).loc Cert.GateUpDxRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v5) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v6) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_InProjAg_InProjAgIdeal : Prop :=
  True

def algebraic_InProjAgIdeal_InProjAgRefIdeal [hInProjAgIdeal : Cert.InProjAgIdeal.Facts] [hInProjAgRefIdeal : Cert.InProjAgRefIdeal.Facts] : Prop :=
  ∀ (m : (ℓ : Loc Cert.InProjAgIdeal.nD Cert.InProjAgIdeal.τ Cert.InProjAgIdeal.sig) → Buf (Elt Ideal) ℓ) (g : Dev Cert.InProjAgIdeal.nD → PrngReg)
    (m' : (ℓ : Loc Cert.InProjAgRefIdeal.nD Cert.InProjAgRefIdeal.τ Cert.InProjAgRefIdeal.sig) → Buf (Elt Ideal) ℓ) (g' : Dev Cert.InProjAgRefIdeal.nD → PrngReg), Pre_InProjAgIdeal m →
    (∀ c : Dev Cert.InProjAgIdeal.nD,
      m' ((c.tc : Thread Cert.InProjAgRefIdeal.nD Cert.InProjAgRefIdeal.τ).loc Cert.InProjAgRefIdeal.main_arg0) = m ((c.tc : Thread Cert.InProjAgIdeal.nD Cert.InProjAgIdeal.τ).loc Cert.InProjAgIdeal.main_arg0)
      ∧ m' ((c.tc : Thread Cert.InProjAgRefIdeal.nD Cert.InProjAgRefIdeal.τ).loc Cert.InProjAgRefIdeal.main_arg1) = m ((c.tc : Thread Cert.InProjAgIdeal.nD Cert.InProjAgIdeal.τ).loc Cert.InProjAgIdeal.main_arg1)) →
    ∃ (v0 : (c : Dev Cert.InProjAgIdeal.nD) → Buf (Elt Ideal) ((c.tc : Thread Cert.InProjAgIdeal.nD Cert.InProjAgIdeal.τ).loc Cert.InProjAgIdeal.main_v0)),
      θ_run (Cert.InProjAgIdeal.defs (F := Ideal)) (onTc (τ := Cert.InProjAgIdeal.τ) (Cert.InProjAgIdeal.main (F := Ideal))) ⟨m, fun _ => 0, g⟩ (fun r => ∀ c : Dev Cert.InProjAgIdeal.nD,
          r.2.mem ((c.tc : Thread Cert.InProjAgIdeal.nD Cert.InProjAgIdeal.τ).loc Cert.InProjAgIdeal.main_v0) = v0 c
          ∧ r.2.mem ((c.tc : Thread Cert.InProjAgIdeal.nD Cert.InProjAgIdeal.τ).loc Cert.InProjAgIdeal.main_arg0) = m ((c.tc : Thread Cert.InProjAgIdeal.nD Cert.InProjAgIdeal.τ).loc Cert.InProjAgIdeal.main_arg0)
          ∧ r.2.mem ((c.tc : Thread Cert.InProjAgIdeal.nD Cert.InProjAgIdeal.τ).loc Cert.InProjAgIdeal.main_arg1) = m ((c.tc : Thread Cert.InProjAgIdeal.nD Cert.InProjAgIdeal.τ).loc Cert.InProjAgIdeal.main_arg1))
      ∧ θ_run (Cert.InProjAgRefIdeal.defs (F := Ideal)) (onTc (τ := Cert.InProjAgRefIdeal.τ) (Cert.InProjAgRefIdeal.main (F := Ideal))) ⟨m', fun _ => 0, g'⟩ (fun r => ∀ c : Dev Cert.InProjAgRefIdeal.nD,
          r.2.mem ((c.tc : Thread Cert.InProjAgRefIdeal.nD Cert.InProjAgRefIdeal.τ).loc Cert.InProjAgRefIdeal.main_v3) = v0 c
          ∧ r.2.mem ((c.tc : Thread Cert.InProjAgRefIdeal.nD Cert.InProjAgRefIdeal.τ).loc Cert.InProjAgRefIdeal.main_arg0) = m' ((c.tc : Thread Cert.InProjAgRefIdeal.nD Cert.InProjAgRefIdeal.τ).loc Cert.InProjAgRefIdeal.main_arg0)
          ∧ r.2.mem ((c.tc : Thread Cert.InProjAgRefIdeal.nD Cert.InProjAgRefIdeal.τ).loc Cert.InProjAgRefIdeal.main_arg1) = m' ((c.tc : Thread Cert.InProjAgRefIdeal.nD Cert.InProjAgRefIdeal.τ).loc Cert.InProjAgRefIdeal.main_arg1))

def preserves_InProjAgDw_InProjAgDwIdeal : Prop :=
  True

def algebraic_InProjAgDwIdeal_InProjAgDwRefIdeal [hInProjAgDwIdeal : Cert.InProjAgDwIdeal.Facts] [hInProjAgDwRefIdeal : Cert.InProjAgDwRefIdeal.Facts] : Prop :=
  ∀ (m : (ℓ : Loc Cert.InProjAgDwIdeal.nD Cert.InProjAgDwIdeal.τ Cert.InProjAgDwIdeal.sig) → Buf (Elt Ideal) ℓ) (g : Dev Cert.InProjAgDwIdeal.nD → PrngReg)
    (m' : (ℓ : Loc Cert.InProjAgDwRefIdeal.nD Cert.InProjAgDwRefIdeal.τ Cert.InProjAgDwRefIdeal.sig) → Buf (Elt Ideal) ℓ) (g' : Dev Cert.InProjAgDwRefIdeal.nD → PrngReg), Pre_InProjAgDwIdeal m →
    (∀ c : Dev Cert.InProjAgDwIdeal.nD,
      m' ((c.tc : Thread Cert.InProjAgDwRefIdeal.nD Cert.InProjAgDwRefIdeal.τ).loc Cert.InProjAgDwRefIdeal.main_arg0) = m ((c.tc : Thread Cert.InProjAgDwIdeal.nD Cert.InProjAgDwIdeal.τ).loc Cert.InProjAgDwIdeal.main_arg0)
      ∧ m' ((c.tc : Thread Cert.InProjAgDwRefIdeal.nD Cert.InProjAgDwRefIdeal.τ).loc Cert.InProjAgDwRefIdeal.main_arg1) = m ((c.tc : Thread Cert.InProjAgDwIdeal.nD Cert.InProjAgDwIdeal.τ).loc Cert.InProjAgDwIdeal.main_arg1)) →
    ∃ (v0 : (c : Dev Cert.InProjAgDwIdeal.nD) → Buf (Elt Ideal) ((c.tc : Thread Cert.InProjAgDwIdeal.nD Cert.InProjAgDwIdeal.τ).loc Cert.InProjAgDwIdeal.main_v0)),
      θ_run (Cert.InProjAgDwIdeal.defs (F := Ideal)) (onTc (τ := Cert.InProjAgDwIdeal.τ) (Cert.InProjAgDwIdeal.main (F := Ideal))) ⟨m, fun _ => 0, g⟩ (fun r => ∀ c : Dev Cert.InProjAgDwIdeal.nD,
          r.2.mem ((c.tc : Thread Cert.InProjAgDwIdeal.nD Cert.InProjAgDwIdeal.τ).loc Cert.InProjAgDwIdeal.main_v0) = v0 c
          ∧ r.2.mem ((c.tc : Thread Cert.InProjAgDwIdeal.nD Cert.InProjAgDwIdeal.τ).loc Cert.InProjAgDwIdeal.main_arg0) = m ((c.tc : Thread Cert.InProjAgDwIdeal.nD Cert.InProjAgDwIdeal.τ).loc Cert.InProjAgDwIdeal.main_arg0)
          ∧ r.2.mem ((c.tc : Thread Cert.InProjAgDwIdeal.nD Cert.InProjAgDwIdeal.τ).loc Cert.InProjAgDwIdeal.main_arg1) = m ((c.tc : Thread Cert.InProjAgDwIdeal.nD Cert.InProjAgDwIdeal.τ).loc Cert.InProjAgDwIdeal.main_arg1))
      ∧ θ_run (Cert.InProjAgDwRefIdeal.defs (F := Ideal)) (onTc (τ := Cert.InProjAgDwRefIdeal.τ) (Cert.InProjAgDwRefIdeal.main (F := Ideal))) ⟨m', fun _ => 0, g'⟩ (fun r => ∀ c : Dev Cert.InProjAgDwRefIdeal.nD,
          r.2.mem ((c.tc : Thread Cert.InProjAgDwRefIdeal.nD Cert.InProjAgDwRefIdeal.τ).loc Cert.InProjAgDwRefIdeal.main_v6) = v0 c
          ∧ r.2.mem ((c.tc : Thread Cert.InProjAgDwRefIdeal.nD Cert.InProjAgDwRefIdeal.τ).loc Cert.InProjAgDwRefIdeal.main_arg0) = m' ((c.tc : Thread Cert.InProjAgDwRefIdeal.nD Cert.InProjAgDwRefIdeal.τ).loc Cert.InProjAgDwRefIdeal.main_arg0)
          ∧ r.2.mem ((c.tc : Thread Cert.InProjAgDwRefIdeal.nD Cert.InProjAgDwRefIdeal.τ).loc Cert.InProjAgDwRefIdeal.main_arg1) = m' ((c.tc : Thread Cert.InProjAgDwRefIdeal.nD Cert.InProjAgDwRefIdeal.τ).loc Cert.InProjAgDwRefIdeal.main_arg1))

def preserves_InProjZ2_InProjZ2Ideal : Prop :=
  True

def algebraic_InProjZ2Ideal_InProjZ2RefIdeal [hInProjZ2Ideal : Cert.InProjZ2Ideal.Facts] [hInProjZ2RefIdeal : Cert.InProjZ2RefIdeal.Facts] : Prop :=
  ∀ (m : (ℓ : Loc Cert.InProjZ2Ideal.nD Cert.InProjZ2Ideal.τ Cert.InProjZ2Ideal.sig) → Buf (Elt Ideal) ℓ) (g : Dev Cert.InProjZ2Ideal.nD → PrngReg)
    (m' : (ℓ : Loc Cert.InProjZ2RefIdeal.nD Cert.InProjZ2RefIdeal.τ Cert.InProjZ2RefIdeal.sig) → Buf (Elt Ideal) ℓ) (g' : Dev Cert.InProjZ2RefIdeal.nD → PrngReg), Pre_InProjZ2Ideal m →
    (∀ c : Dev Cert.InProjZ2Ideal.nD,
      m' ((c.tc : Thread Cert.InProjZ2RefIdeal.nD Cert.InProjZ2RefIdeal.τ).loc Cert.InProjZ2RefIdeal.main_arg0) = m ((c.tc : Thread Cert.InProjZ2Ideal.nD Cert.InProjZ2Ideal.τ).loc Cert.InProjZ2Ideal.main_arg0)
      ∧ m' ((c.tc : Thread Cert.InProjZ2RefIdeal.nD Cert.InProjZ2RefIdeal.τ).loc Cert.InProjZ2RefIdeal.main_arg1) = m ((c.tc : Thread Cert.InProjZ2Ideal.nD Cert.InProjZ2Ideal.τ).loc Cert.InProjZ2Ideal.main_arg1)) →
    ∃ (v0 : (c : Dev Cert.InProjZ2Ideal.nD) → Buf (Elt Ideal) ((c.tc : Thread Cert.InProjZ2Ideal.nD Cert.InProjZ2Ideal.τ).loc Cert.InProjZ2Ideal.main_v0)),
      θ_run (Cert.InProjZ2Ideal.defs (F := Ideal)) (onTc (τ := Cert.InProjZ2Ideal.τ) (Cert.InProjZ2Ideal.main (F := Ideal))) ⟨m, fun _ => 0, g⟩ (fun r => ∀ c : Dev Cert.InProjZ2Ideal.nD,
          r.2.mem ((c.tc : Thread Cert.InProjZ2Ideal.nD Cert.InProjZ2Ideal.τ).loc Cert.InProjZ2Ideal.main_v0) = v0 c
          ∧ r.2.mem ((c.tc : Thread Cert.InProjZ2Ideal.nD Cert.InProjZ2Ideal.τ).loc Cert.InProjZ2Ideal.main_arg0) = m ((c.tc : Thread Cert.InProjZ2Ideal.nD Cert.InProjZ2Ideal.τ).loc Cert.InProjZ2Ideal.main_arg0)
          ∧ r.2.mem ((c.tc : Thread Cert.InProjZ2Ideal.nD Cert.InProjZ2Ideal.τ).loc Cert.InProjZ2Ideal.main_arg1) = m ((c.tc : Thread Cert.InProjZ2Ideal.nD Cert.InProjZ2Ideal.τ).loc Cert.InProjZ2Ideal.main_arg1))
      ∧ θ_run (Cert.InProjZ2RefIdeal.defs (F := Ideal)) (onTc (τ := Cert.InProjZ2RefIdeal.τ) (Cert.InProjZ2RefIdeal.main (F := Ideal))) ⟨m', fun _ => 0, g'⟩ (fun r => ∀ c : Dev Cert.InProjZ2RefIdeal.nD,
          r.2.mem ((c.tc : Thread Cert.InProjZ2RefIdeal.nD Cert.InProjZ2RefIdeal.τ).loc Cert.InProjZ2RefIdeal.main_v3) = v0 c
          ∧ r.2.mem ((c.tc : Thread Cert.InProjZ2RefIdeal.nD Cert.InProjZ2RefIdeal.τ).loc Cert.InProjZ2RefIdeal.main_arg0) = m' ((c.tc : Thread Cert.InProjZ2RefIdeal.nD Cert.InProjZ2RefIdeal.τ).loc Cert.InProjZ2RefIdeal.main_arg0)
          ∧ r.2.mem ((c.tc : Thread Cert.InProjZ2RefIdeal.nD Cert.InProjZ2RefIdeal.τ).loc Cert.InProjZ2RefIdeal.main_arg1) = m' ((c.tc : Thread Cert.InProjZ2RefIdeal.nD Cert.InProjZ2RefIdeal.τ).loc Cert.InProjZ2RefIdeal.main_arg1))

def preserves_InProjZ2Dw_InProjZ2DwIdeal : Prop :=
  True

def algebraic_InProjZ2DwIdeal_InProjZ2DwRefIdeal [hInProjZ2DwIdeal : Cert.InProjZ2DwIdeal.Facts] [hInProjZ2DwRefIdeal : Cert.InProjZ2DwRefIdeal.Facts] : Prop :=
  ∀ (m : (ℓ : Loc Cert.InProjZ2DwIdeal.nD Cert.InProjZ2DwIdeal.τ Cert.InProjZ2DwIdeal.sig) → Buf (Elt Ideal) ℓ) (g : Dev Cert.InProjZ2DwIdeal.nD → PrngReg)
    (m' : (ℓ : Loc Cert.InProjZ2DwRefIdeal.nD Cert.InProjZ2DwRefIdeal.τ Cert.InProjZ2DwRefIdeal.sig) → Buf (Elt Ideal) ℓ) (g' : Dev Cert.InProjZ2DwRefIdeal.nD → PrngReg), Pre_InProjZ2DwIdeal m →
    (∀ c : Dev Cert.InProjZ2DwIdeal.nD,
      m' ((c.tc : Thread Cert.InProjZ2DwRefIdeal.nD Cert.InProjZ2DwRefIdeal.τ).loc Cert.InProjZ2DwRefIdeal.main_arg0) = m ((c.tc : Thread Cert.InProjZ2DwIdeal.nD Cert.InProjZ2DwIdeal.τ).loc Cert.InProjZ2DwIdeal.main_arg0)
      ∧ m' ((c.tc : Thread Cert.InProjZ2DwRefIdeal.nD Cert.InProjZ2DwRefIdeal.τ).loc Cert.InProjZ2DwRefIdeal.main_arg1) = m ((c.tc : Thread Cert.InProjZ2DwIdeal.nD Cert.InProjZ2DwIdeal.τ).loc Cert.InProjZ2DwIdeal.main_arg1)) →
    ∃ (v0 : (c : Dev Cert.InProjZ2DwIdeal.nD) → Buf (Elt Ideal) ((c.tc : Thread Cert.InProjZ2DwIdeal.nD Cert.InProjZ2DwIdeal.τ).loc Cert.InProjZ2DwIdeal.main_v0)),
      θ_run (Cert.InProjZ2DwIdeal.defs (F := Ideal)) (onTc (τ := Cert.InProjZ2DwIdeal.τ) (Cert.InProjZ2DwIdeal.main (F := Ideal))) ⟨m, fun _ => 0, g⟩ (fun r => ∀ c : Dev Cert.InProjZ2DwIdeal.nD,
          r.2.mem ((c.tc : Thread Cert.InProjZ2DwIdeal.nD Cert.InProjZ2DwIdeal.τ).loc Cert.InProjZ2DwIdeal.main_v0) = v0 c
          ∧ r.2.mem ((c.tc : Thread Cert.InProjZ2DwIdeal.nD Cert.InProjZ2DwIdeal.τ).loc Cert.InProjZ2DwIdeal.main_arg0) = m ((c.tc : Thread Cert.InProjZ2DwIdeal.nD Cert.InProjZ2DwIdeal.τ).loc Cert.InProjZ2DwIdeal.main_arg0)
          ∧ r.2.mem ((c.tc : Thread Cert.InProjZ2DwIdeal.nD Cert.InProjZ2DwIdeal.τ).loc Cert.InProjZ2DwIdeal.main_arg1) = m ((c.tc : Thread Cert.InProjZ2DwIdeal.nD Cert.InProjZ2DwIdeal.τ).loc Cert.InProjZ2DwIdeal.main_arg1))
      ∧ θ_run (Cert.InProjZ2DwRefIdeal.defs (F := Ideal)) (onTc (τ := Cert.InProjZ2DwRefIdeal.τ) (Cert.InProjZ2DwRefIdeal.main (F := Ideal))) ⟨m', fun _ => 0, g'⟩ (fun r => ∀ c : Dev Cert.InProjZ2DwRefIdeal.nD,
          r.2.mem ((c.tc : Thread Cert.InProjZ2DwRefIdeal.nD Cert.InProjZ2DwRefIdeal.τ).loc Cert.InProjZ2DwRefIdeal.main_v6) = v0 c
          ∧ r.2.mem ((c.tc : Thread Cert.InProjZ2DwRefIdeal.nD Cert.InProjZ2DwRefIdeal.τ).loc Cert.InProjZ2DwRefIdeal.main_arg0) = m' ((c.tc : Thread Cert.InProjZ2DwRefIdeal.nD Cert.InProjZ2DwRefIdeal.τ).loc Cert.InProjZ2DwRefIdeal.main_arg0)
          ∧ r.2.mem ((c.tc : Thread Cert.InProjZ2DwRefIdeal.nD Cert.InProjZ2DwRefIdeal.τ).loc Cert.InProjZ2DwRefIdeal.main_arg1) = m' ((c.tc : Thread Cert.InProjZ2DwRefIdeal.nD Cert.InProjZ2DwRefIdeal.τ).loc Cert.InProjZ2DwRefIdeal.main_arg1))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v3) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1))

def preserves_QUpDx_QUpDxIdeal : Prop :=
  True

def algebraic_QUpDxIdeal_QUpDxRefIdeal [hQUpDxIdeal : Cert.QUpDxIdeal.Facts] [hQUpDxRefIdeal : Cert.QUpDxRefIdeal.Facts] : Prop :=
  ∀ (m : (ℓ : Loc Cert.QUpDxIdeal.nD Cert.QUpDxIdeal.τ Cert.QUpDxIdeal.sig) → Buf (Elt Ideal) ℓ) (g : Dev Cert.QUpDxIdeal.nD → PrngReg)
    (m' : (ℓ : Loc Cert.QUpDxRefIdeal.nD Cert.QUpDxRefIdeal.τ Cert.QUpDxRefIdeal.sig) → Buf (Elt Ideal) ℓ) (g' : Dev Cert.QUpDxRefIdeal.nD → PrngReg), Pre_QUpDxIdeal m →
    (∀ c : Dev Cert.QUpDxIdeal.nD,
      m' ((c.tc : Thread Cert.QUpDxRefIdeal.nD Cert.QUpDxRefIdeal.τ).loc Cert.QUpDxRefIdeal.main_arg0) = m ((c.tc : Thread Cert.QUpDxIdeal.nD Cert.QUpDxIdeal.τ).loc Cert.QUpDxIdeal.main_arg0)
      ∧ m' ((c.tc : Thread Cert.QUpDxRefIdeal.nD Cert.QUpDxRefIdeal.τ).loc Cert.QUpDxRefIdeal.main_arg1) = m ((c.tc : Thread Cert.QUpDxIdeal.nD Cert.QUpDxIdeal.τ).loc Cert.QUpDxIdeal.main_arg1)) →
    ∃ (v0 : (c : Dev Cert.QUpDxIdeal.nD) → Buf (Elt Ideal) ((c.tc : Thread Cert.QUpDxIdeal.nD Cert.QUpDxIdeal.τ).loc Cert.QUpDxIdeal.main_v0)),
      θ_run (Cert.QUpDxIdeal.defs (F := Ideal)) (onTc (τ := Cert.QUpDxIdeal.τ) (Cert.QUpDxIdeal.main (F := Ideal))) ⟨m, fun _ => 0, g⟩ (fun r => ∀ c : Dev Cert.QUpDxIdeal.nD,
          r.2.mem ((c.tc : Thread Cert.QUpDxIdeal.nD Cert.QUpDxIdeal.τ).loc Cert.QUpDxIdeal.main_v0) = v0 c
          ∧ r.2.mem ((c.tc : Thread Cert.QUpDxIdeal.nD Cert.QUpDxIdeal.τ).loc Cert.QUpDxIdeal.main_arg0) = m ((c.tc : Thread Cert.QUpDxIdeal.nD Cert.QUpDxIdeal.τ).loc Cert.QUpDxIdeal.main_arg0)
          ∧ r.2.mem ((c.tc : Thread Cert.QUpDxIdeal.nD Cert.QUpDxIdeal.τ).loc Cert.QUpDxIdeal.main_arg1) = m ((c.tc : Thread Cert.QUpDxIdeal.nD Cert.QUpDxIdeal.τ).loc Cert.QUpDxIdeal.main_arg1))
      ∧ θ_run (Cert.QUpDxRefIdeal.defs (F := Ideal)) (onTc (τ := Cert.QUpDxRefIdeal.τ) (Cert.QUpDxRefIdeal.main (F := Ideal))) ⟨m', fun _ => 0, g'⟩ (fun r => ∀ c : Dev Cert.QUpDxRefIdeal.nD,
          r.2.mem ((c.tc : Thread Cert.QUpDxRefIdeal.nD Cert.QUpDxRefIdeal.τ).loc Cert.QUpDxRefIdeal.main_v5) = v0 c
          ∧ r.2.mem ((c.tc : Thread Cert.QUpDxRefIdeal.nD Cert.QUpDxRefIdeal.τ).loc Cert.QUpDxRefIdeal.main_arg0) = m' ((c.tc : Thread Cert.QUpDxRefIdeal.nD Cert.QUpDxRefIdeal.τ).loc Cert.QUpDxRefIdeal.main_arg0)
          ∧ r.2.mem ((c.tc : Thread Cert.QUpDxRefIdeal.nD Cert.QUpDxRefIdeal.τ).loc Cert.QUpDxRefIdeal.main_arg1) = m' ((c.tc : Thread Cert.QUpDxRefIdeal.nD Cert.QUpDxRefIdeal.τ).loc Cert.QUpDxRefIdeal.main_arg1))

def preserves_QUpDw_QUpDwIdeal : Prop :=
  True

def algebraic_QUpDwIdeal_QUpDwRefIdeal [hQUpDwIdeal : Cert.QUpDwIdeal.Facts] [hQUpDwRefIdeal : Cert.QUpDwRefIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg)
    (m' : (ℓ : Loc Cert.QUpDwRefIdeal.nD Cert.QUpDwRefIdeal.τ Cert.QUpDwRefIdeal.sig) → Buf (Elt Ideal) ℓ) (g' : Dev Cert.QUpDwRefIdeal.nD → PrngReg), Pre_QUpDwIdeal m →
    (∀ c : Dev Cert.QUpDwIdeal.nD,
      m' ((c.tc : Thread Cert.QUpDwRefIdeal.nD Cert.QUpDwRefIdeal.τ).loc Cert.QUpDwRefIdeal.main_arg0) = m ((c.tc : Thread Cert.QUpDwIdeal.nD Cert.QUpDwIdeal.τ).loc Cert.QUpDwIdeal.main_arg0)
      ∧ m' ((c.tc : Thread Cert.QUpDwRefIdeal.nD Cert.QUpDwRefIdeal.τ).loc Cert.QUpDwRefIdeal.main_arg1) = m ((c.tc : Thread Cert.QUpDwIdeal.nD Cert.QUpDwIdeal.τ).loc Cert.QUpDwIdeal.main_arg1)) →
    ∃ (v0 : (c : Dev Cert.QUpDwIdeal.nD) → Buf (Elt Ideal) ((c.tc : Thread Cert.QUpDwIdeal.nD Cert.QUpDwIdeal.τ).loc Cert.QUpDwIdeal.main_v0)),
      θ_run (Cert.QUpDwIdeal.defs (F := Ideal)) (onTc (τ := Cert.QUpDwIdeal.τ) (Cert.QUpDwIdeal.main (F := Ideal))) ⟨m, fun _ => 0, g⟩ (fun r => ∀ c : Dev Cert.QUpDwIdeal.nD,
          r.2.mem ((c.tc : Thread Cert.QUpDwIdeal.nD Cert.QUpDwIdeal.τ).loc Cert.QUpDwIdeal.main_v0) = v0 c
          ∧ r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
          ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1))
      ∧ θ_run (Cert.QUpDwRefIdeal.defs (F := Ideal)) (onTc (τ := Cert.QUpDwRefIdeal.τ) (Cert.QUpDwRefIdeal.main (F := Ideal))) ⟨m', fun _ => 0, g'⟩ (fun r => ∀ c : Dev Cert.QUpDwRefIdeal.nD,
          r.2.mem ((c.tc : Thread Cert.QUpDwRefIdeal.nD Cert.QUpDwRefIdeal.τ).loc Cert.QUpDwRefIdeal.main_v6) = v0 c
          ∧ r.2.mem ((c.tc : Thread Cert.QUpDwRefIdeal.nD Cert.QUpDwRefIdeal.τ).loc Cert.QUpDwRefIdeal.main_arg0) = m' ((c.tc : Thread Cert.QUpDwRefIdeal.nD Cert.QUpDwRefIdeal.τ).loc Cert.QUpDwRefIdeal.main_arg0)
          ∧ r.2.mem ((c.tc : Thread Cert.QUpDwRefIdeal.nD Cert.QUpDwRefIdeal.τ).loc Cert.QUpDwRefIdeal.main_arg1) = m' ((c.tc : Thread Cert.QUpDwRefIdeal.nD Cert.QUpDwRefIdeal.τ).loc Cert.QUpDwRefIdeal.main_arg1))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v3) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1))

def preserves_KvUpDx_KvUpDxIdeal : Prop :=
  True

def algebraic_KvUpDxIdeal_KvUpDxRefIdeal [hKvUpDxIdeal : Cert.KvUpDxIdeal.Facts] [hKvUpDxRefIdeal : Cert.KvUpDxRefIdeal.Facts] : Prop :=
  ∀ (m : (ℓ : Loc Cert.KvUpDxIdeal.nD Cert.KvUpDxIdeal.τ Cert.KvUpDxIdeal.sig) → Buf (Elt Ideal) ℓ) (g : Dev Cert.KvUpDxIdeal.nD → PrngReg)
    (m' : (ℓ : Loc Cert.KvUpDxRefIdeal.nD Cert.KvUpDxRefIdeal.τ Cert.KvUpDxRefIdeal.sig) → Buf (Elt Ideal) ℓ) (g' : Dev Cert.KvUpDxRefIdeal.nD → PrngReg), Pre_KvUpDxIdeal m →
    (∀ c : Dev Cert.KvUpDxIdeal.nD,
      m' ((c.tc : Thread Cert.KvUpDxRefIdeal.nD Cert.KvUpDxRefIdeal.τ).loc Cert.KvUpDxRefIdeal.main_arg0) = m ((c.tc : Thread Cert.KvUpDxIdeal.nD Cert.KvUpDxIdeal.τ).loc Cert.KvUpDxIdeal.main_arg0)
      ∧ m' ((c.tc : Thread Cert.KvUpDxRefIdeal.nD Cert.KvUpDxRefIdeal.τ).loc Cert.KvUpDxRefIdeal.main_arg1) = m ((c.tc : Thread Cert.KvUpDxIdeal.nD Cert.KvUpDxIdeal.τ).loc Cert.KvUpDxIdeal.main_arg1)) →
    ∃ (v0 : (c : Dev Cert.KvUpDxIdeal.nD) → Buf (Elt Ideal) ((c.tc : Thread Cert.KvUpDxIdeal.nD Cert.KvUpDxIdeal.τ).loc Cert.KvUpDxIdeal.main_v0)),
      θ_run (Cert.KvUpDxIdeal.defs (F := Ideal)) (onTc (τ := Cert.KvUpDxIdeal.τ) (Cert.KvUpDxIdeal.main (F := Ideal))) ⟨m, fun _ => 0, g⟩ (fun r => ∀ c : Dev Cert.KvUpDxIdeal.nD,
          r.2.mem ((c.tc : Thread Cert.KvUpDxIdeal.nD Cert.KvUpDxIdeal.τ).loc Cert.KvUpDxIdeal.main_v0) = v0 c
          ∧ r.2.mem ((c.tc : Thread Cert.KvUpDxIdeal.nD Cert.KvUpDxIdeal.τ).loc Cert.KvUpDxIdeal.main_arg0) = m ((c.tc : Thread Cert.KvUpDxIdeal.nD Cert.KvUpDxIdeal.τ).loc Cert.KvUpDxIdeal.main_arg0)
          ∧ r.2.mem ((c.tc : Thread Cert.KvUpDxIdeal.nD Cert.KvUpDxIdeal.τ).loc Cert.KvUpDxIdeal.main_arg1) = m ((c.tc : Thread Cert.KvUpDxIdeal.nD Cert.KvUpDxIdeal.τ).loc Cert.KvUpDxIdeal.main_arg1))
      ∧ θ_run (Cert.KvUpDxRefIdeal.defs (F := Ideal)) (onTc (τ := Cert.KvUpDxRefIdeal.τ) (Cert.KvUpDxRefIdeal.main (F := Ideal))) ⟨m', fun _ => 0, g'⟩ (fun r => ∀ c : Dev Cert.KvUpDxRefIdeal.nD,
          r.2.mem ((c.tc : Thread Cert.KvUpDxRefIdeal.nD Cert.KvUpDxRefIdeal.τ).loc Cert.KvUpDxRefIdeal.main_v5) = v0 c
          ∧ r.2.mem ((c.tc : Thread Cert.KvUpDxRefIdeal.nD Cert.KvUpDxRefIdeal.τ).loc Cert.KvUpDxRefIdeal.main_arg0) = m' ((c.tc : Thread Cert.KvUpDxRefIdeal.nD Cert.KvUpDxRefIdeal.τ).loc Cert.KvUpDxRefIdeal.main_arg0)
          ∧ r.2.mem ((c.tc : Thread Cert.KvUpDxRefIdeal.nD Cert.KvUpDxRefIdeal.τ).loc Cert.KvUpDxRefIdeal.main_arg1) = m' ((c.tc : Thread Cert.KvUpDxRefIdeal.nD Cert.KvUpDxRefIdeal.τ).loc Cert.KvUpDxRefIdeal.main_arg1))

def preserves_KvUpDw_KvUpDwIdeal : Prop :=
  True

def algebraic_KvUpDwIdeal_KvUpDwRefIdeal [hKvUpDwIdeal : Cert.KvUpDwIdeal.Facts] [hKvUpDwRefIdeal : Cert.KvUpDwRefIdeal.Facts] : Prop :=
  ∀ (m : (ℓ : Loc Cert.KvUpDwIdeal.nD Cert.KvUpDwIdeal.τ Cert.KvUpDwIdeal.sig) → Buf (Elt Ideal) ℓ) (g : Dev Cert.KvUpDwIdeal.nD → PrngReg)
    (m' : (ℓ : Loc Cert.KvUpDwRefIdeal.nD Cert.KvUpDwRefIdeal.τ Cert.KvUpDwRefIdeal.sig) → Buf (Elt Ideal) ℓ) (g' : Dev Cert.KvUpDwRefIdeal.nD → PrngReg), Pre_KvUpDwIdeal m →
    (∀ c : Dev Cert.KvUpDwIdeal.nD,
      m' ((c.tc : Thread Cert.KvUpDwRefIdeal.nD Cert.KvUpDwRefIdeal.τ).loc Cert.KvUpDwRefIdeal.main_arg0) = m ((c.tc : Thread Cert.KvUpDwIdeal.nD Cert.KvUpDwIdeal.τ).loc Cert.KvUpDwIdeal.main_arg0)
      ∧ m' ((c.tc : Thread Cert.KvUpDwRefIdeal.nD Cert.KvUpDwRefIdeal.τ).loc Cert.KvUpDwRefIdeal.main_arg1) = m ((c.tc : Thread Cert.KvUpDwIdeal.nD Cert.KvUpDwIdeal.τ).loc Cert.KvUpDwIdeal.main_arg1)) →
    ∃ (v0 : (c : Dev Cert.KvUpDwIdeal.nD) → Buf (Elt Ideal) ((c.tc : Thread Cert.KvUpDwIdeal.nD Cert.KvUpDwIdeal.τ).loc Cert.KvUpDwIdeal.main_v0)),
      θ_run (Cert.KvUpDwIdeal.defs (F := Ideal)) (onTc (τ := Cert.KvUpDwIdeal.τ) (Cert.KvUpDwIdeal.main (F := Ideal))) ⟨m, fun _ => 0, g⟩ (fun r => ∀ c : Dev Cert.KvUpDwIdeal.nD,
          r.2.mem ((c.tc : Thread Cert.KvUpDwIdeal.nD Cert.KvUpDwIdeal.τ).loc Cert.KvUpDwIdeal.main_v0) = v0 c
          ∧ r.2.mem ((c.tc : Thread Cert.KvUpDwIdeal.nD Cert.KvUpDwIdeal.τ).loc Cert.KvUpDwIdeal.main_arg0) = m ((c.tc : Thread Cert.KvUpDwIdeal.nD Cert.KvUpDwIdeal.τ).loc Cert.KvUpDwIdeal.main_arg0)
          ∧ r.2.mem ((c.tc : Thread Cert.KvUpDwIdeal.nD Cert.KvUpDwIdeal.τ).loc Cert.KvUpDwIdeal.main_arg1) = m ((c.tc : Thread Cert.KvUpDwIdeal.nD Cert.KvUpDwIdeal.τ).loc Cert.KvUpDwIdeal.main_arg1))
      ∧ θ_run (Cert.KvUpDwRefIdeal.defs (F := Ideal)) (onTc (τ := Cert.KvUpDwRefIdeal.τ) (Cert.KvUpDwRefIdeal.main (F := Ideal))) ⟨m', fun _ => 0, g'⟩ (fun r => ∀ c : Dev Cert.KvUpDwRefIdeal.nD,
          r.2.mem ((c.tc : Thread Cert.KvUpDwRefIdeal.nD Cert.KvUpDwRefIdeal.τ).loc Cert.KvUpDwRefIdeal.main_v6) = v0 c
          ∧ r.2.mem ((c.tc : Thread Cert.KvUpDwRefIdeal.nD Cert.KvUpDwRefIdeal.τ).loc Cert.KvUpDwRefIdeal.main_arg0) = m' ((c.tc : Thread Cert.KvUpDwRefIdeal.nD Cert.KvUpDwRefIdeal.τ).loc Cert.KvUpDwRefIdeal.main_arg0)
          ∧ r.2.mem ((c.tc : Thread Cert.KvUpDwRefIdeal.nD Cert.KvUpDwRefIdeal.τ).loc Cert.KvUpDwRefIdeal.main_arg1) = m' ((c.tc : Thread Cert.KvUpDwRefIdeal.nD Cert.KvUpDwRefIdeal.τ).loc Cert.KvUpDwRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)
      ∧ m' ((c.tc : Thread Cert.InProjDxRefIdeal.nD Cert.InProjDxRefIdeal.τ).loc Cert.InProjDxRefIdeal.main_arg3) = m ((c.tc : Thread Cert.InProjDxIdeal.nD Cert.InProjDxIdeal.τ).loc Cert.InProjDxIdeal.main_arg3)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
          ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v9) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2)
          ∧ r.2.mem ((c.tc : Thread Cert.InProjDxRefIdeal.nD Cert.InProjDxRefIdeal.τ).loc Cert.InProjDxRefIdeal.main_arg3) = m' ((c.tc : Thread Cert.InProjDxRefIdeal.nD Cert.InProjDxRefIdeal.τ).loc Cert.InProjDxRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_v10) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_DownDx_DownDxIdeal : Prop :=
  True

def algebraic_DownDxIdeal_DownDxRefIdeal_pre_finite3 [hDownDxIdeal : Cert.DownDxIdeal.Facts] [hDownDxRefIdeal : Cert.DownDxRefIdeal.Facts] [hPre_finite3 : Cert.Pre_finite3.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal_finite3 m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v25) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def Claim : Prop :=
  ∃ (hKernel : Cert.Kernel.Facts) (hKernelIdeal : Cert.KernelIdeal.Facts) (hReferenceIdeal : Cert.ReferenceIdeal.Facts) (hGateUpDw : Cert.GateUpDw.Facts) (hGateUpDwIdeal : Cert.GateUpDwIdeal.Facts) (hGateUpDwRefIdeal : Cert.GateUpDwRefIdeal.Facts) (hDownDw : Cert.DownDw.Facts) (hDownDwIdeal : Cert.DownDwIdeal.Facts) (hDownDwRefIdeal : Cert.DownDwRefIdeal.Facts) (hGateUpDx : Cert.GateUpDx.Facts) (hGateUpDxIdeal : Cert.GateUpDxIdeal.Facts) (hGateUpDxRefIdeal : Cert.GateUpDxRefIdeal.Facts) (hOutProj : Cert.OutProj.Facts) (hOutProjIdeal : Cert.OutProjIdeal.Facts) (hOutProjRefIdeal : Cert.OutProjRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hInProjAg : Cert.InProjAg.Facts) (hInProjAgIdeal : Cert.InProjAgIdeal.Facts) (hInProjAgRefIdeal : Cert.InProjAgRefIdeal.Facts) (hInProjAgDw : Cert.InProjAgDw.Facts) (hInProjAgDwIdeal : Cert.InProjAgDwIdeal.Facts) (hInProjAgDwRefIdeal : Cert.InProjAgDwRefIdeal.Facts) (hInProjZ2 : Cert.InProjZ2.Facts) (hInProjZ2Ideal : Cert.InProjZ2Ideal.Facts) (hInProjZ2RefIdeal : Cert.InProjZ2RefIdeal.Facts) (hInProjZ2Dw : Cert.InProjZ2Dw.Facts) (hInProjZ2DwIdeal : Cert.InProjZ2DwIdeal.Facts) (hInProjZ2DwRefIdeal : Cert.InProjZ2DwRefIdeal.Facts) (hQUp : Cert.QUp.Facts) (hQUpIdeal : Cert.QUpIdeal.Facts) (hQUpRefIdeal : Cert.QUpRefIdeal.Facts) (hQUpDx : Cert.QUpDx.Facts) (hQUpDxIdeal : Cert.QUpDxIdeal.Facts) (hQUpDxRefIdeal : Cert.QUpDxRefIdeal.Facts) (hQUpDw : Cert.QUpDw.Facts) (hQUpDwIdeal : Cert.QUpDwIdeal.Facts) (hQUpDwRefIdeal : Cert.QUpDwRefIdeal.Facts) (hKvUp : Cert.KvUp.Facts) (hKvUpIdeal : Cert.KvUpIdeal.Facts) (hKvUpRefIdeal : Cert.KvUpRefIdeal.Facts) (hKvUpDx : Cert.KvUpDx.Facts) (hKvUpDxIdeal : Cert.KvUpDxIdeal.Facts) (hKvUpDxRefIdeal : Cert.KvUpDxRefIdeal.Facts) (hKvUpDw : Cert.KvUpDw.Facts) (hKvUpDwIdeal : Cert.KvUpDwIdeal.Facts) (hKvUpDwRefIdeal : Cert.KvUpDwRefIdeal.Facts) (hFfnDown : Cert.FfnDown.Facts) (hFfnDownIdeal : Cert.FfnDownIdeal.Facts) (hFfnDownRefIdeal : Cert.FfnDownRefIdeal.Facts) (hInProjDx : Cert.InProjDx.Facts) (hInProjDxIdeal : Cert.InProjDxIdeal.Facts) (hInProjDxRefIdeal : Cert.InProjDxRefIdeal.Facts) (hFfnUp : Cert.FfnUp.Facts) (hFfnUpIdeal : Cert.FfnUpIdeal.Facts) (hFfnUpRefIdeal : Cert.FfnUpRefIdeal.Facts) (hDownDx : Cert.DownDx.Facts) (hDownDxIdeal : Cert.DownDxIdeal.Facts) (hDownDxRefIdeal : Cert.DownDxRefIdeal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateUpDw (hGateUpDw := hGateUpDw)
    ∧ quiescent_GateUpDwIdeal (hGateUpDwIdeal := hGateUpDwIdeal)
    ∧ quiescent_GateUpDwRefIdeal (hGateUpDwRefIdeal := hGateUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateUpDx (hGateUpDx := hGateUpDx)
    ∧ quiescent_GateUpDxIdeal (hGateUpDxIdeal := hGateUpDxIdeal)
    ∧ quiescent_GateUpDxRefIdeal (hGateUpDxRefIdeal := hGateUpDxRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_InProjAg (hInProjAg := hInProjAg)
    ∧ quiescent_InProjAgIdeal (hInProjAgIdeal := hInProjAgIdeal)
    ∧ quiescent_InProjAgRefIdeal (hInProjAgRefIdeal := hInProjAgRefIdeal)
    ∧ quiescent_InProjAgDw (hInProjAgDw := hInProjAgDw)
    ∧ quiescent_InProjAgDwIdeal (hInProjAgDwIdeal := hInProjAgDwIdeal)
    ∧ quiescent_InProjAgDwRefIdeal (hInProjAgDwRefIdeal := hInProjAgDwRefIdeal)
    ∧ quiescent_InProjZ2 (hInProjZ2 := hInProjZ2)
    ∧ quiescent_InProjZ2Ideal (hInProjZ2Ideal := hInProjZ2Ideal)
    ∧ quiescent_InProjZ2RefIdeal (hInProjZ2RefIdeal := hInProjZ2RefIdeal)
    ∧ quiescent_InProjZ2Dw (hInProjZ2Dw := hInProjZ2Dw)
    ∧ quiescent_InProjZ2DwIdeal (hInProjZ2DwIdeal := hInProjZ2DwIdeal)
    ∧ quiescent_InProjZ2DwRefIdeal (hInProjZ2DwRefIdeal := hInProjZ2DwRefIdeal)
    ∧ quiescent_QUp (hQUp := hQUp)
    ∧ quiescent_QUpIdeal (hQUpIdeal := hQUpIdeal)
    ∧ quiescent_QUpRefIdeal (hQUpRefIdeal := hQUpRefIdeal)
    ∧ quiescent_QUpDx (hQUpDx := hQUpDx)
    ∧ quiescent_QUpDxIdeal (hQUpDxIdeal := hQUpDxIdeal)
    ∧ quiescent_QUpDxRefIdeal (hQUpDxRefIdeal := hQUpDxRefIdeal)
    ∧ quiescent_QUpDw (hQUpDw := hQUpDw)
    ∧ quiescent_QUpDwIdeal (hQUpDwIdeal := hQUpDwIdeal)
    ∧ quiescent_QUpDwRefIdeal (hQUpDwRefIdeal := hQUpDwRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_KvUpDx (hKvUpDx := hKvUpDx)
    ∧ quiescent_KvUpDxIdeal (hKvUpDxIdeal := hKvUpDxIdeal)
    ∧ quiescent_KvUpDxRefIdeal (hKvUpDxRefIdeal := hKvUpDxRefIdeal)
    ∧ quiescent_KvUpDw (hKvUpDw := hKvUpDw)
    ∧ quiescent_KvUpDwIdeal (hKvUpDwIdeal := hKvUpDwIdeal)
    ∧ quiescent_KvUpDwRefIdeal (hKvUpDwRefIdeal := hKvUpDwRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_DownDx (hDownDx := hDownDx)
    ∧ quiescent_DownDxIdeal (hDownDxIdeal := hDownDxIdeal)
    ∧ quiescent_DownDxIdeal_pre_finite3 (hDownDxIdeal := hDownDxIdeal) (hPre_finite3 := hPre_finite3)
    ∧ quiescent_DownDxRefIdeal (hDownDxRefIdeal := hDownDxRefIdeal)
    ∧ quiescent_DownDxRefIdeal_pre_finite3 (hDownDxRefIdeal := hDownDxRefIdeal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_GateUpDw_GateUpDwIdeal
    ∧ algebraic_GateUpDwIdeal_GateUpDwRefIdeal (hGateUpDwIdeal := hGateUpDwIdeal) (hGateUpDwRefIdeal := hGateUpDwRefIdeal)
    ∧ preserves_DownDw_DownDwIdeal
    ∧ algebraic_DownDwIdeal_DownDwRefIdeal (hDownDwIdeal := hDownDwIdeal) (hDownDwRefIdeal := hDownDwRefIdeal)
    ∧ preserves_GateUpDx_GateUpDxIdeal
    ∧ algebraic_GateUpDxIdeal_GateUpDxRefIdeal (hGateUpDxIdeal := hGateUpDxIdeal) (hGateUpDxRefIdeal := hGateUpDxRefIdeal)
    ∧ preserves_OutProj_OutProjIdeal
    ∧ algebraic_OutProjIdeal_OutProjRefIdeal (hOutProjIdeal := hOutProjIdeal) (hOutProjRefIdeal := hOutProjRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_InProjAg_InProjAgIdeal
    ∧ algebraic_InProjAgIdeal_InProjAgRefIdeal (hInProjAgIdeal := hInProjAgIdeal) (hInProjAgRefIdeal := hInProjAgRefIdeal)
    ∧ preserves_InProjAgDw_InProjAgDwIdeal
    ∧ algebraic_InProjAgDwIdeal_InProjAgDwRefIdeal (hInProjAgDwIdeal := hInProjAgDwIdeal) (hInProjAgDwRefIdeal := hInProjAgDwRefIdeal)
    ∧ preserves_InProjZ2_InProjZ2Ideal
    ∧ algebraic_InProjZ2Ideal_InProjZ2RefIdeal (hInProjZ2Ideal := hInProjZ2Ideal) (hInProjZ2RefIdeal := hInProjZ2RefIdeal)
    ∧ preserves_InProjZ2Dw_InProjZ2DwIdeal
    ∧ algebraic_InProjZ2DwIdeal_InProjZ2DwRefIdeal (hInProjZ2DwIdeal := hInProjZ2DwIdeal) (hInProjZ2DwRefIdeal := hInProjZ2DwRefIdeal)
    ∧ preserves_QUp_QUpIdeal
    ∧ algebraic_QUpIdeal_QUpRefIdeal (hQUpIdeal := hQUpIdeal) (hQUpRefIdeal := hQUpRefIdeal)
    ∧ preserves_QUpDx_QUpDxIdeal
    ∧ algebraic_QUpDxIdeal_QUpDxRefIdeal (hQUpDxIdeal := hQUpDxIdeal) (hQUpDxRefIdeal := hQUpDxRefIdeal)
    ∧ preserves_QUpDw_QUpDwIdeal
    ∧ algebraic_QUpDwIdeal_QUpDwRefIdeal (hQUpDwIdeal := hQUpDwIdeal) (hQUpDwRefIdeal := hQUpDwRefIdeal)
    ∧ preserves_KvUp_KvUpIdeal
    ∧ algebraic_KvUpIdeal_KvUpRefIdeal (hKvUpIdeal := hKvUpIdeal) (hKvUpRefIdeal := hKvUpRefIdeal)
    ∧ preserves_KvUpDx_KvUpDxIdeal
    ∧ algebraic_KvUpDxIdeal_KvUpDxRefIdeal (hKvUpDxIdeal := hKvUpDxIdeal) (hKvUpDxRefIdeal := hKvUpDxRefIdeal)
    ∧ preserves_KvUpDw_KvUpDwIdeal
    ∧ algebraic_KvUpDwIdeal_KvUpDwRefIdeal (hKvUpDwIdeal := hKvUpDwIdeal) (hKvUpDwRefIdeal := hKvUpDwRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProjDx_InProjDxIdeal
    ∧ algebraic_InProjDxIdeal_InProjDxRefIdeal (hInProjDxIdeal := hInProjDxIdeal) (hInProjDxRefIdeal := hInProjDxRefIdeal)
    ∧ preserves_FfnUp_FfnUpIdeal
    ∧ algebraic_FfnUpIdeal_FfnUpRefIdeal (hFfnUpIdeal := hFfnUpIdeal) (hFfnUpRefIdeal := hFfnUpRefIdeal)
    ∧ preserves_DownDx_DownDxIdeal
    ∧ algebraic_DownDxIdeal_DownDxRefIdeal_pre_finite3 (hDownDxIdeal := hDownDxIdeal) (hDownDxRefIdeal := hDownDxRefIdeal) (hPre_finite3 := hPre_finite3)
-- ==== Pre_finite.lean ====
abbrev S2048x1024 : Shape := ⟨2, ![2048, 1024]⟩
abbrev S2048x512 : Shape := ⟨2, ![2048, 512]⟩
abbrev S2048x2048 : Shape := ⟨2, ![2048, 2048]⟩
abbrev S2048x128 : Shape := ⟨2, ![2048, 128]⟩
abbrev S1x2048 : Shape := ⟨2, ![1, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x512 : S_.BroadcastsInDim S2048x512 (![] : Fin 0 → Fin S2048x512.rank)
  bcast_S_S2048x2048 : S_.BroadcastsInDim S2048x2048 (![] : Fin 0 → Fin S2048x2048.rank)
  bcast_S_S2048x128 : S_.BroadcastsInDim S2048x128 (![] : Fin 0 → Fin S2048x128.rank)

variable [Facts]

def fn {F : FTy → Type} [FloatOps F] (main_arg0 : FVec F S2048x1024 .bf16) (main_arg1 : FVec F S2048x512 .bf16) (main_arg2 : FVec F S2048x2048 .bf16) (main_arg3 : FVec F S2048x128 .bf16) (main_arg4 : IVec S1x2048 32) (main_arg5 : FVec F S2048x1024 .bf16) : IVec S2048x1024 1 × IVec S2048x512 1 × IVec S2048x2048 1 × IVec S2048x128 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x512 .f32 := (extf .f32 · bitsLt_bf16_f32) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_v8 : FVec F S2048x2048 .f32 := (extf .f32 · bitsLt_bf16_f32) main_arg2
  let main_v9 : FVec F S2048x2048 .f32 := Host.absf main_v8
  let main_cst_1 : FVec F S_ .f32 := constant S_ .f32 0x7F800000#32
  let main_v10 : FVec F S2048x2048 .f32 := broadcastInDim S2048x2048 ![] bcast_S_S2048x2048 main_cst_1
  let main_v11 : IVec S2048x2048 1 := cmpf .olt main_v9 main_v10
  let main_v12 : FVec F S2048x128 .f32 := (extf .f32 · bitsLt_bf16_f32) main_arg3
  let main_v13 : FVec F S2048x128 .f32 := Host.absf main_v12
  let main_cst_2 : FVec F S_ .f32 := constant S_ .f32 0x7F800000#32
  let main_v14 : FVec F S2048x128 .f32 := broadcastInDim S2048x128 ![] bcast_S_S2048x128 main_cst_2
  let main_v15 : IVec S2048x128 1 := cmpf .olt main_v13 main_v14
  (main_v3, main_v7, main_v11, main_v15)
-- ==== Pre_finite3.lean ====
abbrev S2048x2048 : Shape := ⟨2, ![2048, 2048]⟩
abbrev S5632x2048 : Shape := ⟨2, ![5632, 2048]⟩
abbrev S2048x11264 : Shape := ⟨2, ![2048, 11264]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S2048x11264 : S_.BroadcastsInDim S2048x11264 (![] : Fin 0 → Fin S2048x11264.rank)

variable [Facts]

def fn {F : FTy → Type} [FloatOps F] (main_arg0 : FVec F S2048x2048 .bf16) (main_arg1 : FVec F S5632x2048 .bf16) (main_arg2 : FVec F S2048x11264 .bf16) : IVec S2048x2048 1 × IVec S5632x2048 1 × IVec S2048x11264 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S2048x11264 .f32 := (extf .f32 · bitsLt_bf16_f32) main_arg2
  let main_v9 : FVec F S2048x11264 .f32 := Host.absf main_v8
  let main_cst_1 : FVec F S_ .f32 := constant S_ .f32 0x7F800000#32
  let main_v10 : FVec F S2048x11264 .f32 := broadcastInDim S2048x11264 ![] bcast_S_S2048x11264 main_cst_1
  let main_v11 : IVec S2048x11264 1 := cmpf .olt main_v9 main_v10
  (main_v3, main_v7, main_v11)
-- ==== Kernel.lean ====
abbrev S2048x1024 : Shape := ⟨2, ![2048, 1024]⟩
abbrev S2048x512 : Shape := ⟨2, ![2048, 512]⟩
abbrev S2048x2048 : Shape := ⟨2, ![2048, 2048]⟩
abbrev S2048x128 : Shape := ⟨2, ![2048, 128]⟩
abbrev S1x2048 : Shape := ⟨2, ![1, 2048]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1536 : Shape := ⟨2, ![2048, 1536]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x128 : Shape := ⟨2, ![1024, 128]⟩
abbrev S1024x256 : Shape := ⟨2, ![1024, 256]⟩
abbrev S512x1024 : Shape := ⟨2, ![512, 1024]⟩
abbrev S1536x128 : Shape := ⟨2, ![1536, 128]⟩
abbrev S1536x256 : Shape := ⟨2, ![1536, 256]⟩
abbrev S512x1536 : Shape := ⟨2, ![512, 1536]⟩
abbrev S2048x256 : Shape := ⟨2, ![2048, 256]⟩
abbrev S512x2048 : Shape := ⟨2, ![512, 2048]⟩

abbrev nBuf : Space → Nat
  | .hbm => 38
  | .vmem => 21
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x2048, .bf16⟩
  | .hbm, ⟨3, _⟩ => ⟨S2048x128, .bf16⟩
  | .hbm, ⟨4, _⟩ => ⟨S1x2048, .i32⟩
  | .hbm, ⟨5, _⟩ => ⟨S2048x1024, .bf16⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048, .i32⟩
  | .hbm, ⟨21, _⟩ => ⟨S2048, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x128, .f32⟩
  | .hbm, ⟨30, _⟩ => ⟨S2048x32, .f32⟩
  | .hbm, ⟨31, _⟩ => ⟨S2048x32, .f32⟩
  | .hbm, ⟨32, _⟩ => ⟨S2048x128, .f32⟩
  | .hbm, ⟨33, _⟩ => ⟨S2048x1536, .bf16⟩
  | .hbm, ⟨34, _⟩ => ⟨S2048x1024, .bf16⟩
  | .hbm, ⟨35, _⟩ => ⟨S2048x512, .bf16⟩
  | .hbm, ⟨36, _⟩ => ⟨S2048x2048, .bf16⟩
  | .hbm, ⟨37, _⟩ => ⟨S2048x128, .f32⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2048x512, .bf16⟩
  | .local _ .vmem, ⟨9, _⟩ => ⟨S2048x512, .bf16⟩
  | .local _ .vmem, ⟨10, _⟩ => ⟨S2048x128, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x128, .bf16⟩
  | .local _ .vmem, ⟨16, _⟩ => ⟨S512x128, .bf16⟩
  | .local _ .vmem, ⟨17, _⟩ => ⟨S2048x512, .bf16⟩
  | .local _ .vmem, ⟨18, _⟩ => ⟨S2048x512, .bf16⟩
  | .local _ .vmem, ⟨19, _⟩ => ⟨S2048x128, .f32⟩
  | .local _ .vmem, ⟨20, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c0_i32_14 : BitVec 32 := 0#32
  let v40 : BitVec 1 := Scalar.cmpi .eq arg1 c0_i32_14
  let v41 : BitVec 32 := Scalar.extui v40
  let c0_i32_15 : BitVec 32 := 0#32
  let v42 : BitVec 1 := Scalar.cmpi .ne v41 c0_i32_15
  v42

def k0_cond4 (i : grid0.Coords) : BitVec 1 :=
  let arg1 : BitVec 32 := BitVec.ofNat 32 (i 1).val
  let c1_i32_16 : BitVec 32 := 1#32
  let v43 : BitVec 1 := Scalar.cmpi .eq arg1 c1_i32_16
  let v44 : BitVec 32 := Scalar.extui v43
  let c0_i32_17 : BitVec 32 := 0#32
  let v45 : BitVec 1 := Scalar.cmpi .ne v44 c0_i32_17
  v45

def k0_cond5 (i : grid0.Coords) : BitVec 1 :=
  let arg1 : BitVec 32 := BitVec.ofNat 32 (i 1).val
  let c2_i32 : BitVec 32 := 2#32
  let v46 : BitVec 1 := Scalar.cmpi .eq arg1 c2_i32
  let v47 : BitVec 32 := Scalar.extui v46
  let c0_i32_18 : BitVec 32 := 0#32
  let v48 : BitVec 1 := Scalar.cmpi .ne v47 c0_i32_18
  v48

def k0_cond6 (i : grid0.Coords) : BitVec 1 :=
  let arg1 : BitVec 32 := BitVec.ofNat 32 (i 1).val
  let c3_i32 : BitVec 32 := 3#32
  let v49 : BitVec 1 := Scalar.cmpi .eq arg1 c3_i32
  let v50 : BitVec 32 := Scalar.extui v49
  let c0_i32_19 : BitVec 32 := 0#32
  let v51 : BitVec 1 := Scalar.cmpi .ne v50 c0_i32_19
  v51

def k0_cond7 (i : grid0.Coords) : BitVec 1 :=
  let arg1 : BitVec 32 := BitVec.ofNat 32 (i 1).val
  let c3_i32_20 : BitVec 32 := 3#32
  let v52 : BitVec 1 := Scalar.cmpi .eq arg1 c3_i32_20
  let v53 : BitVec 32 := Scalar.extui v52
  let c0_i32_21 : BitVec 32 := 0#32
  let v54 : BitVec 1 := Scalar.cmpi .ne v53 c0_i32_21
  v54

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S2048x1024 : Shape := ⟨2, ![2048, 1024]⟩
abbrev S2048x512 : Shape := ⟨2, ![2048, 512]⟩
abbrev S2048x2048 : Shape := ⟨2, ![2048, 2048]⟩
abbrev S2048x128 : Shape := ⟨2, ![2048, 128]⟩
abbrev S1x2048 : Shape := ⟨2, ![1, 2048]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x8x256 : Shape := ⟨3, ![2048, 8, 256]⟩
abbrev S2048x1x2x64 : Shape := ⟨4, ![2048, 1, 2, 64]⟩
abbrev S2048x4x2x64 : Shape := ⟨4, ![2048, 4, 2, 64]⟩
abbrev S2048x8x192 : Shape := ⟨3, ![2048, 8, 192]⟩
abbrev S8x2048x2048 : Shape := ⟨3, ![8, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x192 : Shape := ⟨3, ![8, 2048, 192]⟩
abbrev S2048x2x64 : Shape := ⟨3, ![2048, 2, 64]⟩

abbrev nBuf : Space → Nat
  | .hbm => 180
  | .vmem => 0
  | .smem => 0
  | _ => 0

abbrev hbmTy0_0 (i : Nat) : BufTy := match i % 128 with
  | 0 => ⟨S2048x1024, .bf16⟩
  | 1 => ⟨S2048x512, .bf16⟩
  | 2 => ⟨S2048x2048, .bf16⟩
  | 3 => ⟨S2048x128, .bf16⟩
  | 4 => ⟨S1x2048, .i32⟩
  | 5 => ⟨S2048x1024, .bf16⟩
  | 6 => ⟨S2048, .i32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S2048, .f32⟩
  | 22 => ⟨S2048x1, .f32⟩
  | 23 => ⟨S1x32, .f32⟩
  | 24 => ⟨S2048x32, .f32⟩
  | 25 => ⟨S2048x32, .f32⟩
  | 26 => ⟨S2048x32, .f32⟩
  | 27 => ⟨S2048x32, .f32⟩
  | 28 => ⟨S2048x32, .f32⟩
  | 29 => ⟨S2048x1024, .f32⟩
  | 30 => ⟨S2048x512, .f32⟩
  | 31 => ⟨S2048x2048, .f32⟩
  | 32 => ⟨S2048x128, .f32⟩
  | 33 => ⟨S2048x8x128, .f32⟩
  | 34 => ⟨S2048x8x64, .f32⟩
  | 35 => ⟨S2048x1x32, .f32⟩
  | 36 => ⟨S2048x1x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x32, .f32⟩
  | 43 => ⟨S2048x8x32, .f32⟩
  | 44 => ⟨S2048x8x32, .f32⟩
  | 45 => ⟨S2048x8x32, .f32⟩
  | 46 => ⟨S2048x8x32, .f32⟩
  | 47 => ⟨S2048x8x32, .f32⟩
  | 48 => ⟨S2048x8x32, .f32⟩
  | 49 => ⟨S2048x8x64, .f32⟩
  | 50 => ⟨S2048x8x256, .f32⟩
  | 51 => ⟨S2048x8x128, .f32⟩
  | 52 => ⟨S2048x8x128, .f32⟩
  | 53 => ⟨S2048x1x2x64, .f32⟩
  | 54 => ⟨S2048x4x2x64, .f32⟩
  | 55 => ⟨S2048x8x64, .f32⟩
  | 56 => ⟨S2048x8x192, .f32⟩
  | 57 => ⟨S2048x8x192, .f32⟩
  | 58 => ⟨S2048, .i32⟩
  | 59 => ⟨S8x2048x2048, .f32⟩
  | 60 => ⟨S_, .f32⟩
  | 61 => ⟨S8x2048x2048, .f32⟩
  | 62 => ⟨S8x2048x2048, .f32⟩
  | 63 => ⟨S1x2048, .i32⟩
  | 64 => ⟨S2048x1, .i32⟩
  | 65 => ⟨S2048x2048, .i32⟩
  | 66 => ⟨S2048x2048, .i32⟩
  | 67 => ⟨S2048x2048, .i1⟩
  | 68 => ⟨S_, .f32⟩
  | 69 => ⟨S_, .f32⟩
  | 70 => ⟨S8x2048x2048, .i1⟩
  | 71 => ⟨S8x2048x2048, .f32⟩
  | 72 => ⟨S8x2048x2048, .f32⟩
  | 73 => ⟨S_, .f32⟩
  | 74 => ⟨S8x2048x2048, .f32⟩
  | 75 => ⟨S_, .f32⟩
  | 76 => ⟨S8x2048, .f32⟩
  | 77 => ⟨S8x2048x1, .f32⟩
  | 78 => ⟨S8x2048x2048, .f32⟩
  | 79 => ⟨S8x2048x2048, .i1⟩
  | 80 => ⟨S8x2048x2048, .f32⟩
  | 81 => ⟨S_, .f32⟩
  | 82 => ⟨S8x2048, .f32⟩
  | 83 => ⟨S_, .f32⟩
  | 84 => ⟨S8x2048, .f32⟩
  | 85 => ⟨S8x2048, .f32⟩
  | 86 => ⟨S_, .f32⟩
  | 87 => ⟨S8x2048, .f32⟩
  | 88 => ⟨S8x2048, .i1⟩
  | 89 => ⟨S_, .f32⟩
  | 90 => ⟨S8x2048, .f32⟩
  | 91 => ⟨S8x2048, .i1⟩
  | 92 => ⟨S_, .f32⟩
  | 93 => ⟨S8x2048, .f32⟩
  | 94 => ⟨S_, .f32⟩
  | 95 => ⟨S8x2048, .f32⟩
  | 96 => ⟨S_, .f32⟩
  | 97 => ⟨S8x2048, .f32⟩
  | 98 => ⟨S8x2048, .f32⟩
  | 99 => ⟨S8x2048, .f32⟩
  | 100 => ⟨S8x2048x1, .f32⟩
  | 101 => ⟨S8x2048x2048, .f32⟩
  | 102 => ⟨S8x2048x2048, .f32⟩
  | 103 => ⟨S8x2048x2048, .f32⟩
  | 104 => ⟨S_, .f32⟩
  | 105 => ⟨S8x2048, .f32⟩
  | 106 => ⟨S8x2048x1, .f32⟩
  | 107 => ⟨S8x2048x2048, .f32⟩
  | 108 => ⟨S8x2048x2048, .f32⟩
  | 109 => ⟨S8x2048x1, .f32⟩
  | 110 => ⟨S_, .f32⟩
  | 111 => ⟨S8x2048x1, .f32⟩
  | 112 => ⟨S8x2048x1, .f32⟩
  | 113 => ⟨S8x128x2048, .f32⟩
  | 114 => ⟨S2048x8x128, .f32⟩
  | 115 => ⟨S2048x1024, .f32⟩
  | 116 => ⟨S2048x1024, .f32⟩
  | 117 => ⟨S2048x8x128, .f32⟩
  | 118 => ⟨S8x128x2048, .f32⟩
  | 119 => ⟨S8x2048x2048, .f32⟩
  | 120 => ⟨S8x128x2048, .f32⟩
  | 121 => ⟨S2048x8x128, .f32⟩
  | 122 => ⟨S8x2048x2048, .f32⟩
  | 123 => ⟨S8x2048x2048, .f32⟩
  | 124 => ⟨S8x2048x2048, .f32⟩
  | 125 => ⟨S_, .f32⟩
  | 126 => ⟨S8x2048, .f32⟩
  | 127 => ⟨S8x2048x1, .f32⟩
  | _ => ⟨S2048x1024, .bf16⟩

abbrev hbmTy0_1 (i : Nat) : BufTy := match i % 128 with
  | 0 => ⟨S8x2048x1, .f32⟩
  | 1 => ⟨S8x2048x2048, .f32⟩
  | 2 => ⟨S8x2048x2048, .f32⟩
  | 3 => ⟨S_, .f32⟩
  | 4 => ⟨S8x2048, .f32⟩
  | 5 => ⟨S8x2048x2048, .f32⟩
  | 6 => ⟨S8x2048x2048, .f32⟩
  | 7 => ⟨S8x2048x2048, .f32⟩
  | 8 => ⟨S_, .f32⟩
  | 9 => ⟨S8x2048x2048, .f32⟩
  | 10 => ⟨S8x2048x2048, .f32⟩
  | 11 => ⟨S_, .f32⟩
  | 12 => ⟨S8x2048x2048, .f32⟩
  | 13 => ⟨S8x2048x2048, .f32⟩
  | 14 => ⟨S8x2048x192, .f32⟩
  | 15 => ⟨S2048x8x192, .f32⟩
  | 16 => ⟨S8x2048x192, .f32⟩
  | 17 => ⟨S2048x8x192, .f32⟩
  | 18 => ⟨S2048x8x128, .f32⟩
  | 19 => ⟨S2048x8x64, .f32⟩
  | 20 => ⟨S2048x8x128, .f32⟩
  | 21 => ⟨S2048x8x64, .f32⟩
  | 22 => ⟨S2048x4x2x64, .f32⟩
  | 23 => ⟨S_, .f32⟩
  | 24 => ⟨S2048x2x64, .f32⟩
  | 25 => ⟨S2048x1x2x64, .f32⟩
  | 26 => ⟨S2048x128, .f32⟩
  | 27 => ⟨S_, .f32⟩
  | 28 => ⟨S2048x8x256, .f32⟩
  | 29 => ⟨S_, .f32⟩
  | 30 => ⟨S2048x8x256, .f32⟩
  | 31 => ⟨S2048x8x256, .f32⟩
  | 32 => ⟨S2048x2048, .f32⟩
  | 33 => ⟨S2048x8x32, .f32⟩
  | 34 => ⟨S2048x8x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x32, .f32⟩
  | 43 => ⟨S2048x8x32, .f32⟩
  | 44 => ⟨S2048x8x32, .f32⟩
  | 45 => ⟨S2048x8x32, .f32⟩
  | 46 => ⟨S2048x8x64, .f32⟩
  | 47 => ⟨S2048x512, .f32⟩
  | 48 => ⟨S2048x1024, .f32⟩
  | 49 => ⟨S2048x1024, .bf16⟩
  | 50 => ⟨S2048x512, .bf16⟩
  | 51 => ⟨S2048x2048, .bf16⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_3 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_4 : Ref sig .tc := ⟨.hbm, 68, rfl⟩
abbrev main_call0_v0 : Ref sig .tc := ⟨.hbm, 69, rfl⟩
abbrev main_v57_1 : Ref sig .tc := ⟨.hbm, 70, rfl⟩
abbrev main_call0_v2 : Ref sig .tc := ⟨.hbm, 71, rfl⟩
abbrev main_v57_0 : Ref sig .tc := ⟨.hbm, 72, rfl⟩
abbrev main_call0_cst : Ref sig .tc := ⟨.hbm, 73, rfl⟩
abbrev main_v57_2 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_15 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_16 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_call1_cst : Ref sig .tc := ⟨.hbm, 136, rfl⟩
abbrev main_call1_v0 : Ref sig .tc := ⟨.hbm, 137, rfl⟩
abbrev main_v107 : Ref sig .tc := ⟨.hbm, 138, rfl⟩
abbrev main_cst_17 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_18 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_19 : Ref sig .tc := ⟨.hbm, 155, rfl⟩
abbrev main_v122 : Ref sig .tc := ⟨.hbm, 156, rfl⟩
abbrev main_cst_20 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩

abbrev nD : Nat := 1
abbrev τ : Topo := Topo.v7x

variable {F : FTy → Type} [FloatOps F]
-- ==== GateUpDw.lean ====
abbrev S2048x2048 : Shape := ⟨2, ![2048, 2048]⟩
abbrev S2048x11264 : Shape := ⟨2, ![2048, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDwRefIdeal.lean ====
abbrev S2048x2048 : Shape := ⟨2, ![2048, 2048]⟩
abbrev S2048x11264 : Shape := ⟨2, ![2048, 11264]⟩
abbrev S_ : Shape := ⟨0, ![]⟩
abbrev S4x2048x2816 : Shape := ⟨3, ![4, 2048, 2816]⟩
abbrev S2048x4x2816 : Shape := ⟨3, ![2048, 4, 2816]⟩
abbrev S4x2816x2048 : Shape := ⟨3, ![4, 2816, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S4x2048x2816, .f32⟩
  | .hbm, ⟨4, _⟩ => ⟨S2048x2048, .f32⟩
  | .hbm, ⟨5, _⟩ => ⟨S2048x4x2816, .f32⟩
  | .hbm, ⟨6, _⟩ => ⟨S2048x11264, .f32⟩
  | .hbm, ⟨7, _⟩ => ⟨S2048x11264, .f32⟩
  | .hbm, ⟨8, _⟩ => ⟨S2048x4x2816, .f32⟩
  | .hbm, ⟨9, _⟩ => ⟨S4x2816x2048, .f32⟩
  | .hbm, ⟨10, _⟩ => ⟨S4x2048x2816, .f32⟩
  | .hbm, ⟨11, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateUpDx.lean ====
abbrev S2048x11264 : Shape := ⟨2, ![2048, 11264]⟩
abbrev S4x2048x2816 : Shape := ⟨3, ![4, 2048, 2816]⟩
abbrev S2048x2048 : Shape := ⟨2, ![2048, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S4x2048x2816, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDxRefIdeal.lean ====
abbrev S2048x11264 : Shape := ⟨2, ![2048, 11264]⟩
abbrev S4x2048x2816 : Shape := ⟨3, ![4, 2048, 2816]⟩
abbrev S_ : Shape := ⟨0, ![]⟩
abbrev S2048x2048 : Shape := ⟨2, ![2048, 2048]⟩
abbrev S2048x4x2816 : Shape := ⟨3, ![2048, 4, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4x2048x2816, .bf16⟩
  | .hbm, ⟨2, _⟩ => ⟨S_, .f32⟩
  | .hbm, ⟨3, _⟩ => ⟨S2048x2048, .f32⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S2048x11264, .f32⟩
  | .hbm, ⟨8, _⟩ => ⟨S2048x4x2816, .f32⟩
  | .hbm, ⟨9, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProjDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProjDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjAg.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjAgRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjAgDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjAgDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjZ2.lean ====
abbrev S2048x2048 : Shape := ⟨2, ![2048, 2048]⟩
abbrev S2048x1408 : Shape := ⟨2, ![2048, 1408]⟩
abbrev S1024x2048 : Shape := ⟨2, ![1024, 2048]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjZ2RefIdeal.lean ====
abbrev S2048x2048 : Shape := ⟨2, ![2048, 2048]⟩
abbrev S2048x1408 : Shape := ⟨2, ![2048, 1408]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S2048x2048, .f32⟩
  | .hbm, ⟨3, _⟩ => ⟨S2048x1408, .f32⟩
  | .hbm, ⟨4, _⟩ => ⟨S2048x1408, .f32⟩
  | .hbm, ⟨5, _⟩ => ⟨S2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjZ2Dw.lean ====
abbrev S2048x2048 : Shape := ⟨2, ![2048, 2048]⟩
abbrev S2048x1408 : Shape := ⟨2, ![2048, 1408]⟩
abbrev S2048x1024 : Shape := ⟨2, ![2048, 1024]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjZ2DwRefIdeal.lean ====
abbrev S2048x2048 : Shape := ⟨2, ![2048, 2048]⟩
abbrev S2048x1408 : Shape := ⟨2, ![2048, 1408]⟩
abbrev S_ : Shape := ⟨0, ![]⟩
abbrev S1408x2048 : Shape := ⟨2, ![1408, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1408, .bf16⟩
  | .hbm, ⟨2, _⟩ => ⟨S_, .f32⟩
  | .hbm, ⟨3, _⟩ => ⟨S2048x1408, .f32⟩
  | .hbm, ⟨4, _⟩ => ⟨S2048x2048, .f32⟩
  | .hbm, ⟨5, _⟩ => ⟨S2048x1408, .f32⟩
  | .hbm, ⟨6, _⟩ => ⟨S2048x1408, .f32⟩
  | .hbm, ⟨7, _⟩ => ⟨S1408x2048, .f32⟩
  | .hbm, ⟨8, _⟩ => ⟨S2048x1408, .f32⟩
  | .hbm, ⟨9, _⟩ => ⟨S2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QUp.lean ====
abbrev S2048x768 : Shape := ⟨2, ![2048, 768]⟩
abbrev S768x1536 : Shape := ⟨2, ![768, 1536]⟩
abbrev S2048x1536 : Shape := ⟨2, ![2048, 1536]⟩
abbrev S1024x768 : Shape := ⟨2, ![1024, 768]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .bf16⟩
  | .hbm, ⟨1, _⟩ => ⟨S768x1536, .bf16⟩
  | .hbm, ⟨2, _⟩ => ⟨S2048x1536, .bf16⟩
  | .local _ .vmem, ⟨0, _⟩ => ⟨S1024x768, .bf16⟩
  | .local _ .vmem, ⟨1, _⟩ => ⟨S1024x768, .bf16⟩
  | .local _ .vmem, ⟨2, _⟩ => ⟨S768x1536, .bf16⟩
  | .local _ .vmem, ⟨3, _⟩ => ⟨S1024x1536, .bf16⟩
  | .local _ .vmem, ⟨4, _⟩ => ⟨S1024x1536, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpRefIdeal.lean ====
abbrev S2048x768 : Shape := ⟨2, ![2048, 768]⟩
abbrev S768x1536 : Shape := ⟨2, ![768, 1536]⟩
abbrev S2048x1536 : Shape := ⟨2, ![2048, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S768x1536, .bf16⟩
  | .hbm, ⟨2, _⟩ => ⟨S2048x768, .f32⟩
  | .hbm, ⟨3, _⟩ => ⟨S768x1536, .f32⟩
  | .hbm, ⟨4, _⟩ => ⟨S2048x1536, .f32⟩
  | .hbm, ⟨5, _⟩ => ⟨S2048x1536, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QUpDx.lean ====
abbrev S2048x1536 : Shape := ⟨2, ![2048, 1536]⟩
abbrev S768x1536 : Shape := ⟨2, ![768, 1536]⟩
abbrev S2048x768 : Shape := ⟨2, ![2048, 768]⟩
abbrev S1024x1536 : Shape := ⟨2, ![1024, 1536]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1536, .bf16⟩
  | .hbm, ⟨1, _⟩ => ⟨S768x1536, .bf16⟩
  | .hbm, ⟨2, _⟩ => ⟨S2048x768, .bf16⟩
  | .local _ .vmem, ⟨0, _⟩ => ⟨S1024x1536, .bf16⟩
  | .local _ .vmem, ⟨1, _⟩ => ⟨S1024x1536, .bf16⟩
  | .local _ .vmem, ⟨2, _⟩ => ⟨S768x1536, .bf16⟩
  | .local _ .vmem, ⟨3, _⟩ => ⟨S1024x768, .bf16⟩
  | .local _ .vmem, ⟨4, _⟩ => ⟨S1024x768, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpDxRefIdeal.lean ====
abbrev S2048x1536 : Shape := ⟨2, ![2048, 1536]⟩
abbrev S768x1536 : Shape := ⟨2, ![768, 1536]⟩
abbrev S_ : Shape := ⟨0, ![]⟩
abbrev S2048x768 : Shape := ⟨2, ![2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S768x1536, .bf16⟩
  | .hbm, ⟨2, _⟩ => ⟨S_, .f32⟩
  | .hbm, ⟨3, _⟩ => ⟨S2048x768, .f32⟩
  | .hbm, ⟨4, _⟩ => ⟨S768x1536, .f32⟩
  | .hbm, ⟨5, _⟩ => ⟨S2048x1536, .f32⟩
  | .hbm, ⟨6, _⟩ => ⟨S2048x1536, .f32⟩
  | .hbm, ⟨7, _⟩ => ⟨S2048x768, .f32⟩
  | .hbm, ⟨8, _⟩ => ⟨S2048x768, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QUpDw.lean ====
abbrev S2048x768 : Shape := ⟨2, ![2048, 768]⟩
abbrev S2048x1536 : Shape := ⟨2, ![2048, 1536]⟩
abbrev S768x1536 : Shape := ⟨2, ![768, 1536]⟩

abbrev nBuf : Space → Nat
  | .hbm => 3
  | .vmem => 3
  | .smem => 0
  | _ => 0

abbrev bufTy : (tb : Table) → Fin (tcTables nBuf tb) → BufTy
  | .hbm, ⟨0, _⟩ => ⟨S2048x768, .bf16⟩
  | .hbm, ⟨1, _⟩ => ⟨S2048x1536, .bf16⟩
  | .hbm, ⟨2, _⟩ => ⟨S768x1536, .bf16⟩
  | .local _ .vmem, ⟨0, _⟩ => ⟨S2048x768, .bf16⟩
  | .local _ .vmem, ⟨1, _⟩ => ⟨S2048x1536, .bf16⟩
  | .local _ .vmem, ⟨2, _⟩ => ⟨S768x1536, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S768x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QUpDwRefIdeal.lean ====
abbrev S2048x768 : Shape := ⟨2, ![2048, 768]⟩
abbrev S2048x1536 : Shape := ⟨2, ![2048, 1536]⟩
abbrev S_ : Shape := ⟨0, ![]⟩
abbrev S768x1536 : Shape := ⟨2, ![768, 1536]⟩
abbrev S1536x768 : Shape := ⟨2, ![1536, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x1536, .bf16⟩
  | .hbm, ⟨2, _⟩ => ⟨S_, .f32⟩
  | .hbm, ⟨3, _⟩ => ⟨S768x1536, .f32⟩
  | .hbm, ⟨4, _⟩ => ⟨S2048x768, .f32⟩
  | .hbm, ⟨5, _⟩ => ⟨S2048x1536, .f32⟩
  | .hbm, ⟨6, _⟩ => ⟨S2048x1536, .f32⟩
  | .hbm, ⟨7, _⟩ => ⟨S1536x768, .f32⟩
  | .hbm, ⟨8, _⟩ => ⟨S768x1536, .f32⟩
  | .hbm, ⟨9, _⟩ => ⟨S768x1536, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvUp.lean ====
abbrev S2048x512 : Shape := ⟨2, ![2048, 512]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpRefIdeal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S2048x512, .f32⟩
  | .hbm, ⟨3, _⟩ => ⟨S512x2048, .f32⟩
  | .hbm, ⟨4, _⟩ => ⟨S2048x2048, .f32⟩
  | .hbm, ⟨5, _⟩ => ⟨S2048x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvUpDx.lean ====
abbrev S2048x2048 : Shape := ⟨2, ![2048, 2048]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S2048x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDxRefIdeal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S512x2048, .bf16⟩
  | .hbm, ⟨2, _⟩ => ⟨S_, .f32⟩
  | .hbm, ⟨3, _⟩ => ⟨S2048x512, .f32⟩
  | .hbm, ⟨4, _⟩ => ⟨S512x2048, .f32⟩
  | .hbm, ⟨5, _⟩ => ⟨S2048x2048, .f32⟩
  | .hbm, ⟨6, _⟩ => ⟨S2048x2048, .f32⟩
  | .hbm, ⟨7, _⟩ => ⟨S2048x512, .f32⟩
  | .hbm, ⟨8, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvUpDw.lean ====
abbrev S2048x512 : Shape := ⟨2, ![2048, 512]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S512x2048, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpDwRefIdeal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S_, .f32⟩
  | .hbm, ⟨3, _⟩ => ⟨S512x2048, .f32⟩
  | .hbm, ⟨4, _⟩ => ⟨S2048x512, .f32⟩
  | .hbm, ⟨5, _⟩ => ⟨S2048x2048, .f32⟩
  | .hbm, ⟨6, _⟩ => ⟨S2048x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDown.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjDx.lean ====
abbrev S2048x2048 : Shape := ⟨2, ![2048, 2048]⟩
abbrev S2048x1408 : Shape := ⟨2, ![2048, 1408]⟩
abbrev S1024x2048 : Shape := ⟨2, ![1024, 2048]⟩
abbrev S1024x1408 : Shape := ⟨2, ![1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1408, .bf16⟩
  | .hbm, ⟨3, _⟩ => ⟨S2048x1408, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== InProjDxRefIdeal.lean ====
abbrev S2048x2048 : Shape := ⟨2, ![2048, 2048]⟩
abbrev S2048x1408 : Shape := ⟨2, ![2048, 1408]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1408, .bf16⟩
  | .hbm, ⟨3, _⟩ => ⟨S2048x1408, .bf16⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x1408, .f32⟩
  | .hbm, ⟨9, _⟩ => ⟨S2048x1408, .f32⟩
  | .hbm, ⟨10, _⟩ => ⟨S2048x2048, .f32⟩
  | .hbm, ⟨11, _⟩ => ⟨S2048x1408, .f32⟩
  | .hbm, ⟨12, _⟩ => ⟨S2048x2048, .f32⟩
  | .hbm, ⟨13, _⟩ => ⟨S2048x2048, .f32⟩
  | .hbm, ⟨14, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== FfnUp.lean ====
abbrev S2048x2048 : Shape := ⟨2, ![2048, 2048]⟩
abbrev S4x2048x2816 : Shape := ⟨3, ![4, 2048, 2816]⟩
abbrev S2048x11264 : Shape := ⟨2, ![2048, 11264]⟩
abbrev S2048x5632 : Shape := ⟨2, ![2048, 5632]⟩
abbrev S512x2048 : Shape := ⟨2, ![512, 2048]⟩
abbrev S1x2048x2816 : Shape := ⟨3, ![1, 2048, 2816]⟩
abbrev S512x2816 : Shape := ⟨2, ![512, 2816]⟩
abbrev S512x1408 : Shape := ⟨2, ![512, 1408]⟩
abbrev S256x2048 : Shape := ⟨2, ![256, 2048]⟩
abbrev S2048x2816 : Shape := ⟨2, ![2048, 2816]⟩
abbrev S256x2816 : Shape := ⟨2, ![256, 2816]⟩
abbrev S256x1408 : Shape := ⟨2, ![256, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .bf16⟩
  | .hbm, ⟨3, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x4x1408 : Shape := ⟨3, ![2048, 4, 1408]⟩
abbrev S2048x11264 : Shape := ⟨2, ![2048, 11264]⟩
abbrev S_ : Shape := ⟨0, ![]⟩
abbrev S2048x5632 : Shape := ⟨2, ![2048, 5632]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x2048, .f32⟩
  | .hbm, ⟨3, _⟩ => ⟨S4x2048x2816, .f32⟩
  | .hbm, ⟨4, _⟩ => ⟨S2048x4x2816, .f32⟩
  | .hbm, ⟨5, _⟩ => ⟨S2048x4x1408, .f32⟩
  | .hbm, ⟨6, _⟩ => ⟨S2048x4x1408, .f32⟩
  | .hbm, ⟨7, _⟩ => ⟨S2048x11264, .f32⟩
  | .hbm, ⟨8, _⟩ => ⟨S2048x11264, .bf16⟩
  | .hbm, ⟨9, _⟩ => ⟨S2048x4x1408, .f32⟩
  | .hbm, ⟨10, _⟩ => ⟨S2048x4x1408, .f32⟩
  | .hbm, ⟨11, _⟩ => ⟨S_, .f32⟩
  | .hbm, ⟨12, _⟩ => ⟨S2048x4x1408, .f32⟩
  | .hbm, ⟨13, _⟩ => ⟨S2048x4x1408, .f32⟩
  | .hbm, ⟨14, _⟩ => ⟨S_, .f32⟩
  | .hbm, ⟨15, _⟩ => ⟨S2048x4x1408, .f32⟩
  | .hbm, ⟨16, _⟩ => ⟨S2048x4x1408, .f32⟩
  | .hbm, ⟨17, _⟩ => ⟨S2048x4x1408, .f32⟩
  | .hbm, ⟨18, _⟩ => ⟨S2048x4x1408, .f32⟩
  | .hbm, ⟨19, _⟩ => ⟨S2048x5632, .f32⟩
  | .hbm, ⟨20, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x11264 : Shape := ⟨2, ![2048, 11264]⟩
abbrev S512x2048 : Shape := ⟨2, ![512, 2048]⟩
abbrev S1408x2048 : Shape := ⟨2, ![1408, 2048]⟩
abbrev S512x2816 : Shape := ⟨2, ![512, 2816]⟩
abbrev S256x2048 : Shape := ⟨2, ![256, 2048]⟩
abbrev S256x1408 : Shape := ⟨2, ![256, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x11264, .bf16⟩
  | .hbm, ⟨3, _⟩ => ⟨S2048x11264, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownDxRefIdeal.lean ====
abbrev S2048x2048 : Shape := ⟨2, ![2048, 2048]⟩
abbrev S5632x2048 : Shape := ⟨2, ![5632, 2048]⟩
abbrev S2048x11264 : Shape := ⟨2, ![2048, 11264]⟩
abbrev S2048x4x2x1408 : Shape := ⟨4, ![2048, 4, 2, 1408]⟩
abbrev S2048x4x1x1408 : Shape := ⟨4, ![2048, 4, 1, 1408]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x11264, .bf16⟩
  | .hbm, ⟨3, _⟩ => ⟨S2048x11264, .f32⟩
  | .hbm, ⟨4, _⟩ => ⟨S2048x4x2x1408, .f32⟩
  | .hbm, ⟨5, _⟩ => ⟨S2048x4x1x1408, .f32⟩
  | .hbm, ⟨6, _⟩ => ⟨S2048x4x1408, .f32⟩
  | .hbm, ⟨7, _⟩ => ⟨S2048x5632, .f32⟩
  | .hbm, ⟨8, _⟩ => ⟨S2048x4x1x1408, .f32⟩
  | .hbm, ⟨9, _⟩ => ⟨S2048x4x1408, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x4x1408, .f32⟩
  | .hbm, ⟨36, _⟩ => ⟨S2048x4x1x1408, .f32⟩
  | .hbm, ⟨37, _⟩ => ⟨S_, .f32⟩
  | .hbm, ⟨38, _⟩ => ⟨S2048x4x2x1408, .f32⟩
  | .hbm, ⟨39, _⟩ => ⟨S2048x4x1408, .f32⟩
  | .hbm, ⟨40, _⟩ => ⟨S2048x4x1x1408, .f32⟩
  | .hbm, ⟨41, _⟩ => ⟨S_, .f32⟩
  | .hbm, ⟨42, _⟩ => ⟨S2048x4x2x1408, .f32⟩
  | .hbm, ⟨43, _⟩ => ⟨S2048x4x2x1408, .f32⟩
  | .hbm, ⟨44, _⟩ => ⟨S2048x11264, .f32⟩
  | .hbm, ⟨45, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Proof.Att.Row.lean ====
/- The mathematics of one row of causal attention weights and of its gradient, over the extended reals. -/
module

public import Idealize.ShloMosaic.Lib.Pipeline.ValueKit
public import Mathlib.Data.EReal.Operations

@[expose] public section

set_option maxRecDepth 16384

noncomputable section

namespace Cert.Att

open Idealize.ShloMosaic

variable {n : ℕ}

/-- The scores of the query at position `P`: a key after the query scores −∞. -/
def msk (P : ℕ) (s : Fin n → EReal) (r : Fin n) : EReal := if r.val ≤ P then s r else ⊥

/-- The greatest score of the row. -/
def rmax (P : ℕ) (s : Fin n → EReal) : EReal := Finset.univ.fold max ⊥ (msk P s)

/-- The exponential of a score, relative to the greatest. -/
def ex (P : ℕ) (s : Fin n → EReal) (r : Fin n) : EReal := Ideal.exp (msk P s r - rmax P s)

/-- The sum of the exponentials. -/
def den (P : ℕ) (s : Fin n → EReal) : EReal := ∑ r, ex P s r

/-- The attention weight of key `r`. -/
def pr (P : ℕ) (s : Fin n → EReal) (r : Fin n) : EReal := ex P s r * Ideal.div 1 (den P s)

/-- The gradient of the score of key `r`, from the gradients `dp` of the weights. -/
def dsc (P : ℕ) (s dp : Fin n → EReal) (r : Fin n) : EReal :=
  pr P s r * (dp r - ∑ r', pr P s r' * dp r')

/-! ### Sums over the first `n` keys -/

theorem sum_castLE {N : ℕ} (h : n ≤ N) (f : Fin N → EReal) (hf : ∀ r : Fin N, n ≤ r.val → f r = 0) :
    ∑ r, f r = ∑ r : Fin n, f (Fin.castLE h r) := by
  rw [show ∑ r : Fin n, f (Fin.castLE h r) = ∑ r ∈ Finset.univ.map (Fin.castLEEmb h), f r from
    (Finset.sum_map Finset.univ (Fin.castLEEmb h) f).symm]
  refine (Finset.sum_subset (Finset.subset_univ _) fun r _ hr => hf r ?_).symm
  by_contra hlt
  refine hr (Finset.mem_map.2 ⟨⟨r.val, by omega⟩, Finset.mem_univ _, Fin.ext rfl⟩)

theorem bot_sub' (x : EReal) : (⊥ : EReal) - x = ⊥ := by
  rw [sub_eq_add_neg, EReal.bot_add]

theorem exp_bot_sub (x : EReal) : Ideal.exp (⊥ - x) = 0 := by
  rw [bot_sub']; rfl

theorem ex_zero (P : ℕ) (s : Fin n → EReal) (r : Fin n) (h : P < r.val) : ex P s r = 0 := by
  unfold ex msk
  rw [if_neg (by omega)]
  exact exp_bot_sub _

theorem pr_zero (P : ℕ) (s : Fin n → EReal) (r : Fin n) (h : P < r.val) : pr P s r = 0 := by
  unfold pr; rw [ex_zero P s r h, zero_mul]

theorem dsc_zero (P : ℕ) (s dp : Fin n → EReal) (r : Fin n) (h : P < r.val) : dsc P s dp r = 0 := by
  unfold dsc; rw [pr_zero P s r h, zero_mul]

theorem rmax_eq_sup (P : ℕ) (s : Fin n → EReal) : rmax P s = Finset.univ.sup (msk P s) := rfl

theorem rmax_castLE {N : ℕ} (h : n ≤ N) (P : ℕ) (hP : P < n) (s : Fin N → EReal) :
    rmax P (fun r : Fin n => s (Fin.castLE h r)) = rmax P s := by
  rw [rmax_eq_sup, rmax_eq_sup]
  apply le_antisymm
  · refine Finset.sup_le fun r _ => ?_
    exact Finset.le_sup (f := msk P s) (Finset.mem_univ (Fin.castLE h r))
  · refine Finset.sup_le fun r _ => ?_
    by_cases hr : r.val ≤ P
    · exact Finset.le_sup (f := msk P fun r : Fin n => s (Fin.castLE h r)) (Finset.mem_univ (⟨r.val, by omega⟩ : Fin n))
    · unfold msk; rw [if_neg hr]; exact bot_le

theorem ex_castLE {N : ℕ} (h : n ≤ N) (P : ℕ) (hP : P < n) (s : Fin N → EReal) (r : Fin n) :
    ex P (fun r : Fin n => s (Fin.castLE h r)) r = ex P s (Fin.castLE h r) := by
  unfold ex; rw [rmax_castLE h P hP]; rfl

theorem den_castLE {N : ℕ} (h : n ≤ N) (P : ℕ) (hP : P < n) (s : Fin N → EReal) :
    den P (fun r : Fin n => s (Fin.castLE h r)) = den P s := by
  unfold den
  rw [sum_castLE h (ex P s) (fun r hr => ex_zero P s r (by omega))]
  exact Finset.sum_congr rfl fun r _ => ex_castLE h P hP s r

theorem pr_castLE {N : ℕ} (h : n ≤ N) (P : ℕ) (hP : P < n) (s : Fin N → EReal) (r : Fin n) :
    pr P (fun r : Fin n => s (Fin.castLE h r)) r = pr P s (Fin.castLE h r) := by
  unfold pr; rw [den_castLE h P hP, ex_castLE h P hP]

theorem dsc_castLE {N : ℕ} (h : n ≤ N) (P : ℕ) (hP : P < n) (s dp : Fin N → EReal) (r : Fin n) :
    dsc P (fun r : Fin n => s (Fin.castLE h r)) (fun r => dp (Fin.castLE h r)) r = dsc P s dp (Fin.castLE h r) := by
  unfold dsc
  rw [sum_castLE h (fun r' => pr P s r' * dp r') (fun r hr => by rw [pr_zero P s r (by omega), zero_mul]), pr_castLE h P hP]
  congr 2
  exact Finset.sum_congr rfl fun r _ => by rw [pr_castLE h P hP]

/-! ### Constants through sums -/

theorem mul_sum' {ι : Type*} (t : Finset ι) (c : EReal) (h0 : 0 ≤ c) (ht : c ≠ ⊤) (f : ι → EReal) :
    c * ∑ i ∈ t, f i = ∑ i ∈ t, c * f i := by
  classical
  induction t using Finset.induction_on with
  | empty => simp
  | insert a t ha ih => rw [Finset.sum_insert ha, Finset.sum_insert ha, EReal.left_distrib_of_nonneg_of_ne_top h0 ht, ih]

theorem sum_mul' {ι : Type*} (t : Finset ι) (c : EReal) (h0 : 0 ≤ c) (ht : c ≠ ⊤) (f : ι → EReal) :
    (∑ i ∈ t, f i) * c = ∑ i ∈ t, f i * c := by
  rw [mul_comm, mul_sum' t c h0 ht]
  exact Finset.sum_congr rfl fun _ _ => mul_comm _ _

/-! ### Rows of real scores -/

theorem coe_sum' {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem exp_real (x : ℝ) : Ideal.exp (x : EReal) = (Real.exp x : EReal) := rfl

theorem rmax_real (P : ℕ) (s : Fin n → EReal) (h0 : 0 < n) (hs : ∀ r, ∃ x : ℝ, s r = x) :
    ∃ x : ℝ, rmax P s = x := by
  rw [rmax_eq_sup]
  have hne : (Finset.univ : Finset (Fin n)).Nonempty := ⟨⟨0, h0⟩, Finset.mem_univ _⟩
  obtain ⟨i, -, hi⟩ := Finset.exists_mem_eq_sup _ hne (msk P s)
  have hlow : (msk P s ⟨0, h0⟩) ≤ Finset.univ.sup (msk P s) := Finset.le_sup (Finset.mem_univ _)
  obtain ⟨x, hx⟩ := hs ⟨0, h0⟩
  rw [hi] at hlow ⊢
  unfold msk at hlow ⊢
  rw [if_pos (by simp), hx] at hlow
  by_cases hc : i.val ≤ P
  · rw [if_pos hc]; exact hs i
  · rw [if_neg hc] at hlow; exact absurd (le_bot_iff.1 hlow) (EReal.coe_ne_bot x)

theorem ex_real (P : ℕ) (s : Fin n → EReal) (h0 : 0 < n) (hs : ∀ r, ∃ x : ℝ, s r = x) (r : Fin n) :
    ∃ x : ℝ, 0 ≤ x ∧ (r.val ≤ P → 0 < x) ∧ ex P s r = x := by
  by_cases hc : r.val ≤ P
  · obtain ⟨x, hx⟩ := hs r
    obtain ⟨y, hy⟩ := rmax_real P s h0 hs
    refine ⟨Real.exp (x - y), (Real.exp_pos _).le, fun _ => Real.exp_pos _, ?_⟩
    unfold ex msk
    rw [if_pos hc, hx, hy, ← EReal.coe_sub]; rfl
  · exact ⟨0, le_rfl, fun h => absurd h hc, by rw [ex_zero P s r (by omega)]; rfl⟩

theorem den_real (P : ℕ) (s : Fin n → EReal) (h0 : 0 < n) (hs : ∀ r, ∃ x : ℝ, s r = x) :
    ∃ x : ℝ, 0 < x ∧ den P s = x := by
  choose f h1 h2 h3 using ex_real P s h0 hs
  refine ⟨∑ r, f r, ?_, ?_⟩
  · refine Finset.sum_pos' (fun i _ => h1 i) ⟨⟨0, h0⟩, Finset.mem_univ _, h2 _ (by simp)⟩
  · unfold den
    rw [coe_sum']
    exact Finset.sum_congr rfl fun r _ => h3 r

theorem div_real (x : EReal) (d : ℝ) (hd : 0 < d) : Ideal.div x d = x * ((d⁻¹ : ℝ) : EReal) := by
  unfold Ideal.div
  rw [if_neg (by exact_mod_cast hd.ne'), EReal.coe_inv]

/-- The weight is the quotient by the sum. -/
theorem pr_eq_div (P : ℕ) (s : Fin n → EReal) (h0 : 0 < n) (hs : ∀ r, ∃ x : ℝ, s r = x) (r : Fin n) :
    Ideal.div (ex P s r) (den P s) = pr P s r := by
  obtain ⟨d, hd, e⟩ := den_real P s h0 hs
  unfold pr
  rw [e, div_real _ d hd, div_real _ d hd, one_mul]

/-- The gradient of the score, as the quotient rule writes it. -/
theorem dsc_eq_quot (P : ℕ) (s dp : Fin n → EReal) (h0 : 0 < n) (hs : ∀ r, ∃ x : ℝ, s r = x) (r : Fin n) :
    (Ideal.div (dp r) (den P s) + -∑ r', dp r' * Ideal.div 1 (den P s * den P s) * ex P s r') * ex P s r
      = dsc P s dp r := by
  obtain ⟨d, hd, e⟩ := den_real P s h0 hs
  obtain ⟨x, hx0, -, hx⟩ := ex_real P s h0 hs r
  have hi : (0 : EReal) ≤ ((d⁻¹ : ℝ) : EReal) := by exact_mod_cast (inv_pos.2 hd).le
  have hx0' : (0 : EReal) ≤ (x : EReal) := by exact_mod_cast hx0
  unfold dsc pr
  rw [e, div_real _ d hd, div_real _ d hd, ← EReal.coe_mul, div_real _ _ (mul_pos hd hd), one_mul, one_mul]
  have key : ∑ r', dp r' * (((d * d)⁻¹ : ℝ) : EReal) * ex P s r'
      = ((d⁻¹ : ℝ) : EReal) * ∑ r', ex P s r' * ((d⁻¹ : ℝ) : EReal) * dp r' := by
    rw [mul_sum' _ _ hi (EReal.coe_ne_top _)]
    refine Finset.sum_congr rfl fun r' _ => ?_
    rw [mul_inv, EReal.coe_mul]; ac_rfl
  rw [key, hx]
  generalize (∑ r', ex P s r' * ((d⁻¹ : ℝ) : EReal) * dp r') = D
  rw [sub_eq_add_neg, mul_comm (dp r), ← mul_neg, ← EReal.left_distrib_of_nonneg_of_ne_top hi (EReal.coe_ne_top _)]
  ac_rfl

end Cert.Att
-- ==== Proof.Att.Spec.lean ====
/- What one grid point of the attention's gradient computes, as plain sums over the extended reals: two heads
   (`e = 0, 1`) of one block of 512 queries against all 2048 keys. -/
module

public import proofs.«01_k».proof.Proof.Att.Row
public import proofs.«01_k».proof.Proof.Gen.KernelIdeal
public import proofs.«01_k».proof.Proof.Gen.KernelIdeal.Skeleton
public import Idealize.ShloMosaic.Lib.Pipeline.ValueKit

@[expose] public section

set_option maxRecDepth 16384

noncomputable section

namespace Cert.KernelIdeal.Att

open Idealize.ShloMosaic Cert.KernelIdeal Cert.KernelIdeal.Gen Cert.Att

/-- The scale of the scores. -/
def sca : EReal := Ideal.ofBits .f32 0x3D93CD3A#32

/-- Column `j` of the `k`-th group of 128 columns. -/
def co {N : ℕ} (k : ℕ) (j : Fin 128) (h : 128 * k + 128 ≤ N) : Fin N := ⟨128 * k + j.val, by omega⟩

/-- The lane whose value the rotation brings to lane `l`: the other half of the same 64 lanes. -/
def swp (l : Fin 128) : Fin 128 :=
  if l.val % 64 < 32 then ⟨(l.val + 32) % 128, Nat.mod_lt _ (by decide)⟩ else ⟨(l.val + 96) % 128, Nat.mod_lt _ (by decide)⟩

/-- One on the 64 lanes of head `e`, zero on the others. -/
def hm (e : ℕ) (l : Fin 128) : EReal := if l.val / 64 = e then 1 else 0

/-- The position of query `q` of block `i`. -/
def pos (i : ℕ) (q : Fin 512) : ℕ := 512 * i + q.val

section Point

variable (x0 : S512x256.Idx → EReal) (x1 x2 x3 : S512x128.Idx → EReal) (x4 : S2048x512.Idx → EReal)
  (x5 : S2048x128.Idx → EReal) (x6 : S512x256.Idx → EReal)

/-- The rotated query. -/
def ro (q : Fin 512) (l : Fin 128) : EReal :=
  x1 (ix2 q l) * x2 (ix2 q l) + x1 (ix2 q (swp l)) * x3 (ix2 q l)

/-- The scaled query's unrotated part. -/
def qn (e : Fin 2) (q : Fin 512) (j : Fin 128) : EReal := x0 (ix2 q (co e.val j (by omega))) * sca

/-- The scaled query's rotated part, on head `e`'s lanes. -/
def qp (e : Fin 2) (q : Fin 512) (l : Fin 128) : EReal := ro x1 x2 x3 q l * hm e.val l * sca

/-- The key's unrotated part. -/
def kn (e : Fin 2) (r : Fin 2048) (j : Fin 128) : EReal := x4 (ix2 r (co (2 * e.val) j (by omega)))

/-- The value. -/
def vv (e : Fin 2) (r : Fin 2048) (j : Fin 128) : EReal := x4 (ix2 r (co (2 * e.val + 1) j (by omega)))

/-- The gradient of the head's output. -/
def oo (e : Fin 2) (q : Fin 512) (j : Fin 128) : EReal := x6 (ix2 q (co e.val j (by omega)))

/-- The score. -/
def sS (e : Fin 2) (q : Fin 512) (r : Fin 2048) : EReal :=
  ∑ x, qn x0 e q x * kn x4 e r x + ∑ x, qp x1 x2 x3 e q x * x5 (ix2 r x)

/-- The gradient of the weight. -/
def sDP (e : Fin 2) (q : Fin 512) (r : Fin 2048) : EReal := ∑ x, oo x6 e q x * vv x4 e r x

/-- The weight of key `r` for query `q` of block `i`. -/
def sP (i : ℕ) (e : Fin 2) (q : Fin 512) (r : Fin 2048) : EReal := pr (pos i q) (sS x0 x1 x2 x3 x4 x5 e q) r

/-- The gradient of the score. -/
def sD (i : ℕ) (e : Fin 2) (q : Fin 512) (r : Fin 2048) : EReal :=
  dsc (pos i q) (sS x0 x1 x2 x3 x4 x5 e q) (sDP x4 x6 e q) r

/-- The gradient of the unrotated query. -/
def sQn (i : ℕ) (e : Fin 2) (q : Fin 512) (j : Fin 128) : EReal :=
  (∑ r, sD x0 x1 x2 x3 x4 x5 x6 i e q r * kn x4 e r j) * sca

/-- The gradient of the rotated query, over all 128 lanes. -/
def sQr (i : ℕ) (e : Fin 2) (q : Fin 512) (l : Fin 128) : EReal :=
  (∑ r, sD x0 x1 x2 x3 x4 x5 x6 i e q r * x5 (ix2 r l)) * sca

/-- The gradient of the rotated query, each head on its lanes. -/
def sRo (i : ℕ) (q : Fin 512) (l : Fin 128) : EReal :=
  0 + sQr x0 x1 x2 x3 x4 x5 x6 i 0 q l * hm 0 l + sQr x0 x1 x2 x3 x4 x5 x6 i 1 q l * hm 1 l

/-- The gradient of the query before its rotation. -/
def sQp (i : ℕ) (q : Fin 512) (l : Fin 128) : EReal :=
  sRo x0 x1 x2 x3 x4 x5 x6 i q l * x2 (ix2 q l) + sRo x0 x1 x2 x3 x4 x5 x6 i q (swp l) * x3 (ix2 q (swp l))

/-- The block's part of the gradient of the unrotated key. -/
def sKn (i : ℕ) (e : Fin 2) (r : Fin 2048) (j : Fin 128) : EReal :=
  ∑ q, sD x0 x1 x2 x3 x4 x5 x6 i e q r * qn x0 e q j

/-- The block's part of the gradient of the rotated key. -/
def sKp (i : ℕ) (e : Fin 2) (r : Fin 2048) (l : Fin 128) : EReal :=
  ∑ q, sD x0 x1 x2 x3 x4 x5 x6 i e q r * qp x1 x2 x3 e q l

/-- The block's part of the gradient of the value. -/
def sV (i : ℕ) (e : Fin 2) (r : Fin 2048) (j : Fin 128) : EReal :=
  ∑ q, sP x0 x1 x2 x3 x4 x5 i e q r * oo x6 e q j

end Point

/-! ### Words of the body -/

theorem sel_le {α : Type} (b q r : ℕ) (a c : α) (hq : b + q < 4096) (hr : r < 4096) :
    Scalar.select (IntOp.cmpi .sle (BitVec.ofNat 32 r) (IntOp.addi (BitVec.ofNat 32 b) (BitVec.ofNat 32 q))) a c
      = if r ≤ b + q then a else c := by
  have h : (IntOp.cmpi .sle (BitVec.ofNat 32 r) (IntOp.addi (BitVec.ofNat 32 b) (BitVec.ofNat 32 q)))
      = BitVec.ofBool (decide (r ≤ b + q)) := by
    unfold IntOp.cmpi IntOp.addi
    congr 1
    rw [← BitVec.ofNat_add]
    have key : ∀ k : ℕ, k < 4096 → (BitVec.ofNat 32 k).toInt = (k : ℤ) := fun k hk => by
      rw [BitVec.toInt_eq_toNat_of_lt (by rw [BitVec.toNat_ofNat]; omega), BitVec.toNat_ofNat, Nat.mod_eq_of_lt (by omega)]
    show decide ((BitVec.ofNat 32 r).toInt ≤ (BitVec.ofNat 32 (b + q)).toInt) = decide (r ≤ b + q)
    rw [key r hr, key (b + q) hq]
    simp only [Nat.cast_le]
  rw [h]
  by_cases hc : r ≤ b + q <;> simp [hc, Scalar.select]

theorem negInf : Ideal.ofBits .f32 0xFF800000#32 = (⊥ : EReal) := by
  simp [Ideal.ofBits, Ideal.ieee]

theorem sca_real : ∃ x : ℝ, 0 < x ∧ sca = x := by
  refine ⟨_, ?_, by unfold sca; simp [Ideal.ofBits, Ideal.ieee, -EReal.coe_mul]; rfl⟩
  norm_num

theorem sca_nonneg : 0 ≤ sca := by
  obtain ⟨x, hx, e⟩ := sca_real
  rw [e]; exact_mod_cast hx.le

theorem sca_ne_top : sca ≠ ⊤ := by
  obtain ⟨x, hx, e⟩ := sca_real
  rw [e]; exact EReal.coe_ne_top x

/-- The word that says on which head's lanes a lane lies. -/
theorem lane_word (l : Fin 128) :
    BitVec.setWidth 32
      (IntOp.cmpi CmpIPredicate.eq
        (Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 l.val) 64#32) 0#32))
          (IntOp.subi (IntOp.divsi ArithUnit.vector (BitVec.ofNat 32 l.val) 64#32) 1#32)
          (IntOp.divsi ArithUnit.vector (BitVec.ofNat 32 l.val) 64#32))
        0#32) = if l.val / 64 = 0 then 1#32 else 0#32 := by
  revert l; decide +kernel

theorem lane_word1 (l : Fin 128) :
    BitVec.setWidth 32
      (IntOp.cmpi CmpIPredicate.eq
        (Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 l.val) 64#32) 0#32))
          (IntOp.subi (IntOp.divsi ArithUnit.vector (BitVec.ofNat 32 l.val) 64#32) 1#32)
          (IntOp.divsi ArithUnit.vector (BitVec.ofNat 32 l.val) 64#32))
        1#32) = if l.val / 64 = 1 then 1#32 else 0#32 := by
  revert l; decide +kernel

theorem word_float (p : Prop) [Decidable p] :
    (FloatOps.sitofp (F := Ideal) .f32 (if p then 1#32 else 0#32 : BitVec 32) : EReal) = if p then 1 else 0 := by
  split
  · show (((1#32 : BitVec 32).toInt : ℝ) : EReal) = 1
    simp
  · show (((0#32 : BitVec 32).toInt : ℝ) : EReal) = 0
    simp

/-- The word that says in which half of its 64 lanes a lane lies. -/
theorem swap_word {α : Type} (l : Fin 128) (a b : α) :
    Scalar.select
          (IntOp.cmpi CmpIPredicate.slt
            (Scalar.select
              (IntOp.andi
                (IntOp.xori
                  (IntOp.cmpi CmpIPredicate.slt
                    (IntOp.remsi ArithUnit.vector (BitVec.ofNat 32 l.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 l.val)
                    (Scalar.select (Scalar.cmpi CmpIPredicate.eq 64#32 0#32) 1#32 64#32))
                  0#32))
              (IntOp.addi
                (IntOp.remsi ArithUnit.vector (BitVec.ofNat 32 l.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 l.val)
                (Scalar.select (Scalar.cmpi CmpIPredicate.eq 64#32 0#32) 1#32 64#32)))
            32#32) a b = if l.val % 64 < 32 then a else b := by
  have h : ∀ l : Fin 128, (IntOp.cmpi CmpIPredicate.slt
            (Scalar.select
              (IntOp.andi
                (IntOp.xori
                  (IntOp.cmpi CmpIPredicate.slt
                    (IntOp.remsi ArithUnit.vector (BitVec.ofNat 32 l.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 l.val)
                    (Scalar.select (Scalar.cmpi CmpIPredicate.eq 64#32 0#32) 1#32 64#32))
                  0#32))
              (IntOp.addi
                (IntOp.remsi ArithUnit.vector (BitVec.ofNat 32 l.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 l.val)
                (Scalar.select (Scalar.cmpi CmpIPredicate.eq 64#32 0#32) 1#32 64#32)))
            32#32) = BitVec.ofBool (decide (l.val % 64 < 32)) := by decide +kernel
  rw [h]
  by_cases hc : l.val % 64 < 32 <;> simp [hc, Scalar.select]

/-- The rotated query as the body computes it. -/
theorem rope_apply (x1 : Vec Ideal S512x128 .bf16) (x2 x3 : Vec Ideal S512x128 .f32) (q : Fin 512) (l : Fin 128) :
    k0_pay1 (F := Ideal) (k0_pay133 x1) (k0_pay134 x3) (k0_pay135 x1 x2) k0_pay136 (k0_pay137 x1) 32#32 (ix2 q l)
      = ro x1 x2 x3 q l := by
  pointwise [k0_pay1, k0_pay133, k0_pay134, k0_pay135, k0_pay136, k0_pay137]
  rw [swap_word]
  unfold ro swp
  split <;> rfl

end Cert.KernelIdeal.Att
-- ==== Proof.Att.Model.lean ====
/- The gradient of the attention of 8 heads over 2048 positions, as plain sums over the extended reals: the form both
   programs' results are brought to. -/
module

public import proofs.«01_k».proof.Proof.Att.Spec

@[expose] public section

noncomputable section

namespace Cert.Att

open Idealize.ShloMosaic

/-- The six arguments: the queries' two parts, the keys and values, the rotated key held twice, the positions'
    words and the gradient of the output. -/
structure Args where
  q : Fin 2048 → Fin 1024 → EReal
  p : Fin 2048 → Fin 512 → EReal
  kv : Fin 2048 → Fin 2048 → EReal
  kp : Fin 2048 → Fin 128 → EReal
  w : Fin 2048 → BitVec 32
  d : Fin 2048 → Fin 1024 → EReal

/-- The angle of frequency `f` at a position. -/
def ang (w : BitVec 32) (f : Fin 32) : EReal :=
  FloatOps.sitofp (F := Ideal) FTy.f32 w *
    Ideal.pow (Ideal.ofBits FTy.f32 0x461C4000#32)
      (Ideal.div (-(Ideal.ofBits FTy.f32 0x40000000#32 * FloatOps.sitofp (F := Ideal) FTy.f32 (BitVec.ofNat 32 f.val)))
        (Ideal.ofBits FTy.f32 0x42800000#32))

def c128 (h : Fin 8) (j : Fin 128) : Fin 1024 := ⟨h.val * 128 + j.val, by omega⟩
def c64 (h : Fin 8) (d : Fin 64) : Fin 512 := ⟨h.val * 64 + d.val, by omega⟩
def ck (h : Fin 8) (j : Fin 128) : Fin 2048 := ⟨h.val * 256 + j.val, by omega⟩
def cv (h : Fin 8) (j : Fin 128) : Fin 2048 := ⟨h.val * 256 + (128 + j.val), by omega⟩
def cp (h : Fin 8) (d : Fin 64) : Fin 128 := ⟨h.val % 2 * 64 + d.val, by omega⟩
/-- Lane `d`'s frequency, and the other lane of its pair. -/
def fr (d : Fin 64) : Fin 32 := ⟨d.val % 32, by omega⟩
def ot (d : Fin 64) : Fin 64 := ⟨(d.val + 32) % 64, by omega⟩

namespace Args

variable (A : Args)

def cs (s : Fin 2048) (f : Fin 32) : EReal := Ideal.cos (ang (A.w s) f)
def sn (s : Fin 2048) (f : Fin 32) : EReal := Ideal.sin (ang (A.w s) f)

/-- The rotated query of head `h`. -/
def rot (s : Fin 2048) (h : Fin 8) (d : Fin 64) : EReal :=
  A.p s (c64 h d) * A.cs s (fr d) + A.p s (c64 h (ot d)) * (if d.val < 32 then -A.sn s (fr d) else A.sn s (fr d))

def score (h : Fin 8) (s r : Fin 2048) : EReal :=
  (∑ j, A.q s (c128 h j) * A.kv r (ck h j) + ∑ d, A.rot s h d * A.kp r (cp h d)) * Cert.KernelIdeal.Att.sca

def dP (h : Fin 8) (s r : Fin 2048) : EReal := ∑ j, A.d s (c128 h j) * A.kv r (cv h j)

/-- The weight, and the gradient of the score before its scaling. -/
def P (h : Fin 8) (s r : Fin 2048) : EReal := pr s.val (A.score h s) r
def D (h : Fin 8) (s r : Fin 2048) : EReal := dsc s.val (A.score h s) (A.dP h s) r * Cert.KernelIdeal.Att.sca

/-- The gradients. -/
def gQn (s : Fin 2048) (h : Fin 8) (j : Fin 128) : EReal := ∑ r, A.D h s r * A.kv r (ck h j)
def gR (s : Fin 2048) (h : Fin 8) (d : Fin 64) : EReal := ∑ r, A.D h s r * A.kp r (cp h d)
def gQp (s : Fin 2048) (h : Fin 8) (d : Fin 64) : EReal :=
  A.gR s h d * A.cs s (fr d) + A.gR s h (ot d) * (if d.val < 32 then A.sn s (fr d) else -A.sn s (fr d))
def gKn (r : Fin 2048) (h : Fin 8) (j : Fin 128) : EReal := ∑ s, A.D h s r * A.q s (c128 h j)
def gV (r : Fin 2048) (h : Fin 8) (j : Fin 128) : EReal := ∑ s, A.P h s r * A.d s (c128 h j)
def gKr (r : Fin 2048) (h : Fin 8) (d : Fin 64) : EReal := ∑ s, A.D h s r * A.rot s h d
def gKp (r : Fin 2048) (l : Fin 128) : EReal :=
  ∑ x : Fin 4, A.gKr r ⟨x.val * 2 + l.val / 64, by omega⟩ ⟨l.val % 64, by omega⟩

/-- The scores are all real. -/
def Real : Prop := ∀ h s r, ∃ x : ℝ, A.score h s r = x

end Args

theorem exists_c128 (c : Fin 1024) : ∃ h j, c = c128 h j :=
  ⟨⟨c.val / 128, by omega⟩, ⟨c.val % 128, by omega⟩, Fin.ext (by show c.val = c.val / 128 * 128 + c.val % 128; omega)⟩

theorem exists_c64 (c : Fin 512) : ∃ h d, c = c64 h d :=
  ⟨⟨c.val / 64, by omega⟩, ⟨c.val % 64, by omega⟩, Fin.ext (by show c.val = c.val / 64 * 64 + c.val % 64; omega)⟩

theorem exists_kv (c : Fin 2048) : (∃ h j, c = ck h j) ∨ ∃ h j, c = cv h j := by
  by_cases hc : c.val % 256 < 128
  · exact Or.inl ⟨⟨c.val / 256, by omega⟩, ⟨c.val % 256, hc⟩, Fin.ext (by show c.val = c.val / 256 * 256 + c.val % 256; omega)⟩
  · exact Or.inr ⟨⟨c.val / 256, by omega⟩, ⟨c.val % 256 - 128, by omega⟩,
      Fin.ext (by show c.val = c.val / 256 * 256 + (128 + (c.val % 256 - 128)); omega)⟩

/-- A sum over 192 lanes, in the two parts. -/
theorem sum_192 (f : Fin 192 → EReal) :
    ∑ x, f x = ∑ j : Fin 128, f ⟨j.val, by omega⟩ + ∑ d : Fin 64, f ⟨128 + d.val, by omega⟩ :=
  Fin.sum_univ_add (a := 128) (b := 64) f

end Cert.Att

end
-- ==== Proof.Att.Entry.lean ====
/- The arrays the kernel's windows lie over, as the region finds them: the arguments, and what the host prepares of
   them. -/
module

public import proofs.«01_k».proof.Proof.Gen.KernelIdeal.Frame
public import proofs.«01_k».proof.Proof.Att.Model

@[expose] public section

set_option maxRecDepth 16384

noncomputable section

namespace Cert.KernelIdeal.Att

open Idealize.ShloMosaic Idealize.ShloMosaic.TcCoe Cert.KernelIdeal Cert.KernelIdeal.Gen Cert.Att

variable (m : (ℓ : Loc nD τ sig) → Buf (Elt Ideal) ℓ) (c : Dev nD)

/-- The arguments the kernel is run on. -/
def args : Args where
  q s k := m ((c : Thread nD τ).loc main_arg0) (ix2 s k)
  p s k := m ((c : Thread nD τ).loc main_arg1) (ix2 s k)
  kv s k := m ((c : Thread nD τ).loc main_arg2) (ix2 s k)
  kp s k := m ((c : Thread nD τ).loc main_arg3) (ix2 s k)
  w s := m ((c : Thread nD τ).loc main_arg4) (ix2 0 s)
  d s k := m ((c : Thread nD τ).loc main_arg5) (ix2 s k)

theorem ent_q (s : Fin 2048) (k : Fin 1024) :
    @Eq EReal (V m c main_v23 (ix2 s ⟨k.val, by omega⟩)) ((args m c).q s k) := by
  entry_read
  pointwise
  rfl

theorem ent_p (s : Fin 2048) (k : Fin 512) :
    @Eq EReal (V m c main_v23 (ix2 s ⟨1024 + k.val, by omega⟩)) ((args m c).p s k) := by
  entry_read
  pointwise
  rfl

theorem cat4 (X Y : FVec Ideal S2048x32 .f32) (s : Fin 2048) (l : Fin 128) :
    concatenate S2048x128 1 [⟨S2048x32, X⟩, ⟨S2048x32, Y⟩, ⟨S2048x32, X⟩, ⟨S2048x32, Y⟩]
        concatenates_S2048x32_S2048x32_S2048x32_S2048x32_S2048x128_d1 (ix2 s l)
      = if l.val % 64 < 32 then X (ix2 s ⟨l.val % 32, by omega⟩) else Y (ix2 s ⟨l.val % 32, by omega⟩) := by
  pointwise
  have hl := l.isLt
  by_cases h1 : l.val < 32
  · refine (dif_pos h1).trans (Eq.trans ?_ (if_pos (by omega)).symm)
    exact congrArg (fun k => X (ix2 s k)) (Fin.ext (by show l.val = l.val % 32; omega))
  · refine (dif_neg h1).trans ?_
    by_cases h2 : l.val - 32 < 32
    · refine (dif_pos h2).trans (Eq.trans ?_ (if_neg (by omega)).symm)
      exact congrArg (fun k => Y (ix2 s k)) (Fin.ext (by show l.val - 32 = l.val % 32; omega))
    · refine (dif_neg h2).trans ?_
      by_cases h3 : l.val - 32 - 32 < 32
      · refine (dif_pos h3).trans (Eq.trans ?_ (if_pos (by omega)).symm)
        exact congrArg (fun k => X (ix2 s k)) (Fin.ext (by show l.val - 32 - 32 = l.val % 32; omega))
      · refine (dif_neg h3).trans (Eq.trans ?_ (if_neg (by omega)).symm)
        exact congrArg (fun k => Y (ix2 s k)) (Fin.ext (by show l.val - 32 - 32 - 32 = l.val % 32; omega))

theorem ent_ang (s : Fin 2048) (f : Fin 32) :
    @Eq EReal (V m c main_v16 (ix2 s f)) (ang ((args m c).w s) f) := by
  entry_read
  pointwise
  rfl

/-- The cosines and sines of the angles. -/
abbrev trigOps {F : FTy → Type} [FloatOps F] : List (HloOp τ sig (Elt F)) :=
  [ StableHlo.unary main_v16 main_v17 (Host.cos : (⟨S2048x32, .f32⟩ : BufTy).Contents (Elt F) → (⟨S2048x32, .f32⟩ : BufTy).Contents (Elt F)),
    StableHlo.unary main_v16 main_v18 (Host.sin : (⟨S2048x32, .f32⟩ : BufTy).Contents (Elt F) → (⟨S2048x32, .f32⟩ : BufTy).Contents (Elt F)) ]

/-- The cosines, four times side by side. -/
abbrev cosOp {F : FTy → Type} [FloatOps F] : HloOp τ sig (Elt F) :=
  StableHlo.nary ![main_v17, main_v17, main_v17, main_v17] main_v19 (fun u => (concatenate S2048x128 1 [⟨S2048x32, (u 0 : (⟨S2048x32, .f32⟩ : BufTy).Contents (Elt F))⟩, ⟨S2048x32, (u 1 : (⟨S2048x32, .f32⟩ : BufTy).Contents (Elt F))⟩, ⟨S2048x32, (u 2 : (⟨S2048x32, .f32⟩ : BufTy).Contents (Elt F))⟩, ⟨S2048x32, (u 3 : (⟨S2048x32, .f32⟩ : BufTy).Contents (Elt F))⟩] concatenates_S2048x32_S2048x32_S2048x32_S2048x32_S2048x128_d1 : (⟨S2048x128, .f32⟩ : BufTy).Contents (Elt F)))

/-- The sines negated, twice. -/
abbrev negOps {F : FTy → Type} [FloatOps F] : List (HloOp τ sig (Elt F)) :=
  [ StableHlo.unary main_v18 main_v20 (Host.negf : (⟨S2048x32, .f32⟩ : BufTy).Contents (Elt F) → (⟨S2048x32, .f32⟩ : BufTy).Contents (Elt F)),
    StableHlo.unary main_v18 main_v21 (Host.negf : (⟨S2048x32, .f32⟩ : BufTy).Contents (Elt F) → (⟨S2048x32, .f32⟩ : BufTy).Contents (Elt F)) ]

/-- The sines with alternating signs, side by side. -/
abbrev sinOp {F : FTy → Type} [FloatOps F] : HloOp τ sig (Elt F) :=
  StableHlo.nary ![main_v20, main_v18, main_v21, main_v18] main_v22 (fun u => (concatenate S2048x128 1 [⟨S2048x32, (u 0 : (⟨S2048x32, .f32⟩ : BufTy).Contents (Elt F))⟩, ⟨S2048x32, (u 1 : (⟨S2048x32, .f32⟩ : BufTy).Contents (Elt F))⟩, ⟨S2048x32, (u 2 : (⟨S2048x32, .f32⟩ : BufTy).Contents (Elt F))⟩, ⟨S2048x32, (u 3 : (⟨S2048x32, .f32⟩ : BufTy).Contents (Elt F))⟩] concatenates_S2048x32_S2048x32_S2048x32_S2048x32_S2048x128_d1 : (⟨S2048x128, .f32⟩ : BufTy).Contents (Elt F)))

/-- The queries' two parts side by side. -/
abbrev catOp {F : FTy → Type} [FloatOps F] : HloOp τ sig (Elt F) :=
  StableHlo.binary main_arg0 main_arg1 main_v23 ((fun a b => concatenate S2048x1536 1 [⟨S2048x1024, a⟩, ⟨S2048x512, b⟩] concatenates_S2048x1024_S2048x512_S2048x1536_d1) : (⟨S2048x1024, .bf16⟩ : BufTy).Contents (Elt F) → (⟨S2048x512, .bf16⟩ : BufTy).Contents (Elt F) → (⟨S2048x1536, .bf16⟩ : BufTy).Contents (Elt F))

abbrev before (m : (ℓ : Loc nD τ sig) → Buf (Elt Ideal) ℓ) (c : Dev nD) : Valuation τ sig (Elt Ideal) :=
  StableHlo.after (hostOps0.take 21) (fun b => m (c, b))

theorem V_split (b : Ref sig .tc) :
    V m c b = StableHlo.after (trigOps ++ cosOp :: (negOps ++ [sinOp, catOp])) (before m c) b := rfl

theorem trig_v16 (σ : Valuation τ sig (Elt Ideal)) : StableHlo.after (trigOps (F := Ideal)) σ main_v16 = σ main_v16 := by
  entry_read; rfl
theorem trig_v17 (σ : Valuation τ sig (Elt Ideal)) :
    StableHlo.after (trigOps (F := Ideal)) σ main_v17 = Host.cos (F := Ideal) (φ := .f32) (σ main_v16) := by
  entry_read; rfl
theorem trig_v18 (σ : Valuation τ sig (Elt Ideal)) :
    StableHlo.after (trigOps (F := Ideal)) σ main_v18 = Host.sin (F := Ideal) (φ := .f32) (σ main_v16) := by
  entry_read; rfl
theorem rest_v16 (σ : Valuation τ sig (Elt Ideal)) :
    StableHlo.after (cosOp (F := Ideal) :: (negOps ++ [sinOp, catOp])) σ main_v16 = σ main_v16 := by
  entry_read; rfl
theorem rest_v19 (σ : Valuation τ sig (Elt Ideal)) :
    StableHlo.after (negOps (F := Ideal) ++ [sinOp, catOp]) σ main_v19 = σ main_v19 := by
  entry_read; rfl
theorem neg_v18 (σ : Valuation τ sig (Elt Ideal)) :
    StableHlo.after (cosOp (F := Ideal) :: negOps) σ main_v18 = σ main_v18 := by
  entry_read; rfl
theorem neg_v20 (σ : Valuation τ sig (Elt Ideal)) :
    StableHlo.after (cosOp (F := Ideal) :: negOps) σ main_v20 = Host.negf (F := Ideal) (φ := .f32) (σ main_v18) := by
  entry_read; rfl
theorem neg_v21 (σ : Valuation τ sig (Elt Ideal)) :
    StableHlo.after (cosOp (F := Ideal) :: negOps) σ main_v21 = Host.negf (F := Ideal) (φ := .f32) (σ main_v18) := by
  entry_read; rfl
theorem cat_v22 (σ : Valuation τ sig (Elt Ideal)) :
    StableHlo.after [catOp (F := Ideal)] σ main_v22 = σ main_v22 := by
  entry_read; rfl

theorem cat_congr (X0 X1 X2 X3 X Y : FVec Ideal S2048x32 .f32) (h0 : X0 = X) (h1 : X1 = Y) (h2 : X2 = X) (h3 : X3 = Y) :
    concatenate S2048x128 1 [⟨S2048x32, X0⟩, ⟨S2048x32, X1⟩, ⟨S2048x32, X2⟩, ⟨S2048x32, X3⟩]
        concatenates_S2048x32_S2048x32_S2048x32_S2048x32_S2048x128_d1
      = concatenate S2048x128 1 [⟨S2048x32, X⟩, ⟨S2048x32, Y⟩, ⟨S2048x32, X⟩, ⟨S2048x32, Y⟩]
        concatenates_S2048x32_S2048x32_S2048x32_S2048x32_S2048x128_d1 := by
  subst h0; subst h1; subst h2; subst h3; rfl

theorem V_v16 : V m c main_v16 = before m c main_v16 := by
  rw [V_split, StableHlo.after_append, rest_v16, trig_v16]

theorem V_v19 (s : Fin 2048) (l : Fin 128) :
    V m c main_v19 (ix2 s l) = concatenate S2048x128 1 [⟨S2048x32, Host.cos (F := Ideal) (φ := .f32) (before m c main_v16)⟩,
    ⟨S2048x32, Host.cos (F := Ideal) (φ := .f32) (before m c main_v16)⟩, ⟨S2048x32, Host.cos (F := Ideal) (φ := .f32) (before m c main_v16)⟩,
    ⟨S2048x32, Host.cos (F := Ideal) (φ := .f32) (before m c main_v16)⟩] concatenates_S2048x32_S2048x32_S2048x32_S2048x32_S2048x128_d1 (ix2 s l) := by
  rw [V_split, StableHlo.after_append, StableHlo.after_cons, rest_v19, StableHlo.nary_result]
  have h := trig_v17 (before m c)
  exact congrFun (cat_congr _ _ _ _ _ _ h h h h) _

theorem V_v22 (s : Fin 2048) (l : Fin 128) :
    V m c main_v22 (ix2 s l) = concatenate S2048x128 1 [⟨S2048x32, Host.negf (F := Ideal) (φ := .f32) (Host.sin (F := Ideal) (φ := .f32) (before m c main_v16))⟩,
    ⟨S2048x32, Host.sin (F := Ideal) (φ := .f32) (before m c main_v16)⟩, ⟨S2048x32, Host.negf (F := Ideal) (φ := .f32) (Host.sin (F := Ideal) (φ := .f32) (before m c main_v16))⟩,
    ⟨S2048x32, Host.sin (F := Ideal) (φ := .f32) (before m c main_v16)⟩] concatenates_S2048x32_S2048x32_S2048x32_S2048x32_S2048x128_d1 (ix2 s l) := by
  have hs : V m c main_v22 = StableHlo.after [catOp] ((sinOp (F := Ideal)).result (StableHlo.after (cosOp :: negOps) (StableHlo.after trigOps (before m c)))) main_v22 := rfl
  rw [hs, cat_v22, StableHlo.nary_result]
  have h1 := (neg_v18 (StableHlo.after trigOps (before m c))).trans (trig_v18 (before m c))
  have h0 := (neg_v20 (StableHlo.after trigOps (before m c))).trans (congrArg (Host.negf (F := Ideal) (φ := .f32)) (trig_v18 (before m c)))
  have h2 := (neg_v21 (StableHlo.after trigOps (before m c))).trans (congrArg (Host.negf (F := Ideal) (φ := .f32)) (trig_v18 (before m c)))
  exact congrFun (cat_congr _ _ _ _ _ _ h0 h1 h2 h1) _

theorem ent_cos (s : Fin 2048) (l : Fin 128) :
    @Eq EReal (V m c main_v19 (ix2 s l)) ((args m c).cs s ⟨l.val % 32, by omega⟩) := by
  rw [V_v19, cat4]
  unfold Args.cs
  rw [← ent_ang m c, V_v16]
  split <;> rfl

theorem ent_sin (s : Fin 2048) (l : Fin 128) :
    @Eq EReal (V m c main_v22 (ix2 s l))
      (if l.val % 64 < 32 then -(args m c).sn s ⟨l.val % 32, by omega⟩ else (args m c).sn s ⟨l.val % 32, by omega⟩) := by
  rw [V_v22, cat4]
  unfold Args.sn
  rw [← ent_ang m c, V_v16]
  split <;> rfl

end Cert.KernelIdeal.Att

end
-- ==== Proof.Att.Ident.lean ====
/- What one grid point computes, in terms of the whole arrays: head pair `hp`, query block `i`. -/
module

public import proofs.«01_k».proof.Proof.Att.Model

@[expose] public section

set_option maxRecDepth 16384

noncomputable section

namespace Cert.KernelIdeal.Att

open Idealize.ShloMosaic Cert.KernelIdeal Cert.KernelIdeal.Gen Cert.Att

/-- Query `q` of block `i`, head `e` of pair `hp`, lane `d` of head `e`'s 64 lanes. -/
def row (i : Fin 4) (q : Fin 512) : Fin 2048 := ⟨512 * i.val + q.val, by omega⟩
def hd (hp : Fin 4) (e : Fin 2) : Fin 8 := ⟨2 * hp.val + e.val, by omega⟩
def ln (e : Fin 2) (d : Fin 64) : Fin 128 := ⟨64 * e.val + d.val, by omega⟩

/-- The blocks a grid point reads are the arrays' blocks of head pair `hp` and query block `i`. -/
structure At (A : Args) (hp i : Fin 4) (x0 : S512x256.Idx → EReal) (x1 x2 x3 : S512x128.Idx → EReal)
    (x4 : S2048x512.Idx → EReal) (x5 : S2048x128.Idx → EReal) (x6 : S512x256.Idx → EReal) : Prop where
  bq : ∀ (e : Fin 2) (q : Fin 512) (j : Fin 128), x0 (ix2 q (co e.val j (by omega))) = A.q (row i q) (c128 (hd hp e) j)
  bp : ∀ (e : Fin 2) (q : Fin 512) (d : Fin 64), x1 (ix2 q (ln e d)) = A.p (row i q) (c64 (hd hp e) d)
  bc : ∀ (q : Fin 512) (l : Fin 128), x2 (ix2 q l) = A.cs (row i q) ⟨l.val % 32, by omega⟩
  bs : ∀ (q : Fin 512) (l : Fin 128), x3 (ix2 q l)
    = if l.val % 64 < 32 then -A.sn (row i q) ⟨l.val % 32, by omega⟩ else A.sn (row i q) ⟨l.val % 32, by omega⟩
  bk : ∀ (e : Fin 2) (r : Fin 2048) (j : Fin 128), x4 (ix2 r (co (2 * e.val) j (by omega))) = A.kv r (ck (hd hp e) j)
  bv : ∀ (e : Fin 2) (r : Fin 2048) (j : Fin 128), x4 (ix2 r (co (2 * e.val + 1) j (by omega))) = A.kv r (cv (hd hp e) j)
  bkp : ∀ (r : Fin 2048) (l : Fin 128), x5 (ix2 r l) = A.kp r l
  bd : ∀ (e : Fin 2) (q : Fin 512) (j : Fin 128), x6 (ix2 q (co e.val j (by omega))) = A.d (row i q) (c128 (hd hp e) j)

/-! ### Lanes and sums -/

theorem two : ∀ e : Fin 2, e = 0 ∨ e = 1 := by decide

theorem exists_ln (l : Fin 128) : ∃ e d, l = ln e d :=
  ⟨⟨l.val / 64, by omega⟩, ⟨l.val % 64, by omega⟩, Fin.ext (by show l.val = 64 * (l.val / 64) + l.val % 64; omega)⟩

theorem swp_ln (e : Fin 2) (d : Fin 64) : swp (ln e d) = ln e (ot d) := by
  have he := e.isLt
  have hd := d.isLt
  unfold swp
  split
  · rename_i h
    have h' : (64 * e.val + d.val) % 64 < 32 := h
    refine Fin.ext ?_
    show (64 * e.val + d.val + 32) % 128 = 64 * e.val + (d.val + 32) % 64
    omega
  · rename_i h
    have h' : ¬(64 * e.val + d.val) % 64 < 32 := h
    refine Fin.ext ?_
    show (64 * e.val + d.val + 96) % 128 = 64 * e.val + (d.val + 32) % 64
    omega

theorem hm_ln (e e' : Fin 2) (d : Fin 64) : hm e.val (ln e' d) = if e' = e then 1 else 0 := by
  unfold hm
  have h : (ln e' d).val / 64 = e'.val := by show (64 * e'.val + d.val) / 64 = e'.val; omega
  rw [h]
  by_cases he : e' = e
  · rw [if_pos he, if_pos (congrArg Fin.val he)]
  · rw [if_neg he, if_neg (fun h => he (Fin.ext h))]

theorem fr_ln (e : Fin 2) (d : Fin 64) : (⟨(ln e d).val % 32, by omega⟩ : Fin 32) = fr d :=
  Fin.ext (by show (64 * e.val + d.val) % 32 = d.val % 32; omega)

theorem ln_lo (e : Fin 2) (d : Fin 64) : (ln e d).val % 64 < 32 ↔ d.val < 32 := by
  show (64 * e.val + d.val) % 64 < 32 ↔ _
  omega

theorem fr_ot (d : Fin 64) : fr (ot d) = fr d :=
  Fin.ext (by show (d.val + 32) % 64 % 32 = d.val % 32; omega)

theorem ot_lo (d : Fin 64) : (ot d).val < 32 ↔ ¬d.val < 32 := by
  show (d.val + 32) % 64 < 32 ↔ _
  omega

theorem cp_hd (hp : Fin 4) (e : Fin 2) (d : Fin 64) : cp (hd hp e) d = ln e d :=
  Fin.ext (by show (2 * hp.val + e.val) % 2 * 64 + d.val = 64 * e.val + d.val; omega)

theorem sum_ln (f : Fin 128 → EReal) : ∑ l, f l = ∑ d, f (ln 0 d) + ∑ d, f (ln 1 d) := by
  refine (Fin.sum_univ_add (a := 64) (b := 64) f).trans ?_
  refine congrArg₂ (· + ·) (Finset.sum_congr rfl fun d _ => congrArg f (Fin.ext ?_))
    (Finset.sum_congr rfl fun d _ => congrArg f (Fin.ext ?_))
  · show d.val = 64 * 0 + d.val; omega
  · show 64 + d.val = 64 * 1 + d.val; omega

/-- A sum over 128 lanes of what vanishes off head `e`'s. -/
theorem sum_head (e : Fin 2) (f : Fin 128 → EReal) (h : ∀ e' d, e' ≠ e → f (ln e' d) = 0) :
    ∑ l, f l = ∑ d, f (ln e d) := by
  rw [sum_ln]
  rcases two e with rfl | rfl
  · rw [Finset.sum_eq_zero (s := Finset.univ) (f := fun d => f (ln 1 d)) (fun d _ => h 1 d (by decide)), add_zero]
  · rw [Finset.sum_eq_zero (s := Finset.univ) (f := fun d => f (ln 0 d)) (fun d _ => h 0 d (by decide)), zero_add]

/-- A sum over all queries, block by block. -/
theorem sum_row (f : Fin 2048 → EReal) : ∑ s, f s = ∑ i : Fin 4, ∑ q : Fin 512, f (row i q) := by
  rw [← Finset.sum_product']
  refine (Fintype.sum_equiv (finProdFinEquiv (m := 4) (n := 512)) (fun x => f (row x.1 x.2)) f fun x => ?_).symm
  refine congrArg f (Fin.ext ?_)
  show 512 * x.1.val + x.2.val = x.2.val + 512 * x.1.val
  omega

section

variable {A : Args} {hp i : Fin 4} {x0 : S512x256.Idx → EReal} {x1 x2 x3 : S512x128.Idx → EReal} {x4 : S2048x512.Idx → EReal}
  {x5 : S2048x128.Idx → EReal} {x6 : S512x256.Idx → EReal} (H : At A hp i x0 x1 x2 x3 x4 x5 x6)

include H

theorem ro_at (e : Fin 2) (q : Fin 512) (d : Fin 64) : ro x1 x2 x3 q (ln e d) = A.rot (row i q) (hd hp e) d := by
  unfold ro Args.rot
  rw [swp_ln, H.bp, H.bp, H.bc, H.bs, fr_ln]
  simp only [ln_lo]

theorem qp_at (e : Fin 2) (q : Fin 512) (d : Fin 64) : qp x1 x2 x3 e q (ln e d) = A.rot (row i q) (hd hp e) d * sca := by
  unfold qp
  rw [ro_at H, hm_ln, if_pos rfl, mul_one]

omit H in
theorem qp_off (e e' : Fin 2) (q : Fin 512) (d : Fin 64) (h : e' ≠ e) : qp x1 x2 x3 e q (ln e' d) = 0 := by
  unfold qp
  rw [hm_ln, if_neg h, mul_zero, zero_mul]

theorem sS_at (e : Fin 2) (q : Fin 512) : sS x0 x1 x2 x3 x4 x5 e q = A.score (hd hp e) (row i q) := by
  funext r
  unfold sS Args.score
  rw [sum_head e (fun x => qp x1 x2 x3 e q x * x5 (ix2 r x)) (fun e' d h => by rw [qp_off e e' q d h, zero_mul]),
    EReal.right_distrib_of_nonneg_of_ne_top sca_nonneg sca_ne_top, sum_mul' _ _ sca_nonneg sca_ne_top, sum_mul' _ _ sca_nonneg sca_ne_top]
  refine congrArg₂ (· + ·) (Finset.sum_congr rfl fun j _ => ?_) (Finset.sum_congr rfl fun d _ => ?_)
  · unfold qn kn
    rw [H.bq, H.bk, mul_right_comm]
  · rw [qp_at H, H.bkp, cp_hd, mul_right_comm]

theorem sDP_at (e : Fin 2) (q : Fin 512) : sDP x4 x6 e q = A.dP (hd hp e) (row i q) := by
  funext r
  unfold sDP Args.dP
  refine Finset.sum_congr rfl fun j _ => ?_
  unfold oo vv
  rw [H.bd, H.bv]

theorem sP_at (e : Fin 2) (q : Fin 512) (r : Fin 2048) :
    sP x0 x1 x2 x3 x4 x5 i.val e q r = A.P (hd hp e) (row i q) r := by
  unfold sP Args.P
  rw [sS_at H]; rfl

theorem sD_at (e : Fin 2) (q : Fin 512) (r : Fin 2048) :
    sD x0 x1 x2 x3 x4 x5 x6 i.val e q r * sca = A.D (hd hp e) (row i q) r := by
  unfold sD Args.D
  rw [sS_at H, sDP_at H]; rfl

theorem sQn_at (e : Fin 2) (q : Fin 512) (j : Fin 128) :
    sQn x0 x1 x2 x3 x4 x5 x6 i.val e q j = A.gQn (row i q) (hd hp e) j := by
  unfold sQn Args.gQn
  rw [sum_mul' _ _ sca_nonneg sca_ne_top]
  refine Finset.sum_congr rfl fun r _ => ?_
  unfold kn
  rw [H.bk, mul_right_comm, sD_at H]

theorem sQr_at (e : Fin 2) (q : Fin 512) (d : Fin 64) :
    sQr x0 x1 x2 x3 x4 x5 x6 i.val e q (ln e d) = A.gR (row i q) (hd hp e) d := by
  unfold sQr Args.gR
  rw [sum_mul' _ _ sca_nonneg sca_ne_top]
  refine Finset.sum_congr rfl fun r _ => ?_
  rw [H.bkp, mul_right_comm, sD_at H, cp_hd]

theorem sRo_at (e : Fin 2) (q : Fin 512) (d : Fin 64) :
    sRo x0 x1 x2 x3 x4 x5 x6 i.val q (ln e d) = A.gR (row i q) (hd hp e) d := by
  unfold sRo
  rw [← sQr_at H]
  have h0 : hm 0 (ln e d) = if e = 0 then 1 else 0 := hm_ln 0 e d
  have h1 : hm 1 (ln e d) = if e = 1 then 1 else 0 := hm_ln 1 e d
  rw [h0, h1]
  rcases two e with rfl | rfl
  · rw [if_pos rfl, if_neg (by decide), mul_one, mul_zero, add_zero, zero_add]
  · rw [if_neg (by decide), if_pos rfl, mul_one, mul_zero, add_zero, zero_add]

theorem sQp_at (e : Fin 2) (q : Fin 512) (d : Fin 64) :
    sQp x0 x1 x2 x3 x4 x5 x6 i.val q (ln e d) = A.gQp (row i q) (hd hp e) d := by
  unfold sQp Args.gQp
  rw [swp_ln, sRo_at H, sRo_at H, H.bc, H.bs, fr_ln, fr_ln, fr_ot]
  simp only [ln_lo, ot_lo]
  by_cases h : d.val < 32
  · rw [if_pos h, if_neg (fun h' => h' h)]
  · rw [if_neg h, if_pos h]

theorem sKn_at (e : Fin 2) (r : Fin 2048) (j : Fin 128) :
    sKn x0 x1 x2 x3 x4 x5 x6 i.val e r j = ∑ q, A.D (hd hp e) (row i q) r * A.q (row i q) (c128 (hd hp e) j) := by
  unfold sKn
  refine Finset.sum_congr rfl fun q _ => ?_
  unfold qn
  rw [H.bq, ← mul_assoc, mul_right_comm, sD_at H]

theorem sV_at (e : Fin 2) (r : Fin 2048) (j : Fin 128) :
    sV x0 x1 x2 x3 x4 x5 x6 i.val e r j = ∑ q, A.P (hd hp e) (row i q) r * A.d (row i q) (c128 (hd hp e) j) := by
  unfold sV
  refine Finset.sum_congr rfl fun q _ => ?_
  unfold oo
  rw [H.bd, sP_at H]

theorem sKp_at (e : Fin 2) (r : Fin 2048) (d : Fin 64) :
    sKp x0 x1 x2 x3 x4 x5 x6 i.val e r (ln e d) = ∑ q, A.D (hd hp e) (row i q) r * A.rot (row i q) (hd hp e) d := by
  unfold sKp
  refine Finset.sum_congr rfl fun q _ => ?_
  rw [qp_at H, ← mul_assoc, mul_right_comm, sD_at H]

omit H in
theorem sKp_off (e e' : Fin 2) (r : Fin 2048) (d : Fin 64) (h : e' ≠ e) :
    sKp x0 x1 x2 x3 x4 x5 x6 i.val e r (ln e' d) = 0 := by
  unfold sKp
  exact Finset.sum_eq_zero fun q _ => by rw [qp_off e e' q d h, mul_zero]

theorem sKp_both (e : Fin 2) (r : Fin 2048) (d : Fin 64) :
    sKp x0 x1 x2 x3 x4 x5 x6 i.val 0 r (ln e d) + sKp x0 x1 x2 x3 x4 x5 x6 i.val 1 r (ln e d)
      = ∑ q, A.D (hd hp e) (row i q) r * A.rot (row i q) (hd hp e) d := by
  rw [← sKp_at H]
  rcases two e with rfl | rfl
  · rw [sKp_off 1 0 r d (by decide), add_zero]
  · rw [sKp_off 0 1 r d (by decide), zero_add]

end

end Cert.KernelIdeal.Att

end
-- ==== Proof.Att.Points.lean ====
/- The conditions of the kernel body at a grid point, in closed form, and the buffers the body is called with. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's condition 0: the rows are the first block of a pass. -/
abbrev cnd0 (i : grid0.Coords) : Prop := (Scalar.cmpi .ne (Scalar.extui (Scalar.cmpi .eq (BitVec.ofNat 32 (i 1).val) 0#32)) 0#32) = 1#1
theorem cnd0_iff : ∀ t : Fin cfg0.N, cnd0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cnd0, e0, e1]
    word_cmp
   : ∀ t : Fin grid0.N, cnd0 (grid0.coords t) ↔ t.val % 4 = 0)

/-- The body's condition 1: the first point of all. -/
abbrev cnd1 (i : grid0.Coords) : Prop := k0_cond2 i = 1#1
theorem cnd1_iff : ∀ t : Fin cfg0.N, cnd1 (grid0.coords t) ↔ t.val % 16 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cnd1, k0_cond2, e0, e1]
    word_cmp
   : ∀ t : Fin grid0.N, cnd1 (grid0.coords t) ↔ t.val % 16 = 0)

/-- The body's condition 2: row block 0. -/
abbrev cnd2 (i : grid0.Coords) : Prop := k0_cond3 i = 1#1
theorem cnd2_iff : ∀ t : Fin cfg0.N, cnd2 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cnd2, k0_cond3, e0, e1]
    word_cmp
   : ∀ t : Fin grid0.N, cnd2 (grid0.coords t) ↔ t.val % 4 = 0)

/-- The body's condition 3: row block 1. -/
abbrev cnd3 (i : grid0.Coords) : Prop := k0_cond4 i = 1#1
theorem cnd3_iff : ∀ t : Fin cfg0.N, cnd3 (grid0.coords t) ↔ t.val % 4 = 1 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cnd3, k0_cond4, e0, e1]
    word_cmp
   : ∀ t : Fin grid0.N, cnd3 (grid0.coords t) ↔ t.val % 4 = 1)

/-- The body's condition 4: row block 2. -/
abbrev cnd4 (i : grid0.Coords) : Prop := k0_cond5 i = 1#1
theorem cnd4_iff : ∀ t : Fin cfg0.N, cnd4 (grid0.coords t) ↔ t.val % 4 = 2 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cnd4, k0_cond5, e0, e1]
    word_cmp
   : ∀ t : Fin grid0.N, cnd4 (grid0.coords t) ↔ t.val % 4 = 2)

/-- The body's condition 5: row block 3. -/
abbrev cnd5 (i : grid0.Coords) : Prop := k0_cond6 i = 1#1
theorem cnd5_iff : ∀ t : Fin cfg0.N, cnd5 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cnd5, k0_cond6, e0, e1]
    word_cmp
   : ∀ t : Fin grid0.N, cnd5 (grid0.coords t) ↔ t.val % 4 = 3)

/-- The body's condition 6: the last row block, where the scratch is written out. -/
abbrev cnd6 (i : grid0.Coords) : Prop := k0_cond7 i = 1#1
theorem cnd6_iff : ∀ t : Fin cfg0.N, cnd6 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cnd6, k0_cond7, e0, e1]
    word_cmp
   : ∀ t : Fin grid0.N, cnd6 (grid0.coords t) ↔ t.val % 4 = 3)

/-! The staging buffer of each window at a point, and that it is a whole buffer. -/

abbrev buf0 (t : Fin cfg0.N) : Memref sig .tc .vmem S512x256 .bf16 := win0_0.stage (cfg0.slots t 0)
abbrev whl0 (t : Fin cfg0.N) : (buf0 t).IsWhole := hstage0_0 ((cfg0.slots t 0).cast nbuf0_0)
abbrev buf1 (t : Fin cfg0.N) : Memref sig .tc .vmem S512x128 .bf16 := win0_1.stage (cfg0.slots t 1)
abbrev whl1 (t : Fin cfg0.N) : (buf1 t).IsWhole := hstage0_1 ((cfg0.slots t 1).cast nbuf0_1)
abbrev buf2 (t : Fin cfg0.N) : Memref sig .tc .vmem S512x128 .f32 := win0_2.stage (cfg0.slots t 2)
abbrev whl2 (t : Fin cfg0.N) : (buf2 t).IsWhole := hstage0_2 ((cfg0.slots t 2).cast nbuf0_2)
abbrev buf3 (t : Fin cfg0.N) : Memref sig .tc .vmem S512x128 .f32 := win0_3.stage (cfg0.slots t 3)
abbrev whl3 (t : Fin cfg0.N) : (buf3 t).IsWhole := hstage0_3 ((cfg0.slots t 3).cast nbuf0_3)
abbrev buf4 (t : Fin cfg0.N) : Memref sig .tc .vmem S2048x512 .bf16 := win0_4.stage (cfg0.slots t 4)
abbrev whl4 (t : Fin cfg0.N) : (buf4 t).IsWhole := hstage0_4 ((cfg0.slots t 4).cast nbuf0_4)
abbrev buf5 (t : Fin cfg0.N) : Memref sig .tc .vmem S2048x128 .bf16 := win0_5.stage (cfg0.slots t 5)
abbrev whl5 (t : Fin cfg0.N) : (buf5 t).IsWhole := hstage0_5 ((cfg0.slots t 5).cast nbuf0_5)
abbrev buf6 (t : Fin cfg0.N) : Memref sig .tc .vmem S512x256 .bf16 := win0_6.stage (cfg0.slots t 6)
abbrev whl6 (t : Fin cfg0.N) : (buf6 t).IsWhole := hstage0_6 ((cfg0.slots t 6).cast nbuf0_6)
abbrev buf7 (t : Fin cfg0.N) : Memref sig .tc .vmem S512x256 .bf16 := win0_7.stage (cfg0.slots t 7)
abbrev whl7 (t : Fin cfg0.N) : (buf7 t).IsWhole := hstage0_7 ((cfg0.slots t 7).cast nbuf0_7)
abbrev buf8 (t : Fin cfg0.N) : Memref sig .tc .vmem S512x128 .bf16 := win0_8.stage (cfg0.slots t 8)
abbrev whl8 (t : Fin cfg0.N) : (buf8 t).IsWhole := hstage0_8 ((cfg0.slots t 8).cast nbuf0_8)
abbrev buf9 (t : Fin cfg0.N) : Memref sig .tc .vmem S2048x512 .bf16 := win0_9.stage (cfg0.slots t 9)
abbrev whl9 (t : Fin cfg0.N) : (buf9 t).IsWhole := hstage0_9 ((cfg0.slots t 9).cast nbuf0_9)
abbrev buf10 (t : Fin cfg0.N) : Memref sig .tc .vmem S2048x128 .f32 := win0_10.stage (cfg0.slots t 10)
abbrev whl10 (t : Fin cfg0.N) : (buf10 t).IsWhole := hstage0_10 ((cfg0.slots t 10).cast nbuf0_10)

/-- The scratch buffer that gathers the key and value gradients of a pass. -/
abbrev scr : Memref sig .tc .vmem S2048x512 .f32 := Memref.whole cc0_scratch0

/-- What the region holds beside the windows: the scratch at some contents and the generator register. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.KernelIdeal.Att

end
-- ==== Proof.Att.RunA.lean ====
/- The kernel body run at the first point of all: the pieces each written buffer ends with are found by the run. -/
module

public import proofs.«01_k».proof.Proof.Att.Points

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At the first point of all: from the inputs' blocks, any contents of the outputs' buffers and of the scratch, the body runs to its
    end with the inputs as they were and the outputs and the scratch with the found pieces written. -/
def runA (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : cnd0 i) (hc1 : cnd1 i) (hc2 : cnd2 i) (hc3 : ¬cnd3 i) (hc4 : ¬cnd4 i) (hc5 : ¬cnd5 i) (hc6 : ¬cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16) :
    Σ' (L7 : List (View.Piece (Elt F) S512x256 .bf16)) (L8 : List (View.Piece (Elt F) S512x128 .bf16)) (L10 : List (View.Piece (Elt F) S2048x128 .f32)),
    { LS : List (View.Piece (Elt F) S2048x512 .f32) //
      ∀ (x7 : Vec F S512x256 .bf16) (x8 : Vec F S512x128 .bf16) (x9 : Vec F S2048x512 .bf16) (x10 : Vec F S2048x128 .f32) (xs : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ owns (c : Thread nD τ) arg11 fullShare x9 ∗ (arg12.view.loc (c : Thread nD τ) ↦[arg12.view.set]{fullShare} arg12.view.writes (Elt F) (harg12.unread x10) L10) ∗ (arg13.view.loc (c : Thread nD τ) ↦[arg13.view.set]{fullShare} arg13.view.writes (Elt F) (harg13.unread xs) LS)) -∗ K ⟨⟩))
          ⊢ wp frame (wpE (defs₀ (F := F)) Variants.none c none) E (cc0_attention_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun x7 x8 x9 x10 xs E K => ?run⟩
  case run =>
    simp only [cc0_attention_bwd_eq_skeleton]; unfold cc0_attention_bwd_skel
    simp only [k0_part21_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]
    · iexists _; isplitr; · ipureintro; exact harg11.read_unread _
      iexact H9
    isplitl [H10]; · iexact H10
    iexact HS

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : cnd0 i) (hc1 : cnd1 i) (hc2 : cnd2 i) (hc3 : ¬cnd3 i) (hc4 : ¬cnd4 i) (hc5 : ¬cnd5 i) (hc6 : ¬cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16)

/-- The pieces written to the queries' gradient fill its buffer. -/
theorem cov7A : ∀ y : S512x256.Idx, ∃ p ∈ (runA (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).1, y ∈ p.1.set := by
  unfold runA; dsimp only
  exact View.cover_of_tiledL _ ![512, 128] rfl

/-- The pieces written to the rotated queries' gradient fill its buffer. -/
theorem cov8A : ∀ y : S512x128.Idx, ∃ p ∈ (runA (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).2.1, y ∈ p.1.set := by
  unfold runA; dsimp only
  exact fun y => View.cover_of_wholeMem _ (by sl_whole_mem) y

/-- The pieces written to the rotated key's gradient fill its buffer. -/
theorem cov10A : ∀ y : S2048x128.Idx, ∃ p ∈ (runA (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).2.2.1, y ∈ p.1.set := by
  unfold runA; dsimp only
  exact fun y => View.cover_of_wholeMem _ (by sl_whole_mem) y

/-- The pieces written to the scratch fill its buffer. -/
theorem covsA : ∀ y : S2048x512.Idx, ∃ p ∈ (runA (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).2.2.2.1, y ∈ p.1.set := by
  unfold runA; dsimp only
  exact fun y => View.cover_of_wholeMem _ (by sl_whole_mem) y

end Cert.KernelIdeal.Att

end
-- ==== Proof.Att.RunB.lean ====
/- The kernel body run at row block 1: the pieces each written buffer ends with are found by the run. -/
module

public import proofs.«01_k».proof.Proof.Att.Points

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At row block 1: from the inputs' blocks, any contents of the outputs' buffers and of the scratch, the body runs to its
    end with the inputs as they were and the outputs and the scratch with the found pieces written. -/
def runB (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : ¬cnd0 i) (hc1 : ¬cnd1 i) (hc2 : ¬cnd2 i) (hc3 : cnd3 i) (hc4 : ¬cnd4 i) (hc5 : ¬cnd5 i) (hc6 : ¬cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16) (x10 : Vec F S2048x128 .f32) (xs : Vec F S2048x512 .f32) :
    Σ' (L7 : List (View.Piece (Elt F) S512x256 .bf16)) (L8 : List (View.Piece (Elt F) S512x128 .bf16)) (L10 : List (View.Piece (Elt F) S2048x128 .f32)),
    { LS : List (View.Piece (Elt F) S2048x512 .f32) //
      ∀ (x7 : Vec F S512x256 .bf16) (x8 : Vec F S512x128 .bf16) (x9 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ owns (c : Thread nD τ) arg11 fullShare x9 ∗ (arg12.view.loc (c : Thread nD τ) ↦[arg12.view.set]{fullShare} arg12.view.writes (Elt F) (harg12.unread x10) L10) ∗ (arg13.view.loc (c : Thread nD τ) ↦[arg13.view.set]{fullShare} arg13.view.writes (Elt F) (harg13.unread xs) LS)) -∗ K ⟨⟩))
          ⊢ wp frame (wpE (defs₀ (F := F)) Variants.none c none) E (cc0_attention_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun x7 x8 x9 E K => ?run⟩
  case run =>
    simp only [cc0_attention_bwd_eq_skeleton]; unfold cc0_attention_bwd_skel
    simp only [k0_part21_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]
    · iexists _; isplitr; · ipureintro; exact harg11.read_unread _
      iexact H9
    isplitl [H10]; · iexact H10
    iexact HS

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : ¬cnd0 i) (hc1 : ¬cnd1 i) (hc2 : ¬cnd2 i) (hc3 : cnd3 i) (hc4 : ¬cnd4 i) (hc5 : ¬cnd5 i) (hc6 : ¬cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16) (x10 : Vec F S2048x128 .f32) (xs : Vec F S2048x512 .f32)

/-- The pieces written to the queries' gradient fill its buffer. -/
theorem cov7B : ∀ y : S512x256.Idx, ∃ p ∈ (runB (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).1, y ∈ p.1.set := by
  unfold runB; dsimp only
  exact View.cover_of_tiledL _ ![512, 128] rfl

/-- The pieces written to the rotated queries' gradient fill its buffer. -/
theorem cov8B : ∀ y : S512x128.Idx, ∃ p ∈ (runB (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.1, y ∈ p.1.set := by
  unfold runB; dsimp only
  exact fun y => View.cover_of_wholeMem _ (by sl_whole_mem) y

end Cert.KernelIdeal.Att

end
-- ==== Proof.Att.RunC.lean ====
/- The kernel body run at row block 2: the pieces each written buffer ends with are found by the run. -/
module

public import proofs.«01_k».proof.Proof.Att.Points

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At row block 2: from the inputs' blocks, any contents of the outputs' buffers and of the scratch, the body runs to its
    end with the inputs as they were and the outputs and the scratch with the found pieces written. -/
def runC (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : ¬cnd0 i) (hc1 : ¬cnd1 i) (hc2 : ¬cnd2 i) (hc3 : ¬cnd3 i) (hc4 : cnd4 i) (hc5 : ¬cnd5 i) (hc6 : ¬cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16) (x10 : Vec F S2048x128 .f32) (xs : Vec F S2048x512 .f32) :
    Σ' (L7 : List (View.Piece (Elt F) S512x256 .bf16)) (L8 : List (View.Piece (Elt F) S512x128 .bf16)) (L10 : List (View.Piece (Elt F) S2048x128 .f32)),
    { LS : List (View.Piece (Elt F) S2048x512 .f32) //
      ∀ (x7 : Vec F S512x256 .bf16) (x8 : Vec F S512x128 .bf16) (x9 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ owns (c : Thread nD τ) arg11 fullShare x9 ∗ (arg12.view.loc (c : Thread nD τ) ↦[arg12.view.set]{fullShare} arg12.view.writes (Elt F) (harg12.unread x10) L10) ∗ (arg13.view.loc (c : Thread nD τ) ↦[arg13.view.set]{fullShare} arg13.view.writes (Elt F) (harg13.unread xs) LS)) -∗ K ⟨⟩))
          ⊢ wp frame (wpE (defs₀ (F := F)) Variants.none c none) E (cc0_attention_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun x7 x8 x9 E K => ?run⟩
  case run =>
    simp only [cc0_attention_bwd_eq_skeleton]; unfold cc0_attention_bwd_skel
    simp only [k0_part21_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]
    · iexists _; isplitr; · ipureintro; exact harg11.read_unread _
      iexact H9
    isplitl [H10]; · iexact H10
    iexact HS

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : ¬cnd0 i) (hc1 : ¬cnd1 i) (hc2 : ¬cnd2 i) (hc3 : ¬cnd3 i) (hc4 : cnd4 i) (hc5 : ¬cnd5 i) (hc6 : ¬cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16) (x10 : Vec F S2048x128 .f32) (xs : Vec F S2048x512 .f32)

/-- The pieces written to the queries' gradient fill its buffer. -/
theorem cov7C : ∀ y : S512x256.Idx, ∃ p ∈ (runC (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).1, y ∈ p.1.set := by
  unfold runC; dsimp only
  exact View.cover_of_tiledL _ ![512, 128] rfl

/-- The pieces written to the rotated queries' gradient fill its buffer. -/
theorem cov8C : ∀ y : S512x128.Idx, ∃ p ∈ (runC (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.1, y ∈ p.1.set := by
  unfold runC; dsimp only
  exact fun y => View.cover_of_wholeMem _ (by sl_whole_mem) y

end Cert.KernelIdeal.Att

end
-- ==== Proof.Att.RunD.lean ====
/- The kernel body run at row block 3, where the scratch is written out: the pieces each written buffer ends with are found by the run. -/
module

public import proofs.«01_k».proof.Proof.Att.Points

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At row block 3, where the scratch is written out: from the inputs' blocks, any contents of the outputs' buffers and of the scratch, the body runs to its
    end with the inputs as they were and the outputs and the scratch with the found pieces written. -/
def runD (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : ¬cnd0 i) (hc1 : ¬cnd1 i) (hc2 : ¬cnd2 i) (hc3 : ¬cnd3 i) (hc4 : ¬cnd4 i) (hc5 : cnd5 i) (hc6 : cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16) (x10 : Vec F S2048x128 .f32) (xs : Vec F S2048x512 .f32) :
    Σ' (L7 : List (View.Piece (Elt F) S512x256 .bf16)) (L8 : List (View.Piece (Elt F) S512x128 .bf16)) (L9 : List (View.Piece (Elt F) S2048x512 .bf16)) (L10 : List (View.Piece (Elt F) S2048x128 .f32)),
    { LS : List (View.Piece (Elt F) S2048x512 .f32) //
      ∀ (x7 : Vec F S512x256 .bf16) (x8 : Vec F S512x128 .bf16) (x9 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread x10) L10) ∗ (arg13.view.loc (c : Thread nD τ) ↦[arg13.view.set]{fullShare} arg13.view.writes (Elt F) (harg13.unread xs) LS)) -∗ K ⟨⟩))
          ⊢ wp frame (wpE (defs₀ (F := F)) Variants.none c none) E (cc0_attention_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x7 x8 x9 E K => ?run⟩
  case run =>
    simp only [cc0_attention_bwd_eq_skeleton]; unfold cc0_attention_bwd_skel
    simp only [k0_part21_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    isplitl [H10]; · iexact H10
    iexact HS

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : ¬cnd0 i) (hc1 : ¬cnd1 i) (hc2 : ¬cnd2 i) (hc3 : ¬cnd3 i) (hc4 : ¬cnd4 i) (hc5 : cnd5 i) (hc6 : cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16) (x10 : Vec F S2048x128 .f32) (xs : Vec F S2048x512 .f32)

/-- The pieces written to the queries' gradient fill its buffer. -/
theorem cov7D : ∀ y : S512x256.Idx, ∃ p ∈ (runD (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).1, y ∈ p.1.set := by
  unfold runD; dsimp only
  exact View.cover_of_tiledL _ ![512, 128] rfl

/-- The pieces written to the rotated queries' gradient fill its buffer. -/
theorem cov8D : ∀ y : S512x128.Idx, ∃ p ∈ (runD (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.1, y ∈ p.1.set := by
  unfold runD; dsimp only
  exact fun y => View.cover_of_wholeMem _ (by sl_whole_mem) y

/-- The pieces written to the keys' and values' block fill its buffer. -/
theorem cov9D : ∀ y : S2048x512.Idx, ∃ p ∈ (runD (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.1, y ∈ p.1.set := by
  unfold runD; dsimp only
  exact fun y => View.cover_of_wholeMem _ (by sl_whole_mem) y

end Cert.KernelIdeal.Att

end
-- ==== Proof.Att.RunE.lean ====
/- The kernel body run at row block 0 of a later pass: the pieces each written buffer ends with are found by the run. -/
module

public import proofs.«01_k».proof.Proof.Att.Points

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- At row block 0 of a later pass: from the inputs' blocks, any contents of the outputs' buffers and of the scratch, the body runs to its
    end with the inputs as they were and the outputs and the scratch with the found pieces written. -/
def runE (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : cnd0 i) (hc1 : ¬cnd1 i) (hc2 : cnd2 i) (hc3 : ¬cnd3 i) (hc4 : ¬cnd4 i) (hc5 : ¬cnd5 i) (hc6 : ¬cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16) (x10 : Vec F S2048x128 .f32) :
    Σ' (L7 : List (View.Piece (Elt F) S512x256 .bf16)) (L8 : List (View.Piece (Elt F) S512x128 .bf16)) (L10 : List (View.Piece (Elt F) S2048x128 .f32)),
    { LS : List (View.Piece (Elt F) S2048x512 .f32) //
      ∀ (x7 : Vec F S512x256 .bf16) (x8 : Vec F S512x128 .bf16) (x9 : Vec F S2048x512 .bf16) (xs : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ owns (c : Thread nD τ) arg11 fullShare x9 ∗ (arg12.view.loc (c : Thread nD τ) ↦[arg12.view.set]{fullShare} arg12.view.writes (Elt F) (harg12.unread x10) L10) ∗ (arg13.view.loc (c : Thread nD τ) ↦[arg13.view.set]{fullShare} arg13.view.writes (Elt F) (harg13.unread xs) LS)) -∗ K ⟨⟩))
          ⊢ wp frame (wpE (defs₀ (F := F)) Variants.none c none) E (cc0_attention_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun x7 x8 x9 xs E K => ?run⟩
  case run =>
    simp only [cc0_attention_bwd_eq_skeleton]; unfold cc0_attention_bwd_skel
    simp only [k0_part21_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]
    · iexists _; isplitr; · ipureintro; exact harg11.read_unread _
      iexact H9
    isplitl [H10]; · iexact H10
    iexact HS

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole) (hc0 : cnd0 i) (hc1 : ¬cnd1 i) (hc2 : cnd2 i) (hc3 : ¬cnd3 i) (hc4 : ¬cnd4 i) (hc5 : ¬cnd5 i) (hc6 : ¬cnd6 i)
    (x0 : Vec F S512x256 .bf16) (x1 : Vec F S512x128 .bf16) (x2 : Vec F S512x128 .f32) (x3 : Vec F S512x128 .f32) (x4 : Vec F S2048x512 .bf16) (x5 : Vec F S2048x128 .bf16) (x6 : Vec F S512x256 .bf16) (x10 : Vec F S2048x128 .f32)

/-- The pieces written to the queries' gradient fill its buffer. -/
theorem cov7E : ∀ y : S512x256.Idx, ∃ p ∈ (runE (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).1, y ∈ p.1.set := by
  unfold runE; dsimp only
  exact View.cover_of_tiledL _ ![512, 128] rfl

/-- The pieces written to the rotated queries' gradient fill its buffer. -/
theorem cov8E : ∀ y : S512x128.Idx, ∃ p ∈ (runE (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).2.1, y ∈ p.1.set := by
  unfold runE; dsimp only
  exact fun y => View.cover_of_wholeMem _ (by sl_whole_mem) y

/-- The pieces written to the scratch fill its buffer. -/
theorem covsE : ∀ y : S2048x512.Idx, ∃ p ∈ (runE (F := F) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).2.2.2.1, y ∈ p.1.set := by
  unfold runE; dsimp only
  exact fun y => View.cover_of_wholeMem _ (by sl_whole_mem) y

end Cert.KernelIdeal.Att

end
-- ==== Proof.Att.State.lean ====
/- What the kernel's output buffers and its scratch hold after each grid point, by recursion on the point. -/
module

public import proofs.«01_k».proof.Proof.Att.RunA
public import proofs.«01_k».proof.Proof.Att.RunB
public import proofs.«01_k».proof.Proof.Att.RunC
public import proofs.«01_k».proof.Proof.Att.RunD
public import proofs.«01_k».proof.Proof.Att.RunE
public import Idealize.ShloMosaic.Lib.Claim

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nothing is known of. -/
def any {s : Shape} {e : EltTy} : Vec F s e := fun _ => Classical.arbitrary _

/-- What one grid point leaves: the buffers of the four results (the queries' two gradients, the pass's
    keys and values, the rotated key) and the scratch. -/
structure Left (F : FTy → Type) where
  qn : Vec F S512x256 .bf16
  qp : Vec F S512x128 .bf16
  kv : Vec F S2048x512 .bf16
  kp : Vec F S2048x128 .f32
  sc : Vec F S2048x512 .f32

/-- The body's run at the first point of all. -/
def atA (c : Dev nD) (t : Fin cfg0.N) (h0 : t.val % 4 = 0) (h1 : t.val % 16 = 0) :=
  runA (F := F) c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t)

/-- The body's run at a point of row block 1. -/
def atB (c : Dev nD) (t : Fin cfg0.N) (h : t.val % 4 = 1) (K : Vec F S2048x128 .f32) (S : Vec F S2048x512 .f32) :=
  runB (F := F) c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S

/-- The body's run at a point of row block 2. -/
def atC (c : Dev nD) (t : Fin cfg0.N) (h : t.val % 4 = 2) (K : Vec F S2048x128 .f32) (S : Vec F S2048x512 .f32) :=
  runC (F := F) c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S

/-- The body's run at a point of row block 3. -/
def atD (c : Dev nD) (t : Fin cfg0.N) (h : t.val % 4 = 3) (K : Vec F S2048x128 .f32) (S : Vec F S2048x512 .f32) :=
  runD (F := F) c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S

/-- The body's run at the first point of a later pass. -/
def atE (c : Dev nD) (t : Fin cfg0.N) (h0 : t.val % 4 = 0) (h1 : ¬t.val % 16 = 0) (K : Vec F S2048x128 .f32) :=
  runE (F := F) c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K

/-- What the first point of all leaves. -/
def outA (c : Dev nD) (t : Fin cfg0.N) (h0 : t.val % 4 = 0) (h1 : t.val % 16 = 0) : Left F where
  qn := View.canon (atA m c t h0 h1).1
  qp := View.canon (atA m c t h0 h1).2.1
  kv := any
  kp := View.canon (atA m c t h0 h1).2.2.1
  sc := View.canon (atA m c t h0 h1).2.2.2.1

/-- What a point of row block 1 leaves. -/
def outB (c : Dev nD) (t : Fin cfg0.N) (h : t.val % 4 = 1) (K : Vec F S2048x128 .f32) (S : Vec F S2048x512 .f32) : Left F where
  qn := View.canon (atB m c t h K S).1
  qp := View.canon (atB m c t h K S).2.1
  kv := any
  kp := (buf10 t).view.read (Elt F) ((buf10 t).view.writes (Elt F) ((whl10 t).unread K) (atB m c t h K S).2.2.1)
  sc := scr.view.read (Elt F) (scr.view.writes (Elt F) ((Memref.isWhole_whole cc0_scratch0).unread S) (atB m c t h K S).2.2.2.1)

/-- What a point of row block 2 leaves. -/
def outC (c : Dev nD) (t : Fin cfg0.N) (h : t.val % 4 = 2) (K : Vec F S2048x128 .f32) (S : Vec F S2048x512 .f32) : Left F where
  qn := View.canon (atC m c t h K S).1
  qp := View.canon (atC m c t h K S).2.1
  kv := any
  kp := (buf10 t).view.read (Elt F) ((buf10 t).view.writes (Elt F) ((whl10 t).unread K) (atC m c t h K S).2.2.1)
  sc := scr.view.read (Elt F) (scr.view.writes (Elt F) ((Memref.isWhole_whole cc0_scratch0).unread S) (atC m c t h K S).2.2.2.1)

/-- What a point of row block 3 leaves. -/
def outD (c : Dev nD) (t : Fin cfg0.N) (h : t.val % 4 = 3) (K : Vec F S2048x128 .f32) (S : Vec F S2048x512 .f32) : Left F where
  qn := View.canon (atD m c t h K S).1
  qp := View.canon (atD m c t h K S).2.1
  kv := View.canon (atD m c t h K S).2.2.1
  kp := (buf10 t).view.read (Elt F) ((buf10 t).view.writes (Elt F) ((whl10 t).unread K) (atD m c t h K S).2.2.2.1)
  sc := scr.view.read (Elt F) (scr.view.writes (Elt F) ((Memref.isWhole_whole cc0_scratch0).unread S) (atD m c t h K S).2.2.2.2.1)

/-- What the first point of a later pass leaves. -/
def outE (c : Dev nD) (t : Fin cfg0.N) (h0 : t.val % 4 = 0) (h1 : ¬t.val % 16 = 0) (K : Vec F S2048x128 .f32) : Left F where
  qn := View.canon (atE m c t h0 h1 K).1
  qp := View.canon (atE m c t h0 h1 K).2.1
  kv := any
  kp := (buf10 t).view.read (Elt F) ((buf10 t).view.writes (Elt F) ((whl10 t).unread K) (atE m c t h0 h1 K).2.2.1)
  sc := View.canon (atE m c t h0 h1 K).2.2.2.1

/-- What a point leaves, from what the rotated key's buffer and the scratch held before it. -/
def left (c : Dev nD) (t : Fin cfg0.N) (K : Vec F S2048x128 .f32) (S : Vec F S2048x512 .f32) : Left F :=
  if h0 : t.val % 4 = 0 then
    if h1 : t.val % 16 = 0 then outA m c t h0 h1 else outE m c t h0 h1 K
  else if h1 : t.val % 4 = 1 then outB m c t h1 K S
  else if h2 : t.val % 4 = 2 then outC m c t h2 K S
  else outD m c t (by omega) K S

/-- What the buffers and the scratch hold after point `n`. -/
def leftAt (c : Dev nD) : (n : ℕ) → n < cfg0.N → Left F
  | 0, hn => left m c ⟨0, hn⟩ any any
  | n + 1, hn => left m c ⟨n + 1, hn⟩ (leftAt c n (by omega)).kp (leftAt c n (by omega)).sc

/-- What they held before point `t`. -/
abbrev prev (c : Dev nD) (t : Fin cfg0.N) : Left F := leftAt m c (t.val - 1) (by omega)

theorem leftAt_pos (c : Dev nD) (t : Fin cfg0.N) (ht : t.val ≠ 0) :
    leftAt m c t.val t.isLt = left m c t (prev m c t).kp (prev m c t).sc := by
  obtain ⟨n, hn⟩ := t
  cases n with
  | zero => exact absurd rfl ht
  | succ n => rfl

theorem leftAt_A (c : Dev nD) (t : Fin cfg0.N) (h0 : t.val % 4 = 0) (h1 : t.val % 16 = 0) :
    leftAt m c t.val t.isLt = outA m c t h0 h1 := by
  obtain ⟨n, hn⟩ := t
  cases n with
  | zero => unfold leftAt left; rw [dif_pos h0, dif_pos h1]
  | succ n => unfold leftAt left; rw [dif_pos h0, dif_pos h1]

theorem leftAt_E (c : Dev nD) (t : Fin cfg0.N) (h0 : t.val % 4 = 0) (h1 : ¬t.val % 16 = 0) :
    leftAt m c t.val t.isLt = outE m c t h0 h1 (prev m c t).kp := by
  rw [leftAt_pos m c t (by omega)]; unfold left; rw [dif_pos h0, dif_neg h1]

theorem leftAt_B (c : Dev nD) (t : Fin cfg0.N) (h : t.val % 4 = 1) :
    leftAt m c t.val t.isLt = outB m c t h (prev m c t).kp (prev m c t).sc := by
  rw [leftAt_pos m c t (by omega)]; unfold left; rw [dif_neg (by omega), dif_pos h]

theorem leftAt_C (c : Dev nD) (t : Fin cfg0.N) (h : t.val % 4 = 2) :
    leftAt m c t.val t.isLt = outC m c t h (prev m c t).kp (prev m c t).sc := by
  rw [leftAt_pos m c t (by omega)]; unfold left; rw [dif_neg (by omega), dif_neg (by omega), dif_pos h]

theorem leftAt_D (c : Dev nD) (t : Fin cfg0.N) (h : t.val % 4 = 3) :
    leftAt m c t.val t.isLt = outD m c t h (prev m c t).kp (prev m c t).sc := by
  rw [leftAt_pos m c t (by omega)]; unfold left; rw [dif_neg (by omega), dif_neg (by omega), dif_neg (by omega)]

theorem fills7A (c : Dev nD) (t : Fin cfg0.N) (h0 : t.val % 4 = 0) (h1 : t.val % 16 = 0) : ∀ y : S512x256.Idx, ∃ p ∈ (atA m c t h0 h1).1, y ∈ p.1.set :=
  cov7A c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t)

theorem fills8A (c : Dev nD) (t : Fin cfg0.N) (h0 : t.val % 4 = 0) (h1 : t.val % 16 = 0) : ∀ y : S512x128.Idx, ∃ p ∈ (atA m c t h0 h1).2.1, y ∈ p.1.set :=
  cov8A c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t)

theorem fills10A (c : Dev nD) (t : Fin cfg0.N) (h0 : t.val % 4 = 0) (h1 : t.val % 16 = 0) : ∀ y : S2048x128.Idx, ∃ p ∈ (atA m c t h0 h1).2.2.1, y ∈ p.1.set :=
  cov10A c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t)

theorem fillssA (c : Dev nD) (t : Fin cfg0.N) (h0 : t.val % 4 = 0) (h1 : t.val % 16 = 0) : ∀ y : S2048x512.Idx, ∃ p ∈ (atA m c t h0 h1).2.2.2.1, y ∈ p.1.set :=
  covsA c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t)

theorem fills7B (c : Dev nD) (t : Fin cfg0.N) (h : t.val % 4 = 1) (K : Vec F S2048x128 .f32) (S : Vec F S2048x512 .f32) : ∀ y : S512x256.Idx, ∃ p ∈ (atB m c t h K S).1, y ∈ p.1.set :=
  cov7B c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S

theorem fills8B (c : Dev nD) (t : Fin cfg0.N) (h : t.val % 4 = 1) (K : Vec F S2048x128 .f32) (S : Vec F S2048x512 .f32) : ∀ y : S512x128.Idx, ∃ p ∈ (atB m c t h K S).2.1, y ∈ p.1.set :=
  cov8B c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S

theorem fills7C (c : Dev nD) (t : Fin cfg0.N) (h : t.val % 4 = 2) (K : Vec F S2048x128 .f32) (S : Vec F S2048x512 .f32) : ∀ y : S512x256.Idx, ∃ p ∈ (atC m c t h K S).1, y ∈ p.1.set :=
  cov7C c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S

theorem fills8C (c : Dev nD) (t : Fin cfg0.N) (h : t.val % 4 = 2) (K : Vec F S2048x128 .f32) (S : Vec F S2048x512 .f32) : ∀ y : S512x128.Idx, ∃ p ∈ (atC m c t h K S).2.1, y ∈ p.1.set :=
  cov8C c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S

theorem fills7D (c : Dev nD) (t : Fin cfg0.N) (h : t.val % 4 = 3) (K : Vec F S2048x128 .f32) (S : Vec F S2048x512 .f32) : ∀ y : S512x256.Idx, ∃ p ∈ (atD m c t h K S).1, y ∈ p.1.set :=
  cov7D c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S

theorem fills8D (c : Dev nD) (t : Fin cfg0.N) (h : t.val % 4 = 3) (K : Vec F S2048x128 .f32) (S : Vec F S2048x512 .f32) : ∀ y : S512x128.Idx, ∃ p ∈ (atD m c t h K S).2.1, y ∈ p.1.set :=
  cov8D c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S

theorem fills9D (c : Dev nD) (t : Fin cfg0.N) (h : t.val % 4 = 3) (K : Vec F S2048x128 .f32) (S : Vec F S2048x512 .f32) : ∀ y : S2048x512.Idx, ∃ p ∈ (atD m c t h K S).2.2.1, y ∈ p.1.set :=
  cov9D c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S

theorem fills7E (c : Dev nD) (t : Fin cfg0.N) (h0 : t.val % 4 = 0) (h1 : ¬t.val % 16 = 0) (K : Vec F S2048x128 .f32) : ∀ y : S512x256.Idx, ∃ p ∈ (atE m c t h0 h1 K).1, y ∈ p.1.set :=
  cov7E c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K

theorem fills8E (c : Dev nD) (t : Fin cfg0.N) (h0 : t.val % 4 = 0) (h1 : ¬t.val % 16 = 0) (K : Vec F S2048x128 .f32) : ∀ y : S512x128.Idx, ∃ p ∈ (atE m c t h0 h1 K).2.1, y ∈ p.1.set :=
  cov8E c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K

theorem fillssE (c : Dev nD) (t : Fin cfg0.N) (h0 : t.val % 4 = 0) (h1 : ¬t.val % 16 = 0) (K : Vec F S2048x128 .f32) : ∀ y : S2048x512.Idx, ∃ p ∈ (atE m c t h0 h1 K).2.2.2.1, y ∈ p.1.set :=
  covsE c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K

end Cert.KernelIdeal.Att

end
-- ==== Proof.Att.Block0.lean ====
/- The values that the body computes for query block 0 (keys 0 to 511), read at an index. -/
module

public import proofs.«01_k».proof.Proof.Att.Spec

@[expose] public section

set_option maxRecDepth 16384

noncomputable section

namespace Cert.KernelIdeal.Att.B0

open Idealize.ShloMosaic Cert.KernelIdeal Cert.KernelIdeal.Gen Cert.KernelIdeal.Att Cert.Att

theorem le : 512 ≤ 2048 := by decide

theorem sel (q : Fin 512) (r : Fin 512) (a c : EReal) :
    Scalar.select (IntOp.cmpi .sle (BitVec.ofNat 32 r.val) (IntOp.addi (0#32) (BitVec.ofNat 32 q.val))) a c
      = if r.val ≤ pos 0 q then a else c := by
  refine (sel_le 0 q.val r.val a c (by omega) (by omega)).trans ?_
  congr 1

theorem pos_lt (q : Fin 512) : pos 0 q < 512 := by unfold pos; omega

section Query

variable (R : FVec Ideal S512x128 .f32) (X : Vec Ideal S512x128 .bf16) (q : Fin 512) (x : Fin 128)

theorem mask0 : (k0_pay8 (F := Ideal)) (ix2 q x) = hm 0 x := by
  pointwise [k0_pay8]
  rw [lane_word, word_float]; rfl

theorem mask1 : (k0_pay24 (F := Ideal) k0_pay22 k0_pay23) (ix2 q x) = hm 1 x := by
  pointwise [k0_pay22, k0_pay23, k0_pay24]
  rw [lane_word1, word_float]; rfl

theorem query0_lo : k0_pay9 (F := Ideal) R X (ix2 q ⟨x.val, by omega⟩) = X (ix2 q x) * sca := by
  pointwise [k0_pay9]
  first | rfl | (rw [dif_pos x.isLt]; rfl)

theorem query0_hi : k0_pay9 (F := Ideal) R X (ix2 q ⟨128 + x.val, by omega⟩) = R (ix2 q x) * hm 0 x * sca := by
  have e := mask0 q x
  pointwise [k0_pay9]
  simp only [Nat.add_sub_cancel_left, Fin.eta, e]
  first | rfl | (rw [dif_neg (by omega)]; rfl)

theorem query1_lo : k0_pay25 (F := Ideal) R k0_pay22 k0_pay23 X (ix2 q ⟨x.val, by omega⟩) = X (ix2 q x) * sca := by
  pointwise [k0_pay25]
  first | rfl | (rw [dif_pos x.isLt]; rfl)

theorem query1_hi : k0_pay25 (F := Ideal) R k0_pay22 k0_pay23 X (ix2 q ⟨128 + x.val, by omega⟩)
    = R (ix2 q x) * hm 1 x * sca := by
  have e := mask1 q x
  pointwise [k0_pay25]
  simp only [Nat.add_sub_cancel_left, Fin.eta, e]
  first | rfl | (rw [dif_neg (by omega)]; rfl)

end Query

section Block

variable {A : FVec Ideal S512x256 .bf16} {B0 B1 V : Vec Ideal S512x128 .bf16} {O : Vec Ideal S512x128 .bf16}
  {a0 a1 o : Fin 512 → Fin 128 → EReal} {b0 b1 v : Fin 2048 → Fin 128 → EReal}

section Weights

variable (hA0 : ∀ (q : Fin 512) (x : Fin 128), A (ix2 q ⟨x.val, by omega⟩) = a0 q x)
  (hA1 : ∀ (q : Fin 512) (x : Fin 128), A (ix2 q ⟨128 + x.val, by omega⟩) = a1 q x)
  (hB0 : ∀ (r : Fin 512) (x : Fin 128), B0 (ix2 r x) = b0 (Fin.castLE le r) x)
  (hB1 : ∀ (r : Fin 512) (x : Fin 128), B1 (ix2 r x) = b1 (Fin.castLE le r) x)

include hA0 hA1 hB0 hB1

theorem weight (q : Fin 512) (r : Fin 512) :
    k0_pay11 (F := Ideal) A B0 B1 (ix2 q r)
      = pr (pos 0 q) (fun r => ∑ x, a0 q x * b0 r x + ∑ x, a1 q x * b1 r x) (Fin.castLE le r) := by
  pointwise [k0_pay11, k0_pay10]
  simp only [hA0, hA1, hB0, hB1, sel, negInf]
  rw [← pr_castLE le (pos 0 q) (pos_lt q)]
  rfl

variable (hV : ∀ (r : Fin 512) (x : Fin 128), V (ix2 r x) = v (Fin.castLE le r) x)
  (hO : ∀ (q : Fin 512) (x : Fin 128), O (ix2 q x) = o q x)

include hO

/-- The gradient of the value, added to what the accumulator holds. -/
theorem valueGrad (Y : Vec Ideal S512x128 .f32) (r : Fin 512) (x : Fin 128) :
    k0_pay20 (F := Ideal) (k0_pay15 A B0 B1 O) Y (ix2 r x)
      = Y (ix2 r x) + ∑ q : Fin 512, pr (pos 0 q)
          (fun r => ∑ x, a0 q x * b0 r x + ∑ x, a1 q x * b1 r x) (Fin.castLE le r) * o q x := by
  pointwise [k0_pay20, k0_pay15]
  simp only [weight hA0 hA1 hB0 hB1, hO]

include hV

theorem scoreGrad (q : Fin 512) (r : Fin 512) :
    k0_pay12 (F := Ideal) A B0 B1 V O (ix2 q r)
      = dsc (pos 0 q) (fun r => ∑ x, a0 q x * b0 r x + ∑ x, a1 q x * b1 r x) (fun r => ∑ x, o q x * v r x)
          (Fin.castLE le r) := by
  pointwise [k0_pay12]
  simp only [weight hA0 hA1 hB0 hB1, hV, hO]
  rw [← dsc_castLE le (pos 0 q) (pos_lt q)]
  unfold dsc
  refine congrArg₂ (fun a b : EReal => a * b) (pr_castLE le (pos 0 q) (pos_lt q) _ r).symm ?_
  refine congrArg (fun b : EReal => _ - b) (Finset.sum_congr rfl fun x _ => ?_)
  exact congrArg (fun b : EReal => b * _) (pr_castLE le (pos 0 q) (pos_lt q) _ x).symm

/-- The gradient of the query's unrotated part. -/
theorem queryGrad (q : Fin 512) (x : Fin 128) :
    k0_pay16 (F := Ideal) A B0 B1 V O (ix2 q x)
      = (∑ r, dsc (pos 0 q) (fun r => ∑ x, a0 q x * b0 r x + ∑ x, a1 q x * b1 r x)
          (fun r => ∑ x, o q x * v r x) r * b0 r x) * sca := by
  pointwise [k0_pay16, k0_pay13, k0_pay10]
  simp only [scoreGrad hA0 hA1 hB0 hB1 hV hO, hB0]
  exact congrArg (fun a : EReal => a * sca) (sum_castLE le (fun r => dsc (pos 0 q) (fun r => ∑ x, a0 q x * b0 r x + ∑ x, a1 q x * b1 r x)
    (fun r => ∑ x, o q x * v r x) r * b0 r x) fun r hr => by
      rw [dsc_zero _ _ _ r (lt_of_lt_of_le (pos_lt q) hr), zero_mul]).symm

/-- The gradient of the query's rotated part, under a mask. -/
theorem rotGrad (M : FVec Ideal S512x128 .f32) (q : Fin 512) (x : Fin 128) :
    k0_pay17 (F := Ideal) M A B0 B1 V O (ix2 q x)
      = (∑ r, dsc (pos 0 q) (fun r => ∑ x, a0 q x * b0 r x + ∑ x, a1 q x * b1 r x)
          (fun r => ∑ x, o q x * v r x) r * b1 r x) * sca * M (ix2 q x) := by
  pointwise [k0_pay17, k0_pay13, k0_pay10]
  simp only [scoreGrad hA0 hA1 hB0 hB1 hV hO, hB1]
  exact congrArg (fun a : EReal => a * sca * M (ix2 q x)) (sum_castLE le (fun r => dsc (pos 0 q) (fun r => ∑ x, a0 q x * b0 r x + ∑ x, a1 q x * b1 r x)
    (fun r => ∑ x, o q x * v r x) r * b1 r x) fun r hr => by
      rw [dsc_zero _ _ _ r (lt_of_lt_of_le (pos_lt q) hr), zero_mul]).symm

/-- The gradient of the key's unrotated part, added to what the accumulator holds. -/
theorem keyGrad (Y : Vec Ideal S512x128 .f32) (r : Fin 512) (x : Fin 128) :
    k0_pay19 (F := Ideal) (k0_pay14 A B0 B1 V O) Y (ix2 r x)
      = Y (ix2 r x) + ∑ q : Fin 512, dsc (pos 0 q)
          (fun r => ∑ x, a0 q x * b0 r x + ∑ x, a1 q x * b1 r x) (fun r => ∑ x, o q x * v r x) (Fin.castLE le r) * a0 q x := by
  pointwise [k0_pay19, k0_pay14]
  simp only [scoreGrad hA0 hA1 hB0 hB1 hV hO, hA0]

/-- The gradient of the key's rotated part, added to what the accumulator holds. -/
theorem rotKeyGrad (Y : Vec Ideal S512x128 .f32) (r : Fin 512) (x : Fin 128) :
    k0_pay21 (F := Ideal) (k0_pay14 A B0 B1 V O) Y (ix2 r x)
      = Y (ix2 r x) + ∑ q : Fin 512, dsc (pos 0 q)
          (fun r => ∑ x, a0 q x * b0 r x + ∑ x, a1 q x * b1 r x) (fun r => ∑ x, o q x * v r x) (Fin.castLE le r) * a1 q x := by
  pointwise [k0_pay21, k0_pay14]
  simp only [scoreGrad hA0 hA1 hB0 hB1 hV hO, hA1]

end Weights

/-! ### The second head's values are the first's, from its own query -/

section Second

variable (R : FVec Ideal S512x128 .f32) (X : Vec Ideal S512x128 .bf16) (B0 B1 V : Vec Ideal S512x128 .bf16)
  (O : Vec Ideal S512x128 .bf16)

theorem weight1 : k0_pay29 (k0_pay27 (F := Ideal) R k0_pay22 k0_pay23 X B0 B1) (k0_pay28 R k0_pay22 k0_pay23 X B0 B1) = k0_pay11 (k0_pay25 (F := Ideal) R k0_pay22 k0_pay23 X) B0 B1 := rfl

theorem queryGrad1 : k0_pay33 (k0_pay26 B0 B1) V O (k0_pay27 (F := Ideal) R k0_pay22 k0_pay23 X B0 B1) (k0_pay28 R k0_pay22 k0_pay23 X B0 B1) = k0_pay16 (k0_pay25 (F := Ideal) R k0_pay22 k0_pay23 X) B0 B1 V O := rfl

theorem rotGrad1 (D M : FVec Ideal S512x128 .f32) :
    k0_pay34 D M (k0_pay26 B0 B1) V O (k0_pay27 (F := Ideal) R k0_pay22 k0_pay23 X B0 B1) (k0_pay28 R k0_pay22 k0_pay23 X B0 B1) = addf D (k0_pay17 M (k0_pay25 (F := Ideal) R k0_pay22 k0_pay23 X) B0 B1 V O) := rfl

theorem keyGrad1 (Y : Vec Ideal S512x128 .f32) : k0_pay35 (k0_pay25 (F := Ideal) R k0_pay22 k0_pay23 X) V O (k0_pay27 (F := Ideal) R k0_pay22 k0_pay23 X B0 B1) (k0_pay28 R k0_pay22 k0_pay23 X B0 B1) Y = k0_pay19 (k0_pay14 (k0_pay25 (F := Ideal) R k0_pay22 k0_pay23 X) B0 B1 V O) Y := rfl

theorem valueGrad1 (Y : Vec Ideal S512x128 .f32) : k0_pay36 O (k0_pay27 (F := Ideal) R k0_pay22 k0_pay23 X B0 B1) (k0_pay28 R k0_pay22 k0_pay23 X B0 B1) Y = k0_pay20 (k0_pay15 (k0_pay25 (F := Ideal) R k0_pay22 k0_pay23 X) B0 B1 O) Y := rfl

theorem rotKeyGrad1 (Y : Vec Ideal S512x128 .f32) : k0_pay37 (k0_pay25 (F := Ideal) R k0_pay22 k0_pay23 X) V O (k0_pay27 (F := Ideal) R k0_pay22 k0_pay23 X B0 B1) (k0_pay28 R k0_pay22 k0_pay23 X B0 B1) Y = k0_pay21 (k0_pay14 (k0_pay25 (F := Ideal) R k0_pay22 k0_pay23 X) B0 B1 V O) Y := rfl

end Second

/-- The first head's part of the rotated query's gradient. -/
theorem rotSum (D M : FVec Ideal S512x128 .f32) : k0_pay18 (F := Ideal) D M = addf D M := rfl

/-- The rotation taken back. -/
theorem unrope_apply (D : FVec Ideal S512x128 .f32) (x2 x3 : Vec Ideal S512x128 .f32) (q : Fin 512) (l : Fin 128) :
    k0_pay2 (F := Ideal) D x2 x3 (ix2 q l)
      = D (ix2 q l) * x2 (ix2 q l) + D (ix2 q (swp l)) * x3 (ix2 q (swp l)) := by
  pointwise [k0_pay2]
  rw [swap_word]
  unfold swp
  split <;> rfl

theorem zeros (q : Fin 512) (l : Fin 128) : (k0_pay7 (F := Ideal)) (ix2 q l) = 0 := by
  pointwise [k0_pay7]

end Block

end Cert.KernelIdeal.Att.B0

end
-- ==== Proof.Att.Read.lean ====
/- A block of columns read at an index. -/
module

public import proofs.«01_k».proof.Proof.Att.Spec
public import Idealize.ShloMosaic.Lib.WritesUnit

@[expose] public section

set_option maxRecDepth 16384

noncomputable section

namespace Cert.KernelIdeal.Att

open Idealize.ShloMosaic Cert.KernelIdeal Cert.KernelIdeal.Gen Cert.Att

theorem ld_at {n m N M : ℕ} {e : EltTy} (X : Vec Ideal (⟨2, ![N, M]⟩ : Shape) e) (o : ℕ)
    (inb) (hn : n ≤ N) (hm : o + m ≤ M) (r : Fin n) (x : Fin m) :
    View.ld X (Rect.unit (s := (⟨2, ![N, M]⟩ : Shape)) ![0, o] ![n, m] inb) (ix2 r x)
      = X (ix2 (Fin.castLE hn r) ⟨o + x.val, by omega⟩) := by
  refine congrArg X (funext fun a => ?_)
  match a with
  | ⟨0, _⟩ => exact Fin.ext (by show 0 + 1 * r.val = r.val; omega)
  | ⟨1, _⟩ => exact Fin.ext (by show o + 1 * x.val = o + x.val; omega)

section Pieces

variable {n m N M : ℕ} {e : EltTy} (o : ℕ)
  (inb : ∀ a, (![0, o] : Fin 2 → ℕ) a + (![n, m] : Fin 2 → ℕ) a ≤ (⟨2, ![N, M]⟩ : Shape).size a)
  (w : (Rect.unit (s := (⟨2, ![N, M]⟩ : Shape)) ![0, o] ![n, m] inb).shape.Idx → Elt Ideal e)
  (L : List (View.Piece (Elt Ideal) (⟨2, ![N, M]⟩ : Shape) e)) (r : Fin N) (c : Fin M)

/-- An entry of the last stored block. -/
theorem cn_hit (hr : r.val < n) (x : Fin m) (hc : c.val = o + x.val) :
    View.canon (⟨Rect.unit (s := (⟨2, ![N, M]⟩ : Shape)) ![0, o] ![n, m] inb, w⟩ :: L) (ix2 r c) = w (ix2 ⟨r.val, hr⟩ x) := by
  rw [← View.canon_cons_emb (Rect.unit (s := (⟨2, ![N, M]⟩ : Shape)) ![0, o] ![n, m] inb) w L (ix2 ⟨r.val, hr⟩ x)]
  refine congrArg _ (funext fun a => ?_)
  match a with
  | ⟨0, _⟩ => exact Fin.ext (by show r.val = 0 + 1 * r.val; omega)
  | ⟨1, _⟩ => exact Fin.ext (by show c.val = o + 1 * x.val; omega)

/-- An entry beside the last stored block. -/
theorem cn_miss (h : n ≤ r.val ∨ c.val < o ∨ o + m ≤ c.val) :
    View.canon (⟨Rect.unit (s := (⟨2, ![N, M]⟩ : Shape)) ![0, o] ![n, m] inb, w⟩ :: L) (ix2 r c) = View.canon L (ix2 r c) := by
  refine View.canon_cons_of_not_mem _ _ fun hm => ?_
  have hs := ((Rect.unit (s := (⟨2, ![N, M]⟩ : Shape)) ![0, o] ![n, m] inb).toLoadRect.mem_set).1 hm
  obtain ⟨j0, b0, h0⟩ := hs (0 : Fin 2)
  obtain ⟨j1, b1, h1⟩ := hs (1 : Fin 2)
  have h0 : r.val = 0 + 1 * j0 := h0
  have h1 : c.val = o + 1 * j1 := h1
  have b0 : j0 < n := b0
  have b1 : j1 < m := b1
  omega

variable {sg : RefSig} {κ : Kind} {sp : Space} (v : View sg κ sp (⟨2, ![N, M]⟩ : Shape) e) (f : v.ty.Contents (Elt Ideal))

/-- The same of a buffer that keeps what no block overwrites. -/
theorem rw_hit (hr : r.val < n) (x : Fin m) (hc : c.val = o + x.val) :
    v.read (Elt Ideal) (v.writes (Elt Ideal) f (⟨Rect.unit (s := (⟨2, ![N, M]⟩ : Shape)) ![0, o] ![n, m] inb, w⟩ :: L)) (ix2 r c)
      = w (ix2 ⟨r.val, hr⟩ x) :=
  View.read_writes_cons_unit_of_mem v f inb w L _ _ rfl fun a => by
    match a with
    | ⟨0, _⟩ => show r.val = 0 + r.val; omega
    | ⟨1, _⟩ => exact hc

theorem rw_miss (h : n ≤ r.val ∨ c.val < o ∨ o + m ≤ c.val) :
    v.read (Elt Ideal) (v.writes (Elt Ideal) f (⟨Rect.unit (s := (⟨2, ![N, M]⟩ : Shape)) ![0, o] ![n, m] inb, w⟩ :: L)) (ix2 r c)
      = v.read (Elt Ideal) (v.writes (Elt Ideal) f L) (ix2 r c) := by
  rcases h with h | h
  · exact View.read_writes_cons_unit_of_not_mem v f inb w L _ rfl (0 : Fin 2) (Or.inr (by show 0 + n ≤ r.val; omega))
  · exact View.read_writes_cons_unit_of_not_mem v f inb w L _ rfl (1 : Fin 2) h

end Pieces

/-- Reading a block of columns of a buffer that stores cover. -/
theorem rc_at {n m N M : ℕ} {e : EltTy} {sg : RefSig} {κ : Kind} {sp : Space}
    (v : View sg κ sp (⟨2, ![N, M]⟩ : Shape) e) (L : List (View.Piece (Elt Ideal) (⟨2, ![N, M]⟩ : Shape) e)) (o : ℕ)
    (inb) (hn : n ≤ N) (hm : o + m ≤ M) (r : Fin n) (x : Fin m) :
    v.readCov L (Rect.unit (s := (⟨2, ![N, M]⟩ : Shape)) ![0, o] ![n, m] inb).toLoadRect (ix2 r x)
      = View.canon L (ix2 (Fin.castLE hn r) ⟨o + x.val, by omega⟩) := by
  rw [View.readCov_eq_canon']
  exact ld_at (e := e) (View.canon L) o inb hn hm r x

/-- An entry of a buffer filled at first. -/
theorem cn_fill {N M : ℕ} {e : EltTy} (inb) (Z : Vec Ideal (⟨2, ![N, M]⟩ : Shape) e) (r : Fin N) (c : Fin M) :
    View.canon (Val := Elt Ideal) [⟨Rect.unit (s := (⟨2, ![N, M]⟩ : Shape)) ![0, 0] ![N, M] inb, Z⟩] (ix2 r c) = Z (ix2 r c) :=
  (cn_hit 0 inb Z [] r c r.isLt c (Nat.zero_add _).symm)

theorem scr_zero (r : Fin 2048) (c : Fin 512) : k0_pay131 (F := Ideal) (ix2 r c) = 0 := by
  pointwise [k0_pay131]

theorem rot_zero (r : Fin 2048) (c : Fin 128) : k0_pay132 (F := Ideal) (ix2 r c) = 0 := by
  pointwise [k0_pay132]

theorem trunc_at (Y : Vec Ideal S2048x512 .f32) (r : Fin 2048) (c : Fin 512) : k0_pay6 (F := Ideal) Y (ix2 r c) = Y (ix2 r c) := by
  pointwise [k0_pay6]

section Late

variable (x0 : S512x256.Idx → EReal) (x1 x2 x3 : S512x128.Idx → EReal) (x4 : S2048x512.Idx → EReal)
  (x5 : S2048x128.Idx → EReal) (x6 : S512x256.Idx → EReal) (i : ℕ) (e : Fin 2) (r : Fin 2048)

/-- A key after the block's last query gets nothing from it. -/
theorem sKn_late (h : 512 * i + 512 ≤ r.val) (j : Fin 128) : sKn x0 x1 x2 x3 x4 x5 x6 i e r j = 0 :=
  Finset.sum_eq_zero fun q _ => by
    have hq := q.isLt
    unfold sD; rw [dsc_zero _ _ _ _ (by unfold pos; omega), zero_mul]

theorem sKp_late (h : 512 * i + 512 ≤ r.val) (l : Fin 128) : sKp x0 x1 x2 x3 x4 x5 x6 i e r l = 0 :=
  Finset.sum_eq_zero fun q _ => by
    have hq := q.isLt
    unfold sD; rw [dsc_zero _ _ _ _ (by unfold pos; omega), zero_mul]

theorem sV_late (h : 512 * i + 512 ≤ r.val) (j : Fin 128) : sV x0 x1 x2 x3 x4 x5 x6 i e r j = 0 :=
  Finset.sum_eq_zero fun q _ => by
    have hq := q.isLt
    unfold sP; rw [pr_zero _ _ _ (by unfold pos; omega), zero_mul]

end Late

end Cert.KernelIdeal.Att

end
-- ==== Proof.Att.Point0.lean ====
/- One grid point's values for query block 0: each stored value is the specification's. -/
module

public import proofs.«01_k».proof.Proof.Att.Block0
public import proofs.«01_k».proof.Proof.Att.Read

@[expose] public section

set_option maxRecDepth 16384

noncomputable section

namespace Cert.KernelIdeal.Att.B0

open Idealize.ShloMosaic Cert.KernelIdeal Cert.KernelIdeal.Gen Cert.KernelIdeal.Att Cert.Att

variable (x0 : Vec Ideal S512x256 .bf16) (x1 : Vec Ideal S512x128 .bf16) (x2 x3 : Vec Ideal S512x128 .f32)
  (x4 : Vec Ideal S2048x512 .bf16) (x5 : Vec Ideal S2048x128 .bf16) (x6 : Vec Ideal S512x256 .bf16)

theorem stQ0 (q : Fin 512) (x : Fin 128) : k0_pay16 (F := Ideal) (k0_pay9 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![512, 128] inb_S2048x512_S512x128_0_0)) (View.ld x5 (Rect.unit ![0, 0] ![512, 128] inb_S2048x128_S512x128_0_0)) (View.ld x4 (Rect.unit ![0, 128] ![512, 128] inb_S2048x512_S512x128_0_128)) (View.ld x6 (Rect.unit ![0, 0] ![512, 128] inb_S512x256_S512x128_0_0)) (ix2 q x)
    = sQn x0 x1 x2 x3 x4 x5 x6 0 0 q x :=
  queryGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S512x128_0_0 le (by decide) r x) (fun r x => (ld_at x5 0 inb_S2048x128_S512x128_0_0 le (by decide) r x).trans (congrArg (fun j => x5 (ix2 (Fin.castLE le r) j)) (Fin.ext (Nat.zero_add _))))
    (fun r x => ld_at x4 128 inb_S2048x512_S512x128_0_128 le (by decide) r x) (fun q x => ld_at x6 0 inb_S512x256_S512x128_0_0 (le_refl _) (by decide) q x) q x

theorem stK0 (Y : Vec Ideal S512x128 .f32) (r : Fin 512) (x : Fin 128) : k0_pay19 (F := Ideal) (k0_pay14 (k0_pay9 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![512, 128] inb_S2048x512_S512x128_0_0)) (View.ld x5 (Rect.unit ![0, 0] ![512, 128] inb_S2048x128_S512x128_0_0)) (View.ld x4 (Rect.unit ![0, 128] ![512, 128] inb_S2048x512_S512x128_0_128)) (View.ld x6 (Rect.unit ![0, 0] ![512, 128] inb_S512x256_S512x128_0_0))) Y (ix2 r x)
    = Y (ix2 r x) + sKn x0 x1 x2 x3 x4 x5 x6 0 0 (Fin.castLE le r) x :=
  keyGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S512x128_0_0 le (by decide) r x) (fun r x => (ld_at x5 0 inb_S2048x128_S512x128_0_0 le (by decide) r x).trans (congrArg (fun j => x5 (ix2 (Fin.castLE le r) j)) (Fin.ext (Nat.zero_add _))))
    (fun r x => ld_at x4 128 inb_S2048x512_S512x128_0_128 le (by decide) r x) (fun q x => ld_at x6 0 inb_S512x256_S512x128_0_0 (le_refl _) (by decide) q x) Y r x

theorem stV0 (Y : Vec Ideal S512x128 .f32) (r : Fin 512) (x : Fin 128) : k0_pay20 (F := Ideal) (k0_pay15 (k0_pay9 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![512, 128] inb_S2048x512_S512x128_0_0)) (View.ld x5 (Rect.unit ![0, 0] ![512, 128] inb_S2048x128_S512x128_0_0)) (View.ld x6 (Rect.unit ![0, 0] ![512, 128] inb_S512x256_S512x128_0_0))) Y (ix2 r x)
    = Y (ix2 r x) + sV x0 x1 x2 x3 x4 x5 x6 0 0 (Fin.castLE le r) x :=
  valueGrad (a0 := qn x0 0) (a1 := qp x1 x2 x3 0) (b0 := kn x4 0) (b1 := fun r x => x5 (ix2 r x)) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S512x128_0_0 le (by decide) r x) (fun r x => (ld_at x5 0 inb_S2048x128_S512x128_0_0 le (by decide) r x).trans (congrArg (fun j => x5 (ix2 (Fin.castLE le r) j)) (Fin.ext (Nat.zero_add _))))
    (fun q x => ld_at x6 0 inb_S512x256_S512x128_0_0 (le_refl _) (by decide) q x) Y r x

theorem stE0 (Y : Vec Ideal S512x128 .f32) (r : Fin 512) (x : Fin 128) : k0_pay21 (F := Ideal) (k0_pay14 (k0_pay9 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![512, 128] inb_S2048x512_S512x128_0_0)) (View.ld x5 (Rect.unit ![0, 0] ![512, 128] inb_S2048x128_S512x128_0_0)) (View.ld x4 (Rect.unit ![0, 128] ![512, 128] inb_S2048x512_S512x128_0_128)) (View.ld x6 (Rect.unit ![0, 0] ![512, 128] inb_S512x256_S512x128_0_0))) Y (ix2 r x)
    = Y (ix2 r x) + sKp x0 x1 x2 x3 x4 x5 x6 0 0 (Fin.castLE le r) x :=
  rotKeyGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S512x128_0_0 le (by decide) r x) (fun r x => (ld_at x5 0 inb_S2048x128_S512x128_0_0 le (by decide) r x).trans (congrArg (fun j => x5 (ix2 (Fin.castLE le r) j)) (Fin.ext (Nat.zero_add _))))
    (fun r x => ld_at x4 128 inb_S2048x512_S512x128_0_128 le (by decide) r x) (fun q x => ld_at x6 0 inb_S512x256_S512x128_0_0 (le_refl _) (by decide) q x) Y r x

theorem stQ1 (q : Fin 512) (x : Fin 128) : k0_pay33 (F := Ideal) (k0_pay26 (View.ld x4 (Rect.unit ![0, 256] ![512, 128] inb_S2048x512_S512x128_0_256)) (View.ld x5 (Rect.unit ![0, 0] ![512, 128] inb_S2048x128_S512x128_0_0))) (View.ld x4 (Rect.unit ![0, 384] ![512, 128] inb_S2048x512_S512x128_0_384)) (View.ld x6 (Rect.unit ![0, 128] ![512, 128] inb_S512x256_S512x128_0_128)) (k0_pay27 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) (k0_pay28 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) (ix2 q x)
    = sQn x0 x1 x2 x3 x4 x5 x6 0 1 q x :=
  queryGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S512x128_0_256 le (by decide) r x) (fun r x => (ld_at x5 0 inb_S2048x128_S512x128_0_0 le (by decide) r x).trans (congrArg (fun j => x5 (ix2 (Fin.castLE le r) j)) (Fin.ext (Nat.zero_add _))))
    (fun r x => ld_at x4 384 inb_S2048x512_S512x128_0_384 le (by decide) r x) (fun q x => ld_at x6 128 inb_S512x256_S512x128_0_128 (le_refl _) (by decide) q x) q x

theorem stK1 (Y : Vec Ideal S512x128 .f32) (r : Fin 512) (x : Fin 128) : k0_pay35 (F := Ideal) (k0_pay25 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128))) (View.ld x4 (Rect.unit ![0, 384] ![512, 128] inb_S2048x512_S512x128_0_384)) (View.ld x6 (Rect.unit ![0, 128] ![512, 128] inb_S512x256_S512x128_0_128)) (k0_pay27 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) (k0_pay28 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) Y (ix2 r x)
    = Y (ix2 r x) + sKn x0 x1 x2 x3 x4 x5 x6 0 1 (Fin.castLE le r) x :=
  keyGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S512x128_0_256 le (by decide) r x) (fun r x => (ld_at x5 0 inb_S2048x128_S512x128_0_0 le (by decide) r x).trans (congrArg (fun j => x5 (ix2 (Fin.castLE le r) j)) (Fin.ext (Nat.zero_add _))))
    (fun r x => ld_at x4 384 inb_S2048x512_S512x128_0_384 le (by decide) r x) (fun q x => ld_at x6 128 inb_S512x256_S512x128_0_128 (le_refl _) (by decide) q x) Y r x

theorem stV1 (Y : Vec Ideal S512x128 .f32) (r : Fin 512) (x : Fin 128) : k0_pay36 (F := Ideal) (View.ld x6 (Rect.unit ![0, 128] ![512, 128] inb_S512x256_S512x128_0_128)) (k0_pay27 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) (k0_pay28 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) Y (ix2 r x)
    = Y (ix2 r x) + sV x0 x1 x2 x3 x4 x5 x6 0 1 (Fin.castLE le r) x :=
  valueGrad (a0 := qn x0 1) (a1 := qp x1 x2 x3 1) (b0 := kn x4 1) (b1 := fun r x => x5 (ix2 r x)) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S512x128_0_256 le (by decide) r x) (fun r x => (ld_at x5 0 inb_S2048x128_S512x128_0_0 le (by decide) r x).trans (congrArg (fun j => x5 (ix2 (Fin.castLE le r) j)) (Fin.ext (Nat.zero_add _))))
    (fun q x => ld_at x6 128 inb_S512x256_S512x128_0_128 (le_refl _) (by decide) q x) Y r x

theorem stE1 (Y : Vec Ideal S512x128 .f32) (r : Fin 512) (x : Fin 128) : k0_pay37 (F := Ideal) (k0_pay25 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128))) (View.ld x4 (Rect.unit ![0, 384] ![512, 128] inb_S2048x512_S512x128_0_384)) (View.ld x6 (Rect.unit ![0, 128] ![512, 128] inb_S512x256_S512x128_0_128)) (k0_pay27 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) (k0_pay28 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) Y (ix2 r x)
    = Y (ix2 r x) + sKp x0 x1 x2 x3 x4 x5 x6 0 1 (Fin.castLE le r) x :=
  rotKeyGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S512x128_0_256 le (by decide) r x) (fun r x => (ld_at x5 0 inb_S2048x128_S512x128_0_0 le (by decide) r x).trans (congrArg (fun j => x5 (ix2 (Fin.castLE le r) j)) (Fin.ext (Nat.zero_add _))))
    (fun r x => ld_at x4 384 inb_S2048x512_S512x128_0_384 le (by decide) r x) (fun q x => ld_at x6 128 inb_S512x256_S512x128_0_128 (le_refl _) (by decide) q x) Y r x

theorem stR (q : Fin 512) (x : Fin 128) : k0_pay34 (F := Ideal) (k0_pay18 k0_pay7 (k0_pay17 k0_pay8 (k0_pay9 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![512, 128] inb_S2048x512_S512x128_0_0)) (View.ld x5 (Rect.unit ![0, 0] ![512, 128] inb_S2048x128_S512x128_0_0)) (View.ld x4 (Rect.unit ![0, 128] ![512, 128] inb_S2048x512_S512x128_0_128)) (View.ld x6 (Rect.unit ![0, 0] ![512, 128] inb_S512x256_S512x128_0_0)))) (k0_pay24 k0_pay22 k0_pay23) (k0_pay26 (View.ld x4 (Rect.unit ![0, 256] ![512, 128] inb_S2048x512_S512x128_0_256)) (View.ld x5 (Rect.unit ![0, 0] ![512, 128] inb_S2048x128_S512x128_0_0))) (View.ld x4 (Rect.unit ![0, 384] ![512, 128] inb_S2048x512_S512x128_0_384)) (View.ld x6 (Rect.unit ![0, 128] ![512, 128] inb_S512x256_S512x128_0_128)) (k0_pay27 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) (k0_pay28 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) (ix2 q x)
    = sRo x0 x1 x2 x3 x4 x5 x6 0 q x := by
  have h0 := rotGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S512x128_0_0 le (by decide) r x) (fun r x => (ld_at x5 0 inb_S2048x128_S512x128_0_0 le (by decide) r x).trans (congrArg (fun j => x5 (ix2 (Fin.castLE le r) j)) (Fin.ext (Nat.zero_add _))))
    (fun r x => ld_at x4 128 inb_S2048x512_S512x128_0_128 le (by decide) r x) (fun q x => ld_at x6 0 inb_S512x256_S512x128_0_0 (le_refl _) (by decide) q x) k0_pay8 q x
  have h1 := rotGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S512x128_0_256 le (by decide) r x) (fun r x => (ld_at x5 0 inb_S2048x128_S512x128_0_0 le (by decide) r x).trans (congrArg (fun j => x5 (ix2 (Fin.castLE le r) j)) (Fin.ext (Nat.zero_add _))))
    (fun r x => ld_at x4 384 inb_S2048x512_S512x128_0_384 le (by decide) r x) (fun q x => ld_at x6 128 inb_S512x256_S512x128_0_128 (le_refl _) (by decide) q x) (k0_pay24 k0_pay22 k0_pay23) q x
  rw [mask0] at h0
  rw [mask1] at h1
  exact congrArg₂ (fun a b : EReal => a + b) (congrArg₂ (fun a b : EReal => a + b) (zeros q x) h0) h1

theorem stP (q : Fin 512) (x : Fin 128) : k0_pay2 (F := Ideal) (k0_pay34 (k0_pay18 k0_pay7 (k0_pay17 k0_pay8 (k0_pay9 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![512, 128] inb_S2048x512_S512x128_0_0)) (View.ld x5 (Rect.unit ![0, 0] ![512, 128] inb_S2048x128_S512x128_0_0)) (View.ld x4 (Rect.unit ![0, 128] ![512, 128] inb_S2048x512_S512x128_0_128)) (View.ld x6 (Rect.unit ![0, 0] ![512, 128] inb_S512x256_S512x128_0_0)))) (k0_pay24 k0_pay22 k0_pay23) (k0_pay26 (View.ld x4 (Rect.unit ![0, 256] ![512, 128] inb_S2048x512_S512x128_0_256)) (View.ld x5 (Rect.unit ![0, 0] ![512, 128] inb_S2048x128_S512x128_0_0))) (View.ld x4 (Rect.unit ![0, 384] ![512, 128] inb_S2048x512_S512x128_0_384)) (View.ld x6 (Rect.unit ![0, 128] ![512, 128] inb_S512x256_S512x128_0_128)) (k0_pay27 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0))) (k0_pay28 (k0_pay1 (k0_pay133 x1) (k0_pay134 x3) (k0_pay135 x1 x2) k0_pay136 (k0_pay137 x1) 32#32) k0_pay22 k0_pay23 (View.ld x0 (Rect.unit ![0, 128] ![512, 128] inb_S512x256_S512x128_0_128)) (View.ld x4 (Rect.unit ![0, 256] ![512, 128] inb_S2048x512_S512x128_0_256)) (View.ld x5 (Rect.unit ![0, 0] ![512, 128] inb_S2048x128_S512x128_0_0)))) x2 x3 (ix2 q x) = sQp x0 x1 x2 x3 x4 x5 x6 0 q x := by
  rw [unrope_apply, stR, stR]
  rfl

end Cert.KernelIdeal.Att.B0

end
-- ==== Proof.Att.ValA.lean ====
/- What the run at a head pair's first row block leaves, entry by entry. -/
module

public import proofs.«01_k».proof.Proof.Att.RunA
public import proofs.«01_k».proof.Proof.Att.Point0

@[expose] public section

set_option maxRecDepth 16384

noncomputable section

namespace Cert.KernelIdeal.Att

open Idealize.ShloMosaic Idealize.ShloMosaic.TcCoe Idealize.ShloMosaic.Tactic Cert.KernelIdeal Cert.KernelIdeal.Gen Cert.Att

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole)
  (hc0 : cnd0 i) (hc1 : cnd1 i) (hc2 : cnd2 i) (hc3 : ¬cnd3 i) (hc4 : ¬cnd4 i) (hc5 : ¬cnd5 i) (hc6 : ¬cnd6 i)
  (x0 : Vec Ideal S512x256 .bf16) (x1 : Vec Ideal S512x128 .bf16) (x2 : Vec Ideal S512x128 .f32) (x3 : Vec Ideal S512x128 .f32) (x4 : Vec Ideal S2048x512 .bf16) (x5 : Vec Ideal S2048x128 .bf16) (x6 : Vec Ideal S512x256 .bf16)

theorem valA_qn0 (q : Fin 512) (j : Fin 128) :
    View.canon (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).1 (ix2 q (co 0 j (by decide))) = sQn x0 x1 x2 x3 x4 x5 x6 0 0 q j := by
  unfold runA
  dsimp only
  frame_out
  exact (cn_miss _ _ _ _ _ _ (Or.inr (Or.inl (by show 128 * 0 + j.val < 128; omega)))).trans
    ((cn_hit _ _ _ _ _ _ q.isLt j (by show 128 * 0 + j.val = 0 + j.val; omega)).trans (B0.stQ0 x0 x1 x2 x3 x4 x5 x6 q j))

theorem valA_qn1 (q : Fin 512) (j : Fin 128) :
    View.canon (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).1 (ix2 q (co 1 j (by decide))) = sQn x0 x1 x2 x3 x4 x5 x6 0 1 q j := by
  unfold runA
  dsimp only
  frame_out
  exact (cn_hit _ _ _ _ _ _ q.isLt j (by show 128 * 1 + j.val = 128 + j.val; omega)).trans (B0.stQ1 x0 x1 x2 x3 x4 x5 x6 q j)

theorem valA_qp (q : Fin 512) (l : Fin 128) : View.canon (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).2.1 (ix2 q l) = sQp x0 x1 x2 x3 x4 x5 x6 0 q l := by
  unfold runA
  dsimp only
  frame_out
  exact B0.stP x0 x1 x2 x3 x4 x5 x6 q l

theorem valA_kp (r : Fin 2048) (l : Fin 128) :
    View.canon (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).2.2.1 (ix2 r l)
      = 0 + sKp x0 x1 x2 x3 x4 x5 x6 0 0 r l + sKp x0 x1 x2 x3 x4 x5 x6 0 1 r l := by
  unfold runA
  dsimp only
  frame_out
  by_cases h : r.val < 512
  · refine (cn_hit _ _ _ _ _ _ h l (Nat.zero_add _).symm).trans ?_
    refine (B0.stE1 x0 x1 x2 x3 x4 x5 x6 _ ⟨r.val, h⟩ l).trans ?_
    refine congrArg (fun a : EReal => a + sKp x0 x1 x2 x3 x4 x5 x6 0 1 r l) ?_
    refine (congrFun (View.readCov_cons_toLoadRect _ _ _ _) _).trans ?_
    refine (B0.stE0 x0 x1 x2 x3 x4 x5 x6 _ ⟨r.val, h⟩ l).trans ?_
    refine congrArg (fun a : EReal => a + sKp x0 x1 x2 x3 x4 x5 x6 0 0 r l) ?_
    refine (rc_at _ _ _ _ B0.le (by decide) ⟨r.val, h⟩ l).trans ?_
    exact (cn_fill _ _ _ _).trans (rot_zero _ _)
  · have h : 512 ≤ r.val := not_lt.1 h
    rw [sKp_late _ _ _ _ _ _ _ _ _ _ h, sKp_late _ _ _ _ _ _ _ _ _ _ h, add_zero, add_zero]
    refine (cn_miss _ _ _ _ _ _ (Or.inl h)).trans ?_
    refine (cn_miss _ _ _ _ _ _ (Or.inl h)).trans ?_
    exact (cn_fill _ _ _ _).trans (rot_zero _ _)

theorem valA_sc0 (r : Fin 2048) (j : Fin 128) :
    View.canon (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).2.2.2.1 (ix2 r (co 0 j (by decide)))
      = 0 + sKn x0 x1 x2 x3 x4 x5 x6 0 0 r j := by
  unfold runA
  dsimp only
  frame_out
  by_cases h : r.val < 512
  · skip
    refine (cn_miss _ _ _ _ _ _ (Or.inr (Or.inl (by show 128 * 0 + j.val < 384; omega)))).trans ?_
    refine (cn_miss _ _ _ _ _ _ (Or.inr (Or.inl (by show 128 * 0 + j.val < 256; omega)))).trans ?_
    refine (cn_miss _ _ _ _ _ _ (Or.inr (Or.inl (by show 128 * 0 + j.val < 128; omega)))).trans ?_
    refine (cn_hit _ _ _ _ _ _ h j (by show 128 * 0 + j.val = 0 + j.val; omega)).trans ((B0.stK0 x0 x1 x2 x3 x4 x5 x6 _ ⟨r.val, h⟩ j).trans (congrArg (fun a : EReal => a + sKn x0 x1 x2 x3 x4 x5 x6 0 0 r j) ((rc_at _ _ _ _ B0.le (by decide) ⟨r.val, h⟩ j).trans ?_)))
    repeat (refine (cn_miss _ _ _ _ _ _ ?_).trans ?_; · exact Or.inr (Or.inr (by dsimp only; omega)))
    exact (cn_fill _ _ _ _).trans (scr_zero _ _)
  · have h : 512 ≤ r.val := not_lt.1 h
    rw [sKn_late _ _ _ _ _ _ _ _ _ _ h, add_zero]
    refine (cn_miss _ _ _ _ _ _ (Or.inl h)).trans ?_
    refine (cn_miss _ _ _ _ _ _ (Or.inl h)).trans ?_
    refine (cn_miss _ _ _ _ _ _ (Or.inl h)).trans ?_
    refine (cn_miss _ _ _ _ _ _ (Or.inl h)).trans ?_
    exact (cn_fill _ _ _ _).trans (scr_zero _ _)

theorem valA_sc1 (r : Fin 2048) (j : Fin 128) :
    View.canon (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).2.2.2.1 (ix2 r (co 1 j (by decide)))
      = 0 + sV x0 x1 x2 x3 x4 x5 x6 0 0 r j := by
  unfold runA
  dsimp only
  frame_out
  by_cases h : r.val < 512
  · skip
    refine (cn_miss _ _ _ _ _ _ (Or.inr (Or.inl (by show 128 * 1 + j.val < 384; omega)))).trans ?_
    refine (cn_miss _ _ _ _ _ _ (Or.inr (Or.inl (by show 128 * 1 + j.val < 256; omega)))).trans ?_
    refine (cn_hit _ _ _ _ _ _ h j (by show 128 * 1 + j.val = 128 + j.val; omega)).trans ((B0.stV0 x0 x1 x2 x3 x4 x5 x6 _ ⟨r.val, h⟩ j).trans (congrArg (fun a : EReal => a + sV x0 x1 x2 x3 x4 x5 x6 0 0 r j) ((rc_at _ _ _ _ B0.le (by decide) ⟨r.val, h⟩ j).trans ?_)))
    repeat (refine (cn_miss _ _ _ _ _ _ ?_).trans ?_; · exact Or.inr (Or.inr (by dsimp only; omega)))
    exact (cn_fill _ _ _ _).trans (scr_zero _ _)
  · have h : 512 ≤ r.val := not_lt.1 h
    rw [sV_late _ _ _ _ _ _ _ _ _ _ h, add_zero]
    refine (cn_miss _ _ _ _ _ _ (Or.inl h)).trans ?_
    refine (cn_miss _ _ _ _ _ _ (Or.inl h)).trans ?_
    refine (cn_miss _ _ _ _ _ _ (Or.inl h)).trans ?_
    refine (cn_miss _ _ _ _ _ _ (Or.inl h)).trans ?_
    exact (cn_fill _ _ _ _).trans (scr_zero _ _)

theorem valA_sc2 (r : Fin 2048) (j : Fin 128) :
    View.canon (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).2.2.2.1 (ix2 r (co 2 j (by decide)))
      = 0 + sKn x0 x1 x2 x3 x4 x5 x6 0 1 r j := by
  unfold runA
  dsimp only
  frame_out
  by_cases h : r.val < 512
  · skip
    refine (cn_miss _ _ _ _ _ _ (Or.inr (Or.inl (by show 128 * 2 + j.val < 384; omega)))).trans ?_
    refine (cn_hit _ _ _ _ _ _ h j (by show 128 * 2 + j.val = 256 + j.val; omega)).trans ((B0.stK1 x0 x1 x2 x3 x4 x5 x6 _ ⟨r.val, h⟩ j).trans (congrArg (fun a : EReal => a + sKn x0 x1 x2 x3 x4 x5 x6 0 1 r j) ((rc_at _ _ _ _ B0.le (by decide) ⟨r.val, h⟩ j).trans ?_)))
    repeat (refine (cn_miss _ _ _ _ _ _ ?_).trans ?_; · exact Or.inr (Or.inr (by dsimp only; omega)))
    exact (cn_fill _ _ _ _).trans (scr_zero _ _)
  · have h : 512 ≤ r.val := not_lt.1 h
    rw [sKn_late _ _ _ _ _ _ _ _ _ _ h, add_zero]
    refine (cn_miss _ _ _ _ _ _ (Or.inl h)).trans ?_
    refine (cn_miss _ _ _ _ _ _ (Or.inl h)).trans ?_
    refine (cn_miss _ _ _ _ _ _ (Or.inl h)).trans ?_
    refine (cn_miss _ _ _ _ _ _ (Or.inl h)).trans ?_
    exact (cn_fill _ _ _ _).trans (scr_zero _ _)

theorem valA_sc3 (r : Fin 2048) (j : Fin 128) :
    View.canon (runA (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6).2.2.2.1 (ix2 r (co 3 j (by decide)))
      = 0 + sV x0 x1 x2 x3 x4 x5 x6 0 1 r j := by
  unfold runA
  dsimp only
  frame_out
  by_cases h : r.val < 512
  · skip
    refine (cn_hit _ _ _ _ _ _ h j (by show 128 * 3 + j.val = 384 + j.val; omega)).trans ((B0.stV1 x0 x1 x2 x3 x4 x5 x6 _ ⟨r.val, h⟩ j).trans (congrArg (fun a : EReal => a + sV x0 x1 x2 x3 x4 x5 x6 0 1 r j) ((rc_at _ _ _ _ B0.le (by decide) ⟨r.val, h⟩ j).trans ?_)))
    repeat (refine (cn_miss _ _ _ _ _ _ ?_).trans ?_; · exact Or.inr (Or.inr (by dsimp only; omega)))
    exact (cn_fill _ _ _ _).trans (scr_zero _ _)
  · have h : 512 ≤ r.val := not_lt.1 h
    rw [sV_late _ _ _ _ _ _ _ _ _ _ h, add_zero]
    refine (cn_miss _ _ _ _ _ _ (Or.inl h)).trans ?_
    refine (cn_miss _ _ _ _ _ _ (Or.inl h)).trans ?_
    refine (cn_miss _ _ _ _ _ _ (Or.inl h)).trans ?_
    refine (cn_miss _ _ _ _ _ _ (Or.inl h)).trans ?_
    exact (cn_fill _ _ _ _).trans (scr_zero _ _)

end Cert.KernelIdeal.Att

end
-- ==== Proof.Att.Block1.lean ====
/- The values that the body computes for query block 1 (keys 0 to 1023), read at an index. -/
module

public import proofs.«01_k».proof.Proof.Att.Spec

@[expose] public section

set_option maxRecDepth 16384

noncomputable section

namespace Cert.KernelIdeal.Att.B1

open Idealize.ShloMosaic Cert.KernelIdeal Cert.KernelIdeal.Gen Cert.KernelIdeal.Att Cert.Att

theorem le : 1024 ≤ 2048 := by decide

theorem sel (q : Fin 512) (r : Fin 1024) (a c : EReal) :
    Scalar.select (IntOp.cmpi .sle (BitVec.ofNat 32 r.val) (IntOp.addi (512#32) (BitVec.ofNat 32 q.val))) a c
      = if r.val ≤ pos 1 q then a else c := by
  refine (sel_le 512 q.val r.val a c (by omega) (by omega)).trans ?_
  congr 1

theorem pos_lt (q : Fin 512) : pos 1 q < 1024 := by unfold pos; omega

section Query

variable (R : FVec Ideal S512x128 .f32) (X : Vec Ideal S512x128 .bf16) (q : Fin 512) (x : Fin 128)

theorem mask0 : (k0_pay39 (F := Ideal)) (ix2 q x) = hm 0 x := by
  pointwise [k0_pay39]
  rw [lane_word, word_float]; rfl

theorem mask1 : (k0_pay55 (F := Ideal) k0_pay53 k0_pay54) (ix2 q x) = hm 1 x := by
  pointwise [k0_pay53, k0_pay54, k0_pay55]
  rw [lane_word1, word_float]; rfl

theorem query0_lo : k0_pay40 (F := Ideal) R X (ix2 q ⟨x.val, by omega⟩) = X (ix2 q x) * sca := by
  pointwise [k0_pay40]
  first | rfl | (rw [dif_pos x.isLt]; rfl)

theorem query0_hi : k0_pay40 (F := Ideal) R X (ix2 q ⟨128 + x.val, by omega⟩) = R (ix2 q x) * hm 0 x * sca := by
  have e := mask0 q x
  pointwise [k0_pay40]
  simp only [Nat.add_sub_cancel_left, Fin.eta, e]
  first | rfl | (rw [dif_neg (by omega)]; rfl)

theorem query1_lo : k0_pay56 (F := Ideal) R k0_pay53 k0_pay54 X (ix2 q ⟨x.val, by omega⟩) = X (ix2 q x) * sca := by
  pointwise [k0_pay56]
  first | rfl | (rw [dif_pos x.isLt]; rfl)

theorem query1_hi : k0_pay56 (F := Ideal) R k0_pay53 k0_pay54 X (ix2 q ⟨128 + x.val, by omega⟩)
    = R (ix2 q x) * hm 1 x * sca := by
  have e := mask1 q x
  pointwise [k0_pay56]
  simp only [Nat.add_sub_cancel_left, Fin.eta, e]
  first | rfl | (rw [dif_neg (by omega)]; rfl)

end Query

section Block

variable {A : FVec Ideal S512x256 .bf16} {B0 B1 V : Vec Ideal S1024x128 .bf16} {O : Vec Ideal S512x128 .bf16}
  {a0 a1 o : Fin 512 → Fin 128 → EReal} {b0 b1 v : Fin 2048 → Fin 128 → EReal}

section Weights

variable (hA0 : ∀ (q : Fin 512) (x : Fin 128), A (ix2 q ⟨x.val, by omega⟩) = a0 q x)
  (hA1 : ∀ (q : Fin 512) (x : Fin 128), A (ix2 q ⟨128 + x.val, by omega⟩) = a1 q x)
  (hB0 : ∀ (r : Fin 1024) (x : Fin 128), B0 (ix2 r x) = b0 (Fin.castLE le r) x)
  (hB1 : ∀ (r : Fin 1024) (x : Fin 128), B1 (ix2 r x) = b1 (Fin.castLE le r) x)

include hA0 hA1 hB0 hB1

theorem weight (q : Fin 512) (r : Fin 1024) :
    k0_pay42 (F := Ideal) A B0 B1 (ix2 q r)
      = pr (pos 1 q) (fun r => ∑ x, a0 q x * b0 r x + ∑ x, a1 q x * b1 r x) (Fin.castLE le r) := by
  pointwise [k0_pay42, k0_pay41]
  simp only [hA0, hA1, hB0, hB1, sel, negInf]
  rw [← pr_castLE le (pos 1 q) (pos_lt q)]
  rfl

variable (hV : ∀ (r : Fin 1024) (x : Fin 128), V (ix2 r x) = v (Fin.castLE le r) x)
  (hO : ∀ (q : Fin 512) (x : Fin 128), O (ix2 q x) = o q x)

include hO

/-- The gradient of the value, added to what the accumulator holds. -/
theorem valueGrad (Y : Vec Ideal S1024x128 .f32) (r : Fin 1024) (x : Fin 128) :
    k0_pay51 (F := Ideal) (k0_pay46 A B0 B1 O) Y (ix2 r x)
      = Y (ix2 r x) + ∑ q : Fin 512, pr (pos 1 q)
          (fun r => ∑ x, a0 q x * b0 r x + ∑ x, a1 q x * b1 r x) (Fin.castLE le r) * o q x := by
  pointwise [k0_pay51, k0_pay46]
  simp only [weight hA0 hA1 hB0 hB1, hO]

include hV

theorem scoreGrad (q : Fin 512) (r : Fin 1024) :
    k0_pay43 (F := Ideal) A B0 B1 V O (ix2 q r)
      = dsc (pos 1 q) (fun r => ∑ x, a0 q x * b0 r x + ∑ x, a1 q x * b1 r x) (fun r => ∑ x, o q x * v r x)
          (Fin.castLE le r) := by
  pointwise [k0_pay43]
  simp only [weight hA0 hA1 hB0 hB1, hV, hO]
  rw [← dsc_castLE le (pos 1 q) (pos_lt q)]
  unfold dsc
  refine congrArg₂ (fun a b : EReal => a * b) (pr_castLE le (pos 1 q) (pos_lt q) _ r).symm ?_
  refine congrArg (fun b : EReal => _ - b) (Finset.sum_congr rfl fun x _ => ?_)
  exact congrArg (fun b : EReal => b * _) (pr_castLE le (pos 1 q) (pos_lt q) _ x).symm

/-- The gradient of the query's unrotated part. -/
theorem queryGrad (q : Fin 512) (x : Fin 128) :
    k0_pay47 (F := Ideal) A B0 B1 V O (ix2 q x)
      = (∑ r, dsc (pos 1 q) (fun r => ∑ x, a0 q x * b0 r x + ∑ x, a1 q x * b1 r x)
          (fun r => ∑ x, o q x * v r x) r * b0 r x) * sca := by
  pointwise [k0_pay47, k0_pay44, k0_pay41]
  simp only [scoreGrad hA0 hA1 hB0 hB1 hV hO, hB0]
  exact congrArg (fun a : EReal => a * sca) (sum_castLE le (fun r => dsc (pos 1 q) (fun r => ∑ x, a0 q x * b0 r x + ∑ x, a1 q x * b1 r x)
    (fun r => ∑ x, o q x * v r x) r * b0 r x) fun r hr => by
      rw [dsc_zero _ _ _ r (lt_of_lt_of_le (pos_lt q) hr), zero_mul]).symm

/-- The gradient of the query's rotated part, under a mask. -/
theorem rotGrad (M : FVec Ideal S512x128 .f32) (q : Fin 512) (x : Fin 128) :
    k0_pay48 (F := Ideal) M A B0 B1 V O (ix2 q x)
      = (∑ r, dsc (pos 1 q) (fun r => ∑ x, a0 q x * b0 r x + ∑ x, a1 q x * b1 r x)
          (fun r => ∑ x, o q x * v r x) r * b1 r x) * sca * M (ix2 q x) := by
  pointwise [k0_pay48, k0_pay44, k0_pay41]
  simp only [scoreGrad hA0 hA1 hB0 hB1 hV hO, hB1]
  exact congrArg (fun a : EReal => a * sca * M (ix2 q x)) (sum_castLE le (fun r => dsc (pos 1 q) (fun r => ∑ x, a0 q x * b0 r x + ∑ x, a1 q x * b1 r x)
    (fun r => ∑ x, o q x * v r x) r * b1 r x) fun r hr => by
      rw [dsc_zero _ _ _ r (lt_of_lt_of_le (pos_lt q) hr), zero_mul]).symm

/-- The gradient of the key's unrotated part, added to what the accumulator holds. -/
theorem keyGrad (Y : Vec Ideal S1024x128 .f32) (r : Fin 1024) (x : Fin 128) :
    k0_pay50 (F := Ideal) (k0_pay45 A B0 B1 V O) Y (ix2 r x)
      = Y (ix2 r x) + ∑ q : Fin 512, dsc (pos 1 q)
          (fun r => ∑ x, a0 q x * b0 r x + ∑ x, a1 q x * b1 r x) (fun r => ∑ x, o q x * v r x) (Fin.castLE le r) * a0 q x := by
  pointwise [k0_pay50, k0_pay45]
  simp only [scoreGrad hA0 hA1 hB0 hB1 hV hO, hA0]

/-- The gradient of the key's rotated part, added to what the accumulator holds. -/
theorem rotKeyGrad (Y : Vec Ideal S1024x128 .f32) (r : Fin 1024) (x : Fin 128) :
    k0_pay52 (F := Ideal) (k0_pay45 A B0 B1 V O) Y (ix2 r x)
      = Y (ix2 r x) + ∑ q : Fin 512, dsc (pos 1 q)
          (fun r => ∑ x, a0 q x * b0 r x + ∑ x, a1 q x * b1 r x) (fun r => ∑ x, o q x * v r x) (Fin.castLE le r) * a1 q x := by
  pointwise [k0_pay52, k0_pay45]
  simp only [scoreGrad hA0 hA1 hB0 hB1 hV hO, hA1]

end Weights

/-! ### The second head's values are the first's, from its own query -/

section Second

variable (R : FVec Ideal S512x128 .f32) (X : Vec Ideal S512x128 .bf16) (B0 B1 V : Vec Ideal S1024x128 .bf16)
  (O : Vec Ideal S512x128 .bf16)

theorem weight1 : k0_pay60 (k0_pay58 (F := Ideal) R k0_pay53 k0_pay54 X B0 B1) (k0_pay59 R k0_pay53 k0_pay54 X B0 B1) = k0_pay42 (k0_pay56 (F := Ideal) R k0_pay53 k0_pay54 X) B0 B1 := rfl

theorem queryGrad1 : k0_pay64 (k0_pay57 B0 B1) V O (k0_pay58 (F := Ideal) R k0_pay53 k0_pay54 X B0 B1) (k0_pay59 R k0_pay53 k0_pay54 X B0 B1) = k0_pay47 (k0_pay56 (F := Ideal) R k0_pay53 k0_pay54 X) B0 B1 V O := rfl

theorem rotGrad1 (D M : FVec Ideal S512x128 .f32) :
    k0_pay65 D M (k0_pay57 B0 B1) V O (k0_pay58 (F := Ideal) R k0_pay53 k0_pay54 X B0 B1) (k0_pay59 R k0_pay53 k0_pay54 X B0 B1) = addf D (k0_pay48 M (k0_pay56 (F := Ideal) R k0_pay53 k0_pay54 X) B0 B1 V O) := rfl

theorem keyGrad1 (Y : Vec Ideal S1024x128 .f32) : k0_pay66 (k0_pay56 (F := Ideal) R k0_pay53 k0_pay54 X) V O (k0_pay58 (F := Ideal) R k0_pay53 k0_pay54 X B0 B1) (k0_pay59 R k0_pay53 k0_pay54 X B0 B1) Y = k0_pay50 (k0_pay45 (k0_pay56 (F := Ideal) R k0_pay53 k0_pay54 X) B0 B1 V O) Y := rfl

theorem valueGrad1 (Y : Vec Ideal S1024x128 .f32) : k0_pay67 O (k0_pay58 (F := Ideal) R k0_pay53 k0_pay54 X B0 B1) (k0_pay59 R k0_pay53 k0_pay54 X B0 B1) Y = k0_pay51 (k0_pay46 (k0_pay56 (F := Ideal) R k0_pay53 k0_pay54 X) B0 B1 O) Y := rfl

theorem rotKeyGrad1 (Y : Vec Ideal S1024x128 .f32) : k0_pay68 (k0_pay56 (F := Ideal) R k0_pay53 k0_pay54 X) V O (k0_pay58 (F := Ideal) R k0_pay53 k0_pay54 X B0 B1) (k0_pay59 R k0_pay53 k0_pay54 X B0 B1) Y = k0_pay52 (k0_pay45 (k0_pay56 (F := Ideal) R k0_pay53 k0_pay54 X) B0 B1 V O) Y := rfl

end Second

/-- The first head's part of the rotated query's gradient. -/
theorem rotSum (D M : FVec Ideal S512x128 .f32) : k0_pay49 (F := Ideal) D M = addf D M := rfl

/-- The rotation taken back. -/
theorem unrope_apply (D : FVec Ideal S512x128 .f32) (x2 x3 : Vec Ideal S512x128 .f32) (q : Fin 512) (l : Fin 128) :
    k0_pay3 (F := Ideal) D x2 x3 (ix2 q l)
      = D (ix2 q l) * x2 (ix2 q l) + D (ix2 q (swp l)) * x3 (ix2 q (swp l)) := by
  pointwise [k0_pay3]
  rw [swap_word]
  unfold swp
  split <;> rfl

theorem zeros (q : Fin 512) (l : Fin 128) : (k0_pay38 (F := Ideal)) (ix2 q l) = 0 := by
  pointwise [k0_pay38]

end Block

end Cert.KernelIdeal.Att.B1

end
-- ==== Proof.Att.Point1.lean ====
/- One grid point's values for query block 1: each stored value is the specification's. -/
module

public import proofs.«01_k».proof.Proof.Att.Block1
public import proofs.«01_k».proof.Proof.Att.Read

@[expose] public section

set_option maxRecDepth 16384

noncomputable section

namespace Cert.KernelIdeal.Att.B1

open Idealize.ShloMosaic Cert.KernelIdeal Cert.KernelIdeal.Gen Cert.KernelIdeal.Att Cert.Att

variable (x0 : Vec Ideal S512x256 .bf16) (x1 : Vec Ideal S512x128 .bf16) (x2 x3 : Vec Ideal S512x128 .f32)
  (x4 : Vec Ideal S2048x512 .bf16) (x5 : Vec Ideal S2048x128 .bf16) (x6 : Vec Ideal S512x256 .bf16)

theorem stQ0 (q : Fin 512) (x : Fin 128) : k0_pay47 (F := Ideal) (k0_pay40 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1024, 128] inb_S2048x512_S1024x128_0_0)) (View.ld x5 (Rect.unit ![0, 0] ![1024, 128] inb_S2048x128_S1024x128_0_0)) (View.ld x4 (Rect.unit ![0, 128] ![1024, 128] inb_S2048x512_S1024x128_0_128)) (View.ld x6 (Rect.unit ![0, 0] ![512, 128] inb_S512x256_S512x128_0_0)) (ix2 q x)
    = sQn x0 x1 x2 x3 x4 x5 x6 1 0 q x :=
  queryGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1024x128_0_0 le (by decide) r x) (fun r x => (ld_at x5 0 inb_S2048x128_S1024x128_0_0 le (by decide) r x).trans (congrArg (fun j => x5 (ix2 (Fin.castLE le r) j)) (Fin.ext (Nat.zero_add _))))
    (fun r x => ld_at x4 128 inb_S2048x512_S1024x128_0_128 le (by decide) r x) (fun q x => ld_at x6 0 inb_S512x256_S512x128_0_0 (le_refl _) (by decide) q x) q x

theorem stK0 (Y : Vec Ideal S1024x128 .f32) (r : Fin 1024) (x : Fin 128) : k0_pay50 (F := Ideal) (k0_pay45 (k0_pay40 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1024, 128] inb_S2048x512_S1024x128_0_0)) (View.ld x5 (Rect.unit ![0, 0] ![1024, 128] inb_S2048x128_S1024x128_0_0)) (View.ld x4 (Rect.unit ![0, 128] ![1024, 128] inb_S2048x512_S1024x128_0_128)) (View.ld x6 (Rect.unit ![0, 0] ![512, 128] inb_S512x256_S512x128_0_0))) Y (ix2 r x)
    = Y (ix2 r x) + sKn x0 x1 x2 x3 x4 x5 x6 1 0 (Fin.castLE le r) x :=
  keyGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1024x128_0_0 le (by decide) r x) (fun r x => (ld_at x5 0 inb_S2048x128_S1024x128_0_0 le (by decide) r x).trans (congrArg (fun j => x5 (ix2 (Fin.castLE le r) j)) (Fin.ext (Nat.zero_add _))))
    (fun r x => ld_at x4 128 inb_S2048x512_S1024x128_0_128 le (by decide) r x) (fun q x => ld_at x6 0 inb_S512x256_S512x128_0_0 (le_refl _) (by decide) q x) Y r x

theorem stV0 (Y : Vec Ideal S1024x128 .f32) (r : Fin 1024) (x : Fin 128) : k0_pay51 (F := Ideal) (k0_pay46 (k0_pay40 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1024, 128] inb_S2048x512_S1024x128_0_0)) (View.ld x5 (Rect.unit ![0, 0] ![1024, 128] inb_S2048x128_S1024x128_0_0)) (View.ld x6 (Rect.unit ![0, 0] ![512, 128] inb_S512x256_S512x128_0_0))) Y (ix2 r x)
    = Y (ix2 r x) + sV x0 x1 x2 x3 x4 x5 x6 1 0 (Fin.castLE le r) x :=
  valueGrad (a0 := qn x0 0) (a1 := qp x1 x2 x3 0) (b0 := kn x4 0) (b1 := fun r x => x5 (ix2 r x)) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1024x128_0_0 le (by decide) r x) (fun r x => (ld_at x5 0 inb_S2048x128_S1024x128_0_0 le (by decide) r x).trans (congrArg (fun j => x5 (ix2 (Fin.castLE le r) j)) (Fin.ext (Nat.zero_add _))))
    (fun q x => ld_at x6 0 inb_S512x256_S512x128_0_0 (le_refl _) (by decide) q x) Y r x

theorem stE0 (Y : Vec Ideal S1024x128 .f32) (r : Fin 1024) (x : Fin 128) : k0_pay52 (F := Ideal) (k0_pay45 (k0_pay40 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1024, 128] inb_S2048x512_S1024x128_0_0)) (View.ld x5 (Rect.unit ![0, 0] ![1024, 128] inb_S2048x128_S1024x128_0_0)) (View.ld x4 (Rect.unit ![0, 128] ![1024, 128] inb_S2048x512_S1024x128_0_128)) (View.ld x6 (Rect.unit ![0, 0] ![512, 128] inb_S512x256_S512x128_0_0))) Y (ix2 r x)
    = Y (ix2 r x) + sKp x0 x1 x2 x3 x4 x5 x6 1 0 (Fin.castLE le r) x :=
  rotKeyGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1024x128_0_0 le (by decide) r x) (fun r x => (ld_at x5 0 inb_S2048x128_S1024x128_0_0 le (by decide) r x).trans (congrArg (fun j => x5 (ix2 (Fin.castLE le r) j)) (Fin.ext (Nat.zero_add _))))
    (fun r x => ld_at x4 128 inb_S2048x512_S1024x128_0_128 le (by decide) r x) (fun q x => ld_at x6 0 inb_S512x256_S512x128_0_0 (le_refl _) (by decide) q x) Y r x

theorem stQ1 (q : Fin 512) (x : Fin 128) : k0_pay64 (F := Ideal) (k0_pay57 (View.ld x4 (Rect.unit ![0, 256] ![1024, 128] inb_S2048x512_S1024x128_0_256)) (View.ld x5 (Rect.unit ![0, 0] ![1024, 128] inb_S2048x128_S1024x128_0_0))) (View.ld x4 (Rect.unit ![0, 384] ![1024, 128] inb_S2048x512_S1024x128_0_384)) (View.ld x6 (Rect.unit ![0, 128] ![512, 128] inb_S512x256_S512x128_0_128)) (k0_pay58 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) (k0_pay59 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) (ix2 q x)
    = sQn x0 x1 x2 x3 x4 x5 x6 1 1 q x :=
  queryGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1024x128_0_256 le (by decide) r x) (fun r x => (ld_at x5 0 inb_S2048x128_S1024x128_0_0 le (by decide) r x).trans (congrArg (fun j => x5 (ix2 (Fin.castLE le r) j)) (Fin.ext (Nat.zero_add _))))
    (fun r x => ld_at x4 384 inb_S2048x512_S1024x128_0_384 le (by decide) r x) (fun q x => ld_at x6 128 inb_S512x256_S512x128_0_128 (le_refl _) (by decide) q x) q x

theorem stK1 (Y : Vec Ideal S1024x128 .f32) (r : Fin 1024) (x : Fin 128) : k0_pay66 (F := Ideal) (k0_pay56 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128))) (View.ld x4 (Rect.unit ![0, 384] ![1024, 128] inb_S2048x512_S1024x128_0_384)) (View.ld x6 (Rect.unit ![0, 128] ![512, 128] inb_S512x256_S512x128_0_128)) (k0_pay58 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) (k0_pay59 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) Y (ix2 r x)
    = Y (ix2 r x) + sKn x0 x1 x2 x3 x4 x5 x6 1 1 (Fin.castLE le r) x :=
  keyGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1024x128_0_256 le (by decide) r x) (fun r x => (ld_at x5 0 inb_S2048x128_S1024x128_0_0 le (by decide) r x).trans (congrArg (fun j => x5 (ix2 (Fin.castLE le r) j)) (Fin.ext (Nat.zero_add _))))
    (fun r x => ld_at x4 384 inb_S2048x512_S1024x128_0_384 le (by decide) r x) (fun q x => ld_at x6 128 inb_S512x256_S512x128_0_128 (le_refl _) (by decide) q x) Y r x

theorem stV1 (Y : Vec Ideal S1024x128 .f32) (r : Fin 1024) (x : Fin 128) : k0_pay67 (F := Ideal) (View.ld x6 (Rect.unit ![0, 128] ![512, 128] inb_S512x256_S512x128_0_128)) (k0_pay58 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) (k0_pay59 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) Y (ix2 r x)
    = Y (ix2 r x) + sV x0 x1 x2 x3 x4 x5 x6 1 1 (Fin.castLE le r) x :=
  valueGrad (a0 := qn x0 1) (a1 := qp x1 x2 x3 1) (b0 := kn x4 1) (b1 := fun r x => x5 (ix2 r x)) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1024x128_0_256 le (by decide) r x) (fun r x => (ld_at x5 0 inb_S2048x128_S1024x128_0_0 le (by decide) r x).trans (congrArg (fun j => x5 (ix2 (Fin.castLE le r) j)) (Fin.ext (Nat.zero_add _))))
    (fun q x => ld_at x6 128 inb_S512x256_S512x128_0_128 (le_refl _) (by decide) q x) Y r x

theorem stE1 (Y : Vec Ideal S1024x128 .f32) (r : Fin 1024) (x : Fin 128) : k0_pay68 (F := Ideal) (k0_pay56 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128))) (View.ld x4 (Rect.unit ![0, 384] ![1024, 128] inb_S2048x512_S1024x128_0_384)) (View.ld x6 (Rect.unit ![0, 128] ![512, 128] inb_S512x256_S512x128_0_128)) (k0_pay58 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) (k0_pay59 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) Y (ix2 r x)
    = Y (ix2 r x) + sKp x0 x1 x2 x3 x4 x5 x6 1 1 (Fin.castLE le r) x :=
  rotKeyGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1024x128_0_256 le (by decide) r x) (fun r x => (ld_at x5 0 inb_S2048x128_S1024x128_0_0 le (by decide) r x).trans (congrArg (fun j => x5 (ix2 (Fin.castLE le r) j)) (Fin.ext (Nat.zero_add _))))
    (fun r x => ld_at x4 384 inb_S2048x512_S1024x128_0_384 le (by decide) r x) (fun q x => ld_at x6 128 inb_S512x256_S512x128_0_128 (le_refl _) (by decide) q x) Y r x

theorem stR (q : Fin 512) (x : Fin 128) : k0_pay65 (F := Ideal) (k0_pay49 k0_pay38 (k0_pay48 k0_pay39 (k0_pay40 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1024, 128] inb_S2048x512_S1024x128_0_0)) (View.ld x5 (Rect.unit ![0, 0] ![1024, 128] inb_S2048x128_S1024x128_0_0)) (View.ld x4 (Rect.unit ![0, 128] ![1024, 128] inb_S2048x512_S1024x128_0_128)) (View.ld x6 (Rect.unit ![0, 0] ![512, 128] inb_S512x256_S512x128_0_0)))) (k0_pay55 k0_pay53 k0_pay54) (k0_pay57 (View.ld x4 (Rect.unit ![0, 256] ![1024, 128] inb_S2048x512_S1024x128_0_256)) (View.ld x5 (Rect.unit ![0, 0] ![1024, 128] inb_S2048x128_S1024x128_0_0))) (View.ld x4 (Rect.unit ![0, 384] ![1024, 128] inb_S2048x512_S1024x128_0_384)) (View.ld x6 (Rect.unit ![0, 128] ![512, 128] inb_S512x256_S512x128_0_128)) (k0_pay58 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) (k0_pay59 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) (ix2 q x)
    = sRo x0 x1 x2 x3 x4 x5 x6 1 q x := by
  have h0 := rotGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1024x128_0_0 le (by decide) r x) (fun r x => (ld_at x5 0 inb_S2048x128_S1024x128_0_0 le (by decide) r x).trans (congrArg (fun j => x5 (ix2 (Fin.castLE le r) j)) (Fin.ext (Nat.zero_add _))))
    (fun r x => ld_at x4 128 inb_S2048x512_S1024x128_0_128 le (by decide) r x) (fun q x => ld_at x6 0 inb_S512x256_S512x128_0_0 (le_refl _) (by decide) q x) k0_pay39 q x
  have h1 := rotGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1024x128_0_256 le (by decide) r x) (fun r x => (ld_at x5 0 inb_S2048x128_S1024x128_0_0 le (by decide) r x).trans (congrArg (fun j => x5 (ix2 (Fin.castLE le r) j)) (Fin.ext (Nat.zero_add _))))
    (fun r x => ld_at x4 384 inb_S2048x512_S1024x128_0_384 le (by decide) r x) (fun q x => ld_at x6 128 inb_S512x256_S512x128_0_128 (le_refl _) (by decide) q x) (k0_pay55 k0_pay53 k0_pay54) q x
  rw [mask0] at h0
  rw [mask1] at h1
  exact congrArg₂ (fun a b : EReal => a + b) (congrArg₂ (fun a b : EReal => a + b) (zeros q x) h0) h1

theorem stP (q : Fin 512) (x : Fin 128) : k0_pay3 (F := Ideal) (k0_pay65 (k0_pay49 k0_pay38 (k0_pay48 k0_pay39 (k0_pay40 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1024, 128] inb_S2048x512_S1024x128_0_0)) (View.ld x5 (Rect.unit ![0, 0] ![1024, 128] inb_S2048x128_S1024x128_0_0)) (View.ld x4 (Rect.unit ![0, 128] ![1024, 128] inb_S2048x512_S1024x128_0_128)) (View.ld x6 (Rect.unit ![0, 0] ![512, 128] inb_S512x256_S512x128_0_0)))) (k0_pay55 k0_pay53 k0_pay54) (k0_pay57 (View.ld x4 (Rect.unit ![0, 256] ![1024, 128] inb_S2048x512_S1024x128_0_256)) (View.ld x5 (Rect.unit ![0, 0] ![1024, 128] inb_S2048x128_S1024x128_0_0))) (View.ld x4 (Rect.unit ![0, 384] ![1024, 128] inb_S2048x512_S1024x128_0_384)) (View.ld x6 (Rect.unit ![0, 128] ![512, 128] inb_S512x256_S512x128_0_128)) (k0_pay58 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0))) (k0_pay59 (k0_pay1 (k0_pay133 x1) (k0_pay134 x3) (k0_pay135 x1 x2) k0_pay136 (k0_pay137 x1) 32#32) k0_pay53 k0_pay54 (View.ld x0 (Rect.unit ![0, 128] ![512, 128] inb_S512x256_S512x128_0_128)) (View.ld x4 (Rect.unit ![0, 256] ![1024, 128] inb_S2048x512_S1024x128_0_256)) (View.ld x5 (Rect.unit ![0, 0] ![1024, 128] inb_S2048x128_S1024x128_0_0)))) x2 x3 (ix2 q x) = sQp x0 x1 x2 x3 x4 x5 x6 1 q x := by
  rw [unrope_apply, stR, stR]
  rfl

end Cert.KernelIdeal.Att.B1

end
-- ==== Proof.Att.ValB.lean ====
/- What the run at row block 1 leaves, entry by entry. -/
module

public import proofs.«01_k».proof.Proof.Att.RunB
public import proofs.«01_k».proof.Proof.Att.Point1

@[expose] public section

set_option maxRecDepth 16384

noncomputable section

namespace Cert.KernelIdeal.Att

open Idealize.ShloMosaic Idealize.ShloMosaic.TcCoe Idealize.ShloMosaic.Tactic Cert.KernelIdeal Cert.KernelIdeal.Gen Cert.Att

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole)
  (hc0 : ¬cnd0 i) (hc1 : ¬cnd1 i) (hc2 : ¬cnd2 i) (hc3 : cnd3 i) (hc4 : ¬cnd4 i) (hc5 : ¬cnd5 i) (hc6 : ¬cnd6 i)
  (x0 : Vec Ideal S512x256 .bf16) (x1 : Vec Ideal S512x128 .bf16) (x2 : Vec Ideal S512x128 .f32) (x3 : Vec Ideal S512x128 .f32) (x4 : Vec Ideal S2048x512 .bf16) (x5 : Vec Ideal S2048x128 .bf16) (x6 : Vec Ideal S512x256 .bf16) (x10 : Vec Ideal S2048x128 .f32) (xs : Vec Ideal S2048x512 .f32)

theorem valB_qn0 (q : Fin 512) (j : Fin 128) :
    View.canon (runB (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).1 (ix2 q (co 0 j (by decide))) = sQn x0 x1 x2 x3 x4 x5 x6 1 0 q j := by
  unfold runB
  dsimp only
  frame_out
  exact (cn_miss _ _ _ _ _ _ (Or.inr (Or.inl (by show 128 * 0 + j.val < 128; omega)))).trans
    ((cn_hit _ _ _ _ _ _ q.isLt j (by show 128 * 0 + j.val = 0 + j.val; omega)).trans (B1.stQ0 x0 x1 x2 x3 x4 x5 x6 q j))

theorem valB_qn1 (q : Fin 512) (j : Fin 128) :
    View.canon (runB (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).1 (ix2 q (co 1 j (by decide))) = sQn x0 x1 x2 x3 x4 x5 x6 1 1 q j := by
  unfold runB
  dsimp only
  frame_out
  exact (cn_hit _ _ _ _ _ _ q.isLt j (by show 128 * 1 + j.val = 128 + j.val; omega)).trans (B1.stQ1 x0 x1 x2 x3 x4 x5 x6 q j)

theorem valB_qp (q : Fin 512) (l : Fin 128) : View.canon (runB (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.1 (ix2 q l) = sQp x0 x1 x2 x3 x4 x5 x6 1 q l := by
  unfold runB
  dsimp only
  frame_out
  exact B1.stP x0 x1 x2 x3 x4 x5 x6 q l

theorem valB_kp (r : Fin 2048) (l : Fin 128) :
    arg12.view.read (Elt Ideal) (arg12.view.writes (Elt Ideal) (harg12.unread x10) (runB (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.1) (ix2 r l)
      = x10 (ix2 r l) + sKp x0 x1 x2 x3 x4 x5 x6 1 0 r l + sKp x0 x1 x2 x3 x4 x5 x6 1 1 r l := by
  unfold runB
  dsimp only
  frame_out
  by_cases h : r.val < 1024
  · refine (rw_hit _ _ _ _ _ _ _ _ h l (Nat.zero_add _).symm).trans ?_
    refine (B1.stE1 x0 x1 x2 x3 x4 x5 x6 _ ⟨r.val, h⟩ l).trans ?_
    refine congrArg (fun a : EReal => a + sKp x0 x1 x2 x3 x4 x5 x6 1 1 r l) ?_
    refine (congrFun (View.readCov_cons_toLoadRect _ _ _ _) _).trans ?_
    refine (B1.stE0 x0 x1 x2 x3 x4 x5 x6 _ ⟨r.val, h⟩ l).trans ?_
    refine congrArg (fun a : EReal => a + sKp x0 x1 x2 x3 x4 x5 x6 1 0 r l) ?_
    exact ((ld_at _ _ _ B1.le (by decide) ⟨r.val, h⟩ l).trans (congrArg (fun a => x10 (ix2 r a)) (Fin.ext (Nat.zero_add _))))
  · have h : 1024 ≤ r.val := not_lt.1 h
    rw [sKp_late _ _ _ _ _ _ _ _ _ _ h, sKp_late _ _ _ _ _ _ _ _ _ _ h, add_zero, add_zero]
    refine (rw_miss _ _ _ _ _ _ _ _ (Or.inl h)).trans ?_
    refine (rw_miss _ _ _ _ _ _ _ _ (Or.inl h)).trans ?_
    exact (congrFun (harg12.read_unread x10) _)

theorem valB_sc0 (r : Fin 2048) (j : Fin 128) :
    arg13.view.read (Elt Ideal) (arg13.view.writes (Elt Ideal) (harg13.unread xs) (runB (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.1) (ix2 r (co 0 j (by decide)))
      = xs (ix2 r (co 0 j (by decide))) + sKn x0 x1 x2 x3 x4 x5 x6 1 0 r j := by
  unfold runB
  dsimp only
  frame_out
  by_cases h : r.val < 1024
  · skip
    refine (rw_miss _ _ _ _ _ _ _ _ (Or.inr (Or.inl (by show 128 * 0 + j.val < 384; omega)))).trans ?_
    refine (rw_miss _ _ _ _ _ _ _ _ (Or.inr (Or.inl (by show 128 * 0 + j.val < 256; omega)))).trans ?_
    refine (rw_miss _ _ _ _ _ _ _ _ (Or.inr (Or.inl (by show 128 * 0 + j.val < 128; omega)))).trans ?_
    refine (rw_hit _ _ _ _ _ _ _ _ h j (by show 128 * 0 + j.val = 0 + j.val; omega)).trans ((B1.stK0 x0 x1 x2 x3 x4 x5 x6 _ ⟨r.val, h⟩ j).trans (congrArg (fun a : EReal => a + sKn x0 x1 x2 x3 x4 x5 x6 1 0 r j) ((ld_at _ _ _ B1.le (by decide) ⟨r.val, h⟩ j).trans (congrArg (fun a => xs (ix2 r a)) (Fin.ext (by show 0 + j.val = 128 * 0 + j.val; omega))))))
  · have h : 1024 ≤ r.val := not_lt.1 h
    rw [sKn_late _ _ _ _ _ _ _ _ _ _ h, add_zero]
    refine (rw_miss _ _ _ _ _ _ _ _ (Or.inl h)).trans ?_
    refine (rw_miss _ _ _ _ _ _ _ _ (Or.inl h)).trans ?_
    refine (rw_miss _ _ _ _ _ _ _ _ (Or.inl h)).trans ?_
    refine (rw_miss _ _ _ _ _ _ _ _ (Or.inl h)).trans ?_
    exact congrFun (harg13.read_unread xs) _

theorem valB_sc1 (r : Fin 2048) (j : Fin 128) :
    arg13.view.read (Elt Ideal) (arg13.view.writes (Elt Ideal) (harg13.unread xs) (runB (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.1) (ix2 r (co 1 j (by decide)))
      = xs (ix2 r (co 1 j (by decide))) + sV x0 x1 x2 x3 x4 x5 x6 1 0 r j := by
  unfold runB
  dsimp only
  frame_out
  by_cases h : r.val < 1024
  · skip
    refine (rw_miss _ _ _ _ _ _ _ _ (Or.inr (Or.inl (by show 128 * 1 + j.val < 384; omega)))).trans ?_
    refine (rw_miss _ _ _ _ _ _ _ _ (Or.inr (Or.inl (by show 128 * 1 + j.val < 256; omega)))).trans ?_
    refine (rw_hit _ _ _ _ _ _ _ _ h j (by show 128 * 1 + j.val = 128 + j.val; omega)).trans ((B1.stV0 x0 x1 x2 x3 x4 x5 x6 _ ⟨r.val, h⟩ j).trans (congrArg (fun a : EReal => a + sV x0 x1 x2 x3 x4 x5 x6 1 0 r j) ((ld_at _ _ _ B1.le (by decide) ⟨r.val, h⟩ j).trans (congrArg (fun a => xs (ix2 r a)) (Fin.ext (by show 128 + j.val = 128 * 1 + j.val; omega))))))
  · have h : 1024 ≤ r.val := not_lt.1 h
    rw [sV_late _ _ _ _ _ _ _ _ _ _ h, add_zero]
    refine (rw_miss _ _ _ _ _ _ _ _ (Or.inl h)).trans ?_
    refine (rw_miss _ _ _ _ _ _ _ _ (Or.inl h)).trans ?_
    refine (rw_miss _ _ _ _ _ _ _ _ (Or.inl h)).trans ?_
    refine (rw_miss _ _ _ _ _ _ _ _ (Or.inl h)).trans ?_
    exact congrFun (harg13.read_unread xs) _

theorem valB_sc2 (r : Fin 2048) (j : Fin 128) :
    arg13.view.read (Elt Ideal) (arg13.view.writes (Elt Ideal) (harg13.unread xs) (runB (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.1) (ix2 r (co 2 j (by decide)))
      = xs (ix2 r (co 2 j (by decide))) + sKn x0 x1 x2 x3 x4 x5 x6 1 1 r j := by
  unfold runB
  dsimp only
  frame_out
  by_cases h : r.val < 1024
  · skip
    refine (rw_miss _ _ _ _ _ _ _ _ (Or.inr (Or.inl (by show 128 * 2 + j.val < 384; omega)))).trans ?_
    refine (rw_hit _ _ _ _ _ _ _ _ h j (by show 128 * 2 + j.val = 256 + j.val; omega)).trans ((B1.stK1 x0 x1 x2 x3 x4 x5 x6 _ ⟨r.val, h⟩ j).trans (congrArg (fun a : EReal => a + sKn x0 x1 x2 x3 x4 x5 x6 1 1 r j) ((ld_at _ _ _ B1.le (by decide) ⟨r.val, h⟩ j).trans (congrArg (fun a => xs (ix2 r a)) (Fin.ext (by show 256 + j.val = 128 * 2 + j.val; omega))))))
  · have h : 1024 ≤ r.val := not_lt.1 h
    rw [sKn_late _ _ _ _ _ _ _ _ _ _ h, add_zero]
    refine (rw_miss _ _ _ _ _ _ _ _ (Or.inl h)).trans ?_
    refine (rw_miss _ _ _ _ _ _ _ _ (Or.inl h)).trans ?_
    refine (rw_miss _ _ _ _ _ _ _ _ (Or.inl h)).trans ?_
    refine (rw_miss _ _ _ _ _ _ _ _ (Or.inl h)).trans ?_
    exact congrFun (harg13.read_unread xs) _

theorem valB_sc3 (r : Fin 2048) (j : Fin 128) :
    arg13.view.read (Elt Ideal) (arg13.view.writes (Elt Ideal) (harg13.unread xs) (runB (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.1) (ix2 r (co 3 j (by decide)))
      = xs (ix2 r (co 3 j (by decide))) + sV x0 x1 x2 x3 x4 x5 x6 1 1 r j := by
  unfold runB
  dsimp only
  frame_out
  by_cases h : r.val < 1024
  · skip
    refine (rw_hit _ _ _ _ _ _ _ _ h j (by show 128 * 3 + j.val = 384 + j.val; omega)).trans ((B1.stV1 x0 x1 x2 x3 x4 x5 x6 _ ⟨r.val, h⟩ j).trans (congrArg (fun a : EReal => a + sV x0 x1 x2 x3 x4 x5 x6 1 1 r j) ((ld_at _ _ _ B1.le (by decide) ⟨r.val, h⟩ j).trans (congrArg (fun a => xs (ix2 r a)) (Fin.ext (by show 384 + j.val = 128 * 3 + j.val; omega))))))
  · have h : 1024 ≤ r.val := not_lt.1 h
    rw [sV_late _ _ _ _ _ _ _ _ _ _ h, add_zero]
    refine (rw_miss _ _ _ _ _ _ _ _ (Or.inl h)).trans ?_
    refine (rw_miss _ _ _ _ _ _ _ _ (Or.inl h)).trans ?_
    refine (rw_miss _ _ _ _ _ _ _ _ (Or.inl h)).trans ?_
    refine (rw_miss _ _ _ _ _ _ _ _ (Or.inl h)).trans ?_
    exact congrFun (harg13.read_unread xs) _

end Cert.KernelIdeal.Att

end
-- ==== Proof.Att.Block2.lean ====
/- The values that the body computes for query block 2 (keys 0 to 1535), read at an index. -/
module

public import proofs.«01_k».proof.Proof.Att.Spec

@[expose] public section

set_option maxRecDepth 16384

noncomputable section

namespace Cert.KernelIdeal.Att.B2

open Idealize.ShloMosaic Cert.KernelIdeal Cert.KernelIdeal.Gen Cert.KernelIdeal.Att Cert.Att

theorem le : 1536 ≤ 2048 := by decide

theorem sel (q : Fin 512) (r : Fin 1536) (a c : EReal) :
    Scalar.select (IntOp.cmpi .sle (BitVec.ofNat 32 r.val) (IntOp.addi (1024#32) (BitVec.ofNat 32 q.val))) a c
      = if r.val ≤ pos 2 q then a else c := by
  refine (sel_le 1024 q.val r.val a c (by omega) (by omega)).trans ?_
  congr 1

theorem pos_lt (q : Fin 512) : pos 2 q < 1536 := by unfold pos; omega

section Query

variable (R : FVec Ideal S512x128 .f32) (X : Vec Ideal S512x128 .bf16) (q : Fin 512) (x : Fin 128)

theorem mask0 : (k0_pay70 (F := Ideal)) (ix2 q x) = hm 0 x := by
  pointwise [k0_pay70]
  rw [lane_word, word_float]; rfl

theorem mask1 : (k0_pay86 (F := Ideal) k0_pay84 k0_pay85) (ix2 q x) = hm 1 x := by
  pointwise [k0_pay84, k0_pay85, k0_pay86]
  rw [lane_word1, word_float]; rfl

theorem query0_lo : k0_pay71 (F := Ideal) R X (ix2 q ⟨x.val, by omega⟩) = X (ix2 q x) * sca := by
  pointwise [k0_pay71]
  first | rfl | (rw [dif_pos x.isLt]; rfl)

theorem query0_hi : k0_pay71 (F := Ideal) R X (ix2 q ⟨128 + x.val, by omega⟩) = R (ix2 q x) * hm 0 x * sca := by
  have e := mask0 q x
  pointwise [k0_pay71]
  simp only [Nat.add_sub_cancel_left, Fin.eta, e]
  first | rfl | (rw [dif_neg (by omega)]; rfl)

theorem query1_lo : k0_pay87 (F := Ideal) R k0_pay84 k0_pay85 X (ix2 q ⟨x.val, by omega⟩) = X (ix2 q x) * sca := by
  pointwise [k0_pay87]
  first | rfl | (rw [dif_pos x.isLt]; rfl)

theorem query1_hi : k0_pay87 (F := Ideal) R k0_pay84 k0_pay85 X (ix2 q ⟨128 + x.val, by omega⟩)
    = R (ix2 q x) * hm 1 x * sca := by
  have e := mask1 q x
  pointwise [k0_pay87]
  simp only [Nat.add_sub_cancel_left, Fin.eta, e]
  first | rfl | (rw [dif_neg (by omega)]; rfl)

end Query

section Block

variable {A : FVec Ideal S512x256 .bf16} {B0 B1 V : Vec Ideal S1536x128 .bf16} {O : Vec Ideal S512x128 .bf16}
  {a0 a1 o : Fin 512 → Fin 128 → EReal} {b0 b1 v : Fin 2048 → Fin 128 → EReal}

section Weights

variable (hA0 : ∀ (q : Fin 512) (x : Fin 128), A (ix2 q ⟨x.val, by omega⟩) = a0 q x)
  (hA1 : ∀ (q : Fin 512) (x : Fin 128), A (ix2 q ⟨128 + x.val, by omega⟩) = a1 q x)
  (hB0 : ∀ (r : Fin 1536) (x : Fin 128), B0 (ix2 r x) = b0 (Fin.castLE le r) x)
  (hB1 : ∀ (r : Fin 1536) (x : Fin 128), B1 (ix2 r x) = b1 (Fin.castLE le r) x)

include hA0 hA1 hB0 hB1

theorem weight (q : Fin 512) (r : Fin 1536) :
    k0_pay73 (F := Ideal) A B0 B1 (ix2 q r)
      = pr (pos 2 q) (fun r => ∑ x, a0 q x * b0 r x + ∑ x, a1 q x * b1 r x) (Fin.castLE le r) := by
  pointwise [k0_pay73, k0_pay72]
  simp only [hA0, hA1, hB0, hB1, sel, negInf]
  rw [← pr_castLE le (pos 2 q) (pos_lt q)]
  rfl

variable (hV : ∀ (r : Fin 1536) (x : Fin 128), V (ix2 r x) = v (Fin.castLE le r) x)
  (hO : ∀ (q : Fin 512) (x : Fin 128), O (ix2 q x) = o q x)

include hO

/-- The gradient of the value, added to what the accumulator holds. -/
theorem valueGrad (Y : Vec Ideal S1536x128 .f32) (r : Fin 1536) (x : Fin 128) :
    k0_pay82 (F := Ideal) (k0_pay77 A B0 B1 O) Y (ix2 r x)
      = Y (ix2 r x) + ∑ q : Fin 512, pr (pos 2 q)
          (fun r => ∑ x, a0 q x * b0 r x + ∑ x, a1 q x * b1 r x) (Fin.castLE le r) * o q x := by
  pointwise [k0_pay82, k0_pay77]
  simp only [weight hA0 hA1 hB0 hB1, hO]

include hV

theorem scoreGrad (q : Fin 512) (r : Fin 1536) :
    k0_pay74 (F := Ideal) A B0 B1 V O (ix2 q r)
      = dsc (pos 2 q) (fun r => ∑ x, a0 q x * b0 r x + ∑ x, a1 q x * b1 r x) (fun r => ∑ x, o q x * v r x)
          (Fin.castLE le r) := by
  pointwise [k0_pay74]
  simp only [weight hA0 hA1 hB0 hB1, hV, hO]
  rw [← dsc_castLE le (pos 2 q) (pos_lt q)]
  unfold dsc
  refine congrArg₂ (fun a b : EReal => a * b) (pr_castLE le (pos 2 q) (pos_lt q) _ r).symm ?_
  refine congrArg (fun b : EReal => _ - b) (Finset.sum_congr rfl fun x _ => ?_)
  exact congrArg (fun b : EReal => b * _) (pr_castLE le (pos 2 q) (pos_lt q) _ x).symm

/-- The gradient of the query's unrotated part. -/
theorem queryGrad (q : Fin 512) (x : Fin 128) :
    k0_pay78 (F := Ideal) A B0 B1 V O (ix2 q x)
      = (∑ r, dsc (pos 2 q) (fun r => ∑ x, a0 q x * b0 r x + ∑ x, a1 q x * b1 r x)
          (fun r => ∑ x, o q x * v r x) r * b0 r x) * sca := by
  pointwise [k0_pay78, k0_pay75, k0_pay72]
  simp only [scoreGrad hA0 hA1 hB0 hB1 hV hO, hB0]
  exact congrArg (fun a : EReal => a * sca) (sum_castLE le (fun r => dsc (pos 2 q) (fun r => ∑ x, a0 q x * b0 r x + ∑ x, a1 q x * b1 r x)
    (fun r => ∑ x, o q x * v r x) r * b0 r x) fun r hr => by
      rw [dsc_zero _ _ _ r (lt_of_lt_of_le (pos_lt q) hr), zero_mul]).symm

/-- The gradient of the query's rotated part, under a mask. -/
theorem rotGrad (M : FVec Ideal S512x128 .f32) (q : Fin 512) (x : Fin 128) :
    k0_pay79 (F := Ideal) M A B0 B1 V O (ix2 q x)
      = (∑ r, dsc (pos 2 q) (fun r => ∑ x, a0 q x * b0 r x + ∑ x, a1 q x * b1 r x)
          (fun r => ∑ x, o q x * v r x) r * b1 r x) * sca * M (ix2 q x) := by
  pointwise [k0_pay79, k0_pay75, k0_pay72]
  simp only [scoreGrad hA0 hA1 hB0 hB1 hV hO, hB1]
  exact congrArg (fun a : EReal => a * sca * M (ix2 q x)) (sum_castLE le (fun r => dsc (pos 2 q) (fun r => ∑ x, a0 q x * b0 r x + ∑ x, a1 q x * b1 r x)
    (fun r => ∑ x, o q x * v r x) r * b1 r x) fun r hr => by
      rw [dsc_zero _ _ _ r (lt_of_lt_of_le (pos_lt q) hr), zero_mul]).symm

/-- The gradient of the key's unrotated part, added to what the accumulator holds. -/
theorem keyGrad (Y : Vec Ideal S1536x128 .f32) (r : Fin 1536) (x : Fin 128) :
    k0_pay81 (F := Ideal) (k0_pay76 A B0 B1 V O) Y (ix2 r x)
      = Y (ix2 r x) + ∑ q : Fin 512, dsc (pos 2 q)
          (fun r => ∑ x, a0 q x * b0 r x + ∑ x, a1 q x * b1 r x) (fun r => ∑ x, o q x * v r x) (Fin.castLE le r) * a0 q x := by
  pointwise [k0_pay81, k0_pay76]
  simp only [scoreGrad hA0 hA1 hB0 hB1 hV hO, hA0]

/-- The gradient of the key's rotated part, added to what the accumulator holds. -/
theorem rotKeyGrad (Y : Vec Ideal S1536x128 .f32) (r : Fin 1536) (x : Fin 128) :
    k0_pay83 (F := Ideal) (k0_pay76 A B0 B1 V O) Y (ix2 r x)
      = Y (ix2 r x) + ∑ q : Fin 512, dsc (pos 2 q)
          (fun r => ∑ x, a0 q x * b0 r x + ∑ x, a1 q x * b1 r x) (fun r => ∑ x, o q x * v r x) (Fin.castLE le r) * a1 q x := by
  pointwise [k0_pay83, k0_pay76]
  simp only [scoreGrad hA0 hA1 hB0 hB1 hV hO, hA1]

end Weights

/-! ### The second head's values are the first's, from its own query -/

section Second

variable (R : FVec Ideal S512x128 .f32) (X : Vec Ideal S512x128 .bf16) (B0 B1 V : Vec Ideal S1536x128 .bf16)
  (O : Vec Ideal S512x128 .bf16)

theorem weight1 : k0_pay91 (k0_pay89 (F := Ideal) R k0_pay84 k0_pay85 X B0 B1) (k0_pay90 R k0_pay84 k0_pay85 X B0 B1) = k0_pay73 (k0_pay87 (F := Ideal) R k0_pay84 k0_pay85 X) B0 B1 := rfl

theorem queryGrad1 : k0_pay95 (k0_pay88 B0 B1) V O (k0_pay89 (F := Ideal) R k0_pay84 k0_pay85 X B0 B1) (k0_pay90 R k0_pay84 k0_pay85 X B0 B1) = k0_pay78 (k0_pay87 (F := Ideal) R k0_pay84 k0_pay85 X) B0 B1 V O := rfl

theorem rotGrad1 (D M : FVec Ideal S512x128 .f32) :
    k0_pay96 D M (k0_pay88 B0 B1) V O (k0_pay89 (F := Ideal) R k0_pay84 k0_pay85 X B0 B1) (k0_pay90 R k0_pay84 k0_pay85 X B0 B1) = addf D (k0_pay79 M (k0_pay87 (F := Ideal) R k0_pay84 k0_pay85 X) B0 B1 V O) := rfl

theorem keyGrad1 (Y : Vec Ideal S1536x128 .f32) : k0_pay97 (k0_pay87 (F := Ideal) R k0_pay84 k0_pay85 X) V O (k0_pay89 (F := Ideal) R k0_pay84 k0_pay85 X B0 B1) (k0_pay90 R k0_pay84 k0_pay85 X B0 B1) Y = k0_pay81 (k0_pay76 (k0_pay87 (F := Ideal) R k0_pay84 k0_pay85 X) B0 B1 V O) Y := rfl

theorem valueGrad1 (Y : Vec Ideal S1536x128 .f32) : k0_pay98 O (k0_pay89 (F := Ideal) R k0_pay84 k0_pay85 X B0 B1) (k0_pay90 R k0_pay84 k0_pay85 X B0 B1) Y = k0_pay82 (k0_pay77 (k0_pay87 (F := Ideal) R k0_pay84 k0_pay85 X) B0 B1 O) Y := rfl

theorem rotKeyGrad1 (Y : Vec Ideal S1536x128 .f32) : k0_pay99 (k0_pay87 (F := Ideal) R k0_pay84 k0_pay85 X) V O (k0_pay89 (F := Ideal) R k0_pay84 k0_pay85 X B0 B1) (k0_pay90 R k0_pay84 k0_pay85 X B0 B1) Y = k0_pay83 (k0_pay76 (k0_pay87 (F := Ideal) R k0_pay84 k0_pay85 X) B0 B1 V O) Y := rfl

end Second

/-- The first head's part of the rotated query's gradient. -/
theorem rotSum (D M : FVec Ideal S512x128 .f32) : k0_pay80 (F := Ideal) D M = addf D M := rfl

/-- The rotation taken back. -/
theorem unrope_apply (D : FVec Ideal S512x128 .f32) (x2 x3 : Vec Ideal S512x128 .f32) (q : Fin 512) (l : Fin 128) :
    k0_pay4 (F := Ideal) D x2 x3 (ix2 q l)
      = D (ix2 q l) * x2 (ix2 q l) + D (ix2 q (swp l)) * x3 (ix2 q (swp l)) := by
  pointwise [k0_pay4]
  rw [swap_word]
  unfold swp
  split <;> rfl

theorem zeros (q : Fin 512) (l : Fin 128) : (k0_pay69 (F := Ideal)) (ix2 q l) = 0 := by
  pointwise [k0_pay69]

end Block

end Cert.KernelIdeal.Att.B2

end
-- ==== Proof.Att.Point2.lean ====
/- One grid point's values for query block 2: each stored value is the specification's. -/
module

public import proofs.«01_k».proof.Proof.Att.Block2
public import proofs.«01_k».proof.Proof.Att.Read

@[expose] public section

set_option maxRecDepth 16384

noncomputable section

namespace Cert.KernelIdeal.Att.B2

open Idealize.ShloMosaic Cert.KernelIdeal Cert.KernelIdeal.Gen Cert.KernelIdeal.Att Cert.Att

variable (x0 : Vec Ideal S512x256 .bf16) (x1 : Vec Ideal S512x128 .bf16) (x2 x3 : Vec Ideal S512x128 .f32)
  (x4 : Vec Ideal S2048x512 .bf16) (x5 : Vec Ideal S2048x128 .bf16) (x6 : Vec Ideal S512x256 .bf16)

theorem stQ0 (q : Fin 512) (x : Fin 128) : k0_pay78 (F := Ideal) (k0_pay71 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1536, 128] inb_S2048x512_S1536x128_0_0)) (View.ld x5 (Rect.unit ![0, 0] ![1536, 128] inb_S2048x128_S1536x128_0_0)) (View.ld x4 (Rect.unit ![0, 128] ![1536, 128] inb_S2048x512_S1536x128_0_128)) (View.ld x6 (Rect.unit ![0, 0] ![512, 128] inb_S512x256_S512x128_0_0)) (ix2 q x)
    = sQn x0 x1 x2 x3 x4 x5 x6 2 0 q x :=
  queryGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1536x128_0_0 le (by decide) r x) (fun r x => (ld_at x5 0 inb_S2048x128_S1536x128_0_0 le (by decide) r x).trans (congrArg (fun j => x5 (ix2 (Fin.castLE le r) j)) (Fin.ext (Nat.zero_add _))))
    (fun r x => ld_at x4 128 inb_S2048x512_S1536x128_0_128 le (by decide) r x) (fun q x => ld_at x6 0 inb_S512x256_S512x128_0_0 (le_refl _) (by decide) q x) q x

theorem stK0 (Y : Vec Ideal S1536x128 .f32) (r : Fin 1536) (x : Fin 128) : k0_pay81 (F := Ideal) (k0_pay76 (k0_pay71 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1536, 128] inb_S2048x512_S1536x128_0_0)) (View.ld x5 (Rect.unit ![0, 0] ![1536, 128] inb_S2048x128_S1536x128_0_0)) (View.ld x4 (Rect.unit ![0, 128] ![1536, 128] inb_S2048x512_S1536x128_0_128)) (View.ld x6 (Rect.unit ![0, 0] ![512, 128] inb_S512x256_S512x128_0_0))) Y (ix2 r x)
    = Y (ix2 r x) + sKn x0 x1 x2 x3 x4 x5 x6 2 0 (Fin.castLE le r) x :=
  keyGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1536x128_0_0 le (by decide) r x) (fun r x => (ld_at x5 0 inb_S2048x128_S1536x128_0_0 le (by decide) r x).trans (congrArg (fun j => x5 (ix2 (Fin.castLE le r) j)) (Fin.ext (Nat.zero_add _))))
    (fun r x => ld_at x4 128 inb_S2048x512_S1536x128_0_128 le (by decide) r x) (fun q x => ld_at x6 0 inb_S512x256_S512x128_0_0 (le_refl _) (by decide) q x) Y r x

theorem stV0 (Y : Vec Ideal S1536x128 .f32) (r : Fin 1536) (x : Fin 128) : k0_pay82 (F := Ideal) (k0_pay77 (k0_pay71 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1536, 128] inb_S2048x512_S1536x128_0_0)) (View.ld x5 (Rect.unit ![0, 0] ![1536, 128] inb_S2048x128_S1536x128_0_0)) (View.ld x6 (Rect.unit ![0, 0] ![512, 128] inb_S512x256_S512x128_0_0))) Y (ix2 r x)
    = Y (ix2 r x) + sV x0 x1 x2 x3 x4 x5 x6 2 0 (Fin.castLE le r) x :=
  valueGrad (a0 := qn x0 0) (a1 := qp x1 x2 x3 0) (b0 := kn x4 0) (b1 := fun r x => x5 (ix2 r x)) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1536x128_0_0 le (by decide) r x) (fun r x => (ld_at x5 0 inb_S2048x128_S1536x128_0_0 le (by decide) r x).trans (congrArg (fun j => x5 (ix2 (Fin.castLE le r) j)) (Fin.ext (Nat.zero_add _))))
    (fun q x => ld_at x6 0 inb_S512x256_S512x128_0_0 (le_refl _) (by decide) q x) Y r x

theorem stE0 (Y : Vec Ideal S1536x128 .f32) (r : Fin 1536) (x : Fin 128) : k0_pay83 (F := Ideal) (k0_pay76 (k0_pay71 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1536, 128] inb_S2048x512_S1536x128_0_0)) (View.ld x5 (Rect.unit ![0, 0] ![1536, 128] inb_S2048x128_S1536x128_0_0)) (View.ld x4 (Rect.unit ![0, 128] ![1536, 128] inb_S2048x512_S1536x128_0_128)) (View.ld x6 (Rect.unit ![0, 0] ![512, 128] inb_S512x256_S512x128_0_0))) Y (ix2 r x)
    = Y (ix2 r x) + sKp x0 x1 x2 x3 x4 x5 x6 2 0 (Fin.castLE le r) x :=
  rotKeyGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1536x128_0_0 le (by decide) r x) (fun r x => (ld_at x5 0 inb_S2048x128_S1536x128_0_0 le (by decide) r x).trans (congrArg (fun j => x5 (ix2 (Fin.castLE le r) j)) (Fin.ext (Nat.zero_add _))))
    (fun r x => ld_at x4 128 inb_S2048x512_S1536x128_0_128 le (by decide) r x) (fun q x => ld_at x6 0 inb_S512x256_S512x128_0_0 (le_refl _) (by decide) q x) Y r x

theorem stQ1 (q : Fin 512) (x : Fin 128) : k0_pay95 (F := Ideal) (k0_pay88 (View.ld x4 (Rect.unit ![0, 256] ![1536, 128] inb_S2048x512_S1536x128_0_256)) (View.ld x5 (Rect.unit ![0, 0] ![1536, 128] inb_S2048x128_S1536x128_0_0))) (View.ld x4 (Rect.unit ![0, 384] ![1536, 128] inb_S2048x512_S1536x128_0_384)) (View.ld x6 (Rect.unit ![0, 128] ![512, 128] inb_S512x256_S512x128_0_128)) (k0_pay89 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) (k0_pay90 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) (ix2 q x)
    = sQn x0 x1 x2 x3 x4 x5 x6 2 1 q x :=
  queryGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1536x128_0_256 le (by decide) r x) (fun r x => (ld_at x5 0 inb_S2048x128_S1536x128_0_0 le (by decide) r x).trans (congrArg (fun j => x5 (ix2 (Fin.castLE le r) j)) (Fin.ext (Nat.zero_add _))))
    (fun r x => ld_at x4 384 inb_S2048x512_S1536x128_0_384 le (by decide) r x) (fun q x => ld_at x6 128 inb_S512x256_S512x128_0_128 (le_refl _) (by decide) q x) q x

theorem stK1 (Y : Vec Ideal S1536x128 .f32) (r : Fin 1536) (x : Fin 128) : k0_pay97 (F := Ideal) (k0_pay87 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128))) (View.ld x4 (Rect.unit ![0, 384] ![1536, 128] inb_S2048x512_S1536x128_0_384)) (View.ld x6 (Rect.unit ![0, 128] ![512, 128] inb_S512x256_S512x128_0_128)) (k0_pay89 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) (k0_pay90 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) Y (ix2 r x)
    = Y (ix2 r x) + sKn x0 x1 x2 x3 x4 x5 x6 2 1 (Fin.castLE le r) x :=
  keyGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1536x128_0_256 le (by decide) r x) (fun r x => (ld_at x5 0 inb_S2048x128_S1536x128_0_0 le (by decide) r x).trans (congrArg (fun j => x5 (ix2 (Fin.castLE le r) j)) (Fin.ext (Nat.zero_add _))))
    (fun r x => ld_at x4 384 inb_S2048x512_S1536x128_0_384 le (by decide) r x) (fun q x => ld_at x6 128 inb_S512x256_S512x128_0_128 (le_refl _) (by decide) q x) Y r x

theorem stV1 (Y : Vec Ideal S1536x128 .f32) (r : Fin 1536) (x : Fin 128) : k0_pay98 (F := Ideal) (View.ld x6 (Rect.unit ![0, 128] ![512, 128] inb_S512x256_S512x128_0_128)) (k0_pay89 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) (k0_pay90 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) Y (ix2 r x)
    = Y (ix2 r x) + sV x0 x1 x2 x3 x4 x5 x6 2 1 (Fin.castLE le r) x :=
  valueGrad (a0 := qn x0 1) (a1 := qp x1 x2 x3 1) (b0 := kn x4 1) (b1 := fun r x => x5 (ix2 r x)) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1536x128_0_256 le (by decide) r x) (fun r x => (ld_at x5 0 inb_S2048x128_S1536x128_0_0 le (by decide) r x).trans (congrArg (fun j => x5 (ix2 (Fin.castLE le r) j)) (Fin.ext (Nat.zero_add _))))
    (fun q x => ld_at x6 128 inb_S512x256_S512x128_0_128 (le_refl _) (by decide) q x) Y r x

theorem stE1 (Y : Vec Ideal S1536x128 .f32) (r : Fin 1536) (x : Fin 128) : k0_pay99 (F := Ideal) (k0_pay87 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128))) (View.ld x4 (Rect.unit ![0, 384] ![1536, 128] inb_S2048x512_S1536x128_0_384)) (View.ld x6 (Rect.unit ![0, 128] ![512, 128] inb_S512x256_S512x128_0_128)) (k0_pay89 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) (k0_pay90 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) Y (ix2 r x)
    = Y (ix2 r x) + sKp x0 x1 x2 x3 x4 x5 x6 2 1 (Fin.castLE le r) x :=
  rotKeyGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1536x128_0_256 le (by decide) r x) (fun r x => (ld_at x5 0 inb_S2048x128_S1536x128_0_0 le (by decide) r x).trans (congrArg (fun j => x5 (ix2 (Fin.castLE le r) j)) (Fin.ext (Nat.zero_add _))))
    (fun r x => ld_at x4 384 inb_S2048x512_S1536x128_0_384 le (by decide) r x) (fun q x => ld_at x6 128 inb_S512x256_S512x128_0_128 (le_refl _) (by decide) q x) Y r x

theorem stR (q : Fin 512) (x : Fin 128) : k0_pay96 (F := Ideal) (k0_pay80 k0_pay69 (k0_pay79 k0_pay70 (k0_pay71 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1536, 128] inb_S2048x512_S1536x128_0_0)) (View.ld x5 (Rect.unit ![0, 0] ![1536, 128] inb_S2048x128_S1536x128_0_0)) (View.ld x4 (Rect.unit ![0, 128] ![1536, 128] inb_S2048x512_S1536x128_0_128)) (View.ld x6 (Rect.unit ![0, 0] ![512, 128] inb_S512x256_S512x128_0_0)))) (k0_pay86 k0_pay84 k0_pay85) (k0_pay88 (View.ld x4 (Rect.unit ![0, 256] ![1536, 128] inb_S2048x512_S1536x128_0_256)) (View.ld x5 (Rect.unit ![0, 0] ![1536, 128] inb_S2048x128_S1536x128_0_0))) (View.ld x4 (Rect.unit ![0, 384] ![1536, 128] inb_S2048x512_S1536x128_0_384)) (View.ld x6 (Rect.unit ![0, 128] ![512, 128] inb_S512x256_S512x128_0_128)) (k0_pay89 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) (k0_pay90 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) (ix2 q x)
    = sRo x0 x1 x2 x3 x4 x5 x6 2 q x := by
  have h0 := rotGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S1536x128_0_0 le (by decide) r x) (fun r x => (ld_at x5 0 inb_S2048x128_S1536x128_0_0 le (by decide) r x).trans (congrArg (fun j => x5 (ix2 (Fin.castLE le r) j)) (Fin.ext (Nat.zero_add _))))
    (fun r x => ld_at x4 128 inb_S2048x512_S1536x128_0_128 le (by decide) r x) (fun q x => ld_at x6 0 inb_S512x256_S512x128_0_0 (le_refl _) (by decide) q x) k0_pay70 q x
  have h1 := rotGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S1536x128_0_256 le (by decide) r x) (fun r x => (ld_at x5 0 inb_S2048x128_S1536x128_0_0 le (by decide) r x).trans (congrArg (fun j => x5 (ix2 (Fin.castLE le r) j)) (Fin.ext (Nat.zero_add _))))
    (fun r x => ld_at x4 384 inb_S2048x512_S1536x128_0_384 le (by decide) r x) (fun q x => ld_at x6 128 inb_S512x256_S512x128_0_128 (le_refl _) (by decide) q x) (k0_pay86 k0_pay84 k0_pay85) q x
  rw [mask0] at h0
  rw [mask1] at h1
  exact congrArg₂ (fun a b : EReal => a + b) (congrArg₂ (fun a b : EReal => a + b) (zeros q x) h0) h1

theorem stP (q : Fin 512) (x : Fin 128) : k0_pay4 (F := Ideal) (k0_pay96 (k0_pay80 k0_pay69 (k0_pay79 k0_pay70 (k0_pay71 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![1536, 128] inb_S2048x512_S1536x128_0_0)) (View.ld x5 (Rect.unit ![0, 0] ![1536, 128] inb_S2048x128_S1536x128_0_0)) (View.ld x4 (Rect.unit ![0, 128] ![1536, 128] inb_S2048x512_S1536x128_0_128)) (View.ld x6 (Rect.unit ![0, 0] ![512, 128] inb_S512x256_S512x128_0_0)))) (k0_pay86 k0_pay84 k0_pay85) (k0_pay88 (View.ld x4 (Rect.unit ![0, 256] ![1536, 128] inb_S2048x512_S1536x128_0_256)) (View.ld x5 (Rect.unit ![0, 0] ![1536, 128] inb_S2048x128_S1536x128_0_0))) (View.ld x4 (Rect.unit ![0, 384] ![1536, 128] inb_S2048x512_S1536x128_0_384)) (View.ld x6 (Rect.unit ![0, 128] ![512, 128] inb_S512x256_S512x128_0_128)) (k0_pay89 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0))) (k0_pay90 (k0_pay1 (k0_pay133 x1) (k0_pay134 x3) (k0_pay135 x1 x2) k0_pay136 (k0_pay137 x1) 32#32) k0_pay84 k0_pay85 (View.ld x0 (Rect.unit ![0, 128] ![512, 128] inb_S512x256_S512x128_0_128)) (View.ld x4 (Rect.unit ![0, 256] ![1536, 128] inb_S2048x512_S1536x128_0_256)) (View.ld x5 (Rect.unit ![0, 0] ![1536, 128] inb_S2048x128_S1536x128_0_0)))) x2 x3 (ix2 q x) = sQp x0 x1 x2 x3 x4 x5 x6 2 q x := by
  rw [unrope_apply, stR, stR]
  rfl

end Cert.KernelIdeal.Att.B2

end
-- ==== Proof.Att.ValC.lean ====
/- What the run at row block 2 leaves, entry by entry. -/
module

public import proofs.«01_k».proof.Proof.Att.RunC
public import proofs.«01_k».proof.Proof.Att.Point2

@[expose] public section

set_option maxRecDepth 16384

noncomputable section

namespace Cert.KernelIdeal.Att

open Idealize.ShloMosaic Idealize.ShloMosaic.TcCoe Idealize.ShloMosaic.Tactic Cert.KernelIdeal Cert.KernelIdeal.Gen Cert.Att

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole)
  (hc0 : ¬cnd0 i) (hc1 : ¬cnd1 i) (hc2 : ¬cnd2 i) (hc3 : ¬cnd3 i) (hc4 : cnd4 i) (hc5 : ¬cnd5 i) (hc6 : ¬cnd6 i)
  (x0 : Vec Ideal S512x256 .bf16) (x1 : Vec Ideal S512x128 .bf16) (x2 : Vec Ideal S512x128 .f32) (x3 : Vec Ideal S512x128 .f32) (x4 : Vec Ideal S2048x512 .bf16) (x5 : Vec Ideal S2048x128 .bf16) (x6 : Vec Ideal S512x256 .bf16) (x10 : Vec Ideal S2048x128 .f32) (xs : Vec Ideal S2048x512 .f32)

theorem valC_qn0 (q : Fin 512) (j : Fin 128) :
    View.canon (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).1 (ix2 q (co 0 j (by decide))) = sQn x0 x1 x2 x3 x4 x5 x6 2 0 q j := by
  unfold runC
  dsimp only
  frame_out
  exact (cn_miss _ _ _ _ _ _ (Or.inr (Or.inl (by show 128 * 0 + j.val < 128; omega)))).trans
    ((cn_hit _ _ _ _ _ _ q.isLt j (by show 128 * 0 + j.val = 0 + j.val; omega)).trans (B2.stQ0 x0 x1 x2 x3 x4 x5 x6 q j))

theorem valC_qn1 (q : Fin 512) (j : Fin 128) :
    View.canon (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).1 (ix2 q (co 1 j (by decide))) = sQn x0 x1 x2 x3 x4 x5 x6 2 1 q j := by
  unfold runC
  dsimp only
  frame_out
  exact (cn_hit _ _ _ _ _ _ q.isLt j (by show 128 * 1 + j.val = 128 + j.val; omega)).trans (B2.stQ1 x0 x1 x2 x3 x4 x5 x6 q j)

theorem valC_qp (q : Fin 512) (l : Fin 128) : View.canon (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.1 (ix2 q l) = sQp x0 x1 x2 x3 x4 x5 x6 2 q l := by
  unfold runC
  dsimp only
  frame_out
  exact B2.stP x0 x1 x2 x3 x4 x5 x6 q l

theorem valC_kp (r : Fin 2048) (l : Fin 128) :
    arg12.view.read (Elt Ideal) (arg12.view.writes (Elt Ideal) (harg12.unread x10) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.1) (ix2 r l)
      = x10 (ix2 r l) + sKp x0 x1 x2 x3 x4 x5 x6 2 0 r l + sKp x0 x1 x2 x3 x4 x5 x6 2 1 r l := by
  unfold runC
  dsimp only
  frame_out
  by_cases h : r.val < 1536
  · refine (rw_hit _ _ _ _ _ _ _ _ h l (Nat.zero_add _).symm).trans ?_
    refine (B2.stE1 x0 x1 x2 x3 x4 x5 x6 _ ⟨r.val, h⟩ l).trans ?_
    refine congrArg (fun a : EReal => a + sKp x0 x1 x2 x3 x4 x5 x6 2 1 r l) ?_
    refine (congrFun (View.readCov_cons_toLoadRect _ _ _ _) _).trans ?_
    refine (B2.stE0 x0 x1 x2 x3 x4 x5 x6 _ ⟨r.val, h⟩ l).trans ?_
    refine congrArg (fun a : EReal => a + sKp x0 x1 x2 x3 x4 x5 x6 2 0 r l) ?_
    exact ((ld_at _ _ _ B2.le (by decide) ⟨r.val, h⟩ l).trans (congrArg (fun a => x10 (ix2 r a)) (Fin.ext (Nat.zero_add _))))
  · have h : 1536 ≤ r.val := not_lt.1 h
    rw [sKp_late _ _ _ _ _ _ _ _ _ _ h, sKp_late _ _ _ _ _ _ _ _ _ _ h, add_zero, add_zero]
    refine (rw_miss _ _ _ _ _ _ _ _ (Or.inl h)).trans ?_
    refine (rw_miss _ _ _ _ _ _ _ _ (Or.inl h)).trans ?_
    exact (congrFun (harg12.read_unread x10) _)

theorem valC_sc0 (r : Fin 2048) (j : Fin 128) :
    arg13.view.read (Elt Ideal) (arg13.view.writes (Elt Ideal) (harg13.unread xs) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.1) (ix2 r (co 0 j (by decide)))
      = xs (ix2 r (co 0 j (by decide))) + sKn x0 x1 x2 x3 x4 x5 x6 2 0 r j := by
  unfold runC
  dsimp only
  frame_out
  by_cases h : r.val < 1536
  · skip
    refine (rw_miss _ _ _ _ _ _ _ _ (Or.inr (Or.inl (by show 128 * 0 + j.val < 384; omega)))).trans ?_
    refine (rw_miss _ _ _ _ _ _ _ _ (Or.inr (Or.inl (by show 128 * 0 + j.val < 256; omega)))).trans ?_
    refine (rw_miss _ _ _ _ _ _ _ _ (Or.inr (Or.inl (by show 128 * 0 + j.val < 128; omega)))).trans ?_
    refine (rw_hit _ _ _ _ _ _ _ _ h j (by show 128 * 0 + j.val = 0 + j.val; omega)).trans ((B2.stK0 x0 x1 x2 x3 x4 x5 x6 _ ⟨r.val, h⟩ j).trans (congrArg (fun a : EReal => a + sKn x0 x1 x2 x3 x4 x5 x6 2 0 r j) ((ld_at _ _ _ B2.le (by decide) ⟨r.val, h⟩ j).trans (congrArg (fun a => xs (ix2 r a)) (Fin.ext (by show 0 + j.val = 128 * 0 + j.val; omega))))))
  · have h : 1536 ≤ r.val := not_lt.1 h
    rw [sKn_late _ _ _ _ _ _ _ _ _ _ h, add_zero]
    refine (rw_miss _ _ _ _ _ _ _ _ (Or.inl h)).trans ?_
    refine (rw_miss _ _ _ _ _ _ _ _ (Or.inl h)).trans ?_
    refine (rw_miss _ _ _ _ _ _ _ _ (Or.inl h)).trans ?_
    refine (rw_miss _ _ _ _ _ _ _ _ (Or.inl h)).trans ?_
    exact congrFun (harg13.read_unread xs) _

theorem valC_sc1 (r : Fin 2048) (j : Fin 128) :
    arg13.view.read (Elt Ideal) (arg13.view.writes (Elt Ideal) (harg13.unread xs) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.1) (ix2 r (co 1 j (by decide)))
      = xs (ix2 r (co 1 j (by decide))) + sV x0 x1 x2 x3 x4 x5 x6 2 0 r j := by
  unfold runC
  dsimp only
  frame_out
  by_cases h : r.val < 1536
  · skip
    refine (rw_miss _ _ _ _ _ _ _ _ (Or.inr (Or.inl (by show 128 * 1 + j.val < 384; omega)))).trans ?_
    refine (rw_miss _ _ _ _ _ _ _ _ (Or.inr (Or.inl (by show 128 * 1 + j.val < 256; omega)))).trans ?_
    refine (rw_hit _ _ _ _ _ _ _ _ h j (by show 128 * 1 + j.val = 128 + j.val; omega)).trans ((B2.stV0 x0 x1 x2 x3 x4 x5 x6 _ ⟨r.val, h⟩ j).trans (congrArg (fun a : EReal => a + sV x0 x1 x2 x3 x4 x5 x6 2 0 r j) ((ld_at _ _ _ B2.le (by decide) ⟨r.val, h⟩ j).trans (congrArg (fun a => xs (ix2 r a)) (Fin.ext (by show 128 + j.val = 128 * 1 + j.val; omega))))))
  · have h : 1536 ≤ r.val := not_lt.1 h
    rw [sV_late _ _ _ _ _ _ _ _ _ _ h, add_zero]
    refine (rw_miss _ _ _ _ _ _ _ _ (Or.inl h)).trans ?_
    refine (rw_miss _ _ _ _ _ _ _ _ (Or.inl h)).trans ?_
    refine (rw_miss _ _ _ _ _ _ _ _ (Or.inl h)).trans ?_
    refine (rw_miss _ _ _ _ _ _ _ _ (Or.inl h)).trans ?_
    exact congrFun (harg13.read_unread xs) _

theorem valC_sc2 (r : Fin 2048) (j : Fin 128) :
    arg13.view.read (Elt Ideal) (arg13.view.writes (Elt Ideal) (harg13.unread xs) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.1) (ix2 r (co 2 j (by decide)))
      = xs (ix2 r (co 2 j (by decide))) + sKn x0 x1 x2 x3 x4 x5 x6 2 1 r j := by
  unfold runC
  dsimp only
  frame_out
  by_cases h : r.val < 1536
  · skip
    refine (rw_miss _ _ _ _ _ _ _ _ (Or.inr (Or.inl (by show 128 * 2 + j.val < 384; omega)))).trans ?_
    refine (rw_hit _ _ _ _ _ _ _ _ h j (by show 128 * 2 + j.val = 256 + j.val; omega)).trans ((B2.stK1 x0 x1 x2 x3 x4 x5 x6 _ ⟨r.val, h⟩ j).trans (congrArg (fun a : EReal => a + sKn x0 x1 x2 x3 x4 x5 x6 2 1 r j) ((ld_at _ _ _ B2.le (by decide) ⟨r.val, h⟩ j).trans (congrArg (fun a => xs (ix2 r a)) (Fin.ext (by show 256 + j.val = 128 * 2 + j.val; omega))))))
  · have h : 1536 ≤ r.val := not_lt.1 h
    rw [sKn_late _ _ _ _ _ _ _ _ _ _ h, add_zero]
    refine (rw_miss _ _ _ _ _ _ _ _ (Or.inl h)).trans ?_
    refine (rw_miss _ _ _ _ _ _ _ _ (Or.inl h)).trans ?_
    refine (rw_miss _ _ _ _ _ _ _ _ (Or.inl h)).trans ?_
    refine (rw_miss _ _ _ _ _ _ _ _ (Or.inl h)).trans ?_
    exact congrFun (harg13.read_unread xs) _

theorem valC_sc3 (r : Fin 2048) (j : Fin 128) :
    arg13.view.read (Elt Ideal) (arg13.view.writes (Elt Ideal) (harg13.unread xs) (runC (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.1) (ix2 r (co 3 j (by decide)))
      = xs (ix2 r (co 3 j (by decide))) + sV x0 x1 x2 x3 x4 x5 x6 2 1 r j := by
  unfold runC
  dsimp only
  frame_out
  by_cases h : r.val < 1536
  · skip
    refine (rw_hit _ _ _ _ _ _ _ _ h j (by show 128 * 3 + j.val = 384 + j.val; omega)).trans ((B2.stV1 x0 x1 x2 x3 x4 x5 x6 _ ⟨r.val, h⟩ j).trans (congrArg (fun a : EReal => a + sV x0 x1 x2 x3 x4 x5 x6 2 1 r j) ((ld_at _ _ _ B2.le (by decide) ⟨r.val, h⟩ j).trans (congrArg (fun a => xs (ix2 r a)) (Fin.ext (by show 384 + j.val = 128 * 3 + j.val; omega))))))
  · have h : 1536 ≤ r.val := not_lt.1 h
    rw [sV_late _ _ _ _ _ _ _ _ _ _ h, add_zero]
    refine (rw_miss _ _ _ _ _ _ _ _ (Or.inl h)).trans ?_
    refine (rw_miss _ _ _ _ _ _ _ _ (Or.inl h)).trans ?_
    refine (rw_miss _ _ _ _ _ _ _ _ (Or.inl h)).trans ?_
    refine (rw_miss _ _ _ _ _ _ _ _ (Or.inl h)).trans ?_
    exact congrFun (harg13.read_unread xs) _

end Cert.KernelIdeal.Att

end
-- ==== Proof.Att.Block3.lean ====
/- The values that the body computes for query block 3 (keys 0 to 2047), read at an index. -/
module

public import proofs.«01_k».proof.Proof.Att.Spec

@[expose] public section

set_option maxRecDepth 16384

noncomputable section

namespace Cert.KernelIdeal.Att.B3

open Idealize.ShloMosaic Cert.KernelIdeal Cert.KernelIdeal.Gen Cert.KernelIdeal.Att Cert.Att

theorem le : 2048 ≤ 2048 := by decide

theorem sel (q : Fin 512) (r : Fin 2048) (a c : EReal) :
    Scalar.select (IntOp.cmpi .sle (BitVec.ofNat 32 r.val) (IntOp.addi (1536#32) (BitVec.ofNat 32 q.val))) a c
      = if r.val ≤ pos 3 q then a else c := by
  refine (sel_le 1536 q.val r.val a c (by omega) (by omega)).trans ?_
  congr 1

theorem pos_lt (q : Fin 512) : pos 3 q < 2048 := by unfold pos; omega

section Query

variable (R : FVec Ideal S512x128 .f32) (X : Vec Ideal S512x128 .bf16) (q : Fin 512) (x : Fin 128)

theorem mask0 : (k0_pay101 (F := Ideal)) (ix2 q x) = hm 0 x := by
  pointwise [k0_pay101]
  rw [lane_word, word_float]; rfl

theorem mask1 : (k0_pay117 (F := Ideal) k0_pay115 k0_pay116) (ix2 q x) = hm 1 x := by
  pointwise [k0_pay115, k0_pay116, k0_pay117]
  rw [lane_word1, word_float]; rfl

theorem query0_lo : k0_pay102 (F := Ideal) R X (ix2 q ⟨x.val, by omega⟩) = X (ix2 q x) * sca := by
  pointwise [k0_pay102]
  first | rfl | (rw [dif_pos x.isLt]; rfl)

theorem query0_hi : k0_pay102 (F := Ideal) R X (ix2 q ⟨128 + x.val, by omega⟩) = R (ix2 q x) * hm 0 x * sca := by
  have e := mask0 q x
  pointwise [k0_pay102]
  simp only [Nat.add_sub_cancel_left, Fin.eta, e]
  first | rfl | (rw [dif_neg (by omega)]; rfl)

theorem query1_lo : k0_pay118 (F := Ideal) R k0_pay115 k0_pay116 X (ix2 q ⟨x.val, by omega⟩) = X (ix2 q x) * sca := by
  pointwise [k0_pay118]
  first | rfl | (rw [dif_pos x.isLt]; rfl)

theorem query1_hi : k0_pay118 (F := Ideal) R k0_pay115 k0_pay116 X (ix2 q ⟨128 + x.val, by omega⟩)
    = R (ix2 q x) * hm 1 x * sca := by
  have e := mask1 q x
  pointwise [k0_pay118]
  simp only [Nat.add_sub_cancel_left, Fin.eta, e]
  first | rfl | (rw [dif_neg (by omega)]; rfl)

end Query

section Block

variable {A : FVec Ideal S512x256 .bf16} {B0 B1 V : Vec Ideal S2048x128 .bf16} {O : Vec Ideal S512x128 .bf16}
  {a0 a1 o : Fin 512 → Fin 128 → EReal} {b0 b1 v : Fin 2048 → Fin 128 → EReal}

section Weights

variable (hA0 : ∀ (q : Fin 512) (x : Fin 128), A (ix2 q ⟨x.val, by omega⟩) = a0 q x)
  (hA1 : ∀ (q : Fin 512) (x : Fin 128), A (ix2 q ⟨128 + x.val, by omega⟩) = a1 q x)
  (hB0 : ∀ (r : Fin 2048) (x : Fin 128), B0 (ix2 r x) = b0 (Fin.castLE le r) x)
  (hB1 : ∀ (r : Fin 2048) (x : Fin 128), B1 (ix2 r x) = b1 (Fin.castLE le r) x)

include hA0 hA1 hB0 hB1

theorem weight (q : Fin 512) (r : Fin 2048) :
    k0_pay104 (F := Ideal) A B0 B1 (ix2 q r)
      = pr (pos 3 q) (fun r => ∑ x, a0 q x * b0 r x + ∑ x, a1 q x * b1 r x) (Fin.castLE le r) := by
  pointwise [k0_pay104, k0_pay103]
  simp only [hA0, hA1, hB0, hB1, sel, negInf]
  rw [← pr_castLE le (pos 3 q) (pos_lt q)]
  rfl

variable (hV : ∀ (r : Fin 2048) (x : Fin 128), V (ix2 r x) = v (Fin.castLE le r) x)
  (hO : ∀ (q : Fin 512) (x : Fin 128), O (ix2 q x) = o q x)

include hO

/-- The gradient of the value, added to what the accumulator holds. -/
theorem valueGrad (Y : Vec Ideal S2048x128 .f32) (r : Fin 2048) (x : Fin 128) :
    k0_pay113 (F := Ideal) (k0_pay108 A B0 B1 O) Y (ix2 r x)
      = Y (ix2 r x) + ∑ q : Fin 512, pr (pos 3 q)
          (fun r => ∑ x, a0 q x * b0 r x + ∑ x, a1 q x * b1 r x) (Fin.castLE le r) * o q x := by
  pointwise [k0_pay113, k0_pay108]
  simp only [weight hA0 hA1 hB0 hB1, hO]

include hV

theorem scoreGrad (q : Fin 512) (r : Fin 2048) :
    k0_pay105 (F := Ideal) A B0 B1 V O (ix2 q r)
      = dsc (pos 3 q) (fun r => ∑ x, a0 q x * b0 r x + ∑ x, a1 q x * b1 r x) (fun r => ∑ x, o q x * v r x)
          (Fin.castLE le r) := by
  pointwise [k0_pay105]
  simp only [weight hA0 hA1 hB0 hB1, hV, hO]
  rw [← dsc_castLE le (pos 3 q) (pos_lt q)]
  unfold dsc
  refine congrArg₂ (fun a b : EReal => a * b) (pr_castLE le (pos 3 q) (pos_lt q) _ r).symm ?_
  refine congrArg (fun b : EReal => _ - b) (Finset.sum_congr rfl fun x _ => ?_)
  exact congrArg (fun b : EReal => b * _) (pr_castLE le (pos 3 q) (pos_lt q) _ x).symm

/-- The gradient of the query's unrotated part. -/
theorem queryGrad (q : Fin 512) (x : Fin 128) :
    k0_pay109 (F := Ideal) A B0 B1 V O (ix2 q x)
      = (∑ r, dsc (pos 3 q) (fun r => ∑ x, a0 q x * b0 r x + ∑ x, a1 q x * b1 r x)
          (fun r => ∑ x, o q x * v r x) r * b0 r x) * sca := by
  pointwise [k0_pay109, k0_pay106, k0_pay103]
  simp only [scoreGrad hA0 hA1 hB0 hB1 hV hO, hB0]
  exact congrArg (fun a : EReal => a * sca) (sum_castLE le (fun r => dsc (pos 3 q) (fun r => ∑ x, a0 q x * b0 r x + ∑ x, a1 q x * b1 r x)
    (fun r => ∑ x, o q x * v r x) r * b0 r x) fun r hr => by
      rw [dsc_zero _ _ _ r (lt_of_lt_of_le (pos_lt q) hr), zero_mul]).symm

/-- The gradient of the query's rotated part, under a mask. -/
theorem rotGrad (M : FVec Ideal S512x128 .f32) (q : Fin 512) (x : Fin 128) :
    k0_pay110 (F := Ideal) M A B0 B1 V O (ix2 q x)
      = (∑ r, dsc (pos 3 q) (fun r => ∑ x, a0 q x * b0 r x + ∑ x, a1 q x * b1 r x)
          (fun r => ∑ x, o q x * v r x) r * b1 r x) * sca * M (ix2 q x) := by
  pointwise [k0_pay110, k0_pay106, k0_pay103]
  simp only [scoreGrad hA0 hA1 hB0 hB1 hV hO, hB1]
  exact congrArg (fun a : EReal => a * sca * M (ix2 q x)) (sum_castLE le (fun r => dsc (pos 3 q) (fun r => ∑ x, a0 q x * b0 r x + ∑ x, a1 q x * b1 r x)
    (fun r => ∑ x, o q x * v r x) r * b1 r x) fun r hr => by
      rw [dsc_zero _ _ _ r (lt_of_lt_of_le (pos_lt q) hr), zero_mul]).symm

/-- The gradient of the key's unrotated part, added to what the accumulator holds. -/
theorem keyGrad (Y : Vec Ideal S2048x128 .f32) (r : Fin 2048) (x : Fin 128) :
    k0_pay112 (F := Ideal) (k0_pay107 A B0 B1 V O) Y (ix2 r x)
      = Y (ix2 r x) + ∑ q : Fin 512, dsc (pos 3 q)
          (fun r => ∑ x, a0 q x * b0 r x + ∑ x, a1 q x * b1 r x) (fun r => ∑ x, o q x * v r x) (Fin.castLE le r) * a0 q x := by
  pointwise [k0_pay112, k0_pay107]
  simp only [scoreGrad hA0 hA1 hB0 hB1 hV hO, hA0]

/-- The gradient of the key's rotated part, added to what the accumulator holds. -/
theorem rotKeyGrad (Y : Vec Ideal S2048x128 .f32) (r : Fin 2048) (x : Fin 128) :
    k0_pay114 (F := Ideal) (k0_pay107 A B0 B1 V O) Y (ix2 r x)
      = Y (ix2 r x) + ∑ q : Fin 512, dsc (pos 3 q)
          (fun r => ∑ x, a0 q x * b0 r x + ∑ x, a1 q x * b1 r x) (fun r => ∑ x, o q x * v r x) (Fin.castLE le r) * a1 q x := by
  pointwise [k0_pay114, k0_pay107]
  simp only [scoreGrad hA0 hA1 hB0 hB1 hV hO, hA1]

end Weights

/-! ### The second head's values are the first's, from its own query -/

section Second

variable (R : FVec Ideal S512x128 .f32) (X : Vec Ideal S512x128 .bf16) (B0 B1 V : Vec Ideal S2048x128 .bf16)
  (O : Vec Ideal S512x128 .bf16)

theorem weight1 : k0_pay122 (k0_pay120 (F := Ideal) R k0_pay115 k0_pay116 X B0 B1) (k0_pay121 R k0_pay115 k0_pay116 X B0 B1) = k0_pay104 (k0_pay118 (F := Ideal) R k0_pay115 k0_pay116 X) B0 B1 := rfl

theorem queryGrad1 : k0_pay126 (k0_pay119 B0 B1) V O (k0_pay120 (F := Ideal) R k0_pay115 k0_pay116 X B0 B1) (k0_pay121 R k0_pay115 k0_pay116 X B0 B1) = k0_pay109 (k0_pay118 (F := Ideal) R k0_pay115 k0_pay116 X) B0 B1 V O := rfl

theorem rotGrad1 (D M : FVec Ideal S512x128 .f32) :
    k0_pay127 D M (k0_pay119 B0 B1) V O (k0_pay120 (F := Ideal) R k0_pay115 k0_pay116 X B0 B1) (k0_pay121 R k0_pay115 k0_pay116 X B0 B1) = addf D (k0_pay110 M (k0_pay118 (F := Ideal) R k0_pay115 k0_pay116 X) B0 B1 V O) := rfl

theorem keyGrad1 (Y : Vec Ideal S2048x128 .f32) : k0_pay128 (k0_pay118 (F := Ideal) R k0_pay115 k0_pay116 X) V O (k0_pay120 (F := Ideal) R k0_pay115 k0_pay116 X B0 B1) (k0_pay121 R k0_pay115 k0_pay116 X B0 B1) Y = k0_pay112 (k0_pay107 (k0_pay118 (F := Ideal) R k0_pay115 k0_pay116 X) B0 B1 V O) Y := rfl

theorem valueGrad1 (Y : Vec Ideal S2048x128 .f32) : k0_pay129 O (k0_pay120 (F := Ideal) R k0_pay115 k0_pay116 X B0 B1) (k0_pay121 R k0_pay115 k0_pay116 X B0 B1) Y = k0_pay113 (k0_pay108 (k0_pay118 (F := Ideal) R k0_pay115 k0_pay116 X) B0 B1 O) Y := rfl

theorem rotKeyGrad1 (Y : Vec Ideal S2048x128 .f32) : k0_pay130 (k0_pay118 (F := Ideal) R k0_pay115 k0_pay116 X) V O (k0_pay120 (F := Ideal) R k0_pay115 k0_pay116 X B0 B1) (k0_pay121 R k0_pay115 k0_pay116 X B0 B1) Y = k0_pay114 (k0_pay107 (k0_pay118 (F := Ideal) R k0_pay115 k0_pay116 X) B0 B1 V O) Y := rfl

end Second

/-- The first head's part of the rotated query's gradient. -/
theorem rotSum (D M : FVec Ideal S512x128 .f32) : k0_pay111 (F := Ideal) D M = addf D M := rfl

/-- The rotation taken back. -/
theorem unrope_apply (D : FVec Ideal S512x128 .f32) (x2 x3 : Vec Ideal S512x128 .f32) (q : Fin 512) (l : Fin 128) :
    k0_pay5 (F := Ideal) D x2 x3 (ix2 q l)
      = D (ix2 q l) * x2 (ix2 q l) + D (ix2 q (swp l)) * x3 (ix2 q (swp l)) := by
  pointwise [k0_pay5]
  rw [swap_word]
  unfold swp
  split <;> rfl

theorem zeros (q : Fin 512) (l : Fin 128) : (k0_pay100 (F := Ideal)) (ix2 q l) = 0 := by
  pointwise [k0_pay100]

end Block

end Cert.KernelIdeal.Att.B3

end
-- ==== Proof.Att.Point3.lean ====
/- One grid point's values for query block 3: each stored value is the specification's. -/
module

public import proofs.«01_k».proof.Proof.Att.Block3
public import proofs.«01_k».proof.Proof.Att.Read

@[expose] public section

set_option maxRecDepth 16384

noncomputable section

namespace Cert.KernelIdeal.Att.B3

open Idealize.ShloMosaic Cert.KernelIdeal Cert.KernelIdeal.Gen Cert.KernelIdeal.Att Cert.Att

variable (x0 : Vec Ideal S512x256 .bf16) (x1 : Vec Ideal S512x128 .bf16) (x2 x3 : Vec Ideal S512x128 .f32)
  (x4 : Vec Ideal S2048x512 .bf16) (x5 : Vec Ideal S2048x128 .bf16) (x6 : Vec Ideal S512x256 .bf16)

theorem stQ0 (q : Fin 512) (x : Fin 128) : k0_pay109 (F := Ideal) (k0_pay102 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![2048, 128] inb_S2048x512_S2048x128_0_0)) x5 (View.ld x4 (Rect.unit ![0, 128] ![2048, 128] inb_S2048x512_S2048x128_0_128)) (View.ld x6 (Rect.unit ![0, 0] ![512, 128] inb_S512x256_S512x128_0_0)) (ix2 q x)
    = sQn x0 x1 x2 x3 x4 x5 x6 3 0 q x :=
  queryGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S2048x128_0_0 le (by decide) r x) (fun _ _ => rfl)
    (fun r x => ld_at x4 128 inb_S2048x512_S2048x128_0_128 le (by decide) r x) (fun q x => ld_at x6 0 inb_S512x256_S512x128_0_0 (le_refl _) (by decide) q x) q x

theorem stK0 (Y : Vec Ideal S2048x128 .f32) (r : Fin 2048) (x : Fin 128) : k0_pay112 (F := Ideal) (k0_pay107 (k0_pay102 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![2048, 128] inb_S2048x512_S2048x128_0_0)) x5 (View.ld x4 (Rect.unit ![0, 128] ![2048, 128] inb_S2048x512_S2048x128_0_128)) (View.ld x6 (Rect.unit ![0, 0] ![512, 128] inb_S512x256_S512x128_0_0))) Y (ix2 r x)
    = Y (ix2 r x) + sKn x0 x1 x2 x3 x4 x5 x6 3 0 (Fin.castLE le r) x :=
  keyGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S2048x128_0_0 le (by decide) r x) (fun _ _ => rfl)
    (fun r x => ld_at x4 128 inb_S2048x512_S2048x128_0_128 le (by decide) r x) (fun q x => ld_at x6 0 inb_S512x256_S512x128_0_0 (le_refl _) (by decide) q x) Y r x

theorem stV0 (Y : Vec Ideal S2048x128 .f32) (r : Fin 2048) (x : Fin 128) : k0_pay113 (F := Ideal) (k0_pay108 (k0_pay102 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![2048, 128] inb_S2048x512_S2048x128_0_0)) x5 (View.ld x6 (Rect.unit ![0, 0] ![512, 128] inb_S512x256_S512x128_0_0))) Y (ix2 r x)
    = Y (ix2 r x) + sV x0 x1 x2 x3 x4 x5 x6 3 0 (Fin.castLE le r) x :=
  valueGrad (a0 := qn x0 0) (a1 := qp x1 x2 x3 0) (b0 := kn x4 0) (b1 := fun r x => x5 (ix2 r x)) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S2048x128_0_0 le (by decide) r x) (fun _ _ => rfl)
    (fun q x => ld_at x6 0 inb_S512x256_S512x128_0_0 (le_refl _) (by decide) q x) Y r x

theorem stE0 (Y : Vec Ideal S2048x128 .f32) (r : Fin 2048) (x : Fin 128) : k0_pay114 (F := Ideal) (k0_pay107 (k0_pay102 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![2048, 128] inb_S2048x512_S2048x128_0_0)) x5 (View.ld x4 (Rect.unit ![0, 128] ![2048, 128] inb_S2048x512_S2048x128_0_128)) (View.ld x6 (Rect.unit ![0, 0] ![512, 128] inb_S512x256_S512x128_0_0))) Y (ix2 r x)
    = Y (ix2 r x) + sKp x0 x1 x2 x3 x4 x5 x6 3 0 (Fin.castLE le r) x :=
  rotKeyGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S2048x128_0_0 le (by decide) r x) (fun _ _ => rfl)
    (fun r x => ld_at x4 128 inb_S2048x512_S2048x128_0_128 le (by decide) r x) (fun q x => ld_at x6 0 inb_S512x256_S512x128_0_0 (le_refl _) (by decide) q x) Y r x

theorem stQ1 (q : Fin 512) (x : Fin 128) : k0_pay126 (F := Ideal) (k0_pay119 (View.ld x4 (Rect.unit ![0, 256] ![2048, 128] inb_S2048x512_S2048x128_0_256)) x5) (View.ld x4 (Rect.unit ![0, 384] ![2048, 128] inb_S2048x512_S2048x128_0_384)) (View.ld x6 (Rect.unit ![0, 128] ![512, 128] inb_S512x256_S512x128_0_128)) (k0_pay120 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) (k0_pay121 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) (ix2 q x)
    = sQn x0 x1 x2 x3 x4 x5 x6 3 1 q x :=
  queryGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S2048x128_0_256 le (by decide) r x) (fun _ _ => rfl)
    (fun r x => ld_at x4 384 inb_S2048x512_S2048x128_0_384 le (by decide) r x) (fun q x => ld_at x6 128 inb_S512x256_S512x128_0_128 (le_refl _) (by decide) q x) q x

theorem stK1 (Y : Vec Ideal S2048x128 .f32) (r : Fin 2048) (x : Fin 128) : k0_pay128 (F := Ideal) (k0_pay118 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128))) (View.ld x4 (Rect.unit ![0, 384] ![2048, 128] inb_S2048x512_S2048x128_0_384)) (View.ld x6 (Rect.unit ![0, 128] ![512, 128] inb_S512x256_S512x128_0_128)) (k0_pay120 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) (k0_pay121 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) Y (ix2 r x)
    = Y (ix2 r x) + sKn x0 x1 x2 x3 x4 x5 x6 3 1 (Fin.castLE le r) x :=
  keyGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S2048x128_0_256 le (by decide) r x) (fun _ _ => rfl)
    (fun r x => ld_at x4 384 inb_S2048x512_S2048x128_0_384 le (by decide) r x) (fun q x => ld_at x6 128 inb_S512x256_S512x128_0_128 (le_refl _) (by decide) q x) Y r x

theorem stV1 (Y : Vec Ideal S2048x128 .f32) (r : Fin 2048) (x : Fin 128) : k0_pay129 (F := Ideal) (View.ld x6 (Rect.unit ![0, 128] ![512, 128] inb_S512x256_S512x128_0_128)) (k0_pay120 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) (k0_pay121 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) Y (ix2 r x)
    = Y (ix2 r x) + sV x0 x1 x2 x3 x4 x5 x6 3 1 (Fin.castLE le r) x :=
  valueGrad (a0 := qn x0 1) (a1 := qp x1 x2 x3 1) (b0 := kn x4 1) (b1 := fun r x => x5 (ix2 r x)) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S2048x128_0_256 le (by decide) r x) (fun _ _ => rfl)
    (fun q x => ld_at x6 128 inb_S512x256_S512x128_0_128 (le_refl _) (by decide) q x) Y r x

theorem stE1 (Y : Vec Ideal S2048x128 .f32) (r : Fin 2048) (x : Fin 128) : k0_pay130 (F := Ideal) (k0_pay118 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128))) (View.ld x4 (Rect.unit ![0, 384] ![2048, 128] inb_S2048x512_S2048x128_0_384)) (View.ld x6 (Rect.unit ![0, 128] ![512, 128] inb_S512x256_S512x128_0_128)) (k0_pay120 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) (k0_pay121 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) Y (ix2 r x)
    = Y (ix2 r x) + sKp x0 x1 x2 x3 x4 x5 x6 3 1 (Fin.castLE le r) x :=
  rotKeyGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S2048x128_0_256 le (by decide) r x) (fun _ _ => rfl)
    (fun r x => ld_at x4 384 inb_S2048x512_S2048x128_0_384 le (by decide) r x) (fun q x => ld_at x6 128 inb_S512x256_S512x128_0_128 (le_refl _) (by decide) q x) Y r x

theorem stR (q : Fin 512) (x : Fin 128) : k0_pay127 (F := Ideal) (k0_pay111 k0_pay100 (k0_pay110 k0_pay101 (k0_pay102 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![2048, 128] inb_S2048x512_S2048x128_0_0)) x5 (View.ld x4 (Rect.unit ![0, 128] ![2048, 128] inb_S2048x512_S2048x128_0_128)) (View.ld x6 (Rect.unit ![0, 0] ![512, 128] inb_S512x256_S512x128_0_0)))) (k0_pay117 k0_pay115 k0_pay116) (k0_pay119 (View.ld x4 (Rect.unit ![0, 256] ![2048, 128] inb_S2048x512_S2048x128_0_256)) x5) (View.ld x4 (Rect.unit ![0, 384] ![2048, 128] inb_S2048x512_S2048x128_0_384)) (View.ld x6 (Rect.unit ![0, 128] ![512, 128] inb_S512x256_S512x128_0_128)) (k0_pay120 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) (k0_pay121 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) (ix2 q x)
    = sRo x0 x1 x2 x3 x4 x5 x6 3 q x := by
  have h0 := rotGrad (a0 := qn x0 0) (a1 := qp x1 x2 x3 0) (b0 := kn x4 0) (b1 := fun r x => x5 (ix2 r x)) (v := vv x4 0) (o := oo x6 0)
    (fun q x => (query0_lo _ _ q x).trans (congrArg (fun a : EReal => a * sca) (ld_at x0 0 inb_S512x256_S512x128_0_0 (le_refl _) (by decide) q x)))
    (fun q x => (query0_hi _ _ q x).trans (congrArg (fun a : EReal => a * hm 0 x * sca) (rope_apply x1 x2 x3 q x)))
    (fun r x => ld_at x4 0 inb_S2048x512_S2048x128_0_0 le (by decide) r x) (fun _ _ => rfl)
    (fun r x => ld_at x4 128 inb_S2048x512_S2048x128_0_128 le (by decide) r x) (fun q x => ld_at x6 0 inb_S512x256_S512x128_0_0 (le_refl _) (by decide) q x) k0_pay101 q x
  have h1 := rotGrad (a0 := qn x0 1) (a1 := qp x1 x2 x3 1) (b0 := kn x4 1) (b1 := fun r x => x5 (ix2 r x)) (v := vv x4 1) (o := oo x6 1)
    (fun q x => (query1_lo _ _ q x).trans (congrArg (fun a : EReal => a * sca) (ld_at x0 128 inb_S512x256_S512x128_0_128 (le_refl _) (by decide) q x)))
    (fun q x => (query1_hi _ _ q x).trans (congrArg (fun a : EReal => a * hm 1 x * sca) (rope_apply x1 x2 x3 q x)))
    (fun r x => ld_at x4 256 inb_S2048x512_S2048x128_0_256 le (by decide) r x) (fun _ _ => rfl)
    (fun r x => ld_at x4 384 inb_S2048x512_S2048x128_0_384 le (by decide) r x) (fun q x => ld_at x6 128 inb_S512x256_S512x128_0_128 (le_refl _) (by decide) q x) (k0_pay117 k0_pay115 k0_pay116) q x
  rw [mask0] at h0
  rw [mask1] at h1
  exact congrArg₂ (fun a b : EReal => a + b) (congrArg₂ (fun a b : EReal => a + b) (zeros q x) h0) h1

theorem stP (q : Fin 512) (x : Fin 128) : k0_pay5 (F := Ideal) (k0_pay127 (k0_pay111 k0_pay100 (k0_pay110 k0_pay101 (k0_pay102 (k0_pay1 (k0_pay133 x1) (k0_pay134 x3) (k0_pay135 x1 x2) k0_pay136 (k0_pay137 x1) 32#32) (View.ld x0 (Rect.unit ![0, 0] ![512, 128] inb_S512x256_S512x128_0_0))) (View.ld x4 (Rect.unit ![0, 0] ![2048, 128] inb_S2048x512_S2048x128_0_0)) x5 (View.ld x4 (Rect.unit ![0, 128] ![2048, 128] inb_S2048x512_S2048x128_0_128)) (View.ld x6 (Rect.unit ![0, 0] ![512, 128] inb_S512x256_S512x128_0_0)))) (k0_pay117 k0_pay115 k0_pay116) (k0_pay119 (View.ld x4 (Rect.unit ![0, 256] ![2048, 128] inb_S2048x512_S2048x128_0_256)) x5) (View.ld x4 (Rect.unit ![0, 384] ![2048, 128] inb_S2048x512_S2048x128_0_384)) (View.ld x6 (Rect.unit ![0, 128] ![512, 128] inb_S512x256_S512x128_0_128)) (k0_pay120 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5) (k0_pay121 (k0_pay1 (k0_pay133 x1) (k0_pay134 x3) (k0_pay135 x1 x2) k0_pay136 (k0_pay137 x1) 32#32) k0_pay115 k0_pay116 (View.ld x0 (Rect.unit ![0, 128] ![512, 128] inb_S512x256_S512x128_0_128)) (View.ld x4 (Rect.unit ![0, 256] ![2048, 128] inb_S2048x512_S2048x128_0_256)) x5)) x2 x3 (ix2 q x) = sQp x0 x1 x2 x3 x4 x5 x6 3 q x := by
  rw [unrope_apply, stR, stR]
  rfl

end Cert.KernelIdeal.Att.B3

end
-- ==== Proof.Att.ValD.lean ====
/- What the run at row block 3 leaves, entry by entry. -/
module

public import proofs.«01_k».proof.Proof.Att.RunD
public import proofs.«01_k».proof.Proof.Att.Point3

@[expose] public section

set_option maxRecDepth 16384

noncomputable section

namespace Cert.KernelIdeal.Att

open Idealize.ShloMosaic Idealize.ShloMosaic.TcCoe Idealize.ShloMosaic.Tactic Cert.KernelIdeal Cert.KernelIdeal.Gen Cert.Att

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole)
  (hc0 : ¬cnd0 i) (hc1 : ¬cnd1 i) (hc2 : ¬cnd2 i) (hc3 : ¬cnd3 i) (hc4 : ¬cnd4 i) (hc5 : cnd5 i) (hc6 : cnd6 i)
  (x0 : Vec Ideal S512x256 .bf16) (x1 : Vec Ideal S512x128 .bf16) (x2 : Vec Ideal S512x128 .f32) (x3 : Vec Ideal S512x128 .f32) (x4 : Vec Ideal S2048x512 .bf16) (x5 : Vec Ideal S2048x128 .bf16) (x6 : Vec Ideal S512x256 .bf16) (x10 : Vec Ideal S2048x128 .f32) (xs : Vec Ideal S2048x512 .f32)

theorem valD_qn0 (q : Fin 512) (j : Fin 128) :
    View.canon (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).1 (ix2 q (co 0 j (by decide))) = sQn x0 x1 x2 x3 x4 x5 x6 3 0 q j := by
  unfold runD
  dsimp only
  frame_out
  exact (cn_miss _ _ _ _ _ _ (Or.inr (Or.inl (by show 128 * 0 + j.val < 128; omega)))).trans
    ((cn_hit _ _ _ _ _ _ q.isLt j (by show 128 * 0 + j.val = 0 + j.val; omega)).trans (B3.stQ0 x0 x1 x2 x3 x4 x5 x6 q j))

theorem valD_qn1 (q : Fin 512) (j : Fin 128) :
    View.canon (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).1 (ix2 q (co 1 j (by decide))) = sQn x0 x1 x2 x3 x4 x5 x6 3 1 q j := by
  unfold runD
  dsimp only
  frame_out
  exact (cn_hit _ _ _ _ _ _ q.isLt j (by show 128 * 1 + j.val = 128 + j.val; omega)).trans (B3.stQ1 x0 x1 x2 x3 x4 x5 x6 q j)

theorem valD_qp (q : Fin 512) (l : Fin 128) : View.canon (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.1 (ix2 q l) = sQp x0 x1 x2 x3 x4 x5 x6 3 q l := by
  unfold runD
  dsimp only
  frame_out
  exact B3.stP x0 x1 x2 x3 x4 x5 x6 q l

theorem valD_kp (r : Fin 2048) (l : Fin 128) :
    arg12.view.read (Elt Ideal) (arg12.view.writes (Elt Ideal) (harg12.unread x10) (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.1) (ix2 r l)
      = x10 (ix2 r l) + sKp x0 x1 x2 x3 x4 x5 x6 3 0 r l + sKp x0 x1 x2 x3 x4 x5 x6 3 1 r l := by
  unfold runD
  dsimp only
  frame_out
  have h : r.val < 2048 := r.isLt
  exact (rw_hit _ _ _ _ _ _ _ _ h l (Nat.zero_add _).symm).trans ((B3.stE1 x0 x1 x2 x3 x4 x5 x6 _ ⟨r.val, h⟩ l).trans
    (congrArg (fun a : EReal => a + sKp x0 x1 x2 x3 x4 x5 x6 3 1 r l) (B3.stE0 x0 x1 x2 x3 x4 x5 x6 _ ⟨r.val, h⟩ l)))

theorem valD_sc0 (r : Fin 2048) (j : Fin 128) :
    arg13.view.read (Elt Ideal) (arg13.view.writes (Elt Ideal) (harg13.unread xs) (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.2.1) (ix2 r (co 0 j (by decide)))
      = xs (ix2 r (co 0 j (by decide))) + sKn x0 x1 x2 x3 x4 x5 x6 3 0 r j := by
  unfold runD
  dsimp only
  frame_out
  have h : r.val < 2048 := r.isLt
  refine (rw_miss _ _ _ _ _ _ _ _ (Or.inr (Or.inl (by show 128 * 0 + j.val < 384; omega)))).trans ?_
  refine (rw_miss _ _ _ _ _ _ _ _ (Or.inr (Or.inl (by show 128 * 0 + j.val < 256; omega)))).trans ?_
  refine (rw_miss _ _ _ _ _ _ _ _ (Or.inr (Or.inl (by show 128 * 0 + j.val < 128; omega)))).trans ?_
  exact (rw_hit _ _ _ _ _ _ _ _ h j (by show 128 * 0 + j.val = 0 + j.val; omega)).trans ((B3.stK0 x0 x1 x2 x3 x4 x5 x6 _ ⟨r.val, h⟩ j).trans (congrArg (fun a : EReal => a + sKn x0 x1 x2 x3 x4 x5 x6 3 0 r j) ((ld_at _ _ _ B3.le (by decide) ⟨r.val, h⟩ j).trans (congrArg (fun a => xs (ix2 r a)) (Fin.ext (by show 0 + j.val = 128 * 0 + j.val; omega))))))

theorem valD_sc1 (r : Fin 2048) (j : Fin 128) :
    arg13.view.read (Elt Ideal) (arg13.view.writes (Elt Ideal) (harg13.unread xs) (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.2.1) (ix2 r (co 1 j (by decide)))
      = xs (ix2 r (co 1 j (by decide))) + sV x0 x1 x2 x3 x4 x5 x6 3 0 r j := by
  unfold runD
  dsimp only
  frame_out
  have h : r.val < 2048 := r.isLt
  refine (rw_miss _ _ _ _ _ _ _ _ (Or.inr (Or.inl (by show 128 * 1 + j.val < 384; omega)))).trans ?_
  refine (rw_miss _ _ _ _ _ _ _ _ (Or.inr (Or.inl (by show 128 * 1 + j.val < 256; omega)))).trans ?_
  exact (rw_hit _ _ _ _ _ _ _ _ h j (by show 128 * 1 + j.val = 128 + j.val; omega)).trans ((B3.stV0 x0 x1 x2 x3 x4 x5 x6 _ ⟨r.val, h⟩ j).trans (congrArg (fun a : EReal => a + sV x0 x1 x2 x3 x4 x5 x6 3 0 r j) ((ld_at _ _ _ B3.le (by decide) ⟨r.val, h⟩ j).trans (congrArg (fun a => xs (ix2 r a)) (Fin.ext (by show 128 + j.val = 128 * 1 + j.val; omega))))))

theorem valD_sc2 (r : Fin 2048) (j : Fin 128) :
    arg13.view.read (Elt Ideal) (arg13.view.writes (Elt Ideal) (harg13.unread xs) (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.2.1) (ix2 r (co 2 j (by decide)))
      = xs (ix2 r (co 2 j (by decide))) + sKn x0 x1 x2 x3 x4 x5 x6 3 1 r j := by
  unfold runD
  dsimp only
  frame_out
  have h : r.val < 2048 := r.isLt
  refine (rw_miss _ _ _ _ _ _ _ _ (Or.inr (Or.inl (by show 128 * 2 + j.val < 384; omega)))).trans ?_
  exact (rw_hit _ _ _ _ _ _ _ _ h j (by show 128 * 2 + j.val = 256 + j.val; omega)).trans ((B3.stK1 x0 x1 x2 x3 x4 x5 x6 _ ⟨r.val, h⟩ j).trans (congrArg (fun a : EReal => a + sKn x0 x1 x2 x3 x4 x5 x6 3 1 r j) ((ld_at _ _ _ B3.le (by decide) ⟨r.val, h⟩ j).trans (congrArg (fun a => xs (ix2 r a)) (Fin.ext (by show 256 + j.val = 128 * 2 + j.val; omega))))))

theorem valD_sc3 (r : Fin 2048) (j : Fin 128) :
    arg13.view.read (Elt Ideal) (arg13.view.writes (Elt Ideal) (harg13.unread xs) (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.2.2.1) (ix2 r (co 3 j (by decide)))
      = xs (ix2 r (co 3 j (by decide))) + sV x0 x1 x2 x3 x4 x5 x6 3 1 r j := by
  unfold runD
  dsimp only
  frame_out
  have h : r.val < 2048 := r.isLt
  exact (rw_hit _ _ _ _ _ _ _ _ h j (by show 128 * 3 + j.val = 384 + j.val; omega)).trans ((B3.stV1 x0 x1 x2 x3 x4 x5 x6 _ ⟨r.val, h⟩ j).trans (congrArg (fun a : EReal => a + sV x0 x1 x2 x3 x4 x5 x6 3 1 r j) ((ld_at _ _ _ B3.le (by decide) ⟨r.val, h⟩ j).trans (congrArg (fun a => xs (ix2 r a)) (Fin.ext (by show 384 + j.val = 128 * 3 + j.val; omega))))))

theorem valD_kv0 (r : Fin 2048) (j : Fin 128) :
    View.canon (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.1 (ix2 r (co 0 j (by decide)))
      = xs (ix2 r (co 0 j (by decide))) + sKn x0 x1 x2 x3 x4 x5 x6 3 0 r j := by
  unfold runD
  dsimp only
  frame_out
  refine (trunc_at _ r _).trans ?_
  rw [View.readCov_eq_canon']
  refine (ld_at (View.canon _) 0 _ (le_refl 2048) (by decide) r (co 0 j (by decide))).trans ?_
  rw [show (⟨0 + (co (N := 512) 0 j (by decide)).val, by have := (co (N := 512) 0 j (by decide)).isLt; omega⟩ : Fin 512) = co 0 j (by decide) from Fin.ext (Nat.zero_add _)]
  have h : r.val < 2048 := r.isLt
  refine (cn_miss _ _ _ _ _ _ (Or.inr (Or.inl (by show 128 * 0 + j.val < 384; omega)))).trans ?_
  refine (cn_miss _ _ _ _ _ _ (Or.inr (Or.inl (by show 128 * 0 + j.val < 256; omega)))).trans ?_
  refine (cn_miss _ _ _ _ _ _ (Or.inr (Or.inl (by show 128 * 0 + j.val < 128; omega)))).trans ?_
  exact (cn_hit _ _ _ _ _ _ h j (by show 128 * 0 + j.val = 0 + j.val; omega)).trans ((B3.stK0 x0 x1 x2 x3 x4 x5 x6 _ ⟨r.val, h⟩ j).trans (congrArg (fun a : EReal => a + sKn x0 x1 x2 x3 x4 x5 x6 3 0 r j) ((ld_at _ _ _ B3.le (by decide) ⟨r.val, h⟩ j).trans (congrArg (fun a => xs (ix2 r a)) (Fin.ext (by show 0 + j.val = 128 * 0 + j.val; omega))))))

theorem valD_kv1 (r : Fin 2048) (j : Fin 128) :
    View.canon (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.1 (ix2 r (co 1 j (by decide)))
      = xs (ix2 r (co 1 j (by decide))) + sV x0 x1 x2 x3 x4 x5 x6 3 0 r j := by
  unfold runD
  dsimp only
  frame_out
  refine (trunc_at _ r _).trans ?_
  rw [View.readCov_eq_canon']
  refine (ld_at (View.canon _) 0 _ (le_refl 2048) (by decide) r (co 1 j (by decide))).trans ?_
  rw [show (⟨0 + (co (N := 512) 1 j (by decide)).val, by have := (co (N := 512) 1 j (by decide)).isLt; omega⟩ : Fin 512) = co 1 j (by decide) from Fin.ext (Nat.zero_add _)]
  have h : r.val < 2048 := r.isLt
  refine (cn_miss _ _ _ _ _ _ (Or.inr (Or.inl (by show 128 * 1 + j.val < 384; omega)))).trans ?_
  refine (cn_miss _ _ _ _ _ _ (Or.inr (Or.inl (by show 128 * 1 + j.val < 256; omega)))).trans ?_
  exact (cn_hit _ _ _ _ _ _ h j (by show 128 * 1 + j.val = 128 + j.val; omega)).trans ((B3.stV0 x0 x1 x2 x3 x4 x5 x6 _ ⟨r.val, h⟩ j).trans (congrArg (fun a : EReal => a + sV x0 x1 x2 x3 x4 x5 x6 3 0 r j) ((ld_at _ _ _ B3.le (by decide) ⟨r.val, h⟩ j).trans (congrArg (fun a => xs (ix2 r a)) (Fin.ext (by show 128 + j.val = 128 * 1 + j.val; omega))))))

theorem valD_kv2 (r : Fin 2048) (j : Fin 128) :
    View.canon (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.1 (ix2 r (co 2 j (by decide)))
      = xs (ix2 r (co 2 j (by decide))) + sKn x0 x1 x2 x3 x4 x5 x6 3 1 r j := by
  unfold runD
  dsimp only
  frame_out
  refine (trunc_at _ r _).trans ?_
  rw [View.readCov_eq_canon']
  refine (ld_at (View.canon _) 0 _ (le_refl 2048) (by decide) r (co 2 j (by decide))).trans ?_
  rw [show (⟨0 + (co (N := 512) 2 j (by decide)).val, by have := (co (N := 512) 2 j (by decide)).isLt; omega⟩ : Fin 512) = co 2 j (by decide) from Fin.ext (Nat.zero_add _)]
  have h : r.val < 2048 := r.isLt
  refine (cn_miss _ _ _ _ _ _ (Or.inr (Or.inl (by show 128 * 2 + j.val < 384; omega)))).trans ?_
  exact (cn_hit _ _ _ _ _ _ h j (by show 128 * 2 + j.val = 256 + j.val; omega)).trans ((B3.stK1 x0 x1 x2 x3 x4 x5 x6 _ ⟨r.val, h⟩ j).trans (congrArg (fun a : EReal => a + sKn x0 x1 x2 x3 x4 x5 x6 3 1 r j) ((ld_at _ _ _ B3.le (by decide) ⟨r.val, h⟩ j).trans (congrArg (fun a => xs (ix2 r a)) (Fin.ext (by show 256 + j.val = 128 * 2 + j.val; omega))))))

theorem valD_kv3 (r : Fin 2048) (j : Fin 128) :
    View.canon (runD (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10 xs).2.2.1 (ix2 r (co 3 j (by decide)))
      = xs (ix2 r (co 3 j (by decide))) + sV x0 x1 x2 x3 x4 x5 x6 3 1 r j := by
  unfold runD
  dsimp only
  frame_out
  refine (trunc_at _ r _).trans ?_
  rw [View.readCov_eq_canon']
  refine (ld_at (View.canon _) 0 _ (le_refl 2048) (by decide) r (co 3 j (by decide))).trans ?_
  rw [show (⟨0 + (co (N := 512) 3 j (by decide)).val, by have := (co (N := 512) 3 j (by decide)).isLt; omega⟩ : Fin 512) = co 3 j (by decide) from Fin.ext (Nat.zero_add _)]
  have h : r.val < 2048 := r.isLt
  exact (cn_hit _ _ _ _ _ _ h j (by show 128 * 3 + j.val = 384 + j.val; omega)).trans ((B3.stV1 x0 x1 x2 x3 x4 x5 x6 _ ⟨r.val, h⟩ j).trans (congrArg (fun a : EReal => a + sV x0 x1 x2 x3 x4 x5 x6 3 1 r j) ((ld_at _ _ _ B3.le (by decide) ⟨r.val, h⟩ j).trans (congrArg (fun a => xs (ix2 r a)) (Fin.ext (by show 384 + j.val = 128 * 3 + j.val; omega))))))

end Cert.KernelIdeal.Att

end
-- ==== Proof.Att.ValE.lean ====
/- What the run at a head pair's first row block leaves, entry by entry. -/
module

public import proofs.«01_k».proof.Proof.Att.RunE
public import proofs.«01_k».proof.Proof.Att.Point0

@[expose] public section

set_option maxRecDepth 16384

noncomputable section

namespace Cert.KernelIdeal.Att

open Idealize.ShloMosaic Idealize.ShloMosaic.TcCoe Idealize.ShloMosaic.Tactic Cert.KernelIdeal Cert.KernelIdeal.Gen Cert.Att

variable (c : Dev nD) (i : grid0.Coords) (arg2 : Memref sig .tc .vmem S512x256 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S2048x512 .bf16) (harg6 : arg6.IsWhole) (arg7 : Memref sig .tc .vmem S2048x128 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S2048x512 .bf16) (harg11 : arg11.IsWhole) (arg12 : Memref sig .tc .vmem S2048x128 .f32) (harg12 : arg12.IsWhole) (arg13 : Memref sig .tc .vmem S2048x512 .f32) (harg13 : arg13.IsWhole)
  (hc0 : cnd0 i) (hc1 : ¬cnd1 i) (hc2 : cnd2 i) (hc3 : ¬cnd3 i) (hc4 : ¬cnd4 i) (hc5 : ¬cnd5 i) (hc6 : ¬cnd6 i)
  (x0 : Vec Ideal S512x256 .bf16) (x1 : Vec Ideal S512x128 .bf16) (x2 : Vec Ideal S512x128 .f32) (x3 : Vec Ideal S512x128 .f32) (x4 : Vec Ideal S2048x512 .bf16) (x5 : Vec Ideal S2048x128 .bf16) (x6 : Vec Ideal S512x256 .bf16) (x10 : Vec Ideal S2048x128 .f32)

theorem valE_qn0 (q : Fin 512) (j : Fin 128) :
    View.canon (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).1 (ix2 q (co 0 j (by decide))) = sQn x0 x1 x2 x3 x4 x5 x6 0 0 q j := by
  unfold runE
  dsimp only
  frame_out
  exact (cn_miss _ _ _ _ _ _ (Or.inr (Or.inl (by show 128 * 0 + j.val < 128; omega)))).trans
    ((cn_hit _ _ _ _ _ _ q.isLt j (by show 128 * 0 + j.val = 0 + j.val; omega)).trans (B0.stQ0 x0 x1 x2 x3 x4 x5 x6 q j))

theorem valE_qn1 (q : Fin 512) (j : Fin 128) :
    View.canon (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).1 (ix2 q (co 1 j (by decide))) = sQn x0 x1 x2 x3 x4 x5 x6 0 1 q j := by
  unfold runE
  dsimp only
  frame_out
  exact (cn_hit _ _ _ _ _ _ q.isLt j (by show 128 * 1 + j.val = 128 + j.val; omega)).trans (B0.stQ1 x0 x1 x2 x3 x4 x5 x6 q j)

theorem valE_qp (q : Fin 512) (l : Fin 128) : View.canon (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).2.1 (ix2 q l) = sQp x0 x1 x2 x3 x4 x5 x6 0 q l := by
  unfold runE
  dsimp only
  frame_out
  exact B0.stP x0 x1 x2 x3 x4 x5 x6 q l

theorem valE_kp (r : Fin 2048) (l : Fin 128) :
    arg12.view.read (Elt Ideal) (arg12.view.writes (Elt Ideal) (harg12.unread x10) (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).2.2.1) (ix2 r l)
      = x10 (ix2 r l) + sKp x0 x1 x2 x3 x4 x5 x6 0 0 r l + sKp x0 x1 x2 x3 x4 x5 x6 0 1 r l := by
  unfold runE
  dsimp only
  frame_out
  by_cases h : r.val < 512
  · refine (rw_hit _ _ _ _ _ _ _ _ h l (Nat.zero_add _).symm).trans ?_
    refine (B0.stE1 x0 x1 x2 x3 x4 x5 x6 _ ⟨r.val, h⟩ l).trans ?_
    refine congrArg (fun a : EReal => a + sKp x0 x1 x2 x3 x4 x5 x6 0 1 r l) ?_
    refine (congrFun (View.readCov_cons_toLoadRect _ _ _ _) _).trans ?_
    refine (B0.stE0 x0 x1 x2 x3 x4 x5 x6 _ ⟨r.val, h⟩ l).trans ?_
    refine congrArg (fun a : EReal => a + sKp x0 x1 x2 x3 x4 x5 x6 0 0 r l) ?_
    exact ((ld_at _ _ _ B0.le (by decide) ⟨r.val, h⟩ l).trans (congrArg (fun a => x10 (ix2 r a)) (Fin.ext (Nat.zero_add _))))
  · have h : 512 ≤ r.val := not_lt.1 h
    rw [sKp_late _ _ _ _ _ _ _ _ _ _ h, sKp_late _ _ _ _ _ _ _ _ _ _ h, add_zero, add_zero]
    refine (rw_miss _ _ _ _ _ _ _ _ (Or.inl h)).trans ?_
    refine (rw_miss _ _ _ _ _ _ _ _ (Or.inl h)).trans ?_
    exact (congrFun (harg12.read_unread x10) _)

theorem valE_sc0 (r : Fin 2048) (j : Fin 128) :
    View.canon (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).2.2.2.1 (ix2 r (co 0 j (by decide)))
      = 0 + sKn x0 x1 x2 x3 x4 x5 x6 0 0 r j := by
  unfold runE
  dsimp only
  frame_out
  by_cases h : r.val < 512
  · skip
    refine (cn_miss _ _ _ _ _ _ (Or.inr (Or.inl (by show 128 * 0 + j.val < 384; omega)))).trans ?_
    refine (cn_miss _ _ _ _ _ _ (Or.inr (Or.inl (by show 128 * 0 + j.val < 256; omega)))).trans ?_
    refine (cn_miss _ _ _ _ _ _ (Or.inr (Or.inl (by show 128 * 0 + j.val < 128; omega)))).trans ?_
    refine (cn_hit _ _ _ _ _ _ h j (by show 128 * 0 + j.val = 0 + j.val; omega)).trans ((B0.stK0 x0 x1 x2 x3 x4 x5 x6 _ ⟨r.val, h⟩ j).trans (congrArg (fun a : EReal => a + sKn x0 x1 x2 x3 x4 x5 x6 0 0 r j) ((rc_at _ _ _ _ B0.le (by decide) ⟨r.val, h⟩ j).trans ?_)))
    repeat (refine (cn_miss _ _ _ _ _ _ ?_).trans ?_; · exact Or.inr (Or.inr (by dsimp only; omega)))
    exact (cn_fill _ _ _ _).trans (scr_zero _ _)
  · have h : 512 ≤ r.val := not_lt.1 h
    rw [sKn_late _ _ _ _ _ _ _ _ _ _ h, add_zero]
    refine (cn_miss _ _ _ _ _ _ (Or.inl h)).trans ?_
    refine (cn_miss _ _ _ _ _ _ (Or.inl h)).trans ?_
    refine (cn_miss _ _ _ _ _ _ (Or.inl h)).trans ?_
    refine (cn_miss _ _ _ _ _ _ (Or.inl h)).trans ?_
    exact (cn_fill _ _ _ _).trans (scr_zero _ _)

theorem valE_sc1 (r : Fin 2048) (j : Fin 128) :
    View.canon (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).2.2.2.1 (ix2 r (co 1 j (by decide)))
      = 0 + sV x0 x1 x2 x3 x4 x5 x6 0 0 r j := by
  unfold runE
  dsimp only
  frame_out
  by_cases h : r.val < 512
  · skip
    refine (cn_miss _ _ _ _ _ _ (Or.inr (Or.inl (by show 128 * 1 + j.val < 384; omega)))).trans ?_
    refine (cn_miss _ _ _ _ _ _ (Or.inr (Or.inl (by show 128 * 1 + j.val < 256; omega)))).trans ?_
    refine (cn_hit _ _ _ _ _ _ h j (by show 128 * 1 + j.val = 128 + j.val; omega)).trans ((B0.stV0 x0 x1 x2 x3 x4 x5 x6 _ ⟨r.val, h⟩ j).trans (congrArg (fun a : EReal => a + sV x0 x1 x2 x3 x4 x5 x6 0 0 r j) ((rc_at _ _ _ _ B0.le (by decide) ⟨r.val, h⟩ j).trans ?_)))
    repeat (refine (cn_miss _ _ _ _ _ _ ?_).trans ?_; · exact Or.inr (Or.inr (by dsimp only; omega)))
    exact (cn_fill _ _ _ _).trans (scr_zero _ _)
  · have h : 512 ≤ r.val := not_lt.1 h
    rw [sV_late _ _ _ _ _ _ _ _ _ _ h, add_zero]
    refine (cn_miss _ _ _ _ _ _ (Or.inl h)).trans ?_
    refine (cn_miss _ _ _ _ _ _ (Or.inl h)).trans ?_
    refine (cn_miss _ _ _ _ _ _ (Or.inl h)).trans ?_
    refine (cn_miss _ _ _ _ _ _ (Or.inl h)).trans ?_
    exact (cn_fill _ _ _ _).trans (scr_zero _ _)

theorem valE_sc2 (r : Fin 2048) (j : Fin 128) :
    View.canon (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).2.2.2.1 (ix2 r (co 2 j (by decide)))
      = 0 + sKn x0 x1 x2 x3 x4 x5 x6 0 1 r j := by
  unfold runE
  dsimp only
  frame_out
  by_cases h : r.val < 512
  · skip
    refine (cn_miss _ _ _ _ _ _ (Or.inr (Or.inl (by show 128 * 2 + j.val < 384; omega)))).trans ?_
    refine (cn_hit _ _ _ _ _ _ h j (by show 128 * 2 + j.val = 256 + j.val; omega)).trans ((B0.stK1 x0 x1 x2 x3 x4 x5 x6 _ ⟨r.val, h⟩ j).trans (congrArg (fun a : EReal => a + sKn x0 x1 x2 x3 x4 x5 x6 0 1 r j) ((rc_at _ _ _ _ B0.le (by decide) ⟨r.val, h⟩ j).trans ?_)))
    repeat (refine (cn_miss _ _ _ _ _ _ ?_).trans ?_; · exact Or.inr (Or.inr (by dsimp only; omega)))
    exact (cn_fill _ _ _ _).trans (scr_zero _ _)
  · have h : 512 ≤ r.val := not_lt.1 h
    rw [sKn_late _ _ _ _ _ _ _ _ _ _ h, add_zero]
    refine (cn_miss _ _ _ _ _ _ (Or.inl h)).trans ?_
    refine (cn_miss _ _ _ _ _ _ (Or.inl h)).trans ?_
    refine (cn_miss _ _ _ _ _ _ (Or.inl h)).trans ?_
    refine (cn_miss _ _ _ _ _ _ (Or.inl h)).trans ?_
    exact (cn_fill _ _ _ _).trans (scr_zero _ _)

theorem valE_sc3 (r : Fin 2048) (j : Fin 128) :
    View.canon (runE (F := Ideal) c i arg2 harg2 arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 x6 x10).2.2.2.1 (ix2 r (co 3 j (by decide)))
      = 0 + sV x0 x1 x2 x3 x4 x5 x6 0 1 r j := by
  unfold runE
  dsimp only
  frame_out
  by_cases h : r.val < 512
  · skip
    refine (cn_hit _ _ _ _ _ _ h j (by show 128 * 3 + j.val = 384 + j.val; omega)).trans ((B0.stV1 x0 x1 x2 x3 x4 x5 x6 _ ⟨r.val, h⟩ j).trans (congrArg (fun a : EReal => a + sV x0 x1 x2 x3 x4 x5 x6 0 1 r j) ((rc_at _ _ _ _ B0.le (by decide) ⟨r.val, h⟩ j).trans ?_)))
    repeat (refine (cn_miss _ _ _ _ _ _ ?_).trans ?_; · exact Or.inr (Or.inr (by dsimp only; omega)))
    exact (cn_fill _ _ _ _).trans (scr_zero _ _)
  · have h : 512 ≤ r.val := not_lt.1 h
    rw [sV_late _ _ _ _ _ _ _ _ _ _ h, add_zero]
    refine (cn_miss _ _ _ _ _ _ (Or.inl h)).trans ?_
    refine (cn_miss _ _ _ _ _ _ (Or.inl h)).trans ?_
    refine (cn_miss _ _ _ _ _ _ (Or.inl h)).trans ?_
    refine (cn_miss _ _ _ _ _ _ (Or.inl h)).trans ?_
    exact (cn_fill _ _ _ _).trans (scr_zero _ _)

end Cert.KernelIdeal.Att

end
-- ==== Proof.Att.Out.lean ====
/- What each grid point of the kernel leaves, entry by entry, and what has been gathered after several of them. -/
module

public import proofs.«01_k».proof.Proof.Att.State
public import proofs.«01_k».proof.Proof.Att.ValA
public import proofs.«01_k».proof.Proof.Att.ValB
public import proofs.«01_k».proof.Proof.Att.ValC
public import proofs.«01_k».proof.Proof.Att.ValD
public import proofs.«01_k».proof.Proof.Att.ValE

@[expose] public section

set_option maxRecDepth 16384

noncomputable section

namespace Cert.KernelIdeal.Att

open Idealize.ShloMosaic Idealize.ShloMosaic.TcCoe Cert.KernelIdeal Cert.KernelIdeal.Gen Cert.Att

variable (m : (ℓ : Loc nD τ sig) → Buf (Elt Ideal) ℓ) (c : Dev nD) (t : Fin cfg0.N)

/-- The parts of the gradients one grid point computes. -/
def pQn (e : Fin 2) (q : Fin 512) (j : Fin 128) : EReal := sQn (iblk m c 0 t) (iblk m c 1 t) (iblk m c 2 t) (iblk m c 3 t) (iblk m c 4 t) (iblk m c 5 t) (iblk m c 6 t) (t.val % 4) e q j
def pQp (q : Fin 512) (l : Fin 128) : EReal := sQp (iblk m c 0 t) (iblk m c 1 t) (iblk m c 2 t) (iblk m c 3 t) (iblk m c 4 t) (iblk m c 5 t) (iblk m c 6 t) (t.val % 4) q l
def pKn (e : Fin 2) (r : Fin 2048) (j : Fin 128) : EReal := sKn (iblk m c 0 t) (iblk m c 1 t) (iblk m c 2 t) (iblk m c 3 t) (iblk m c 4 t) (iblk m c 5 t) (iblk m c 6 t) (t.val % 4) e r j
def pV (e : Fin 2) (r : Fin 2048) (j : Fin 128) : EReal := sV (iblk m c 0 t) (iblk m c 1 t) (iblk m c 2 t) (iblk m c 3 t) (iblk m c 4 t) (iblk m c 5 t) (iblk m c 6 t) (t.val % 4) e r j
def pKp (e : Fin 2) (r : Fin 2048) (l : Fin 128) : EReal := sKp (iblk m c 0 t) (iblk m c 1 t) (iblk m c 2 t) (iblk m c 3 t) (iblk m c 4 t) (iblk m c 5 t) (iblk m c 6 t) (t.val % 4) e r l

theorem oA_qn0 (h0 : t.val % 4 = 0) (h1 : t.val % 16 = 0) (q : Fin 512) (j : Fin 128) :
    @Eq EReal ((outA m c t h0 h1).qn (ix2 q (co 0 j (by decide)))) (sQn (iblk m c 0 t) (iblk m c 1 t) (iblk m c 2 t) (iblk m c 3 t) (iblk m c 4 t) (iblk m c 5 t) (iblk m c 6 t) 0 0 q j) := by
  have e := valA_qn0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) q j
  unfold outA atA
  dsimp only
  with_reducible exact e

theorem oA_qn1 (h0 : t.val % 4 = 0) (h1 : t.val % 16 = 0) (q : Fin 512) (j : Fin 128) :
    @Eq EReal ((outA m c t h0 h1).qn (ix2 q (co 1 j (by decide)))) (sQn (iblk m c 0 t) (iblk m c 1 t) (iblk m c 2 t) (iblk m c 3 t) (iblk m c 4 t) (iblk m c 5 t) (iblk m c 6 t) 0 1 q j) := by
  have e := valA_qn1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) q j
  unfold outA atA
  dsimp only
  with_reducible exact e

theorem oA_qp (h0 : t.val % 4 = 0) (h1 : t.val % 16 = 0) (q : Fin 512) (l : Fin 128) :
    @Eq EReal ((outA m c t h0 h1).qp (ix2 q l)) (sQp (iblk m c 0 t) (iblk m c 1 t) (iblk m c 2 t) (iblk m c 3 t) (iblk m c 4 t) (iblk m c 5 t) (iblk m c 6 t) 0 q l) := by
  have e := valA_qp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) q l
  unfold outA atA
  dsimp only
  with_reducible exact e

theorem oA_kp (h0 : t.val % 4 = 0) (h1 : t.val % 16 = 0) (r : Fin 2048) (l : Fin 128) :
    @Eq EReal ((outA m c t h0 h1).kp (ix2 r l)) (@HAdd.hAdd EReal EReal EReal _ (@HAdd.hAdd EReal EReal EReal _ 0 (sKp (iblk m c 0 t) (iblk m c 1 t) (iblk m c 2 t) (iblk m c 3 t) (iblk m c 4 t) (iblk m c 5 t) (iblk m c 6 t) 0 0 r l)) (sKp (iblk m c 0 t) (iblk m c 1 t) (iblk m c 2 t) (iblk m c 3 t) (iblk m c 4 t) (iblk m c 5 t) (iblk m c 6 t) 0 1 r l)) := by
  have e := valA_kp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) r l
  unfold outA atA
  dsimp only
  with_reducible exact e

theorem oA_sc0 (h0 : t.val % 4 = 0) (h1 : t.val % 16 = 0) (r : Fin 2048) (j : Fin 128) :
    @Eq EReal ((outA m c t h0 h1).sc (ix2 r (co 0 j (by decide)))) (@HAdd.hAdd EReal EReal EReal _ 0 (sKn (iblk m c 0 t) (iblk m c 1 t) (iblk m c 2 t) (iblk m c 3 t) (iblk m c 4 t) (iblk m c 5 t) (iblk m c 6 t) 0 0 r j)) := by
  have e := valA_sc0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) r j
  unfold outA atA
  dsimp only
  with_reducible exact e

theorem oA_sc1 (h0 : t.val % 4 = 0) (h1 : t.val % 16 = 0) (r : Fin 2048) (j : Fin 128) :
    @Eq EReal ((outA m c t h0 h1).sc (ix2 r (co 1 j (by decide)))) (@HAdd.hAdd EReal EReal EReal _ 0 (sV (iblk m c 0 t) (iblk m c 1 t) (iblk m c 2 t) (iblk m c 3 t) (iblk m c 4 t) (iblk m c 5 t) (iblk m c 6 t) 0 0 r j)) := by
  have e := valA_sc1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) r j
  unfold outA atA
  dsimp only
  with_reducible exact e

theorem oA_sc2 (h0 : t.val % 4 = 0) (h1 : t.val % 16 = 0) (r : Fin 2048) (j : Fin 128) :
    @Eq EReal ((outA m c t h0 h1).sc (ix2 r (co 2 j (by decide)))) (@HAdd.hAdd EReal EReal EReal _ 0 (sKn (iblk m c 0 t) (iblk m c 1 t) (iblk m c 2 t) (iblk m c 3 t) (iblk m c 4 t) (iblk m c 5 t) (iblk m c 6 t) 0 1 r j)) := by
  have e := valA_sc2 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) r j
  unfold outA atA
  dsimp only
  with_reducible exact e

theorem oA_sc3 (h0 : t.val % 4 = 0) (h1 : t.val % 16 = 0) (r : Fin 2048) (j : Fin 128) :
    @Eq EReal ((outA m c t h0 h1).sc (ix2 r (co 3 j (by decide)))) (@HAdd.hAdd EReal EReal EReal _ 0 (sV (iblk m c 0 t) (iblk m c 1 t) (iblk m c 2 t) (iblk m c 3 t) (iblk m c 4 t) (iblk m c 5 t) (iblk m c 6 t) 0 1 r j)) := by
  have e := valA_sc3 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) ((cnd1_iff t).mpr h1) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) r j
  unfold outA atA
  dsimp only
  with_reducible exact e

theorem oB_qn0 (h : t.val % 4 = 1) (K : Vec Ideal S2048x128 .f32) (S : Vec Ideal S2048x512 .f32) (q : Fin 512) (j : Fin 128) :
    @Eq EReal ((outB m c t h K S).qn (ix2 q (co 0 j (by decide)))) (sQn (iblk m c 0 t) (iblk m c 1 t) (iblk m c 2 t) (iblk m c 3 t) (iblk m c 4 t) (iblk m c 5 t) (iblk m c 6 t) 1 0 q j) := by
  have e := valB_qn0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S q j
  unfold outB atB
  dsimp only
  with_reducible exact e

theorem oB_qn1 (h : t.val % 4 = 1) (K : Vec Ideal S2048x128 .f32) (S : Vec Ideal S2048x512 .f32) (q : Fin 512) (j : Fin 128) :
    @Eq EReal ((outB m c t h K S).qn (ix2 q (co 1 j (by decide)))) (sQn (iblk m c 0 t) (iblk m c 1 t) (iblk m c 2 t) (iblk m c 3 t) (iblk m c 4 t) (iblk m c 5 t) (iblk m c 6 t) 1 1 q j) := by
  have e := valB_qn1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S q j
  unfold outB atB
  dsimp only
  with_reducible exact e

theorem oB_qp (h : t.val % 4 = 1) (K : Vec Ideal S2048x128 .f32) (S : Vec Ideal S2048x512 .f32) (q : Fin 512) (l : Fin 128) :
    @Eq EReal ((outB m c t h K S).qp (ix2 q l)) (sQp (iblk m c 0 t) (iblk m c 1 t) (iblk m c 2 t) (iblk m c 3 t) (iblk m c 4 t) (iblk m c 5 t) (iblk m c 6 t) 1 q l) := by
  have e := valB_qp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S q l
  unfold outB atB
  dsimp only
  with_reducible exact e

theorem oB_kp (h : t.val % 4 = 1) (K : Vec Ideal S2048x128 .f32) (S : Vec Ideal S2048x512 .f32) (r : Fin 2048) (l : Fin 128) :
    @Eq EReal ((outB m c t h K S).kp (ix2 r l)) (@HAdd.hAdd EReal EReal EReal _ (@HAdd.hAdd EReal EReal EReal _ (K (ix2 r l)) (sKp (iblk m c 0 t) (iblk m c 1 t) (iblk m c 2 t) (iblk m c 3 t) (iblk m c 4 t) (iblk m c 5 t) (iblk m c 6 t) 1 0 r l)) (sKp (iblk m c 0 t) (iblk m c 1 t) (iblk m c 2 t) (iblk m c 3 t) (iblk m c 4 t) (iblk m c 5 t) (iblk m c 6 t) 1 1 r l)) := by
  have e := valB_kp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r l
  unfold outB atB
  dsimp only
  with_reducible exact e

theorem oB_sc0 (h : t.val % 4 = 1) (K : Vec Ideal S2048x128 .f32) (S : Vec Ideal S2048x512 .f32) (r : Fin 2048) (j : Fin 128) :
    @Eq EReal ((outB m c t h K S).sc (ix2 r (co 0 j (by decide)))) (@HAdd.hAdd EReal EReal EReal _ (S (ix2 r (co 0 j (by decide)))) (sKn (iblk m c 0 t) (iblk m c 1 t) (iblk m c 2 t) (iblk m c 3 t) (iblk m c 4 t) (iblk m c 5 t) (iblk m c 6 t) 1 0 r j)) := by
  have e := valB_sc0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r j
  unfold outB atB
  dsimp only
  with_reducible exact e

theorem oB_sc1 (h : t.val % 4 = 1) (K : Vec Ideal S2048x128 .f32) (S : Vec Ideal S2048x512 .f32) (r : Fin 2048) (j : Fin 128) :
    @Eq EReal ((outB m c t h K S).sc (ix2 r (co 1 j (by decide)))) (@HAdd.hAdd EReal EReal EReal _ (S (ix2 r (co 1 j (by decide)))) (sV (iblk m c 0 t) (iblk m c 1 t) (iblk m c 2 t) (iblk m c 3 t) (iblk m c 4 t) (iblk m c 5 t) (iblk m c 6 t) 1 0 r j)) := by
  have e := valB_sc1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r j
  unfold outB atB
  dsimp only
  with_reducible exact e

theorem oB_sc2 (h : t.val % 4 = 1) (K : Vec Ideal S2048x128 .f32) (S : Vec Ideal S2048x512 .f32) (r : Fin 2048) (j : Fin 128) :
    @Eq EReal ((outB m c t h K S).sc (ix2 r (co 2 j (by decide)))) (@HAdd.hAdd EReal EReal EReal _ (S (ix2 r (co 2 j (by decide)))) (sKn (iblk m c 0 t) (iblk m c 1 t) (iblk m c 2 t) (iblk m c 3 t) (iblk m c 4 t) (iblk m c 5 t) (iblk m c 6 t) 1 1 r j)) := by
  have e := valB_sc2 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r j
  unfold outB atB
  dsimp only
  with_reducible exact e

theorem oB_sc3 (h : t.val % 4 = 1) (K : Vec Ideal S2048x128 .f32) (S : Vec Ideal S2048x512 .f32) (r : Fin 2048) (j : Fin 128) :
    @Eq EReal ((outB m c t h K S).sc (ix2 r (co 3 j (by decide)))) (@HAdd.hAdd EReal EReal EReal _ (S (ix2 r (co 3 j (by decide)))) (sV (iblk m c 0 t) (iblk m c 1 t) (iblk m c 2 t) (iblk m c 3 t) (iblk m c 4 t) (iblk m c 5 t) (iblk m c 6 t) 1 1 r j)) := by
  have e := valB_sc3 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) ((cnd3_iff t).mpr h) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r j
  unfold outB atB
  dsimp only
  with_reducible exact e

theorem oC_qn0 (h : t.val % 4 = 2) (K : Vec Ideal S2048x128 .f32) (S : Vec Ideal S2048x512 .f32) (q : Fin 512) (j : Fin 128) :
    @Eq EReal ((outC m c t h K S).qn (ix2 q (co 0 j (by decide)))) (sQn (iblk m c 0 t) (iblk m c 1 t) (iblk m c 2 t) (iblk m c 3 t) (iblk m c 4 t) (iblk m c 5 t) (iblk m c 6 t) 2 0 q j) := by
  have e := valC_qn0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S q j
  unfold outC atC
  dsimp only
  with_reducible exact e

theorem oC_qn1 (h : t.val % 4 = 2) (K : Vec Ideal S2048x128 .f32) (S : Vec Ideal S2048x512 .f32) (q : Fin 512) (j : Fin 128) :
    @Eq EReal ((outC m c t h K S).qn (ix2 q (co 1 j (by decide)))) (sQn (iblk m c 0 t) (iblk m c 1 t) (iblk m c 2 t) (iblk m c 3 t) (iblk m c 4 t) (iblk m c 5 t) (iblk m c 6 t) 2 1 q j) := by
  have e := valC_qn1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S q j
  unfold outC atC
  dsimp only
  with_reducible exact e

theorem oC_qp (h : t.val % 4 = 2) (K : Vec Ideal S2048x128 .f32) (S : Vec Ideal S2048x512 .f32) (q : Fin 512) (l : Fin 128) :
    @Eq EReal ((outC m c t h K S).qp (ix2 q l)) (sQp (iblk m c 0 t) (iblk m c 1 t) (iblk m c 2 t) (iblk m c 3 t) (iblk m c 4 t) (iblk m c 5 t) (iblk m c 6 t) 2 q l) := by
  have e := valC_qp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S q l
  unfold outC atC
  dsimp only
  with_reducible exact e

theorem oC_kp (h : t.val % 4 = 2) (K : Vec Ideal S2048x128 .f32) (S : Vec Ideal S2048x512 .f32) (r : Fin 2048) (l : Fin 128) :
    @Eq EReal ((outC m c t h K S).kp (ix2 r l)) (@HAdd.hAdd EReal EReal EReal _ (@HAdd.hAdd EReal EReal EReal _ (K (ix2 r l)) (sKp (iblk m c 0 t) (iblk m c 1 t) (iblk m c 2 t) (iblk m c 3 t) (iblk m c 4 t) (iblk m c 5 t) (iblk m c 6 t) 2 0 r l)) (sKp (iblk m c 0 t) (iblk m c 1 t) (iblk m c 2 t) (iblk m c 3 t) (iblk m c 4 t) (iblk m c 5 t) (iblk m c 6 t) 2 1 r l)) := by
  have e := valC_kp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r l
  unfold outC atC
  dsimp only
  with_reducible exact e

theorem oC_sc0 (h : t.val % 4 = 2) (K : Vec Ideal S2048x128 .f32) (S : Vec Ideal S2048x512 .f32) (r : Fin 2048) (j : Fin 128) :
    @Eq EReal ((outC m c t h K S).sc (ix2 r (co 0 j (by decide)))) (@HAdd.hAdd EReal EReal EReal _ (S (ix2 r (co 0 j (by decide)))) (sKn (iblk m c 0 t) (iblk m c 1 t) (iblk m c 2 t) (iblk m c 3 t) (iblk m c 4 t) (iblk m c 5 t) (iblk m c 6 t) 2 0 r j)) := by
  have e := valC_sc0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r j
  unfold outC atC
  dsimp only
  with_reducible exact e

theorem oC_sc1 (h : t.val % 4 = 2) (K : Vec Ideal S2048x128 .f32) (S : Vec Ideal S2048x512 .f32) (r : Fin 2048) (j : Fin 128) :
    @Eq EReal ((outC m c t h K S).sc (ix2 r (co 1 j (by decide)))) (@HAdd.hAdd EReal EReal EReal _ (S (ix2 r (co 1 j (by decide)))) (sV (iblk m c 0 t) (iblk m c 1 t) (iblk m c 2 t) (iblk m c 3 t) (iblk m c 4 t) (iblk m c 5 t) (iblk m c 6 t) 2 0 r j)) := by
  have e := valC_sc1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r j
  unfold outC atC
  dsimp only
  with_reducible exact e

theorem oC_sc2 (h : t.val % 4 = 2) (K : Vec Ideal S2048x128 .f32) (S : Vec Ideal S2048x512 .f32) (r : Fin 2048) (j : Fin 128) :
    @Eq EReal ((outC m c t h K S).sc (ix2 r (co 2 j (by decide)))) (@HAdd.hAdd EReal EReal EReal _ (S (ix2 r (co 2 j (by decide)))) (sKn (iblk m c 0 t) (iblk m c 1 t) (iblk m c 2 t) (iblk m c 3 t) (iblk m c 4 t) (iblk m c 5 t) (iblk m c 6 t) 2 1 r j)) := by
  have e := valC_sc2 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r j
  unfold outC atC
  dsimp only
  with_reducible exact e

theorem oC_sc3 (h : t.val % 4 = 2) (K : Vec Ideal S2048x128 .f32) (S : Vec Ideal S2048x512 .f32) (r : Fin 2048) (j : Fin 128) :
    @Eq EReal ((outC m c t h K S).sc (ix2 r (co 3 j (by decide)))) (@HAdd.hAdd EReal EReal EReal _ (S (ix2 r (co 3 j (by decide)))) (sV (iblk m c 0 t) (iblk m c 1 t) (iblk m c 2 t) (iblk m c 3 t) (iblk m c 4 t) (iblk m c 5 t) (iblk m c 6 t) 2 1 r j)) := by
  have e := valC_sc3 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) ((cnd4_iff t).mpr h) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K S r j
  unfold outC atC
  dsimp only
  with_reducible exact e

theorem oD_qn0 (h : t.val % 4 = 3) (K : Vec Ideal S2048x128 .f32) (S : Vec Ideal S2048x512 .f32) (q : Fin 512) (j : Fin 128) :
    @Eq EReal ((outD m c t h K S).qn (ix2 q (co 0 j (by decide)))) (sQn (iblk m c 0 t) (iblk m c 1 t) (iblk m c 2 t) (iblk m c 3 t) (iblk m c 4 t) (iblk m c 5 t) (iblk m c 6 t) 3 0 q j) := by
  have e := valD_qn0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S q j
  unfold outD atD
  dsimp only
  with_reducible exact e

theorem oD_qn1 (h : t.val % 4 = 3) (K : Vec Ideal S2048x128 .f32) (S : Vec Ideal S2048x512 .f32) (q : Fin 512) (j : Fin 128) :
    @Eq EReal ((outD m c t h K S).qn (ix2 q (co 1 j (by decide)))) (sQn (iblk m c 0 t) (iblk m c 1 t) (iblk m c 2 t) (iblk m c 3 t) (iblk m c 4 t) (iblk m c 5 t) (iblk m c 6 t) 3 1 q j) := by
  have e := valD_qn1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S q j
  unfold outD atD
  dsimp only
  with_reducible exact e

theorem oD_qp (h : t.val % 4 = 3) (K : Vec Ideal S2048x128 .f32) (S : Vec Ideal S2048x512 .f32) (q : Fin 512) (l : Fin 128) :
    @Eq EReal ((outD m c t h K S).qp (ix2 q l)) (sQp (iblk m c 0 t) (iblk m c 1 t) (iblk m c 2 t) (iblk m c 3 t) (iblk m c 4 t) (iblk m c 5 t) (iblk m c 6 t) 3 q l) := by
  have e := valD_qp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S q l
  unfold outD atD
  dsimp only
  with_reducible exact e

theorem oD_kp (h : t.val % 4 = 3) (K : Vec Ideal S2048x128 .f32) (S : Vec Ideal S2048x512 .f32) (r : Fin 2048) (l : Fin 128) :
    @Eq EReal ((outD m c t h K S).kp (ix2 r l)) (@HAdd.hAdd EReal EReal EReal _ (@HAdd.hAdd EReal EReal EReal _ (K (ix2 r l)) (sKp (iblk m c 0 t) (iblk m c 1 t) (iblk m c 2 t) (iblk m c 3 t) (iblk m c 4 t) (iblk m c 5 t) (iblk m c 6 t) 3 0 r l)) (sKp (iblk m c 0 t) (iblk m c 1 t) (iblk m c 2 t) (iblk m c 3 t) (iblk m c 4 t) (iblk m c 5 t) (iblk m c 6 t) 3 1 r l)) := by
  have e := valD_kp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S r l
  unfold outD atD
  dsimp only
  with_reducible exact e

theorem oD_sc0 (h : t.val % 4 = 3) (K : Vec Ideal S2048x128 .f32) (S : Vec Ideal S2048x512 .f32) (r : Fin 2048) (j : Fin 128) :
    @Eq EReal ((outD m c t h K S).sc (ix2 r (co 0 j (by decide)))) (@HAdd.hAdd EReal EReal EReal _ (S (ix2 r (co 0 j (by decide)))) (sKn (iblk m c 0 t) (iblk m c 1 t) (iblk m c 2 t) (iblk m c 3 t) (iblk m c 4 t) (iblk m c 5 t) (iblk m c 6 t) 3 0 r j)) := by
  have e := valD_sc0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S r j
  unfold outD atD
  dsimp only
  with_reducible exact e

theorem oD_kv0 (h : t.val % 4 = 3) (K : Vec Ideal S2048x128 .f32) (S : Vec Ideal S2048x512 .f32) (r : Fin 2048) (j : Fin 128) :
    @Eq EReal ((outD m c t h K S).kv (ix2 r (co 0 j (by decide)))) (@HAdd.hAdd EReal EReal EReal _ (S (ix2 r (co 0 j (by decide)))) (sKn (iblk m c 0 t) (iblk m c 1 t) (iblk m c 2 t) (iblk m c 3 t) (iblk m c 4 t) (iblk m c 5 t) (iblk m c 6 t) 3 0 r j)) := by
  have e := valD_kv0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S r j
  unfold outD atD
  dsimp only
  with_reducible exact e

theorem oD_sc1 (h : t.val % 4 = 3) (K : Vec Ideal S2048x128 .f32) (S : Vec Ideal S2048x512 .f32) (r : Fin 2048) (j : Fin 128) :
    @Eq EReal ((outD m c t h K S).sc (ix2 r (co 1 j (by decide)))) (@HAdd.hAdd EReal EReal EReal _ (S (ix2 r (co 1 j (by decide)))) (sV (iblk m c 0 t) (iblk m c 1 t) (iblk m c 2 t) (iblk m c 3 t) (iblk m c 4 t) (iblk m c 5 t) (iblk m c 6 t) 3 0 r j)) := by
  have e := valD_sc1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S r j
  unfold outD atD
  dsimp only
  with_reducible exact e

theorem oD_kv1 (h : t.val % 4 = 3) (K : Vec Ideal S2048x128 .f32) (S : Vec Ideal S2048x512 .f32) (r : Fin 2048) (j : Fin 128) :
    @Eq EReal ((outD m c t h K S).kv (ix2 r (co 1 j (by decide)))) (@HAdd.hAdd EReal EReal EReal _ (S (ix2 r (co 1 j (by decide)))) (sV (iblk m c 0 t) (iblk m c 1 t) (iblk m c 2 t) (iblk m c 3 t) (iblk m c 4 t) (iblk m c 5 t) (iblk m c 6 t) 3 0 r j)) := by
  have e := valD_kv1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S r j
  unfold outD atD
  dsimp only
  with_reducible exact e

theorem oD_sc2 (h : t.val % 4 = 3) (K : Vec Ideal S2048x128 .f32) (S : Vec Ideal S2048x512 .f32) (r : Fin 2048) (j : Fin 128) :
    @Eq EReal ((outD m c t h K S).sc (ix2 r (co 2 j (by decide)))) (@HAdd.hAdd EReal EReal EReal _ (S (ix2 r (co 2 j (by decide)))) (sKn (iblk m c 0 t) (iblk m c 1 t) (iblk m c 2 t) (iblk m c 3 t) (iblk m c 4 t) (iblk m c 5 t) (iblk m c 6 t) 3 1 r j)) := by
  have e := valD_sc2 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S r j
  unfold outD atD
  dsimp only
  with_reducible exact e

theorem oD_kv2 (h : t.val % 4 = 3) (K : Vec Ideal S2048x128 .f32) (S : Vec Ideal S2048x512 .f32) (r : Fin 2048) (j : Fin 128) :
    @Eq EReal ((outD m c t h K S).kv (ix2 r (co 2 j (by decide)))) (@HAdd.hAdd EReal EReal EReal _ (S (ix2 r (co 2 j (by decide)))) (sKn (iblk m c 0 t) (iblk m c 1 t) (iblk m c 2 t) (iblk m c 3 t) (iblk m c 4 t) (iblk m c 5 t) (iblk m c 6 t) 3 1 r j)) := by
  have e := valD_kv2 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S r j
  unfold outD atD
  dsimp only
  with_reducible exact e

theorem oD_sc3 (h : t.val % 4 = 3) (K : Vec Ideal S2048x128 .f32) (S : Vec Ideal S2048x512 .f32) (r : Fin 2048) (j : Fin 128) :
    @Eq EReal ((outD m c t h K S).sc (ix2 r (co 3 j (by decide)))) (@HAdd.hAdd EReal EReal EReal _ (S (ix2 r (co 3 j (by decide)))) (sV (iblk m c 0 t) (iblk m c 1 t) (iblk m c 2 t) (iblk m c 3 t) (iblk m c 4 t) (iblk m c 5 t) (iblk m c 6 t) 3 1 r j)) := by
  have e := valD_sc3 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S r j
  unfold outD atD
  dsimp only
  with_reducible exact e

theorem oD_kv3 (h : t.val % 4 = 3) (K : Vec Ideal S2048x128 .f32) (S : Vec Ideal S2048x512 .f32) (r : Fin 2048) (j : Fin 128) :
    @Eq EReal ((outD m c t h K S).kv (ix2 r (co 3 j (by decide)))) (@HAdd.hAdd EReal EReal EReal _ (S (ix2 r (co 3 j (by decide)))) (sV (iblk m c 0 t) (iblk m c 1 t) (iblk m c 2 t) (iblk m c 3 t) (iblk m c 4 t) (iblk m c 5 t) (iblk m c 6 t) 3 1 r j)) := by
  have e := valD_kv3 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    (fun e => absurd ((cnd0_iff t).mp e) (by omega)) (fun e => absurd ((cnd1_iff t).mp e) (by omega)) (fun e => absurd ((cnd2_iff t).mp e) (by omega)) (fun e => absurd ((cnd3_iff t).mp e) (by omega)) (fun e => absurd ((cnd4_iff t).mp e) (by omega)) ((cnd5_iff t).mpr h) ((cnd6_iff t).mpr h)
    (iblk m c 0 t) (iblk m c 1 t) (iblk m c 2 t) (iblk m c 3 t) (iblk m c 4 t) (iblk m c 5 t) (iblk m c 6 t) K S r j
  unfold outD atD
  dsimp only
  with_reducible exact e

theorem oE_qn0 (h0 : t.val % 4 = 0) (h1 : ¬t.val % 16 = 0) (K : Vec Ideal S2048x128 .f32) (q : Fin 512) (j : Fin 128) :
    @Eq EReal ((outE m c t h0 h1 K).qn (ix2 q (co 0 j (by decide)))) (sQn (iblk m c 0 t) (iblk m c 1 t) (iblk m c 2 t) (iblk m c 3 t) (iblk m c 4 t) (iblk m c 5 t) (iblk m c 6 t) 0 0 q j) := by
  have e := valE_qn0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K q j
  unfold outE atE
  dsimp only
  with_reducible exact e

theorem oE_qn1 (h0 : t.val % 4 = 0) (h1 : ¬t.val % 16 = 0) (K : Vec Ideal S2048x128 .f32) (q : Fin 512) (j : Fin 128) :
    @Eq EReal ((outE m c t h0 h1 K).qn (ix2 q (co 1 j (by decide)))) (sQn (iblk m c 0 t) (iblk m c 1 t) (iblk m c 2 t) (iblk m c 3 t) (iblk m c 4 t) (iblk m c 5 t) (iblk m c 6 t) 0 1 q j) := by
  have e := valE_qn1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K q j
  unfold outE atE
  dsimp only
  with_reducible exact e

theorem oE_qp (h0 : t.val % 4 = 0) (h1 : ¬t.val % 16 = 0) (K : Vec Ideal S2048x128 .f32) (q : Fin 512) (l : Fin 128) :
    @Eq EReal ((outE m c t h0 h1 K).qp (ix2 q l)) (sQp (iblk m c 0 t) (iblk m c 1 t) (iblk m c 2 t) (iblk m c 3 t) (iblk m c 4 t) (iblk m c 5 t) (iblk m c 6 t) 0 q l) := by
  have e := valE_qp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K q l
  unfold outE atE
  dsimp only
  with_reducible exact e

theorem oE_kp (h0 : t.val % 4 = 0) (h1 : ¬t.val % 16 = 0) (K : Vec Ideal S2048x128 .f32) (r : Fin 2048) (l : Fin 128) :
    @Eq EReal ((outE m c t h0 h1 K).kp (ix2 r l)) (@HAdd.hAdd EReal EReal EReal _ (@HAdd.hAdd EReal EReal EReal _ (K (ix2 r l)) (sKp (iblk m c 0 t) (iblk m c 1 t) (iblk m c 2 t) (iblk m c 3 t) (iblk m c 4 t) (iblk m c 5 t) (iblk m c 6 t) 0 0 r l)) (sKp (iblk m c 0 t) (iblk m c 1 t) (iblk m c 2 t) (iblk m c 3 t) (iblk m c 4 t) (iblk m c 5 t) (iblk m c 6 t) 0 1 r l)) := by
  have e := valE_kp c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K r l
  unfold outE atE
  dsimp only
  with_reducible exact e

theorem oE_sc0 (h0 : t.val % 4 = 0) (h1 : ¬t.val % 16 = 0) (K : Vec Ideal S2048x128 .f32) (r : Fin 2048) (j : Fin 128) :
    @Eq EReal ((outE m c t h0 h1 K).sc (ix2 r (co 0 j (by decide)))) (@HAdd.hAdd EReal EReal EReal _ 0 (sKn (iblk m c 0 t) (iblk m c 1 t) (iblk m c 2 t) (iblk m c 3 t) (iblk m c 4 t) (iblk m c 5 t) (iblk m c 6 t) 0 0 r j)) := by
  have e := valE_sc0 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K r j
  unfold outE atE
  dsimp only
  with_reducible exact e

theorem oE_sc1 (h0 : t.val % 4 = 0) (h1 : ¬t.val % 16 = 0) (K : Vec Ideal S2048x128 .f32) (r : Fin 2048) (j : Fin 128) :
    @Eq EReal ((outE m c t h0 h1 K).sc (ix2 r (co 1 j (by decide)))) (@HAdd.hAdd EReal EReal EReal _ 0 (sV (iblk m c 0 t) (iblk m c 1 t) (iblk m c 2 t) (iblk m c 3 t) (iblk m c 4 t) (iblk m c 5 t) (iblk m c 6 t) 0 0 r j)) := by
  have e := valE_sc1 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K r j
  unfold outE atE
  dsimp only
  with_reducible exact e

theorem oE_sc2 (h0 : t.val % 4 = 0) (h1 : ¬t.val % 16 = 0) (K : Vec Ideal S2048x128 .f32) (r : Fin 2048) (j : Fin 128) :
    @Eq EReal ((outE m c t h0 h1 K).sc (ix2 r (co 2 j (by decide)))) (@HAdd.hAdd EReal EReal EReal _ 0 (sKn (iblk m c 0 t) (iblk m c 1 t) (iblk m c 2 t) (iblk m c 3 t) (iblk m c 4 t) (iblk m c 5 t) (iblk m c 6 t) 0 1 r j)) := by
  have e := valE_sc2 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K r j
  unfold outE atE
  dsimp only
  with_reducible exact e

theorem oE_sc3 (h0 : t.val % 4 = 0) (h1 : ¬t.val % 16 = 0) (K : Vec Ideal S2048x128 .f32) (r : Fin 2048) (j : Fin 128) :
    @Eq EReal ((outE m c t h0 h1 K).sc (ix2 r (co 3 j (by decide)))) (@HAdd.hAdd EReal EReal EReal _ 0 (sV (iblk m c 0 t) (iblk m c 1 t) (iblk m c 2 t) (iblk m c 3 t) (iblk m c 4 t) (iblk m c 5 t) (iblk m c 6 t) 0 1 r j)) := by
  have e := valE_sc3 c (grid0.coords t) (buf0 t) (whl0 t) (buf1 t) (whl1 t) (buf2 t) (whl2 t) (buf3 t) (whl3 t) (buf4 t) (whl4 t) (buf5 t) (whl5 t) (buf6 t) (whl6 t) (buf7 t) (whl7 t) (buf8 t) (whl8 t) (buf9 t) (whl9 t) (buf10 t) (whl10 t) scr (Memref.isWhole_whole _)
    ((cnd0_iff t).mpr h0) (fun e => absurd ((cnd1_iff t).mp e) (by omega)) ((cnd2_iff t).mpr h0) (fun e => absurd ((cnd3_iff t).mp e) (by omega)) (fun e => absurd ((cnd4_iff t).mp e) (by omega)) (fun e => absurd ((cnd5_iff t).mp e) (by omega)) (fun e => absurd ((cnd6_iff t).mp e) (by omega))
    (iblk m c 0 t) (iblk m c 1 t) (iblk m c 2 t) (iblk m c 3 t) (iblk m c 4 t) (iblk m c 5 t) (iblk m c 6 t) K r j
  unfold outE atE
  dsimp only
  with_reducible exact e

theorem out_qn0 (q : Fin 512) (j : Fin 128) :
    @Eq EReal ((leftAt m c t.val t.isLt).qn (ix2 q (co 0 j (by decide)))) (pQn m c t 0 q j) := by
  by_cases h0 : t.val % 4 = 0
  · by_cases h1 : t.val % 16 = 0
    · rw [leftAt_A m c t h0 h1]; unfold pQn; rw [h0]; exact oA_qn0 m c t h0 h1 _ _
    · rw [leftAt_E m c t h0 h1]; unfold pQn; rw [h0]; exact oE_qn0 m c t h0 h1 _ _ _
  · by_cases h : t.val % 4 = 1
    · rw [leftAt_B m c t h]; unfold pQn; rw [h]; exact oB_qn0 m c t h _ _ _ _
    · by_cases h' : t.val % 4 = 2
      · rw [leftAt_C m c t h']; unfold pQn; rw [h']; exact oC_qn0 m c t h' _ _ _ _
      · have h3 : t.val % 4 = 3 := by omega
        rw [leftAt_D m c t h3]; unfold pQn; rw [h3]; exact oD_qn0 m c t h3 _ _ _ _

theorem out_qn1 (q : Fin 512) (j : Fin 128) :
    @Eq EReal ((leftAt m c t.val t.isLt).qn (ix2 q (co 1 j (by decide)))) (pQn m c t 1 q j) := by
  by_cases h0 : t.val % 4 = 0
  · by_cases h1 : t.val % 16 = 0
    · rw [leftAt_A m c t h0 h1]; unfold pQn; rw [h0]; exact oA_qn1 m c t h0 h1 _ _
    · rw [leftAt_E m c t h0 h1]; unfold pQn; rw [h0]; exact oE_qn1 m c t h0 h1 _ _ _
  · by_cases h : t.val % 4 = 1
    · rw [leftAt_B m c t h]; unfold pQn; rw [h]; exact oB_qn1 m c t h _ _ _ _
    · by_cases h' : t.val % 4 = 2
      · rw [leftAt_C m c t h']; unfold pQn; rw [h']; exact oC_qn1 m c t h' _ _ _ _
      · have h3 : t.val % 4 = 3 := by omega
        rw [leftAt_D m c t h3]; unfold pQn; rw [h3]; exact oD_qn1 m c t h3 _ _ _ _

theorem out_qp (q : Fin 512) (l : Fin 128) :
    @Eq EReal ((leftAt m c t.val t.isLt).qp (ix2 q l)) (pQp m c t q l) := by
  by_cases h0 : t.val % 4 = 0
  · by_cases h1 : t.val % 16 = 0
    · rw [leftAt_A m c t h0 h1]; unfold pQp; rw [h0]; exact oA_qp m c t h0 h1 _ _
    · rw [leftAt_E m c t h0 h1]; unfold pQp; rw [h0]; exact oE_qp m c t h0 h1 _ _ _
  · by_cases h : t.val % 4 = 1
    · rw [leftAt_B m c t h]; unfold pQp; rw [h]; exact oB_qp m c t h _ _ _ _
    · by_cases h' : t.val % 4 = 2
      · rw [leftAt_C m c t h']; unfold pQp; rw [h']; exact oC_qp m c t h' _ _ _ _
      · have h3 : t.val % 4 = 3 := by omega
        rw [leftAt_D m c t h3]; unfold pQp; rw [h3]; exact oD_qp m c t h3 _ _ _ _

theorem out_kp (r : Fin 2048) (l : Fin 128) :
    @Eq EReal ((leftAt m c t.val t.isLt).kp (ix2 r l))
      ((if t.val = 0 then (0 : EReal) else (prev m c t).kp (ix2 r l)) + pKp m c t 0 r l + pKp m c t 1 r l) := by
  have hN : t.val < 16 := lt_of_lt_of_eq t.isLt N_0
  by_cases h0 : t.val % 4 = 0
  · by_cases h1 : t.val % 16 = 0
    · rw [leftAt_A m c t h0 h1, if_pos (by omega)]; unfold pKp; rw [h0]; exact oA_kp m c t h0 h1 _ _
    · rw [leftAt_E m c t h0 h1, if_neg (by omega)]; unfold pKp; rw [h0]; exact oE_kp m c t h0 h1 _ _ _
  · by_cases h : t.val % 4 = 1
    · rw [leftAt_B m c t h, if_neg (by omega)]; unfold pKp; rw [h]; exact oB_kp m c t h _ _ _ _
    · by_cases h' : t.val % 4 = 2
      · rw [leftAt_C m c t h', if_neg (by omega)]; unfold pKp; rw [h']; exact oC_kp m c t h' _ _ _ _
      · have h3 : t.val % 4 = 3 := by omega
        rw [leftAt_D m c t h3, if_neg (by omega)]; unfold pKp; rw [h3]; exact oD_kp m c t h3 _ _ _ _

theorem out_sc0 (r : Fin 2048) (j : Fin 128) :
    @Eq EReal ((leftAt m c t.val t.isLt).sc (ix2 r (co 0 j (by decide))))
      ((if t.val % 4 = 0 then (0 : EReal) else (prev m c t).sc (ix2 r (co 0 j (by decide)))) + pKn m c t 0 r j) := by
  by_cases h0 : t.val % 4 = 0
  · by_cases h1 : t.val % 16 = 0
    · rw [leftAt_A m c t h0 h1, if_pos h0]; unfold pKn; rw [h0]; exact oA_sc0 m c t h0 h1 _ _
    · rw [leftAt_E m c t h0 h1, if_pos h0]; unfold pKn; rw [h0]; exact oE_sc0 m c t h0 h1 _ _ _
  · by_cases h : t.val % 4 = 1
    · rw [leftAt_B m c t h, if_neg h0]; unfold pKn; rw [h]; exact oB_sc0 m c t h _ _ _ _
    · by_cases h' : t.val % 4 = 2
      · rw [leftAt_C m c t h', if_neg h0]; unfold pKn; rw [h']; exact oC_sc0 m c t h' _ _ _ _
      · have h3 : t.val % 4 = 3 := by omega
        rw [leftAt_D m c t h3, if_neg h0]; unfold pKn; rw [h3]; exact oD_sc0 m c t h3 _ _ _ _

theorem out_kv0 (h3 : t.val % 4 = 3) (r : Fin 2048) (j : Fin 128) :
    @Eq EReal ((leftAt m c t.val t.isLt).kv (ix2 r (co 0 j (by decide))))
      (@HAdd.hAdd EReal EReal EReal _ ((prev m c t).sc (ix2 r (co 0 j (by decide)))) (pKn m c t 0 r j)) := by
  rw [leftAt_D m c t h3]; unfold pKn; rw [h3]; exact oD_kv0 m c t h3 _ _ _ _

theorem out_sc1 (r : Fin 2048) (j : Fin 128) :
    @Eq EReal ((leftAt m c t.val t.isLt).sc (ix2 r (co 1 j (by decide))))
      ((if t.val % 4 = 0 then (0 : EReal) else (prev m c t).sc (ix2 r (co 1 j (by decide)))) + pV m c t 0 r j) := by
  by_cases h0 : t.val % 4 = 0
  · by_cases h1 : t.val % 16 = 0
    · rw [leftAt_A m c t h0 h1, if_pos h0]; unfold pV; rw [h0]; exact oA_sc1 m c t h0 h1 _ _
    · rw [leftAt_E m c t h0 h1, if_pos h0]; unfold pV; rw [h0]; exact oE_sc1 m c t h0 h1 _ _ _
  · by_cases h : t.val % 4 = 1
    · rw [leftAt_B m c t h, if_neg h0]; unfold pV; rw [h]; exact oB_sc1 m c t h _ _ _ _
    · by_cases h' : t.val % 4 = 2
      · rw [leftAt_C m c t h', if_neg h0]; unfold pV; rw [h']; exact oC_sc1 m c t h' _ _ _ _
      · have h3 : t.val % 4 = 3 := by omega
        rw [leftAt_D m c t h3, if_neg h0]; unfold pV; rw [h3]; exact oD_sc1 m c t h3 _ _ _ _

theorem out_kv1 (h3 : t.val % 4 = 3) (r : Fin 2048) (j : Fin 128) :
    @Eq EReal ((leftAt m c t.val t.isLt).kv (ix2 r (co 1 j (by decide))))
      (@HAdd.hAdd EReal EReal EReal _ ((prev m c t).sc (ix2 r (co 1 j (by decide)))) (pV m c t 0 r j)) := by
  rw [leftAt_D m c t h3]; unfold pV; rw [h3]; exact oD_kv1 m c t h3 _ _ _ _

theorem out_sc2 (r : Fin 2048) (j : Fin 128) :
    @Eq EReal ((leftAt m c t.val t.isLt).sc (ix2 r (co 2 j (by decide))))
      ((if t.val % 4 = 0 then (0 : EReal) else (prev m c t).sc (ix2 r (co 2 j (by decide)))) + pKn m c t 1 r j) := by
  by_cases h0 : t.val % 4 = 0
  · by_cases h1 : t.val % 16 = 0
    · rw [leftAt_A m c t h0 h1, if_pos h0]; unfold pKn; rw [h0]; exact oA_sc2 m c t h0 h1 _ _
    · rw [leftAt_E m c t h0 h1, if_pos h0]; unfold pKn; rw [h0]; exact oE_sc2 m c t h0 h1 _ _ _
  · by_cases h : t.val % 4 = 1
    · rw [leftAt_B m c t h, if_neg h0]; unfold pKn; rw [h]; exact oB_sc2 m c t h _ _ _ _
    · by_cases h' : t.val % 4 = 2
      · rw [leftAt_C m c t h', if_neg h0]; unfold pKn; rw [h']; exact oC_sc2 m c t h' _ _ _ _
      · have h3 : t.val % 4 = 3 := by omega
        rw [leftAt_D m c t h3, if_neg h0]; unfold pKn; rw [h3]; exact oD_sc2 m c t h3 _ _ _ _

theorem out_kv2 (h3 : t.val % 4 = 3) (r : Fin 2048) (j : Fin 128) :
    @Eq EReal ((leftAt m c t.val t.isLt).kv (ix2 r (co 2 j (by decide))))
      (@HAdd.hAdd EReal EReal EReal _ ((prev m c t).sc (ix2 r (co 2 j (by decide)))) (pKn m c t 1 r j)) := by
  rw [leftAt_D m c t h3]; unfold pKn; rw [h3]; exact oD_kv2 m c t h3 _ _ _ _

theorem out_sc3 (r : Fin 2048) (j : Fin 128) :
    @Eq EReal ((leftAt m c t.val t.isLt).sc (ix2 r (co 3 j (by decide))))
      ((if t.val % 4 = 0 then (0 : EReal) else (prev m c t).sc (ix2 r (co 3 j (by decide)))) + pV m c t 1 r j) := by
  by_cases h0 : t.val % 4 = 0
  · by_cases h1 : t.val % 16 = 0
    · rw [leftAt_A m c t h0 h1, if_pos h0]; unfold pV; rw [h0]; exact oA_sc3 m c t h0 h1 _ _
    · rw [leftAt_E m c t h0 h1, if_pos h0]; unfold pV; rw [h0]; exact oE_sc3 m c t h0 h1 _ _ _
  · by_cases h : t.val % 4 = 1
    · rw [leftAt_B m c t h, if_neg h0]; unfold pV; rw [h]; exact oB_sc3 m c t h _ _ _ _
    · by_cases h' : t.val % 4 = 2
      · rw [leftAt_C m c t h', if_neg h0]; unfold pV; rw [h']; exact oC_sc3 m c t h' _ _ _ _
      · have h3 : t.val % 4 = 3 := by omega
        rw [leftAt_D m c t h3, if_neg h0]; unfold pV; rw [h3]; exact oD_sc3 m c t h3 _ _ _ _

theorem out_kv3 (h3 : t.val % 4 = 3) (r : Fin 2048) (j : Fin 128) :
    @Eq EReal ((leftAt m c t.val t.isLt).kv (ix2 r (co 3 j (by decide))))
      (@HAdd.hAdd EReal EReal EReal _ ((prev m c t).sc (ix2 r (co 3 j (by decide)))) (pV m c t 1 r j)) := by
  rw [leftAt_D m c t h3]; unfold pV; rw [h3]; exact oD_kv3 m c t h3 _ _ _ _

/-- Point `i` of head pair `hp`. -/
def pt (hp i : Fin 4) : Fin cfg0.N := ⟨4 * hp.val + i.val, lt_of_lt_of_eq (by omega) N_0.symm⟩

theorem prev_pt (hp i : Fin 4) (h : i.val ≠ 0) (i' : Fin 4) (hi : i'.val + 1 = i.val) :
    prev m c (pt hp i) = leftAt m c (pt hp i').val (pt hp i').isLt := by
  unfold prev
  congr 1
  show 4 * hp.val + i.val - 1 = 4 * hp.val + i'.val
  omega

/-- Column group 0 of the pass's result. -/
theorem sum_kv0 (hp : Fin 4) (r : Fin 2048) (j : Fin 128) :
    @Eq EReal ((leftAt m c (pt hp 3).val (pt hp 3).isLt).kv (ix2 r (co 0 j (by decide)))) (∑ i : Fin 4, pKn m c (pt hp i) 0 r j) := by
  have m0 : (pt hp 0).val % 4 = 0 := by show (4 * hp.val + 0) % 4 = 0; omega
  have m1 : ¬(pt hp 1).val % 4 = 0 := by show ¬(4 * hp.val + 1) % 4 = 0; omega
  have m2 : ¬(pt hp 2).val % 4 = 0 := by show ¬(4 * hp.val + 2) % 4 = 0; omega
  have m3 : (pt hp 3).val % 4 = 3 := by show (4 * hp.val + 3) % 4 = 3; omega
  have e0 := out_sc0 m c (pt hp 0) r j
  have e1 := out_sc0 m c (pt hp 1) r j
  have e2 := out_sc0 m c (pt hp 2) r j
  have e3 := out_kv0 m c (pt hp 3) m3 r j
  rw [if_pos m0, zero_add] at e0
  rw [if_neg m1, prev_pt m c hp 1 (by decide) 0 (by decide), e0] at e1
  rw [if_neg m2, prev_pt m c hp 2 (by decide) 1 (by decide), e1] at e2
  rw [prev_pt m c hp 3 (by decide) 2 (by decide), e2] at e3
  rw [Fin.sum_univ_four]
  exact e3

/-- Column group 1 of the pass's result. -/
theorem sum_kv1 (hp : Fin 4) (r : Fin 2048) (j : Fin 128) :
    @Eq EReal ((leftAt m c (pt hp 3).val (pt hp 3).isLt).kv (ix2 r (co 1 j (by decide)))) (∑ i : Fin 4, pV m c (pt hp i) 0 r j) := by
  have m0 : (pt hp 0).val % 4 = 0 := by show (4 * hp.val + 0) % 4 = 0; omega
  have m1 : ¬(pt hp 1).val % 4 = 0 := by show ¬(4 * hp.val + 1) % 4 = 0; omega
  have m2 : ¬(pt hp 2).val % 4 = 0 := by show ¬(4 * hp.val + 2) % 4 = 0; omega
  have m3 : (pt hp 3).val % 4 = 3 := by show (4 * hp.val + 3) % 4 = 3; omega
  have e0 := out_sc1 m c (pt hp 0) r j
  have e1 := out_sc1 m c (pt hp 1) r j
  have e2 := out_sc1 m c (pt hp 2) r j
  have e3 := out_kv1 m c (pt hp 3) m3 r j
  rw [if_pos m0, zero_add] at e0
  rw [if_neg m1, prev_pt m c hp 1 (by decide) 0 (by decide), e0] at e1
  rw [if_neg m2, prev_pt m c hp 2 (by decide) 1 (by decide), e1] at e2
  rw [prev_pt m c hp 3 (by decide) 2 (by decide), e2] at e3
  rw [Fin.sum_univ_four]
  exact e3

/-- Column group 2 of the pass's result. -/
theorem sum_kv2 (hp : Fin 4) (r : Fin 2048) (j : Fin 128) :
    @Eq EReal ((leftAt m c (pt hp 3).val (pt hp 3).isLt).kv (ix2 r (co 2 j (by decide)))) (∑ i : Fin 4, pKn m c (pt hp i) 1 r j) := by
  have m0 : (pt hp 0).val % 4 = 0 := by show (4 * hp.val + 0) % 4 = 0; omega
  have m1 : ¬(pt hp 1).val % 4 = 0 := by show ¬(4 * hp.val + 1) % 4 = 0; omega
  have m2 : ¬(pt hp 2).val % 4 = 0 := by show ¬(4 * hp.val + 2) % 4 = 0; omega
  have m3 : (pt hp 3).val % 4 = 3 := by show (4 * hp.val + 3) % 4 = 3; omega
  have e0 := out_sc2 m c (pt hp 0) r j
  have e1 := out_sc2 m c (pt hp 1) r j
  have e2 := out_sc2 m c (pt hp 2) r j
  have e3 := out_kv2 m c (pt hp 3) m3 r j
  rw [if_pos m0, zero_add] at e0
  rw [if_neg m1, prev_pt m c hp 1 (by decide) 0 (by decide), e0] at e1
  rw [if_neg m2, prev_pt m c hp 2 (by decide) 1 (by decide), e1] at e2
  rw [prev_pt m c hp 3 (by decide) 2 (by decide), e2] at e3
  rw [Fin.sum_univ_four]
  exact e3

/-- Column group 3 of the pass's result. -/
theorem sum_kv3 (hp : Fin 4) (r : Fin 2048) (j : Fin 128) :
    @Eq EReal ((leftAt m c (pt hp 3).val (pt hp 3).isLt).kv (ix2 r (co 3 j (by decide)))) (∑ i : Fin 4, pV m c (pt hp i) 1 r j) := by
  have m0 : (pt hp 0).val % 4 = 0 := by show (4 * hp.val + 0) % 4 = 0; omega
  have m1 : ¬(pt hp 1).val % 4 = 0 := by show ¬(4 * hp.val + 1) % 4 = 0; omega
  have m2 : ¬(pt hp 2).val % 4 = 0 := by show ¬(4 * hp.val + 2) % 4 = 0; omega
  have m3 : (pt hp 3).val % 4 = 3 := by show (4 * hp.val + 3) % 4 = 3; omega
  have e0 := out_sc3 m c (pt hp 0) r j
  have e1 := out_sc3 m c (pt hp 1) r j
  have e2 := out_sc3 m c (pt hp 2) r j
  have e3 := out_kv3 m c (pt hp 3) m3 r j
  rw [if_pos m0, zero_add] at e0
  rw [if_neg m1, prev_pt m c hp 1 (by decide) 0 (by decide), e0] at e1
  rw [if_neg m2, prev_pt m c hp 2 (by decide) 1 (by decide), e1] at e2
  rw [prev_pt m c hp 3 (by decide) 2 (by decide), e2] at e3
  rw [Fin.sum_univ_four]
  exact e3

/-- The rotated key's gradient after point `n`. -/
theorem sum_kp (n : ℕ) (hn : n < cfg0.N) (r : Fin 2048) (l : Fin 128) :
    @Eq EReal ((leftAt m c n hn).kp (ix2 r l))
      (∑ k : Fin (n + 1), (pKp m c ⟨k.val, by omega⟩ 0 r l + pKp m c ⟨k.val, by omega⟩ 1 r l)) := by
  induction n with
  | zero =>
    have e := out_kp m c ⟨0, hn⟩ r l
    rw [if_pos rfl, zero_add] at e
    rw [Fin.sum_univ_one]
    exact e
  | succ n ih =>
    have e := out_kp m c ⟨n + 1, hn⟩ r l
    rw [if_neg (Nat.succ_ne_zero n)] at e
    rw [Fin.sum_univ_castSucc]
    refine e.trans ((add_assoc _ _ _).trans ?_)
    exact congrArg (fun a : EReal => a + _) (ih (by omega))

/-- The rotated key's gradient after the last point, by head pair and row block. -/
theorem last_kp (r : Fin 2048) (l : Fin 128) :
    @Eq EReal ((leftAt m c 15 (lt_of_lt_of_eq (by decide) N_0.symm)).kp (ix2 r l))
      (∑ hp : Fin 4, ∑ i : Fin 4, (pKp m c (pt hp i) 0 r l + pKp m c (pt hp i) 1 r l)) := by
  refine (sum_kp m c 15 (lt_of_lt_of_eq (by decide) N_0.symm) r l).trans ?_
  simp only [Fin.sum_univ_four, Fin.sum_univ_succ, Fin.sum_univ_zero, add_zero, add_assoc]
  rfl

end Cert.KernelIdeal.Att

end
-- ==== Proof.Att.Place.lean ====
/- The blocks of a grid point are the arrays' blocks of its head pair and query block. -/
module

public import proofs.«01_k».proof.Proof.Att.Entry
public import proofs.«01_k».proof.Proof.Att.Ident
public import proofs.«01_k».proof.Proof.Att.Out

@[expose] public section

set_option maxRecDepth 16384

noncomputable section

namespace Cert.KernelIdeal.Att

open Idealize.ShloMosaic Idealize.ShloMosaic.TcCoe Cert.KernelIdeal Cert.KernelIdeal.Gen Cert.Att

variable (m : (ℓ : Loc nD τ sig) → Buf (Elt Ideal) ℓ) (c : Dev nD)

/-- Which block of its array each window shows at each point. -/
theorem idxs : ∀ t : Fin cfg0.N, win0_0.index t = ![t.val % 4, t.val / 4] ∧ win0_1.index t = ![t.val % 4, 8 + t.val / 4]
    ∧ win0_2.index t = ![t.val % 4, 0] ∧ win0_3.index t = ![t.val % 4, 0] ∧ win0_4.index t = ![0, t.val / 4]
    ∧ win0_5.index t = ![0, 0] ∧ win0_6.index t = ![t.val % 4, t.val / 4] :=
  (by decide +kernel : ∀ t : Fin grid0.N, _)

theorem idxo : ∀ t : Fin cfg0.N, win0_7.index t = ![t.val % 4, t.val / 4] ∧ win0_8.index t = ![t.val % 4, t.val / 4]
    ∧ win0_9.index t = ![0, t.val / 4] ∧ win0_10.index t = ![0, 0] :=
  (by decide +kernel : ∀ t : Fin grid0.N, _)

theorem pt_mod (hp i : Fin 4) : (pt hp i).val % 4 = i.val := by show (4 * hp.val + i.val) % 4 = i.val; omega
theorem pt_div (hp i : Fin 4) : (pt hp i).val / 4 = hp.val := by show (4 * hp.val + i.val) / 4 = hp.val; omega

variable (hp i : Fin 4)

theorem blk_q (e : Fin 2) (q : Fin 512) (j : Fin 128) :
    @Eq EReal (iblk m c 0 (pt hp i) (ix2 q (co e.val j (by omega)))) ((args m c).q (row i q) (c128 (hd hp e) j)) := by
  refine Eq.trans ?_ (ent_q m c (row i q) (c128 (hd hp e) j))
  have h1 := pt_mod hp i
  have h2 := pt_div hp i
  unfold row c128 hd co
  blk_ext [iblk, idxs (pt hp i)]

theorem blk_p (e : Fin 2) (q : Fin 512) (d : Fin 64) :
    @Eq EReal (iblk m c 1 (pt hp i) (ix2 q (ln e d))) ((args m c).p (row i q) (c64 (hd hp e) d)) := by
  refine Eq.trans ?_ (ent_p m c (row i q) (c64 (hd hp e) d))
  have h1 := pt_mod hp i
  have h2 := pt_div hp i
  unfold row c64 hd ln
  blk_ext [iblk, idxs (pt hp i)]

theorem blk_c (q : Fin 512) (l : Fin 128) :
    @Eq EReal (iblk m c 2 (pt hp i) (ix2 q l)) ((args m c).cs (row i q) ⟨l.val % 32, by omega⟩) := by
  refine Eq.trans ?_ (ent_cos m c (row i q) l)
  have h1 := pt_mod hp i
  have h2 := pt_div hp i
  unfold row
  blk_ext [iblk, idxs (pt hp i)]

theorem blk_s (q : Fin 512) (l : Fin 128) :
    @Eq EReal (iblk m c 3 (pt hp i) (ix2 q l)) (if l.val % 64 < 32 then -(args m c).sn (row i q) ⟨l.val % 32, by omega⟩
      else (args m c).sn (row i q) ⟨l.val % 32, by omega⟩) := by
  refine Eq.trans ?_ (ent_sin m c (row i q) l)
  have h1 := pt_mod hp i
  have h2 := pt_div hp i
  unfold row
  blk_ext [iblk, idxs (pt hp i)]

theorem blk_k (e : Fin 2) (r : Fin 2048) (j : Fin 128) :
    @Eq EReal (iblk m c 4 (pt hp i) (ix2 r (co (2 * e.val) j (by omega)))) ((args m c).kv r (ck (hd hp e) j)) := by
  have h1 := pt_mod hp i
  have h2 := pt_div hp i
  unfold args ck hd co
  dsimp only
  blk_ext [iblk, V, idxs (pt hp i)]

theorem blk_v (e : Fin 2) (r : Fin 2048) (j : Fin 128) :
    @Eq EReal (iblk m c 4 (pt hp i) (ix2 r (co (2 * e.val + 1) j (by omega)))) ((args m c).kv r (cv (hd hp e) j)) := by
  have h1 := pt_mod hp i
  have h2 := pt_div hp i
  unfold args cv hd co
  dsimp only
  blk_ext [iblk, V, idxs (pt hp i)]

theorem blk_kp (r : Fin 2048) (l : Fin 128) :
    @Eq EReal (iblk m c 5 (pt hp i) (ix2 r l)) ((args m c).kp r l) := by
  unfold args
  dsimp only
  blk_ext [iblk, V, idxs (pt hp i)]

theorem blk_d (e : Fin 2) (q : Fin 512) (j : Fin 128) :
    @Eq EReal (iblk m c 6 (pt hp i) (ix2 q (co e.val j (by omega)))) ((args m c).d (row i q) (c128 (hd hp e) j)) := by
  have h1 := pt_mod hp i
  have h2 := pt_div hp i
  unfold args row c128 hd co
  dsimp only
  blk_ext [iblk, V, idxs (pt hp i)]

/-- The blocks of a grid point. -/
theorem at_pt : At (args m c) hp i (iblk m c 0 (pt hp i)) (iblk m c 1 (pt hp i)) (iblk m c 2 (pt hp i)) (iblk m c 3 (pt hp i))
    (iblk m c 4 (pt hp i)) (iblk m c 5 (pt hp i)) (iblk m c 6 (pt hp i)) where
  bq := blk_q m c hp i
  bp := blk_p m c hp i
  bc := blk_c m c hp i
  bs := blk_s m c hp i
  bk := blk_k m c hp i
  bv := blk_v m c hp i
  bkp := blk_kp m c hp i
  bd := blk_d m c hp i

end Cert.KernelIdeal.Att

end
-- ==== Proof.Att.Data.lean ====
/- The proof data of the kernel at any float values: what each point's body finds and leaves, window by window. -/
module

public import proofs.«01_k».proof.Proof.Att.State
public import Idealize.ShloMosaic.Lib.Pipeline.TableIdle

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Which windows a point writes -/

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
theorem live5 (t : Fin cfg0.N) : cfg0.idle 5 (grid0.coords t) = false := rfl
theorem live6 (t : Fin cfg0.N) : cfg0.idle 6 (grid0.coords t) = false := rfl
theorem live7 (t : Fin cfg0.N) : cfg0.idle 7 (grid0.coords t) = false := by
  have h3 := cnd3_iff t; have h4 := cnd4_iff t; have h5 := cnd5_iff t; have h2 := cnd2_iff t
  show (!(k0_cond3 (grid0.coords t) == 1#1) && !(k0_cond4 (grid0.coords t) == 1#1) && !(k0_cond5 (grid0.coords t) == 1#1) && !(k0_cond6 (grid0.coords t) == 1#1)) = false
  have hc : t.val % 4 = 0 ∨ t.val % 4 = 1 ∨ t.val % 4 = 2 ∨ t.val % 4 = 3 := by omega
  rcases hc with h | h | h | h
  · simp [(cnd2_iff t).mpr h]
  · simp [(cnd3_iff t).mpr h]
  · simp [(cnd4_iff t).mpr h]
  · simp [(cnd5_iff t).mpr h]
theorem live8 (t : Fin cfg0.N) : cfg0.idle 8 (grid0.coords t) = false := by
  have h3 := cnd3_iff t; have h4 := cnd4_iff t; have h5 := cnd5_iff t; have h2 := cnd2_iff t
  show (!(k0_cond3 (grid0.coords t) == 1#1) && !(k0_cond4 (grid0.coords t) == 1#1) && !(k0_cond5 (grid0.coords t) == 1#1) && !(k0_cond6 (grid0.coords t) == 1#1)) = false
  have hc : t.val % 4 = 0 ∨ t.val % 4 = 1 ∨ t.val % 4 = 2 ∨ t.val % 4 = 3 := by omega
  rcases hc with h | h | h | h
  · simp [(cnd2_iff t).mpr h]
  · simp [(cnd3_iff t).mpr h]
  · simp [(cnd4_iff t).mpr h]
  · simp [(cnd5_iff t).mpr h]
theorem live10 (t : Fin cfg0.N) : cfg0.idle 10 (grid0.coords t) = false := by
  have h3 := cnd3_iff t; have h4 := cnd4_iff t; have h5 := cnd5_iff t; have h2 := cnd2_iff t
  show (!(k0_cond2 (grid0.coords t) == 1#1) && !(k0_cond3 (grid0.coords t) == 1#1) && !(k0_cond4 (grid0.coords t) == 1#1) && !(k0_cond5 (grid0.coords t) == 1#1) && !(k0_cond6 (grid0.coords t) == 1#1)) = false
  have hc : t.val % 4 = 0 ∨ t.val % 4 = 1 ∨ t.val % 4 = 2 ∨ t.val % 4 = 3 := by omega
  rcases hc with h | h | h | h
  · simp [(cnd2_iff t).mpr h]
  · simp [(cnd3_iff t).mpr h]
  · simp [(cnd4_iff t).mpr h]
  · simp [(cnd5_iff t).mpr h]

theorem live9 (t : Fin cfg0.N) (h : t.val % 4 = 3) : cfg0.idle 9 (grid0.coords t) = false := by
  show (!(k0_cond7 (grid0.coords t) == 1#1)) = false
  simp [(cnd6_iff t).mpr h]
theorem idle9 (t : Fin cfg0.N) (h : ¬t.val % 4 = 3) : cfg0.idle 9 (grid0.coords t) = true := by
  show (!(k0_cond7 (grid0.coords t) == 1#1)) = true
  have : ¬k0_cond7 (grid0.coords t) = 1#1 := fun e => h ((cnd6_iff t).mp e)
  simp [this]
theorem flush9 (t : Fin cfg0.N) (h : ¬t.val % 4 = 3) : (cfg0.win 9).flush t = false := by
  cases e : (cfg0.win 9).flush t with
  | false => rfl
  | true => exact absurd ((flush0_9 t).mp e) h

/-- The rotated key's buffer is written out only after the last point, so it carries over between points. -/
theorem fresh10 (t : Fin cfg0.N) (ht : t.val ≠ 0) : cfg0.fresh 10 t.val = false := by
  obtain ⟨n, hn⟩ := t
  cases n with
  | zero => exact absurd rfl ht
  | succ n =>
    have hN : n + 1 < 16 := lt_of_lt_of_eq hn N_0
    show cfg0.fresh 10 (n + 1) = false
    rw [Cfg.fresh_succ (cfg := cfg0) (10 : Fin 11) n (Nat.lt_of_succ_lt hn)]
    have h1 : (cfg0.win 10).flush ⟨n, Nat.lt_of_succ_lt hn⟩ = false := by
      cases e : (cfg0.win 10).flush ⟨n, Nat.lt_of_succ_lt hn⟩ with
      | false => rfl
      | true => have := (flush0_10 ⟨n, Nat.lt_of_succ_lt hn⟩).mp e; dsimp only at this; omega
    exact (congrArg₂ (· || ·) h1 (congrArg (· && _) (live10 ⟨n, Nat.lt_of_succ_lt hn⟩))).trans rfl

/-! ### The proof data -/

/-- The region's invariant before point `n`: before the first, anything in the scratch; afterwards what the point
    before left in it. -/
def PhiS (c : Dev nD) : (n : ℕ) → n ≤ cfg0.N → sProp 𝕄
  | 0, _ => Pipeline.ΦA spec0 c
  | n + 1, hn => iprop(iprop(owns (c : Thread nD τ) scr fullShare (leftAt m c n hn).sc) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (leftAt m c n hn).sc) ∗ (∃ r, prngReg c r)) := rfl

theorem PhiS_pos (c : Dev nD) (n : ℕ) (h : n ≤ cfg0.N) (hz : n ≠ 0) :
    PhiS m c n h = iprop(iprop(owns (c : Thread nD τ) scr fullShare (leftAt m c (n - 1) (by omega)).sc) ∗ (∃ r, prngReg c r)) := by
  cases n with
  | zero => exact absurd rfl hz
  | succ n => rfl

/-- The pipeline's proof data: the arrays as the region finds them, the inputs' blocks left as they are, the results'
    buffers at what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (leftAt m c t.val t.isLt).qn
    | ⟨8, _⟩ => (leftAt m c t.val t.isLt).qp
    | ⟨9, _⟩ => (leftAt m c t.val t.isLt).kv
    | ⟨10, _⟩ => (leftAt m c t.val t.isLt).kp
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (leftAt m c t.val t.isLt).qn := by dsimp only [dats]
theorem after8 (c : Dev nD) (t : Fin cfg0.N) : (dats m 0 c).after 8 t = (leftAt m c t.val t.isLt).qp := by dsimp only [dats]
theorem after9 (c : Dev nD) (t : Fin cfg0.N) : (dats m 0 c).after 9 t = (leftAt m c t.val t.isLt).kv := by dsimp only [dats]
theorem after10 (c : Dev nD) (t : Fin cfg0.N) : (dats m 0 c).after 10 t = (leftAt m c t.val t.isLt).kp := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem before10 (c : Dev nD) (t : Fin cfg0.N) (ht : t.val ≠ 0) (d) : (dats m 0 c).before 10 t d = (prev m c t).kp := by
  refine (Dat.before_out_traj (dat := dats m 0 c) (10 : Fin 11) rfl (fun _ _ => rfl) ?_ t.val t rfl d).trans ?_
  · intro t _ hi; exact absurd (hi.symm.trans (live10 t)) (by decide)
  · rw [if_neg (fun e => absurd (e.symm.trans (fresh10 t ht)) (by decide))]; exact after10 m c _

theorem leaves0 (c : Dev nD) (t : Fin cfg0.N) :
    (dats m 0 c).leavesExact 0 t = owns (c : Thread nD τ) (buf0 t) fullShare (iblk m c 0 t) := by
  unfold Dat.leavesExact; rw [live0 t, after0]
theorem leaves1 (c : Dev nD) (t : Fin cfg0.N) :
    (dats m 0 c).leavesExact 1 t = owns (c : Thread nD τ) (buf1 t) fullShare (iblk m c 1 t) := by
  unfold Dat.leavesExact; rw [live1 t, after1]
theorem leaves2 (c : Dev nD) (t : Fin cfg0.N) :
    (dats m 0 c).leavesExact 2 t = owns (c : Thread nD τ) (buf2 t) fullShare (iblk m c 2 t) := by
  unfold Dat.leavesExact; rw [live2 t, after2]
theorem leaves3 (c : Dev nD) (t : Fin cfg0.N) :
    (dats m 0 c).leavesExact 3 t = owns (c : Thread nD τ) (buf3 t) fullShare (iblk m c 3 t) := by
  unfold Dat.leavesExact; rw [live3 t, after3]
theorem leaves4 (c : Dev nD) (t : Fin cfg0.N) :
    (dats m 0 c).leavesExact 4 t = owns (c : Thread nD τ) (buf4 t) fullShare (iblk m c 4 t) := by
  unfold Dat.leavesExact; rw [live4 t, after4]
theorem leaves5 (c : Dev nD) (t : Fin cfg0.N) :
    (dats m 0 c).leavesExact 5 t = owns (c : Thread nD τ) (buf5 t) fullShare (iblk m c 5 t) := by
  unfold Dat.leavesExact; rw [live5 t, after5]
theorem leaves6 (c : Dev nD) (t : Fin cfg0.N) :
    (dats m 0 c).leavesExact 6 t = owns (c : Thread nD τ) (buf6 t) fullShare (iblk m c 6 t) := by
  unfold Dat.leavesExact; rw [live6 t, after6]
theorem leaves7 (c : Dev nD) (t : Fin cfg0.N) :
    (dats m 0 c).leavesExact 7 t = owns (c : Thread nD τ) (buf7 t) fullShare ((leftAt m c t.val t.isLt).qn) := by
  unfold Dat.leavesExact; rw [live7 t, after7]
theorem leaves8 (c : Dev nD) (t : Fin cfg0.N) :
    (dats m 0 c).leavesExact 8 t = owns (c : Thread nD τ) (buf8 t) fullShare ((leftAt m c t.val t.isLt).qp) := by
  unfold Dat.leavesExact; rw [live8 t, after8]
theorem leaves10 (c : Dev nD) (t : Fin cfg0.N) :
    (dats m 0 c).leavesExact 10 t = owns (c : Thread nD τ) (buf10 t) fullShare ((leftAt m c t.val t.isLt).kp) := by
  unfold Dat.leavesExact; rw [live10 t, after10]
theorem leaves9 (c : Dev nD) (t : Fin cfg0.N) (h : t.val % 4 = 3) :
    (dats m 0 c).leavesExact 9 t = owns (c : Thread nD τ) (buf9 t) fullShare (leftAt m c t.val t.isLt).kv := by
  unfold Dat.leavesExact; rw [live9 t h, after9]
theorem leaves9' (c : Dev nD) (t : Fin cfg0.N) (h : ¬t.val % 4 = 3) :
    (dats m 0 c).leavesExact 9 t = iprop(∃ d, owns (c : Thread nD τ) (buf9 t) fullShare ((dats m 0 c).before 9 t d)) := by
  unfold Dat.leavesExact; rw [idle9 t h, flush9 t h]

/-! ### The body at each point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

end Cert.KernelIdeal.Att

end
-- ==== Proof.Att.Final.lean ====
/- The four result arrays after the kernel's run, entry by entry, as the attention's gradients. -/
module

public import proofs.«01_k».proof.Proof.Att.Place
public import proofs.«01_k».proof.Proof.Att.Data

@[expose] public section

set_option maxRecDepth 16384

noncomputable section

namespace Cert.KernelIdeal.Att

open Idealize.ShloMosaic Idealize.ShloMosaic.TcCoe Cert.KernelIdeal Cert.KernelIdeal.Gen Cert.Att
open Idealize.ShloMosaic.Pipeline (Dat)

variable (m : (ℓ : Loc nD τ sig) → Buf (Elt Ideal) ℓ) (c : Dev nD)

/-- The gradients by array column. -/
def rQn (A : Args) (s : Fin 2048) (k : Fin 1024) : EReal := A.gQn s ⟨k.val / 128, by omega⟩ ⟨k.val % 128, by omega⟩
def rQp (A : Args) (s : Fin 2048) (k : Fin 512) : EReal := A.gQp s ⟨k.val / 64, by omega⟩ ⟨k.val % 64, by omega⟩
def rKv (A : Args) (r : Fin 2048) (k : Fin 2048) : EReal :=
  if h : k.val % 256 < 128 then A.gKn r ⟨k.val / 256, by omega⟩ ⟨k.val % 256, h⟩
  else A.gV r ⟨k.val / 256, by omega⟩ ⟨k.val % 256 - 128, by omega⟩

theorem exists_co {e : Fin 2 → Fin 128 → Fin 256} (he : ∀ a j, (e a j).val = 128 * a.val + j.val) (k : Fin 256) :
    ∃ a j, k = e a j :=
  ⟨⟨k.val / 128, by omega⟩, ⟨k.val % 128, by omega⟩, Fin.ext (by rw [he]; show k.val = 128 * (k.val / 128) + k.val % 128; omega)⟩

theorem exists_pt (t : Fin cfg0.N) : ∃ hp i, t = pt hp i := by
  have ht : t.val < 16 := lt_of_lt_of_eq t.isLt N_0
  exact ⟨⟨t.val / 4, by omega⟩, ⟨t.val % 4, by omega⟩, Fin.ext (by show t.val = 4 * (t.val / 4) + t.val % 4; omega)⟩

theorem left_qn (hp i : Fin 4) (q : Fin 512) (k : Fin 256) :
    @Eq EReal ((leftAt m c (pt hp i).val (pt hp i).isLt).qn (ix2 q k))
      (rQn (args m c) (row i q) ⟨256 * hp.val + k.val, by omega⟩) := by
  have key : ∀ (e : Fin 2) (j : Fin 128), @Eq EReal ((leftAt m c (pt hp i).val (pt hp i).isLt).qn (ix2 q (co e.val j (by omega))))
      ((args m c).gQn (row i q) (hd hp e) j) := by
    intro e j
    have h := sQn_at (at_pt m c hp i) e q j
    rcases two e with rfl | rfl
    · refine (out_qn0 m c (pt hp i) q j).trans ?_
      unfold pQn
      rw [pt_mod]
      exact h
    · refine (out_qn1 m c (pt hp i) q j).trans ?_
      unfold pQn
      rw [pt_mod]
      exact h
  have hk : k = co (k.val / 128) (⟨k.val % 128, by omega⟩ : Fin 128) (by omega) :=
    Fin.ext (by show k.val = 128 * (k.val / 128) + k.val % 128; omega)
  have e := key ⟨k.val / 128, by omega⟩ ⟨k.val % 128, by omega⟩
  dsimp only at e
  rw [← hk] at e
  refine e.trans ?_
  unfold rQn
  refine congrArg₂ (fun a b => (args m c).gQn (row i q) a b) (Fin.ext ?_) (Fin.ext ?_)
  · show 2 * hp.val + k.val / 128 = (256 * hp.val + k.val) / 128; omega
  · show k.val % 128 = (256 * hp.val + k.val) % 128; omega

theorem left_qp (hp i : Fin 4) (q : Fin 512) (k : Fin 128) :
    @Eq EReal ((leftAt m c (pt hp i).val (pt hp i).isLt).qp (ix2 q k))
      (rQp (args m c) (row i q) ⟨128 * hp.val + k.val, by omega⟩) := by
  refine (out_qp m c (pt hp i) q k).trans ?_
  obtain ⟨e, d, rfl⟩ := exists_ln k
  unfold pQp
  rw [pt_mod]
  refine (sQp_at (at_pt m c hp i) e q d).trans ?_
  unfold rQp
  refine congrArg₂ (fun a b => (args m c).gQp (row i q) a b) (Fin.ext ?_) (Fin.ext ?_)
  · show 2 * hp.val + e.val = (128 * hp.val + (64 * e.val + d.val)) / 64; omega
  · show d.val = (128 * hp.val + (64 * e.val + d.val)) % 64; omega

theorem left_kv (hp : Fin 4) (r : Fin 2048) (k : Fin 512) :
    @Eq EReal ((leftAt m c (pt hp 3).val (pt hp 3).isLt).kv (ix2 r k))
      (rKv (args m c) r ⟨512 * hp.val + k.val, by omega⟩) := by
  have hkn : ∀ (e : Fin 2) (j : Fin 128), ∑ i : Fin 4, pKn m c (pt hp i) e r j = (args m c).gKn r (hd hp e) j := by
    intro e j
    unfold Args.gKn
    rw [sum_row]
    refine Finset.sum_congr rfl fun i _ => ?_
    unfold pKn
    rw [pt_mod]
    exact sKn_at (at_pt m c hp i) e r j
  have hv : ∀ (e : Fin 2) (j : Fin 128), ∑ i : Fin 4, pV m c (pt hp i) e r j = (args m c).gV r (hd hp e) j := by
    intro e j
    unfold Args.gV
    rw [sum_row]
    refine Finset.sum_congr rfl fun i _ => ?_
    unfold pV
    rw [pt_mod]
    exact sV_at (at_pt m c hp i) e r j
  have rk : ∀ (e : Fin 2) (j : Fin 128), (args m c).gKn r (hd hp e) j
      = rKv (args m c) r ⟨512 * hp.val + (128 * (2 * e.val) + j.val), by omega⟩ := by
    intro e j
    unfold rKv
    refine Eq.trans ?_ (dif_pos (show (512 * hp.val + (128 * (2 * e.val) + j.val)) % 256 < 128 by omega)).symm
    refine congrArg₂ (fun a b => (args m c).gKn r a b) (Fin.ext ?_) (Fin.ext ?_)
    · show 2 * hp.val + e.val = (512 * hp.val + (128 * (2 * e.val) + j.val)) / 256; omega
    · show j.val = (512 * hp.val + (128 * (2 * e.val) + j.val)) % 256; omega
  have rv : ∀ (e : Fin 2) (j : Fin 128), (args m c).gV r (hd hp e) j
      = rKv (args m c) r ⟨512 * hp.val + (128 * (2 * e.val + 1) + j.val), by omega⟩ := by
    intro e j
    unfold rKv
    refine Eq.trans ?_ (dif_neg (show ¬(512 * hp.val + (128 * (2 * e.val + 1) + j.val)) % 256 < 128 by omega)).symm
    refine congrArg₂ (fun a b => (args m c).gV r a b) (Fin.ext ?_) (Fin.ext ?_)
    · show 2 * hp.val + e.val = (512 * hp.val + (128 * (2 * e.val + 1) + j.val)) / 256; omega
    · show j.val = (512 * hp.val + (128 * (2 * e.val + 1) + j.val)) % 256 - 128; omega
  have hk : ∃ g : Fin 4, ∃ j : Fin 128, k = co g.val j (by omega) :=
    ⟨⟨k.val / 128, by omega⟩, ⟨k.val % 128, by omega⟩, Fin.ext (by show k.val = 128 * (k.val / 128) + k.val % 128; omega)⟩
  obtain ⟨g, j, rfl⟩ := hk
  have four : ∀ g : Fin 4, g = 0 ∨ g = 1 ∨ g = 2 ∨ g = 3 := by decide
  rcases four g with rfl | rfl | rfl | rfl
  · exact (sum_kv0 m c hp r j).trans ((hkn 0 j).trans (rk 0 j))
  · exact (sum_kv1 m c hp r j).trans ((hv 0 j).trans (rv 0 j))
  · exact (sum_kv2 m c hp r j).trans ((hkn 1 j).trans (rk 1 j))
  · exact (sum_kv3 m c hp r j).trans ((hv 1 j).trans (rv 1 j))

theorem left_kp (r : Fin 2048) (l : Fin 128) :
    @Eq EReal ((leftAt m c 15 (lt_of_lt_of_eq (by decide) N_0.symm)).kp (ix2 r l)) ((args m c).gKp r l) := by
  refine (last_kp m c r l).trans ?_
  obtain ⟨e, d, rfl⟩ := exists_ln l
  unfold Args.gKp
  refine Finset.sum_congr rfl fun hp _ => ?_
  refine Eq.trans ?_ (congrArg₂ (fun a b => (args m c).gKr r a b) (show hd hp e = _ from Fin.ext ?_) (show d = _ from Fin.ext ?_))
  · unfold Args.gKr
    rw [sum_row]
    refine Finset.sum_congr rfl fun i _ => ?_
    unfold pKp
    rw [pt_mod]
    exact sKp_both (at_pt m c hp i) e r d
  · show 2 * hp.val + e.val = hp.val * 2 + (64 * e.val + d.val) / 64; omega
  · show d.val = (64 * e.val + d.val) % 64; omega

/-! ### The arrays -/

theorem after_qn (t : Fin cfg0.N) : (dats m 0 c).after 7 t = (leftAt m c t.val t.isLt).qn := by dsimp only [dats]
theorem after_qp (t : Fin cfg0.N) : (dats m 0 c).after 8 t = (leftAt m c t.val t.isLt).qp := by dsimp only [dats]
theorem after_kv (t : Fin cfg0.N) : (dats m 0 c).after 9 t = (leftAt m c t.val t.isLt).kv := by dsimp only [dats]
theorem after_kp (t : Fin cfg0.N) : (dats m 0 c).after 10 t = (leftAt m c t.val t.isLt).kp := by dsimp only [dats]

theorem arr_qn : (dats m 0 c).arrAt 7 (cfgs 0).N = fun y => rQn (args m c) (y 0) (y 1) := by
  refine (dats m 0 c).arrAt_eq_of_covers 7 _ (by decide +kernel) fun t _ y => ?_
  blk_simp
  rw [after_qn]
  obtain ⟨hp, i, rfl⟩ := exists_pt t
  rw [eq_ix2 y]
  refine (left_qn m c hp i (y 0) (y 1)).trans ?_
  have h1 := pt_mod hp i
  have h2 := pt_div hp i
  refine congrArg₂ (fun a b => rQn (args m c) a b) (Fin.ext ?_) (Fin.ext ?_)
  · refine Eq.trans (b := 512 * i.val + (y 0).val) rfl ?_
    blk_simp [idxo (pt hp i)]
    omega
  · refine Eq.trans (b := 256 * hp.val + (y 1).val) rfl ?_
    blk_simp [idxo (pt hp i)]
    omega

theorem arr_qp : (dats m 0 c).arrAt 8 (cfgs 0).N = fun y => rQp (args m c) (y 0) (y 1) := by
  refine (dats m 0 c).arrAt_eq_of_covers 8 _ (by decide +kernel) fun t _ y => ?_
  blk_simp
  rw [after_qp]
  obtain ⟨hp, i, rfl⟩ := exists_pt t
  rw [eq_ix2 y]
  refine (left_qp m c hp i (y 0) (y 1)).trans ?_
  have h1 := pt_mod hp i
  have h2 := pt_div hp i
  refine congrArg₂ (fun a b => rQp (args m c) a b) (Fin.ext ?_) (Fin.ext ?_)
  · refine Eq.trans (b := 512 * i.val + (y 0).val) rfl ?_
    blk_simp [idxo (pt hp i)]
    omega
  · refine Eq.trans (b := 128 * hp.val + (y 1).val) rfl ?_
    blk_simp [idxo (pt hp i)]
    omega

theorem arr_kv : (dats m 0 c).arrAt 9 (cfgs 0).N = fun y => rKv (args m c) (y 0) (y 1) := by
  refine (dats m 0 c).arrAt_eq_of_covers 9 _ (by decide +kernel) fun t hf y => ?_
  blk_simp
  rw [after_kv]
  obtain ⟨hp, i, rfl⟩ := exists_pt t
  have hi : i = 3 := by
    have h : (pt hp i).val % 4 = 3 := (flush0_9 (pt hp i)).mp hf
    rw [pt_mod] at h
    exact Fin.ext h
  subst hi
  rw [eq_ix2 y]
  refine (left_kv m c hp (y 0) (y 1)).trans ?_
  have h1 := pt_mod hp 3
  have h2 := pt_div hp 3
  refine congrArg₂ (fun a b => rKv (args m c) a b) (Fin.ext ?_) (Fin.ext ?_)
  · blk_simp [idxo (pt hp 3)]
    try omega
  · refine Eq.trans (b := 512 * hp.val + (y 1).val) rfl ?_
    blk_simp [idxo (pt hp 3)]
    omega

theorem arr_kp : (dats m 0 c).arrAt 10 (cfgs 0).N = fun y => (args m c).gKp (y 0) (y 1) := by
  refine (dats m 0 c).arrAt_eq_of_after_last 10 (pt 3 3) (by decide +kernel) _ fun j => ?_
  blk_simp
  rw [after_kp]
  rw [eq_ix2 j]
  exact left_kp m c (j 0) (j 1)

end Cert.KernelIdeal.Att

end
-- ==== Proof.Att.Finite.lean ====
/- With finite queries, keys and values every attention score is a real number. -/
module

public import proofs.«01_k».proof.Proof.Att.Entry
public import proofs.«01_k».proof.Defs

@[expose] public section

set_option maxRecDepth 16384

noncomputable section

namespace Cert.Att

open Idealize.ShloMosaic

/-- A value that is a real number. -/
def IsR (x : EReal) : Prop := ∃ r : ℝ, x = r

theorem IsR.add {x y : EReal} (hx : IsR x) (hy : IsR y) : IsR (x + y) := by
  obtain ⟨a, rfl⟩ := hx; obtain ⟨b, rfl⟩ := hy
  exact ⟨a + b, (EReal.coe_add a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.neg {x : EReal} (hx : IsR x) : IsR (-x) := by
  obtain ⟨a, rfl⟩ := hx
  exact ⟨-a, (EReal.coe_neg a).symm⟩

theorem IsR.sum {ι : Type} (t : Finset ι) {f : ι → EReal} (hf : ∀ i, IsR (f i)) : IsR (∑ i ∈ t, f i) := by
  classical
  induction t using Finset.induction_on with
  | empty => exact ⟨0, by rw [Finset.sum_empty]; exact EReal.coe_zero.symm⟩
  | insert a s ha ih => rw [Finset.sum_insert ha]; exact (hf a).add ih

theorem IsR.cos {x : EReal} (hx : IsR x) : IsR (Ideal.cos x) := by
  obtain ⟨a, rfl⟩ := hx
  exact ⟨Real.cos a, rfl⟩

theorem IsR.sin {x : EReal} (hx : IsR x) : IsR (Ideal.sin x) := by
  obtain ⟨a, rfl⟩ := hx
  exact ⟨Real.sin a, rfl⟩

theorem IsR.pow {x y : EReal} (hx : IsR x) (hy : IsR y) : IsR (Ideal.pow x y) := by
  obtain ⟨a, rfl⟩ := hx; obtain ⟨b, rfl⟩ := hy
  exact ⟨Real.rpow a b, rfl⟩

theorem IsR.div {x y : EReal} (hx : IsR x) (hy : ∃ r : ℝ, 0 < r ∧ y = r) : IsR (Ideal.div x y) := by
  obtain ⟨a, rfl⟩ := hx; obtain ⟨b, hb, rfl⟩ := hy
  rw [div_real _ _ hb]
  exact ⟨a * b⁻¹, (EReal.coe_mul _ _).symm⟩

/-- A value whose magnitude is below +∞ is a real number. -/
theorem isR_of_lt {x : EReal} (h : max x (-x) < ⊤) : IsR x := by
  have h1 : x < ⊤ := lt_of_le_of_lt (le_max_left _ _) h
  have h2 : -x < ⊤ := lt_of_le_of_lt (le_max_right _ _) h
  induction x with
  | bot => exact absurd h2 (by simp)
  | top => exact absurd h1 (by simp)
  | coe r => exact ⟨r, rfl⟩

theorem posInf : Ideal.ofBits .f32 0x7F800000#32 = (⊤ : EReal) := by
  simp [Ideal.ofBits, Ideal.ieee]

theorem isR_of_cmp {x : EReal} (h : Ideal.cmp .olt (max x (-x)) (Ideal.ofBits .f32 0x7F800000#32) = 1#1) : IsR x := by
  rw [posInf] at h
  refine isR_of_lt ?_
  by_contra hc
  have e : Ideal.cmp .olt (max x (-x)) ⊤ = BitVec.ofBool (decide (max x (-x) < ⊤)) := rfl
  rw [e, decide_eq_false hc] at h
  exact absurd h (by decide)

theorem two_real : ∃ x : ℝ, 0 < x ∧ Ideal.ofBits .f32 0x40000000#32 = (x : EReal) := by
  refine ⟨_, ?_, by simp [Ideal.ofBits, Ideal.ieee, -EReal.coe_mul]; rfl⟩
  norm_num

theorem base_real : ∃ x : ℝ, 0 < x ∧ Ideal.ofBits .f32 0x461C4000#32 = (x : EReal) := by
  refine ⟨_, ?_, by simp [Ideal.ofBits, Ideal.ieee, -EReal.coe_mul]; rfl⟩
  norm_num

theorem width_real : ∃ x : ℝ, 0 < x ∧ Ideal.ofBits .f32 0x42800000#32 = (x : EReal) := by
  refine ⟨_, ?_, by simp [Ideal.ofBits, Ideal.ieee, -EReal.coe_mul]; rfl⟩
  norm_num

theorem ang_real (w : BitVec 32) (f : Fin 32) : IsR (ang w f) := by
  have hi : ∀ v : BitVec 32, IsR (FloatOps.sitofp (F := Ideal) FTy.f32 v) := fun v => ⟨(v.toInt : ℝ), rfl⟩
  obtain ⟨a, _, ha⟩ := two_real
  obtain ⟨b, _, hb⟩ := base_real
  exact (hi w).mul (IsR.pow ⟨b, hb⟩ (IsR.div (IsR.neg (IsR.mul ⟨a, ha⟩ (hi _))) width_real))

/-- Finite queries, keys and values give real scores. -/
theorem Args.real_of {A : Args} (hq : ∀ s k, IsR (A.q s k)) (hp : ∀ s k, IsR (A.p s k)) (hkv : ∀ s k, IsR (A.kv s k))
    (hkp : ∀ s k, IsR (A.kp s k)) : A.Real := by
  intro h s r
  have hcs : ∀ s f, IsR (A.cs s f) := fun s f => (ang_real _ _).cos
  have hsn : ∀ s f, IsR (A.sn s f) := fun s f => (ang_real _ _).sin
  have hrot : ∀ s h d, IsR (A.rot s h d) := fun s h d => by
    unfold Args.rot
    refine ((hp _ _).mul (hcs _ _)).add ((hp _ _).mul ?_)
    split
    · exact (hsn _ _).neg
    · exact hsn _ _
  obtain ⟨x, _, hx⟩ := Cert.KernelIdeal.Att.sca_real
  exact ((IsR.sum _ fun j => (hq _ _).mul (hkv _ _)).add (IsR.sum _ fun d => (hrot _ _ _).mul (hkp _ _))).mul ⟨x, hx⟩

end Cert.Att

namespace Cert.KernelIdeal.Att

open Idealize.ShloMosaic Idealize.ShloMosaic.TcCoe Cert.KernelIdeal Cert.KernelIdeal.Gen Cert.Att

variable (m : (ℓ : Loc nD τ sig) → Buf (Elt Ideal) ℓ) (c : Dev nD)

theorem pre_facts : Cert.Pre_finite.Facts := ⟨by decide, by decide, by decide, by decide, by decide⟩

theorem real_args (hpre : Cert.Pre_KernelIdeal_finite (hPre_finite := pre_facts) m) : (args m c).Real := by
  obtain ⟨h0, h1, h2, h3⟩ := hpre c
  refine Args.real_of (fun s k => isR_of_cmp ?_) (fun s k => isR_of_cmp ?_) (fun s k => isR_of_cmp ?_) (fun s k => isR_of_cmp ?_)
  · exact congrFun h0 (ix2 s k)
  · exact congrFun h1 (ix2 s k)
  · exact congrFun h2 (ix2 s k)
  · exact congrFun h3 (ix2 s k)

end Cert.KernelIdeal.Att

end
-- ==== Proof.Att.BodyA.lean ====
/- The kernel body at the first point of all, from what it finds to what it leaves. -/
module

public import proofs.«01_k».proof.Proof.Att.Data

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyA (c : Dev nD) (t : Fin cfg0.N) (h0 : t.val % 4 = 0) (h1 : t.val % 16 = 0) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves10, leaves9' m c t (by omega), leftAt_A m c t h0 h1]
  have hz : t.val = 0 := by omega
  rw [PhiS_castSucc m c t, PhiS_zero m c _ _ hz, rest_eq]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atA m c t h0 h1).2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]
    · unfold owns; iexists _; isplitr
      swap; · iexact HS
      ipureintro; exact View.read_writes_eq_canon _ _ _ (fillssA m c t h0 h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (fills7A m c t h0 h1)
  isplitl [H8]
  · unfold owns; iexists _; isplitr
    swap; · iexact H8
    ipureintro; exact View.read_writes_eq_canon _ _ _ (fills8A m c t h0 h1)
  isplitl [H9]; · iexists _; iexact H9
  unfold owns; iexists _; isplitr
  swap; · iexact H10
  ipureintro; exact View.read_writes_eq_canon _ _ _ (fills10A m c t h0 h1)

end Cert.KernelIdeal.Att

end
-- ==== Proof.Att.BodyB.lean ====
/- The kernel body at a point of row block 1, from what it finds to what it leaves. -/
module

public import proofs.«01_k».proof.Proof.Att.Data

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyB (c : Dev nD) (t : Fin cfg0.N) (h : t.val % 4 = 1) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves10, leaves9' m c t (by omega), leftAt_B m c t h]
  have hz : t.val ≠ 0 := by omega
  simp only [before10 m c t hz]
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atB m c t h (prev m c t).kp (prev m c t).sc).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (fills7B m c t h (prev m c t).kp (prev m c t).sc)
  isplitl [H8]
  · unfold owns; iexists _; isplitr
    swap; · iexact H8
    ipureintro; exact View.read_writes_eq_canon _ _ _ (fills8B m c t h (prev m c t).kp (prev m c t).sc)
  isplitl [H9]; · iexists _; iexact H9
  unfold owns; iexists _; isplitr
  swap; · iexact H10
  ipureintro; rfl

end Cert.KernelIdeal.Att

end
-- ==== Proof.Att.BodyC.lean ====
/- The kernel body at a point of row block 2, from what it finds to what it leaves. -/
module

public import proofs.«01_k».proof.Proof.Att.Data

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyC (c : Dev nD) (t : Fin cfg0.N) (h : t.val % 4 = 2) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves10, leaves9' m c t (by omega), leftAt_C m c t h]
  have hz : t.val ≠ 0 := by omega
  simp only [before10 m c t hz]
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atC m c t h (prev m c t).kp (prev m c t).sc).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (fills7C m c t h (prev m c t).kp (prev m c t).sc)
  isplitl [H8]
  · unfold owns; iexists _; isplitr
    swap; · iexact H8
    ipureintro; exact View.read_writes_eq_canon _ _ _ (fills8C m c t h (prev m c t).kp (prev m c t).sc)
  isplitl [H9]; · iexists _; iexact H9
  unfold owns; iexists _; isplitr
  swap; · iexact H10
  ipureintro; rfl

end Cert.KernelIdeal.Att

end
-- ==== Proof.Att.BodyD.lean ====
/- The kernel body at a point of row block 3, from what it finds to what it leaves. -/
module

public import proofs.«01_k».proof.Proof.Att.Data

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyD (c : Dev nD) (t : Fin cfg0.N) (h : t.val % 4 = 3) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves10, leaves9 m c t h, leftAt_D m c t h]
  have hz : t.val ≠ 0 := by omega
  simp only [before10 m c t hz]
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atD m c t h (prev m c t).kp (prev m c t).sc).2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (fills7D m c t h (prev m c t).kp (prev m c t).sc)
  isplitl [H8]
  · unfold owns; iexists _; isplitr
    swap; · iexact H8
    ipureintro; exact View.read_writes_eq_canon _ _ _ (fills8D m c t h (prev m c t).kp (prev m c t).sc)
  isplitl [H9]
  · unfold owns; iexists _; isplitr
    swap; · iexact H9
    ipureintro; exact View.read_writes_eq_canon _ _ _ (fills9D m c t h (prev m c t).kp (prev m c t).sc)
  unfold owns; iexists _; isplitr
  swap; · iexact H10
  ipureintro; rfl

end Cert.KernelIdeal.Att

end
-- ==== Proof.Att.BodyE.lean ====
/- The kernel body at the first point of a later pass, from what it finds to what it leaves. -/
module

public import proofs.«01_k».proof.Proof.Att.Data

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyE (c : Dev nD) (t : Fin cfg0.N) (h0 : t.val % 4 = 0) (h1 : ¬t.val % 16 = 0) :
    bodyPre m c t ⊢ wp frame (wpE (defs₀ (F := F)) Variants.none c none) Set.univ (bodyAt0 t) (fun _ => bodyPost m c t) := by
  have hN : t.val < 16 := lt_of_lt_of_eq t.isLt N_0
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves10, leaves9' m c t (by omega), leftAt_E m c t h0 h1]
  have hz : t.val ≠ 0 := by omega
  simp only [before10 m c t hz]
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atE m c t h0 h1 (prev m c t).kp).2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS Hg]
  · isplitl [HS]
    · unfold owns; iexists _; isplitr
      swap; · iexact HS
      ipureintro; exact View.read_writes_eq_canon _ _ _ (fillssE m c t h0 h1 (prev m c t).kp)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (fills7E m c t h0 h1 (prev m c t).kp)
  isplitl [H8]
  · unfold owns; iexists _; isplitr
    swap; · iexact H8
    ipureintro; exact View.read_writes_eq_canon _ _ _ (fills8E m c t h0 h1 (prev m c t).kp)
  isplitl [H9]; · iexists _; iexact H9
  unfold owns; iexists _; isplitr
  swap; · iexact H10
  ipureintro; rfl

end Cert.KernelIdeal.Att

end
-- ==== Proof.Att.Frame.lean ====
/- The kernel's run at any float values, and the frame. -/
module

public import proofs.«01_k».proof.Proof.Att.BodyA
public import proofs.«01_k».proof.Proof.Att.BodyB
public import proofs.«01_k».proof.Proof.Att.BodyC
public import proofs.«01_k».proof.Proof.Att.BodyD
public import proofs.«01_k».proof.Proof.Att.BodyE

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases h1 : t.val % 16 = 0
    · exact bodyA m c t h0 h1
    · exact bodyE m c t h0 h1
  · by_cases h1 : t.val % 4 = 1
    · exact bodyB m c t h1
    · by_cases h2 : t.val % 4 = 2
      · exact bodyC m c t h2
      · exact bodyD m c t (by omega)

theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem enter (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), rest_eq]
  iintro ⟨HS, Hg⟩
  isplitl [HS]
  · iexists _; iexact HS
  iexact Hg

/-! ### The run -/

set_option backward.isDefEq.respectTransparency.types false in
/-- From any memory with zero counters the program ends, its arrays as the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- From any memory with zero counters the program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Att

end
-- ==== Proof.Att.Ref.lean ====
/- The reference's results, entry by entry: with real scores they are the model's. -/
module

public import proofs.«01_k».proof.Proof.Gen.ReferenceIdeal.Run
public import proofs.«01_k».proof.Proof.Att.Model

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe
open Idealize.SL.Sem Idealize.ShloMosaic.StableHlo Cert.Att
open Cert.KernelIdeal.Att (sca)

variable (W : Valuation τ sig (Elt Ideal))

/-- The arguments the reference is run on. -/
def args : Args where
  q s c := W (Proc.devRef .tc main_arg0) (ix2 s c)
  p s c := W (Proc.devRef .tc main_arg1) (ix2 s c)
  kv s c := W (Proc.devRef .tc main_arg2) (ix2 s c)
  kp s c := W (Proc.devRef .tc main_arg3) (ix2 s c)
  w s := W (Proc.devRef .tc main_arg4) (ix2 0 s)
  d s c := W (Proc.devRef .tc main_arg5) (ix2 s c)

theorem cos_at (s : Fin 2048) (f : Fin 32) : @Eq EReal (res_main_v25 W (ix3 s 0 f)) ((args W).cs s f) := by
  pointwise [res_main_v25, res_main_v16]
  rfl

theorem sin_at (s : Fin 2048) (f : Fin 32) : @Eq EReal (res_main_v26 W (ix3 s 0 f)) ((args W).sn s f) := by
  pointwise [res_main_v26, res_main_v16]
  rfl

theorem query_lo (s : Fin 2048) (h : Fin 8) (j : Fin 128) :
    @Eq EReal (res_main_v46 W (ix3 s h ⟨j.val, by omega⟩)) ((args W).q s (c128 h j)) := by
  pointwise [res_main_v46]
  rfl

theorem query_hi (s : Fin 2048) (h : Fin 8) (d : Fin 64) :
    @Eq EReal (res_main_v46 W (ix3 s h ⟨128 + d.val, by omega⟩)) ((args W).rot s h d) := by
  pointwise [res_main_v46, res_main_v27, res_main_v28, res_main_v24]
  simp only [cos_at, sin_at]
  unfold Args.rot
  have hd := d.isLt
  by_cases hl : d.val < 32
  · rw [dif_pos hl, if_pos hl, sub_eq_add_neg, ← mul_neg]
    have e1 : fr d = ⟨d.val, hl⟩ := Fin.ext (Nat.mod_eq_of_lt hl)
    have e2 : c64 h (ot d) = ⟨h.val * 64 + (32 + d.val), by omega⟩ :=
      Fin.ext (by show h.val * 64 + (d.val + 32) % 64 = h.val * 64 + (32 + d.val); omega)
    rw [e1, e2]; rfl
  · rw [dif_neg hl, if_neg hl]
    have e1 : fr d = ⟨d.val - 32, by omega⟩ := Fin.ext (by show d.val % 32 = d.val - 32; omega)
    have e2 : c64 h (ot d) = ⟨h.val * 64 + (d.val - 32), by omega⟩ :=
      Fin.ext (by show h.val * 64 + (d.val + 32) % 64 = h.val * 64 + (d.val - 32); omega)
    have e3 : c64 h d = ⟨h.val * 64 + (32 + (d.val - 32)), by omega⟩ :=
      Fin.ext (by show h.val * 64 + d.val = h.val * 64 + (32 + (d.val - 32)); omega)
    rw [e1, e2, e3]; rfl

theorem key_lo (s : Fin 2048) (h : Fin 8) (j : Fin 128) :
    @Eq EReal (res_main_v47 W (ix3 s h ⟨j.val, by omega⟩)) ((args W).kv s (ck h j)) := by
  pointwise [res_main_v47, res_main_v40]
  rfl

theorem key_hi (s : Fin 2048) (h : Fin 8) (d : Fin 64) :
    @Eq EReal (res_main_v47 W (ix3 s h ⟨128 + d.val, by omega⟩)) ((args W).kp s (cp h d)) := by
  pointwise [res_main_v47]
  rfl

theorem value_at (s : Fin 2048) (h : Fin 8) (j : Fin 128) :
    @Eq EReal (res_main_v42 W (ix3 s h j)) ((args W).kv s (cv h j)) := by
  pointwise [res_main_v42, res_main_v40]
  rfl

theorem score_at (h : Fin 8) (s r : Fin 2048) :
    @Eq EReal (res_main_v57_0 W (ix3 h s r)) (msk s.val ((args W).score h s) r) := by
  have hs := s.isLt
  have hr := r.isLt
  pointwise [res_main_v57_0, res_main_v57_1, res_main_v48]
  have e := Cert.KernelIdeal.Att.sel_le 0 s.val r.val ((args W).score h s r) (⊥ : EReal) (by omega) (by omega)
  rw [show IntOp.addi (BitVec.ofNat 32 0) (BitVec.ofNat 32 s.val) = BitVec.ofNat 32 s.val from BitVec.zero_add _, Nat.zero_add] at e
  unfold msk
  rw [← e]
  congr 1
  rw [sum_192]
  simp only [query_lo, query_hi, key_lo, key_hi]
  rfl

theorem dp_at (h : Fin 8) (s r : Fin 2048) :
    @Eq EReal (res_main_v92 W (ix3 h s r)) ((args W).dP h s r) := by
  pointwise [res_main_v92, res_main_v91]
  simp only [value_at]
  rfl

theorem max_at (h : Fin 8) (s : Fin 2048) :
    @Eq EReal (res_main_v58 W (ix2 h s)) (rmax s.val ((args W).score h s)) := by
  pointwise [res_main_v58]
  refine (Shape.ReducesTo.fold_fiber_r3_a2 (n0 := 8) (n1 := 2048) (n2 := 2048) _ _ _ _ _).trans ?_
  unfold rmax
  rw [Cert.KernelIdeal.Att.negInf]
  refine Finset.fold_congr fun r _ => ?_
  exact score_at W h s r

theorem exp_form (X : FVec Ideal S8x2048x2048 .f32) (Y : FVec Ideal S8x2048 .f32) (h : Fin 8) (s r : Fin 2048) :
    Host.exp (subf X (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) Y)))) (ix3 h s r)
      = Ideal.exp (@HSub.hSub EReal EReal EReal _ (X (ix3 h s r)) (max (Ideal.ofBits .f32 0xFF800000#32) (Y (ix2 h s)))) := by
  pointwise

theorem exp_at (h : Fin 8) (s r : Fin 2048) :
    @Eq EReal (res_main_v78 W (ix3 h s r)) (ex s.val ((args W).score h s) r) := by
  have hx := score_at W h s r
  have hy := max_at W h s
  unfold ex
  generalize rmax s.val ((args W).score h s) = b at hy ⊢
  generalize msk s.val ((args W).score h s) r = a at hx ⊢
  unfold res_main_v78
  generalize res_main_v57_0 W = X at hx ⊢
  generalize res_main_v58 W = Y at hy ⊢
  refine (exp_form X Y h s r).trans ?_
  rw [hx, hy, Cert.KernelIdeal.Att.negInf]
  exact congrArg (fun z : EReal => Ideal.exp (a - z)) (max_eq_right bot_le)

theorem den_at (h : Fin 8) (s : Fin 2048) :
    @Eq EReal (res_main_v80 W (ix3 h s 0)) (den s.val ((args W).score h s)) := by
  pointwise [res_main_v80]
  simp only [exp_at]
  rfl

theorem weight_at (hr : (args W).Real) (h : Fin 8) (s r : Fin 2048) :
    @Eq EReal (res_main_v82 W (ix3 h s r)) ((args W).P h s r) := by
  pointwise [res_main_v82]
  rw [exp_at, den_at]
  exact pr_eq_div _ _ (by decide) (hr h s) r

theorem grad_at (hr : (args W).Real) (h : Fin 8) (s r : Fin 2048) :
    @Eq EReal (res_main_v109 W (ix3 h s r)) ((args W).D h s r) := by
  have hs := s.isLt
  have hr' := r.isLt
  pointwise [res_main_v109, res_main_v57_1, res_main_v48]
  simp only [exp_at, den_at, dp_at]
  have key := dsc_eq_quot s.val ((args W).score h s) ((args W).dP h s) (by decide) (hr h s) r
  have e := Cert.KernelIdeal.Att.sel_le 0 s.val r.val ((args W).D h s r) (0 : EReal) (by omega) (by omega)
  rw [show IntOp.addi (BitVec.ofNat 32 0) (BitVec.ofNat 32 s.val) = BitVec.ofNat 32 s.val from BitVec.zero_add _, Nat.zero_add] at e
  have z : (if r.val ≤ s.val then (args W).D h s r else 0) = (args W).D h s r := by
    by_cases hc : r.val ≤ s.val
    · rw [if_pos hc]
    · rw [if_neg hc]; unfold Args.D; rw [dsc_zero _ _ _ _ (by omega), zero_mul]
  rw [← z, ← e]
  congr 1
  unfold Args.D
  rw [← key, Fin.sum_univ_one]
  rfl

theorem gKn_at (hr : (args W).Real) (r : Fin 2048) (h : Fin 8) (j : Fin 128) :
    @Eq EReal (res_main_v111 W (ix3 r h ⟨j.val, by omega⟩)) ((args W).gKn r h j) := by
  pointwise [res_main_v111]
  simp only [grad_at W hr, query_lo]
  rfl

theorem gKr_at (hr : (args W).Real) (r : Fin 2048) (h : Fin 8) (d : Fin 64) :
    @Eq EReal (res_main_v111 W (ix3 r h ⟨128 + d.val, by omega⟩)) ((args W).gKr r h d) := by
  pointwise [res_main_v111]
  simp only [grad_at W hr, query_hi]
  rfl

theorem gQn_at (hr : (args W).Real) (s : Fin 2048) (h : Fin 8) (j : Fin 128) :
    @Eq EReal (res_main_v113 W (ix3 s h ⟨j.val, by omega⟩)) ((args W).gQn s h j) := by
  pointwise [res_main_v113]
  simp only [grad_at W hr, key_lo]
  rfl

theorem gR_at (hr : (args W).Real) (s : Fin 2048) (h : Fin 8) (d : Fin 64) :
    @Eq EReal (res_main_v113 W (ix3 s h ⟨128 + d.val, by omega⟩)) ((args W).gR s h d) := by
  pointwise [res_main_v113]
  simp only [grad_at W hr, key_hi]
  rfl

theorem gV_at (hr : (args W).Real) (r : Fin 2048) (h : Fin 8) (j : Fin 128) :
    @Eq EReal (∑ x : Fin 2048, (args W).d x (c128 h j) * res_main_v82 W (ix3 h x r)) ((args W).gV r h j) := by
  simp only [weight_at W hr]
  exact Finset.sum_congr rfl fun x _ => mul_comm _ _

end Cert.ReferenceIdeal.Att

end
-- ==== Proof.Att.RefOut.lean ====
/- The reference's four results, entry by entry, as the attention's gradients. -/
module

public import proofs.«01_k».proof.Proof.Att.Ref

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe
open Idealize.SL.Sem Idealize.ShloMosaic.StableHlo Cert.Att
open Cert.KernelIdeal.Att (sca)

variable (W : Valuation τ sig (Elt Ideal))

/-- The reference's results as the run states them. -/
def outQn : FVec Ideal S2048x1024 .bf16 := truncf .bf16 (shapeCast S2048x1024 (extractStridedSlice S2048x8x128 ![0, 0, 0] (res_main_v113 W) slices_S2048x8x192_S2048x8x128_0_0_0) shapeCasts_S2048x8x128_S2048x1024) bitsLt_bf16_f32
def outQp : FVec Ideal S2048x512 .bf16 := truncf .bf16 (shapeCast S2048x512 (concatenate S2048x8x64 2 [⟨S2048x8x32, (addf (mulf (res_main_v127 W) (broadcastInDim S2048x8x32 ![0, 1, 2] bcast_S2048x1x32_S2048x8x32_0_1_2 (res_main_v26 W))) (mulf (res_main_v126 W) (broadcastInDim S2048x8x32 ![0, 1, 2] bcast_S2048x1x32_S2048x8x32_0_1_2 (res_main_v25 W))))⟩, ⟨S2048x8x32, (addf (mulf (res_main_v127 W) (broadcastInDim S2048x8x32 ![0, 1, 2] bcast_S2048x1x32_S2048x8x32_0_1_2 (res_main_v25 W))) (mulf (Host.negf (res_main_v126 W)) (broadcastInDim S2048x8x32 ![0, 1, 2] bcast_S2048x1x32_S2048x8x32_0_1_2 (res_main_v26 W))))⟩] concatenates_S2048x8x32_S2048x8x32_S2048x8x64_d2) shapeCasts_S2048x8x64_S2048x512) bitsLt_bf16_f32
def outKv : FVec Ideal S2048x2048 .bf16 := truncf .bf16 (shapeCast S2048x2048 (addf (pad S2048x8x256 ![0, 0, 128] ![0, 0, 0] ![0, 0, 0] (transpose S2048x8x128 [2, 0, 1] (Host.dotGeneral (φ₁ := .f32) (φ₂ := .f32) dot_S8x128x2048_S8x2048x2048_S8x128x2048_2_1_1_2_0_0 none (res_main_v91 W) (res_main_v82 W)) transposes_S8x128x2048_S2048x8x128_2_0_1) (constant S_ .f32 0x00000000#32) pads_S2048x8x128_S2048x8x256_000_000_12800 h_S_) (pad S2048x8x256 ![0, 0, 0] ![0, 0, 128] ![0, 0, 0] (extractStridedSlice S2048x8x128 ![0, 0, 0] (res_main_v111 W) slices_S2048x8x192_S2048x8x128_0_0_0) (constant S_ .f32 0x00000000#32) pads_S2048x8x128_S2048x8x256_000_000_01280 h_S_)) shapeCasts_S2048x8x256_S2048x2048) bitsLt_bf16_f32
def outKp : FVec Ideal S2048x128 .f32 := shapeCast S2048x128 (broadcastInDim S2048x1x2x64 ![0, 2, 3] bcast_S2048x2x64_S2048x1x2x64_0_2_3 (Host.reduceAdd (shapeCast _ (extractStridedSlice S2048x8x64 ![0, 0, 128] (res_main_v111 W) slices_S2048x8x192_S2048x8x64_0_0_128) shapeCasts_S2048x8x64_S2048x4x2x64) (constant S_ .f32 0x00000000#32) reducesTo_S2048x4x2x64_S2048x2x64_d1 h_S_)) shapeCasts_S2048x1x2x64_S2048x128

theorem outQn_at (hr : (args W).Real) (s : Fin 2048) (h : Fin 8) (j : Fin 128) :
    @Eq EReal (outQn W (ix2 s (c128 h j))) ((args W).gQn s h j) := by
  unfold c128
  pointwise [outQn]
  exact gQn_at W hr s h j

theorem outQp_at (hr : (args W).Real) (s : Fin 2048) (h : Fin 8) (d : Fin 64) :
    @Eq EReal (outQp W (ix2 s (c64 h d))) ((args W).gQp s h d) := by
  unfold c64
  pointwise [outQp, res_main_v126, res_main_v127, res_main_v117]
  have hd := d.isLt
  unfold Args.gQp
  by_cases hlo : d.val < 32
  · refine (dif_pos hlo).trans ?_
    rw [if_pos hlo, add_comm]
    refine congrArg₂ (fun a b : EReal => a + b) (congrArg₂ (fun a b : EReal => a * b) (gR_at W hr s h d) ?_)
      (congrArg₂ (fun a b : EReal => a * b) ?_ ?_)
    · refine (cos_at W s ⟨d.val, hlo⟩).trans (congrArg ((args W).cs s) (Fin.ext ?_))
      show d.val = d.val % 32; omega
    · refine Eq.trans ?_ (gR_at W hr s h (ot d))
      refine congrArg (fun k => res_main_v113 W (ix3 s h k)) (Fin.ext ?_)
      show 128 + (32 + d.val) = 128 + (d.val + 32) % 64; omega
    · refine (sin_at W s ⟨d.val, hlo⟩).trans (congrArg ((args W).sn s) (Fin.ext ?_))
      show d.val = d.val % 32; omega
  · refine (dif_neg hlo).trans ?_
    rw [if_neg hlo]
    have e : ∀ a b : EReal, a * -b = -a * b := fun a b => by rw [mul_neg, neg_mul]
    rw [e]
    refine congrArg₂ (fun a b : EReal => a + b) (congrArg₂ (fun a b : EReal => a * b) ?_ ?_)
      (congrArg₂ (fun a b : EReal => -a * b) ?_ ?_)
    · refine Eq.trans ?_ (gR_at W hr s h d)
      refine congrArg (fun k => res_main_v113 W (ix3 s h k)) (Fin.ext ?_)
      show 128 + (32 + (d.val - 32)) = 128 + d.val; omega
    · refine (cos_at W s ⟨d.val - 32, by omega⟩).trans (congrArg ((args W).cs s) (Fin.ext ?_))
      show d.val - 32 = d.val % 32; omega
    · refine Eq.trans ?_ (gR_at W hr s h (ot d))
      refine congrArg (fun k => res_main_v113 W (ix3 s h k)) (Fin.ext ?_)
      show 128 + (d.val - 32) = 128 + (d.val + 32) % 64; omega
    · refine (sin_at W s ⟨d.val - 32, by omega⟩).trans (congrArg ((args W).sn s) (Fin.ext ?_))
      show d.val - 32 = d.val % 32; omega

theorem outKv_k (hr : (args W).Real) (r : Fin 2048) (h : Fin 8) (j : Fin 128) :
    @Eq EReal (outKv W (ix2 r (ck h j))) ((args W).gKn r h j) := by
  unfold ck
  pointwise [outKv]
  have hm : (h.val * 256 + j.val) % 256 = j.val := by omega
  refine (congrArg₂ (fun a b : EReal => a + b) (dif_neg (by omega)) (dif_pos (by omega))).trans ((zero_add _).trans ?_)
  refine Eq.trans ?_ (gKn_at W hr r h j)
  exact congrArg (fun k => res_main_v111 W (ix3 r h k)) (Fin.ext hm)

theorem outKv_v (hr : (args W).Real) (r : Fin 2048) (h : Fin 8) (j : Fin 128) :
    @Eq EReal (outKv W (ix2 r (cv h j))) ((args W).gV r h j) := by
  unfold cv
  pointwise [outKv, res_main_v91]
  have hm : (h.val * 256 + (128 + j.val)) % 256 = 128 + j.val := by omega
  refine (congrArg₂ (fun a b : EReal => a + b) (dif_pos (by omega)) (dif_neg (by omega))).trans ((add_zero _).trans ?_)
  refine Eq.trans (Finset.sum_congr rfl fun x _ => ?_) (gV_at W hr r h j)
  refine congrArg (fun a : EReal => a * res_main_v82 W (ix3 h x r)) ?_
  refine congrArg (fun k => (args W).d x k) (Fin.ext ?_)
  show h.val * 128 + ((h.val * 256 + (128 + j.val)) % 256 - 128) = h.val * 128 + j.val
  omega

theorem outKp_at (hr : (args W).Real) (r : Fin 2048) (l : Fin 128) :
    @Eq EReal (outKp W (ix2 r l)) ((args W).gKp r l) := by
  pointwise [outKp]
  unfold Args.gKp
  refine Finset.sum_congr rfl fun x _ => ?_
  exact gKr_at W hr r ⟨x.val * 2 + l.val / 64, by omega⟩ ⟨l.val % 64, by omega⟩

end Cert.ReferenceIdeal.Att

end
-- ==== Proof.Ffn.DownDw.lean ====
/- The gradient of the down projection's weight: the kernel's result array and the reference's result are the same sums. -/
module

public import proofs.«01_k».proof.Proof.Gen.DownDwIdeal.Value
public import proofs.«01_k».proof.Proof.Gen.DownDwRefIdeal.Run
public import Idealize.ShloMosaic.Lib.Pipeline.ValueKit

@[expose] public section

set_option maxRecDepth 16384

noncomputable section

namespace Cert.DownDwIdeal.Ffn

open Idealize.ShloMosaic Idealize.ShloMosaic.TcCoe Cert.DownDwIdeal Cert.DownDwIdeal.Gen
open Idealize.ShloMosaic.Pipeline (Dat)

variable (m : (ℓ : Loc nD τ sig) → Buf (Elt Ideal) ℓ) (c : Dev nD)

/-- The product over the tokens: entry (f, j) sums the activation's column f against the gradient's column j. -/
def prod (a : Fin 2048 → Fin 5632 → EReal) (d : Fin 2048 → Fin 2048 → EReal) (f : Fin 5632) (j : Fin 2048) : EReal :=
  ∑ t : Fin 2048, a t f * d t j

/-- The two operands. -/
def act (t : Fin 2048) (f : Fin 5632) : EReal := m ((c : Thread nD τ).loc main_arg0) (ix2 t f)
def grd (t : Fin 2048) (j : Fin 2048) : EReal := m ((c : Thread nD τ).loc main_arg1) (ix2 t j)

theorem idxs : ∀ t : Fin cfg0.N, win0_0.index t = ![0, t.val / 2] ∧ win0_1.index t = ![0, t.val % 2]
    ∧ win0_2.index t = ![t.val / 2, t.val % 2] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S2048x1408 .bf16) (y : Vec Ideal S2048x1024 .bf16) (f : Fin 1408) (j : Fin 1024) :
    @Eq EReal (k0_pay1 x y (ix2 f j)) (∑ t : Fin 2048, x (ix2 t f) * y (ix2 t j)) := by
  unfold k0_pay1
  pointwise

theorem out_eq (x : Vec Ideal S2048x1408 .bf16) (y : Vec Ideal S2048x1024 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (f : Fin 1408) (h : 1408 * (t.val / 2) + f.val < 5632) :
    @Eq EReal (iblk m c 0 t (ix2 k f)) (act m c k ⟨1408 * (t.val / 2) + f.val, h⟩) := by
  unfold act
  blk_ext [iblk, V, idxs t]

theorem blk_d (t : Fin cfg0.N) (k : Fin 2048) (j : Fin 1024) (h : 1024 * (t.val % 2) + j.val < 2048) :
    @Eq EReal (iblk m c 1 t (ix2 k j)) (grd m c k ⟨1024 * (t.val % 2) + j.val, h⟩) := by
  unfold grd
  blk_ext [iblk, V, idxs t]

theorem lt8 (t : Fin cfg0.N) : t.val < 8 := lt_of_lt_of_eq t.isLt N_0

theorem arr : (dats m 0 c).arrAt 2 (cfgs 0).N = fun y => prod (act m c) (grd m c) (y 0) (y 1) := by
  refine (dats m 0 c).arrAt_eq_of_covers 2 _ (by decide +kernel) fun t _ y => ?_
  have ht := lt8 t
  blk_simp
  rw [after0_2, out_eq, eq_ix2 y]
  refine (pay_at _ _ (y 0) (y 1)).trans ?_
  unfold prod
  refine Finset.sum_congr rfl fun k _ => ?_
  rw [blk_a m c t k (y 0) (by have := (y 0).isLt; change _ < 1408 at this; omega),
    blk_d m c t k (y 1) (by have := (y 1).isLt; change _ < 1024 at this; omega)]
  refine congrArg₂ (fun a b => act m c k a * grd m c k b) (Fin.ext ?_) (Fin.ext ?_)
  · refine Eq.trans (b := 1408 * (t.val / 2) + (y 0).val) rfl ?_
    blk_simp [idxs t]
    try omega
  · refine Eq.trans (b := 1024 * (t.val % 2) + (y 1).val) rfl ?_
    blk_simp [idxs t]
    try omega

end Cert.DownDwIdeal.Ffn

namespace Cert.DownDwRefIdeal.Ffn

open Idealize.ShloMosaic Idealize.ShloMosaic.TcCoe Cert.DownDwRefIdeal Cert.DownDwRefIdeal.Gen

theorem res_at (x : FVec Ideal S2048x5632 .bf16) (y : FVec Ideal S2048x2048 .bf16) (f : Fin 5632) (j : Fin 2048) :
    @Eq EReal (truncf .bf16 (transpose S5632x2048 [1, 0] (Host.dotGeneral dot_S2048x2048_S2048x5632_S2048x5632_0_0_1_1_n_n none (extf .f32 y bitsLt_bf16_f32) (extf .f32 x bitsLt_bf16_f32)) transposes_S2048x5632_S5632x2048_1_0) bitsLt_bf16_f32 (ix2 f j))
      (∑ t : Fin 2048, y (ix2 t j) * x (ix2 t f)) := by
  pointwise

end Cert.DownDwRefIdeal.Ffn

end
-- ==== Proof.Ffn.GateUpDw.lean ====
/- The gradient of the gate and up projections' weights: the kernel's result array and the reference's result are the same sums. -/
module

public import proofs.«01_k».proof.Proof.Gen.GateUpDwIdeal.Value
public import proofs.«01_k».proof.Proof.Gen.GateUpDwRefIdeal.Run
public import Idealize.ShloMosaic.Lib.Pipeline.ValueKit

@[expose] public section

set_option maxRecDepth 16384

noncomputable section

namespace Cert.GateUpDwIdeal.Ffn

open Idealize.ShloMosaic Idealize.ShloMosaic.TcCoe Cert.GateUpDwIdeal Cert.GateUpDwIdeal.Gen
open Idealize.ShloMosaic.Pipeline (Dat)

variable (m : (ℓ : Loc nD τ sig) → Buf (Elt Ideal) ℓ) (c : Dev nD)

/-- The product over the tokens: entry (p, d, n) sums the input's column d against the gradient's column n of part p. -/
def prod (a : Fin 2048 → Fin 2048 → EReal) (g : Fin 2048 → Fin 11264 → EReal) (p : Fin 4) (d : Fin 2048) (n : Fin 2816) : EReal :=
  ∑ t : Fin 2048, a t d * g t ⟨2816 * p.val + n.val, by omega⟩

/-- The two operands. -/
def inp (t : Fin 2048) (d : Fin 2048) : EReal := m ((c : Thread nD τ).loc main_arg0) (ix2 t d)
def grd (t : Fin 2048) (j : Fin 11264) : EReal := m ((c : Thread nD τ).loc main_arg1) (ix2 t j)

theorem idxs : ∀ t : Fin cfg0.N, win0_0.index t = ![0, t.val / 8] ∧ win0_1.index t = ![0, t.val % 8]
    ∧ win0_2.index t = ![t.val % 8 / 2, t.val / 8, t.val % 2] :=
  (by decide +kernel : ∀ t : Fin grid0.N, _)

theorem zero2 : (![0, 0] : Fin 2 → Nat) = fun _ => 0 := by
  funext a
  rcases a with ⟨_ | _ | n, h⟩
  · rfl
  · rfl
  · omega

theorem zero3 : (![0, 0, 0] : Fin 3 → Nat) = fun _ => 0 := by
  funext a
  rcases a with ⟨_ | _ | _ | n, h⟩
  · rfl
  · rfl
  · rfl
  · omega

theorem pay_at (x : Vec Ideal S2048x1024 .bf16) (y : Vec Ideal S2048x1408 .bf16) (z : Fin 1) (d : Fin 1024) (j : Fin 1408) :
    @Eq EReal (k0_pay1 x y (ix3 z d j)) (∑ t : Fin 2048, x (ix2 t d) * y (ix2 t j)) := by
  unfold k0_pay1
  pointwise

theorem out_eq (x : Vec Ideal S2048x1024 .bf16) (y : Vec Ideal S2048x1408 .bf16) : out0_2 x y = k0_pay1 x y := by
  unfold out0_2
  refine (View.canon_unit_zero zero3 _ _).trans ?_
  rw [View.ld_unit_zero zero2, View.ld_unit_zero zero2]

theorem blk_a (t : Fin cfg0.N) (k : Fin 2048) (d : Fin 1024) (h : 1024 * (t.val / 8) + d.val < 2048) :
    @Eq EReal (iblk m c 0 t (ix2 k d)) (inp m c k ⟨1024 * (t.val / 8) + d.val, h⟩) := by
  unfold inp
  blk_ext [iblk, V, idxs t]

theorem blk_d (t : Fin cfg0.N) (k : Fin 2048) (j : Fin 1408) (h : 1408 * (t.val % 8) + j.val < 11264) :
    @Eq EReal (iblk m c 1 t (ix2 k j)) (grd m c k ⟨1408 * (t.val % 8) + j.val, h⟩) := by
  unfold grd
  blk_ext [iblk, V, idxs t]

theorem lt16 (t : Fin cfg0.N) : t.val < 16 := lt_of_lt_of_eq t.isLt N_0

theorem arr : (dats m 0 c).arrAt 2 (cfgs 0).N = fun y => prod (inp m c) (grd m c) (y 0) (y 1) (y 2) := by
  refine (dats m 0 c).arrAt_eq_of_covers 2 _ (by decide +kernel) fun t _ y => ?_
  have ht := lt16 t
  blk_simp
  rw [after0_2, out_eq, eq_ix3 y]
  have hy0 : (y 0).val < 1 := (y 0).isLt
  have hy1 : (y 1).val < 1024 := (y 1).isLt
  have hy2 : (y 2).val < 1408 := (y 2).isLt
  refine (pay_at _ _ (y 0) (y 1) (y 2)).trans ?_
  unfold prod
  refine Finset.sum_congr rfl fun k _ => ?_
  rw [blk_a m c t k (y 1) (by omega), blk_d m c t k (y 2) (by omega)]
  refine congrArg₂ (fun a b => inp m c k a * grd m c k b) (Fin.ext ?_) (Fin.ext ?_)
  · refine Eq.trans (b := 1024 * (t.val / 8) + (y 1).val) rfl ?_
    blk_simp [idxs t]
    try omega
  · refine Eq.trans (b := 1408 * (t.val % 8) + (y 2).val) rfl ?_
    blk_simp [idxs t]
    show _ = 2816 * (t.val % 8 / 2) + (t.val % 2 * 1408 + (y 2).val)
    omega

end Cert.GateUpDwIdeal.Ffn

namespace Cert.GateUpDwRefIdeal.Ffn

open Idealize.ShloMosaic Idealize.ShloMosaic.TcCoe Cert.GateUpDwRefIdeal Cert.GateUpDwRefIdeal.Gen

theorem res_at (x : FVec Ideal S2048x2048 .bf16) (y : FVec Ideal S2048x11264 .bf16) (p : Fin 4) (d : Fin 2048) (n : Fin 2816) :
    @Eq EReal (truncf .bf16 (transpose S4x2048x2816 [0, 2, 1] (Host.dotGeneral dot_S2048x4x2816_S2048x2048_S4x2816x2048_0_0_12_1_n_n none (shapeCast _ (extf .f32 y bitsLt_bf16_f32) shapeCasts_S2048x11264_S2048x4x2816) (extf .f32 x bitsLt_bf16_f32)) transposes_S4x2816x2048_S4x2048x2816_0_2_1) bitsLt_bf16_f32 (ix3 p d n))
      (∑ t : Fin 2048, y (ix2 t ⟨2816 * p.val + n.val, by omega⟩) * x (ix2 t d)) := by
  pointwise
  refine Finset.sum_congr rfl fun t _ => ?_
  refine congrArg (fun k => y (ix2 t k) * x (ix2 t d)) (Fin.ext ?_)
  show p.val * 2816 + n.val = 2816 * p.val + n.val
  omega

end Cert.GateUpDwRefIdeal.Ffn

end
-- ==== Proof.Ffn.GateUpDx.lean ====
/- The gradient of what the gate and up projections' weights multiply: the kernel's result array and the reference's result
   are the same sums, the kernel's taken over the weights' four parts in turn. -/
module

public import proofs.«01_k».proof.Proof.Gen.GateUpDxIdeal.Value
public import proofs.«01_k».proof.Proof.Gen.GateUpDxRefIdeal.Run
public import Idealize.ShloMosaic.Lib.Pipeline.ValueKit

@[expose] public section

set_option maxRecDepth 16384

noncomputable section

namespace Cert.GateUpDxIdeal.Ffn

open Idealize.ShloMosaic Idealize.ShloMosaic.TcCoe Idealize.ShloMosaic.Tactic Cert.GateUpDxIdeal Cert.GateUpDxIdeal.Gen
open Idealize.ShloMosaic.Pipeline (Dat)

variable (m : (ℓ : Loc nD τ sig) → Buf (Elt Ideal) ℓ) (c : Dev nD)

/-- The part of entry (i, j) that the weights' part p gives. -/
def part (a : Fin 2048 → Fin 11264 → EReal) (w : Fin 4 → Fin 2048 → Fin 2816 → EReal) (i j : Fin 2048) (p : Fin 4) : EReal :=
  ∑ n : Fin 2816, a i ⟨2816 * p.val + n.val, by omega⟩ * w p j n

/-- Entry (i, j) of the product: the four parts' sum. -/
def prod (a : Fin 2048 → Fin 11264 → EReal) (w : Fin 4 → Fin 2048 → Fin 2816 → EReal) (i j : Fin 2048) : EReal :=
  ∑ p : Fin 4, part a w i j p

/-- The two operands. -/
def grd (t : Fin 2048) (k : Fin 11264) : EReal := m ((c : Thread nD τ).loc main_arg0) (ix2 t k)
def wgt (p : Fin 4) (j : Fin 2048) (n : Fin 2816) : EReal := m ((c : Thread nD τ).loc main_arg1) (ix3 p j n)

theorem idxs : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

theorem zero2 : (![0, 0] : Fin 2 → Nat) = fun _ => 0 := by
  funext a
  rcases a with ⟨_ | _ | n, h⟩
  · rfl
  · rfl
  · omega

theorem zero3 : (![0, 0, 0] : Fin 3 → Nat) = fun _ => 0 := by
  funext a
  rcases a with ⟨_ | _ | _ | n, h⟩
  · rfl
  · rfl
  · rfl
  · omega

/-- The product of two blocks. -/
def mul (x : Vec Ideal S1024x2816 .bf16) (y : Vec Ideal S1x1024x2816 .bf16) (i j : Fin 1024) : EReal :=
  ∑ n : Fin 2816, x (ix2 i n) * y (ix3 0 j n)

theorem pay1_at (x : Vec Ideal S1024x2816 .bf16) (y : Vec Ideal S1x1024x2816 .bf16) (i j : Fin 1024) :
    @Eq EReal (k0_pay1 x y (ix2 i j)) (mul x y i j) := by
  unfold k0_pay1 mul
  pointwise

theorem pay2_at (s : Vec Ideal S1024x1024 .f32) (x : Vec Ideal S1024x2816 .bf16) (y : Vec Ideal S1x1024x2816 .bf16) (i j : Fin 1024) :
    @Eq EReal (k0_pay2 s x y (ix2 i j)) (s (ix2 i j) + mul x y i j) := by
  unfold k0_pay2 mul
  pointwise

theorem pay3_at (s : Vec Ideal S1024x1024 .f32) (x : Vec Ideal S1024x2816 .bf16) (y : Vec Ideal S1x1024x2816 .bf16) (i j : Fin 1024) :
    @Eq EReal (k0_pay3 s x y (ix2 i j)) (s (ix2 i j) + mul x y i j) := by
  unfold k0_pay3 mul
  pointwise

section
variable (i : grid0.Coords) (a3 : Memref sig .tc .vmem S1024x2816 .bf16) (h3 : a3.IsWhole) (a4 : Memref sig .tc .vmem S1x1024x2816 .bf16)
  (h4 : a4.IsWhole) (a5 : Memref sig .tc .vmem S1024x1024 .f32) (h5 : a5.IsWhole) (a6 : Memref sig .tc .vmem S1024x1024 .f32) (h6 : a6.IsWhole)
  (x : Vec Ideal S1024x2816 .bf16) (y : Vec Ideal S1x1024x2816 .bf16) (s : Vec Ideal S1024x1024 .f32)

/-- The first point of a block leaves its product in the scratch. -/
theorem first (g0 : cond0_0 i) (g1 : ¬cond0_1 i) (g2 : ¬cond0_2 i) :
    sout0_A_0 c i a3 h3 a4 h4 a5 h5 a6 h6 g0 g1 g2 x y = k0_pay1 x y := by
  unfold sout0_A_0
  rw [View.read_writes_eq_canon _ _ _ (scover0_A_0 c i a3 h3 a4 h4 a5 h5 a6 h6 g0 g1 g2 x y)]
  unfold kernelRun0_A
  dsimp only
  rw [View.canon_unit_zero zero2]
  simp only [View.readAt_eq_ld, h3.read_unread, h4.read_unread, View.ld_unit_zero (S := S1024x2816) zero2, View.ld_unit_zero (S := S1x1024x2816) zero3]

/-- The two points between add theirs. -/
theorem mid (g0 : ¬cond0_0 i) (g1 : cond0_1 i) (g2 : ¬cond0_2 i) :
    sout0_B_0 c i a3 h3 a4 h4 a5 h5 a6 h6 g0 g1 g2 x y s = k0_pay2 s x y := by
  unfold sout0_B_0
  rw [View.read_writes_eq_canon _ _ _ (scover0_B_0 c i a3 h3 a4 h4 a5 h5 a6 h6 g0 g1 g2 x y s)]
  unfold kernelRun0_B
  dsimp only
  rw [View.canon_unit_zero zero2]
  simp only [View.readAt_eq_ld, h3.read_unread, h4.read_unread, h6.read_unread, View.ld_unit_zero (S := S1024x2816) zero2,
    View.ld_unit_zero (S := S1x1024x2816) zero3, View.ld_unit_zero (S := S1024x1024) zero2]

/-- The last point adds its product and stores the sum in the block. -/
theorem last (g0 : ¬cond0_0 i) (g1 : ¬cond0_1 i) (g2 : cond0_2 i) :
    out0_C_2 c i a3 h3 a4 h4 a5 h5 a6 h6 g0 g1 g2 x y s = k0_pay3 s x y := by
  unfold out0_C_2
  rw [View.read_writes_eq_canon _ _ _ (cover0_C_2 c i a3 h3 a4 h4 a5 h5 a6 h6 g0 g1 g2 x y s)]
  unfold kernelRun0_C
  dsimp only
  rw [View.canon_unit_zero zero2]
  simp only [View.readAt_eq_ld, h3.read_unread, h4.read_unread, h6.read_unread, View.ld_unit_zero (S := S1024x2816) zero2,
    View.ld_unit_zero (S := S1x1024x2816) zero3, View.ld_unit_zero (S := S1024x1024) zero2]
end

theorem lt16 (t : Fin cfg0.N) : t.val < 16 := lt_of_lt_of_eq t.isLt N_0

theorem blk_a (t : Fin cfg0.N) (i : Fin 1024) (k : Fin 2816) (h : 1024 * (t.val / 8) + i.val < 2048) (h' : 2816 * (t.val % 4) + k.val < 11264) :
    @Eq EReal (iblk m c 0 t (ix2 i k)) (grd m c ⟨1024 * (t.val / 8) + i.val, h⟩ ⟨2816 * (t.val % 4) + k.val, h'⟩) := by
  unfold grd
  blk_ext [iblk, V, idxs t]

theorem blk_w (t : Fin cfg0.N) (j : Fin 1024) (k : Fin 2816) (h : t.val % 4 < 4) (h' : 1024 * (t.val / 4 % 2) + j.val < 2048) :
    @Eq EReal (iblk m c 1 t (ix3 0 j k)) (wgt m c ⟨t.val % 4, h⟩ ⟨1024 * (t.val / 4 % 2) + j.val, h'⟩ k) := by
  unfold wgt
  blk_ext [iblk, V, idxs t]

/-- A point's product is a part of its entries' sums. -/
theorem mul_at (t : Fin cfg0.N) (i j : Fin 1024) (p : Fin 4) (I J : Fin 2048) (hp : t.val % 4 = p.val)
    (hI : I.val = 1024 * (t.val / 8) + i.val) (hJ : J.val = 1024 * (t.val / 4 % 2) + j.val) :
    mul (iblk m c 0 t) (iblk m c 1 t) i j = part (grd m c) (wgt m c) I J p := by
  have hi := I.isLt
  have hj := J.isLt
  have hq := p.isLt
  unfold mul part
  refine Finset.sum_congr rfl fun n _ => ?_
  rw [blk_a m c t i n (by omega) (by omega), blk_w m c t j n (by omega) (by omega)]
  rw [show (⟨1024 * (t.val / 8) + i.val, by omega⟩ : Fin 2048) = I from Fin.ext hI.symm,
    show (⟨1024 * (t.val / 4 % 2) + j.val, by omega⟩ : Fin 2048) = J from Fin.ext hJ.symm,
    show (⟨t.val % 4, by omega⟩ : Fin 4) = p from Fin.ext hp]
  exact congrArg (fun a => grd m c I a * wgt m c p J n) (Fin.ext (by show 2816 * (t.val % 4) + n.val = 2816 * p.val + n.val; omega))

theorem after_first (t : Fin cfg0.N) (h : t.val % 4 = 0) :
    (outsAt0 m c t.val t.isLt).2 = k0_pay1 (iblk m c 0 t) (iblk m c 1 t) := by
  rw [outsAt0_A m c t h (by omega) (by omega)]
  dsimp only
  rw [first]

theorem after_mid (n : ℕ) (hn : n + 1 < cfg0.N) (h : 1 ≤ (n + 1) % 4 ∧ (n + 1) % 4 ≤ 2) :
    (outsAt0 m c (n + 1) hn).2 = k0_pay2 (outsAt0 m c n (by omega)).2 (iblk m c 0 ⟨n + 1, hn⟩) (iblk m c 1 ⟨n + 1, hn⟩) := by
  rw [outsAt0_B m c ⟨n + 1, hn⟩ (by show ¬(n + 1) % 4 = 0; omega) h (by show ¬(n + 1) % 4 = 3; omega)]
  dsimp only
  rw [mid]
  rfl

theorem after_last (n : ℕ) (hn : n + 1 < cfg0.N) (h : (n + 1) % 4 = 3) :
    (outsAt0 m c (n + 1) hn).1 = k0_pay3 (outsAt0 m c n (by omega)).2 (iblk m c 0 ⟨n + 1, hn⟩) (iblk m c 1 ⟨n + 1, hn⟩) := by
  rw [outsAt0_C m c ⟨n + 1, hn⟩ (by show ¬(n + 1) % 4 = 0; omega) (by show ¬(1 ≤ (n + 1) % 4 ∧ (n + 1) % 4 ≤ 2); omega) h]
  dsimp only
  rw [last]
  rfl

/-- What the last point of a block stores: the four products' sum. -/
theorem whole (b : ℕ) (hb : b + 1 + 1 + 1 < cfg0.N) (h : b % 4 = 0) (i j : Fin 1024) (I J : Fin 2048)
    (hI : I.val = 1024 * (b / 8) + i.val) (hJ : J.val = 1024 * (b / 4 % 2) + j.val) :
    @Eq EReal ((outsAt0 m c (b + 1 + 1 + 1) hb).1 (ix2 i j)) (prod (grd m c) (wgt m c) I J) := by
  rw [after_last m c (b + 1 + 1) hb (by omega)]
  refine (pay3_at _ _ _ i j).trans ?_
  rw [after_mid m c (b + 1) (by omega) (by omega), pay2_at, after_mid m c b (by omega) (by omega), pay2_at,
    after_first m c ⟨b, by omega⟩ h, pay1_at]
  rw [mul_at m c ⟨b, by omega⟩ i j 0 I J h hI hJ,
    mul_at m c ⟨b + 1, by omega⟩ i j 1 I J (by show (b + 1) % 4 = 1; omega) (by show I.val = 1024 * ((b + 1) / 8) + i.val; omega) (by show J.val = 1024 * ((b + 1) / 4 % 2) + j.val; omega),
    mul_at m c ⟨b + 1 + 1, by omega⟩ i j 2 I J (by show (b + 1 + 1) % 4 = 2; omega) (by show I.val = 1024 * ((b + 1 + 1) / 8) + i.val; omega) (by show J.val = 1024 * ((b + 1 + 1) / 4 % 2) + j.val; omega),
    mul_at m c ⟨b + 1 + 1 + 1, hb⟩ i j 3 I J (by show (b + 1 + 1 + 1) % 4 = 3; omega) (by show I.val = 1024 * ((b + 1 + 1 + 1) / 8) + i.val; omega) (by show J.val = 1024 * ((b + 1 + 1 + 1) / 4 % 2) + j.val; omega)]
  unfold prod
  rw [Fin.sum_univ_four]

theorem arr : (dats m 0 c).arrAt 2 (cfgs 0).N = fun y => prod (grd m c) (wgt m c) (y 0) (y 1) := by
  refine (dats m 0 c).arrAt_eq_of_covers 2 _ (by decide +kernel) fun t hf y => ?_
  have ht := lt16 t
  have hm : t.val % 4 = 3 := (flush0_2 t).mp hf
  blk_simp
  rw [after0_2, eq_ix2 y]
  have hy0 : (y 0).val < 1024 := (y 0).isLt
  have hy1 : (y 1).val < 1024 := (y 1).isLt
  obtain ⟨b, hb⟩ : ∃ b, t.val = b + 1 + 1 + 1 := ⟨t.val - 3, by omega⟩
  have key := whole m c b (by rw [← hb]; exact t.isLt) (by omega) (y 0) (y 1) ⟨1024 * (t.val / 8) + (y 0).val, by omega⟩
    ⟨1024 * (t.val / 4 % 2) + (y 1).val, by omega⟩ (by show 1024 * (t.val / 8) + (y 0).val = _; omega) (by show 1024 * (t.val / 4 % 2) + (y 1).val = _; omega)
  have e : ∀ (n : ℕ) (h : n < cfg0.N), t.val = n → (outsAt0 m c t.val t.isLt).1 = (outsAt0 m c n h).1 := by
    rintro n h rfl
    rfl
  rw [e _ _ hb]
  refine key.trans ?_
  refine congrArg₂ (fun a b => prod (grd m c) (wgt m c) a b) (Fin.ext ?_) (Fin.ext ?_)
  · refine Eq.trans (b := 1024 * (t.val / 8) + (y 0).val) rfl ?_
    blk_simp [idxs t]
    try omega
  · refine Eq.trans (b := 1024 * (t.val / 4 % 2) + (y 1).val) rfl ?_
    blk_simp [idxs t]
    try omega

end Cert.GateUpDxIdeal.Ffn

namespace Cert.GateUpDxRefIdeal.Ffn

open Idealize.ShloMosaic Idealize.ShloMosaic.TcCoe Cert.GateUpDxRefIdeal Cert.GateUpDxRefIdeal.Gen

theorem res_at (x : FVec Ideal S2048x11264 .bf16) (y : FVec Ideal S4x2048x2816 .bf16) (i j : Fin 2048) :
    @Eq EReal (Host.dotGeneral (F := Ideal) dot_S2048x4x2816_S4x2048x2816_S2048x2048_12_02_0_1_n_n none (shapeCast _ (extf .f32 x bitsLt_bf16_f32) shapeCasts_S2048x11264_S2048x4x2816) (extf .f32 y bitsLt_bf16_f32) (ix2 i j))
      (∑ p : Fin 4, ∑ n : Fin 2816, x (ix2 i ⟨2816 * p.val + n.val, by omega⟩) * y (ix3 p j n)) := by
  pointwise
  refine Finset.sum_congr rfl fun p _ => Finset.sum_congr rfl fun n _ => ?_
  refine congrArg (fun k => x (ix2 i k) * y (ix3 p j n)) (Fin.ext ?_)
  show p.val * 2816 + n.val = 2816 * p.val + n.val
  omega

end Cert.GateUpDxRefIdeal.Ffn

end
-- ==== Proof.Ffn.Claims.lean ====
/- The claims on the feed-forward layer's three plain products: the frames, and the values with the kernels' sums equal to
   the references'. -/
module

public import proofs.«01_k».proof.Defs
public import proofs.«01_k».proof.Proof.Gen.DownDw.Frame
public import proofs.«01_k».proof.Proof.Ffn.DownDw
public import proofs.«01_k».proof.Proof.Gen.GateUpDw.Frame
public import proofs.«01_k».proof.Proof.Ffn.GateUpDw
public import proofs.«01_k».proof.Proof.Gen.GateUpDx.Frame
public import proofs.«01_k».proof.Proof.Ffn.GateUpDx
public import Idealize.ShloMosaic.Lib.Quiescent

@[expose] public section

set_option maxRecDepth 16384

noncomputable section

namespace Cert.Proof

open Idealize.ShloMosaic Idealize.ShloMosaic.TcCoe Idealize.SL.Sem

/-! ### The down projection's weight gradient -/

theorem downDw_frame : Cert.quiescent_DownDw (hDownDw := Cert.DownDw.Gen.facts) := fun m ρ _ => Cert.DownDw.Gen.frame m ρ

theorem downDw_frame_ideal : Cert.quiescent_DownDwIdeal (hDownDwIdeal := Cert.DownDwIdeal.Gen.facts) := fun m ρ _ =>
  Cert.DownDwIdeal.Gen.frame m ρ

theorem downDw_frame_ref : Cert.quiescent_DownDwRefIdeal (hDownDwRefIdeal := Cert.DownDwRefIdeal.Gen.facts) := fun m ρ _ =>
  (θ_run Cert.DownDwRefIdeal.defs _ _).mono
    (fun r h => ⟨fun c => (h c).2, sem_eq_zero_of_no_sems (by decide) r.2⟩) (Cert.DownDwRefIdeal.Value.run m ρ)

theorem downDw_algebraic : Cert.algebraic_DownDwIdeal_DownDwRefIdeal (hDownDwIdeal := Cert.DownDwIdeal.Gen.facts)
    (hDownDwRefIdeal := Cert.DownDwRefIdeal.Gen.facts) := by
  intro m g m' g' _ hagree
  refine ⟨fun c y => Cert.DownDwIdeal.Ffn.prod (Cert.DownDwIdeal.Ffn.act m c) (Cert.DownDwIdeal.Ffn.grd m c) (y 0) (y 1),
    (θ_run Cert.DownDwIdeal.defs _ _).mono (fun r h c => ⟨(h c).1.trans (Cert.DownDwIdeal.Ffn.arr m c), (h c).2⟩) (Cert.DownDwIdeal.Value.run_blocks m g),
    (θ_run Cert.DownDwRefIdeal.defs _ _).mono (fun r h c => ⟨(h c).1.trans ?_, (h c).2⟩) (Cert.DownDwRefIdeal.Value.run m' g')⟩
  obtain ⟨h0, h1⟩ := hagree c
  funext y
  rw [eq_ix2 y]
  refine (Cert.DownDwRefIdeal.Ffn.res_at _ _ (y 0) (y 1)).trans ?_
  · unfold Cert.DownDwIdeal.Ffn.prod Cert.DownDwIdeal.Ffn.act Cert.DownDwIdeal.Ffn.grd
    rw [h0, h1]
    exact Finset.sum_congr rfl fun t _ => mul_comm _ _

/-! ### The gate and up projections' weight gradient -/

theorem gateUpDw_frame : Cert.quiescent_GateUpDw (hGateUpDw := Cert.GateUpDw.Gen.facts) := fun m ρ _ => Cert.GateUpDw.Gen.frame m ρ

theorem gateUpDw_frame_ideal : Cert.quiescent_GateUpDwIdeal (hGateUpDwIdeal := Cert.GateUpDwIdeal.Gen.facts) := fun m ρ _ =>
  Cert.GateUpDwIdeal.Gen.frame m ρ

theorem gateUpDw_frame_ref : Cert.quiescent_GateUpDwRefIdeal (hGateUpDwRefIdeal := Cert.GateUpDwRefIdeal.Gen.facts) := fun m ρ _ =>
  (θ_run Cert.GateUpDwRefIdeal.defs _ _).mono
    (fun r h => ⟨fun c => (h c).2, sem_eq_zero_of_no_sems (by decide) r.2⟩) (Cert.GateUpDwRefIdeal.Value.run m ρ)

theorem gateUpDw_algebraic : Cert.algebraic_GateUpDwIdeal_GateUpDwRefIdeal (hGateUpDwIdeal := Cert.GateUpDwIdeal.Gen.facts)
    (hGateUpDwRefIdeal := Cert.GateUpDwRefIdeal.Gen.facts) := by
  intro m g m' g' _ hagree
  refine ⟨fun c y => Cert.GateUpDwIdeal.Ffn.prod (Cert.GateUpDwIdeal.Ffn.inp m c) (Cert.GateUpDwIdeal.Ffn.grd m c) (y 0) (y 1) (y 2),
    (θ_run Cert.GateUpDwIdeal.defs _ _).mono (fun r h c => ⟨(h c).1.trans (Cert.GateUpDwIdeal.Ffn.arr m c), (h c).2⟩) (Cert.GateUpDwIdeal.Value.run_blocks m g),
    (θ_run Cert.GateUpDwRefIdeal.defs _ _).mono (fun r h c => ⟨(h c).1.trans ?_, (h c).2⟩) (Cert.GateUpDwRefIdeal.Value.run m' g')⟩
  obtain ⟨h0, h1⟩ := hagree c
  funext y
  rw [eq_ix3 y]
  refine (Cert.GateUpDwRefIdeal.Ffn.res_at _ _ (y 0) (y 1) (y 2)).trans ?_
  · unfold Cert.GateUpDwIdeal.Ffn.prod Cert.GateUpDwIdeal.Ffn.inp Cert.GateUpDwIdeal.Ffn.grd
    rw [h0, h1]
    exact Finset.sum_congr rfl fun t _ => mul_comm _ _

/-! ### The gate and up projections' input gradient -/

theorem gateUpDx_frame : Cert.quiescent_GateUpDx (hGateUpDx := Cert.GateUpDx.Gen.facts) := fun m ρ _ => Cert.GateUpDx.Gen.frame m ρ

theorem gateUpDx_frame_ideal : Cert.quiescent_GateUpDxIdeal (hGateUpDxIdeal := Cert.GateUpDxIdeal.Gen.facts) := fun m ρ _ =>
  Cert.GateUpDxIdeal.Gen.frame m ρ

theorem gateUpDx_frame_ref : Cert.quiescent_GateUpDxRefIdeal (hGateUpDxRefIdeal := Cert.GateUpDxRefIdeal.Gen.facts) := fun m ρ _ =>
  (θ_run Cert.GateUpDxRefIdeal.defs _ _).mono
    (fun r h => ⟨fun c => (h c).2, sem_eq_zero_of_no_sems (by decide) r.2⟩) (Cert.GateUpDxRefIdeal.Value.run m ρ)

theorem gateUpDx_algebraic : Cert.algebraic_GateUpDxIdeal_GateUpDxRefIdeal (hGateUpDxIdeal := Cert.GateUpDxIdeal.Gen.facts)
    (hGateUpDxRefIdeal := Cert.GateUpDxRefIdeal.Gen.facts) := by
  intro m g m' g' _ hagree
  refine ⟨fun c y => Cert.GateUpDxIdeal.Ffn.prod (Cert.GateUpDxIdeal.Ffn.grd m c) (Cert.GateUpDxIdeal.Ffn.wgt m c) (y 0) (y 1),
    (θ_run Cert.GateUpDxIdeal.defs _ _).mono (fun r h c => ⟨(h c).1.trans ((Cert.GateUpDxIdeal.Value.final2 m c).symm.trans (Cert.GateUpDxIdeal.Ffn.arr m c)), (h c).2⟩) (Cert.GateUpDxIdeal.Value.run m g),
    (θ_run Cert.GateUpDxRefIdeal.defs _ _).mono (fun r h c => ⟨(h c).1.trans ?_, (h c).2⟩) (Cert.GateUpDxRefIdeal.Value.run m' g')⟩
  obtain ⟨h0, h1⟩ := hagree c
  funext y
  rw [eq_ix2 y]
  refine (Cert.GateUpDxRefIdeal.Ffn.res_at _ _ (y 0) (y 1)).trans ?_
  · unfold Cert.GateUpDxIdeal.Ffn.prod Cert.GateUpDxIdeal.Ffn.part Cert.GateUpDxIdeal.Ffn.grd Cert.GateUpDxIdeal.Ffn.wgt
    rw [h0, h1]
    rfl

end Cert.Proof

end
-- ==== Proof.Mm.OutProj.lean ====
/- A product, `out_proj`: the kernel's result array and the reference's result are the same sums. -/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import Idealize.ShloMosaic.Lib.Pipeline.ValueKit
public import Idealize.ShloMosaic.Lib.Quiescent

@[expose] public section

set_option maxRecDepth 16384

noncomputable section

namespace Cert.OutProjIdeal.Mm

open Idealize.ShloMosaic Idealize.ShloMosaic.TcCoe Cert.OutProjIdeal Cert.OutProjIdeal.Gen
open Idealize.ShloMosaic.Pipeline (Dat)

variable (m : (ℓ : Loc nD τ sig) → Buf (Elt Ideal) ℓ) (c : Dev nD)

/-- The two operands. -/
def fst (i : Fin 2048) (j : Fin 2048) : EReal := m ((c : Thread nD τ).loc main_arg0) (ix2 i j)
def snd (i : Fin 2048) (j : Fin 2048) : EReal := m ((c : Thread nD τ).loc main_arg1) (ix2 i j)

/-- An entry of the result. -/
def prod (i : Fin 2048) (j : Fin 2048) : EReal := ∑ k : Fin 2048, fst m c i k * snd m c k j

theorem idxs : ∀ t : Fin cfg0.N, win0_0.index t = ![t.val / 2, 0] ∧ win0_1.index t = ![0, t.val % 2]
    ∧ win0_2.index t = ![t.val / 2, t.val % 2] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S1024x2048 .bf16) (y : Vec Ideal S2048x1024 .bf16) (i : Fin 1024) (j : Fin 1024) :
    @Eq EReal (k0_pay1 x y (ix2 i j)) (∑ k : Fin 2048, x (ix2 i k) * y (ix2 k j)) := by
  unfold k0_pay1
  pointwise

theorem out_eq (x : Vec Ideal S1024x2048 .bf16) (y : Vec Ideal S2048x1024 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 1024) (h : 1024 * (t.val / 2) + i.val < 2048) :
    @Eq EReal (iblk m c 0 t (ix2 i k)) (fst m c ⟨1024 * (t.val / 2) + i.val, h⟩ k) := by
  unfold fst
  blk_ext [iblk, V, idxs t]

theorem blk_b (t : Fin cfg0.N) (k : Fin 2048) (j : Fin 1024) (h : 1024 * (t.val % 2) + j.val < 2048) :
    @Eq EReal (iblk m c 1 t (ix2 k j)) (snd m c k ⟨1024 * (t.val % 2) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 4 := lt_of_lt_of_eq t.isLt N_0
  blk_simp
  rw [after0_2, out_eq, eq_ix2 y]
  have hy0 : (y 0).val < 1024 := (y 0).isLt
  have hy1 : (y 1).val < 1024 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c a k * snd m c k b) (Fin.ext ?_) (Fin.ext ?_)
  · refine Eq.trans (b := 1024 * (t.val / 2) + (y 0).val) rfl ?_
    blk_simp [idxs t]
    try omega
  · refine Eq.trans (b := 1024 * (t.val % 2) + (y 1).val) rfl ?_
    blk_simp [idxs t]
    try omega

end Cert.OutProjIdeal.Mm

namespace Cert.OutProjRefIdeal.Mm

open Idealize.ShloMosaic Idealize.ShloMosaic.TcCoe Cert.OutProjRefIdeal Cert.OutProjRefIdeal.Gen

theorem res_at (x : FVec Ideal S2048x2048 .bf16) (y : FVec Ideal S2048x2048 .bf16) (i : Fin 2048) (j : Fin 2048) :
    @Eq EReal ((Host.dotGeneral (F := Ideal) dot_S2048x2048_S2048x2048_S2048x2048_1_0_0_1_n_n none (extf .f32 x bitsLt_bf16_f32) (extf .f32 y bitsLt_bf16_f32)) (ix2 i j))
      (∑ k : Fin 2048, x (ix2 i k) * y (ix2 k j)) := by
  pointwise

end Cert.OutProjRefIdeal.Mm

namespace Cert.OutProj.Mm

open Idealize.ShloMosaic Idealize.ShloMosaic.TcCoe Idealize.SL.Sem

theorem frame : Cert.quiescent_OutProj (hOutProj := Cert.OutProj.Gen.facts) := fun m ρ _ => Cert.OutProj.Gen.frame m ρ

theorem frame_ideal : Cert.quiescent_OutProjIdeal (hOutProjIdeal := Cert.OutProjIdeal.Gen.facts) := fun m ρ _ =>
  Cert.OutProjIdeal.Gen.frame m ρ

theorem frame_ref : Cert.quiescent_OutProjRefIdeal (hOutProjRefIdeal := Cert.OutProjRefIdeal.Gen.facts) := fun m ρ _ =>
  (θ_run Cert.OutProjRefIdeal.defs _ _).mono
    (fun r h => ⟨fun c => (h c).2, sem_eq_zero_of_no_sems (by decide) r.2⟩) (Cert.OutProjRefIdeal.Value.run m ρ)

theorem algebraic : Cert.algebraic_OutProjIdeal_OutProjRefIdeal (hOutProjIdeal := Cert.OutProjIdeal.Gen.facts)
    (hOutProjRefIdeal := Cert.OutProjRefIdeal.Gen.facts) := by
  intro m g m' g' _ hagree
  refine ⟨fun c y => Cert.OutProjIdeal.Mm.prod m c (y 0) (y 1),
    (θ_run Cert.OutProjIdeal.defs _ _).mono (fun r h c => ⟨(h c).1.trans (Cert.OutProjIdeal.Mm.arr m c), (h c).2⟩)
      (Cert.OutProjIdeal.Value.run_blocks m g),
    (θ_run Cert.OutProjRefIdeal.defs _ _).mono (fun r h c => ⟨(h c).1.trans ?_, (h c).2⟩) (Cert.OutProjRefIdeal.Value.run m' g')⟩
  obtain ⟨h0, h1⟩ := hagree c
  funext y
  rw [eq_ix2 y]
  refine (Cert.OutProjRefIdeal.Mm.res_at _ _ (y 0) (y 1)).trans ?_
  unfold Cert.OutProjIdeal.Mm.prod Cert.OutProjIdeal.Mm.fst Cert.OutProjIdeal.Mm.snd
  rw [h0, h1]
  rfl

end Cert.OutProj.Mm

end
-- ==== Proof.Mm.OutProjDx.lean ====
/- A product's input gradient, `out_proj_dx`: the kernel's result array and the reference's result are the same sums. -/
module

public import proofs.«01_k».proof.Defs
public import proofs.«01_k».proof.Proof.Gen.OutProjDx.Frame
public import proofs.«01_k».proof.Proof.Gen.OutProjDxIdeal.Value
public import proofs.«01_k».proof.Proof.Gen.OutProjDxRefIdeal.Run
public import Idealize.ShloMosaic.Lib.Pipeline.ValueKit
public import Idealize.ShloMosaic.Lib.Quiescent

@[expose] public section

set_option maxRecDepth 16384

noncomputable section

namespace Cert.OutProjDxIdeal.Mm

open Idealize.ShloMosaic Idealize.ShloMosaic.TcCoe Cert.OutProjDxIdeal Cert.OutProjDxIdeal.Gen
open Idealize.ShloMosaic.Pipeline (Dat)

variable (m : (ℓ : Loc nD τ sig) → Buf (Elt Ideal) ℓ) (c : Dev nD)

/-- The two operands. -/
def fst (i : Fin 2048) (j : Fin 2048) : EReal := m ((c : Thread nD τ).loc main_arg0) (ix2 i j)
def snd (i : Fin 2048) (j : Fin 2048) : EReal := m ((c : Thread nD τ).loc main_arg1) (ix2 i j)

/-- An entry of the result. -/
def prod (i : Fin 2048) (j : Fin 2048) : EReal := ∑ k : Fin 2048, fst m c i k * snd m c j k

theorem idxs : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S1024x2048 .bf16) (y : Vec Ideal S1024x2048 .bf16) (i : Fin 1024) (j : Fin 1024) :
    @Eq EReal (k0_pay1 x y (ix2 i j)) (∑ k : Fin 2048, x (ix2 i k) * y (ix2 j k)) := by
  unfold k0_pay1
  pointwise

theorem out_eq (x : Vec Ideal S1024x2048 .bf16) (y : Vec Ideal S1024x2048 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 1024) (h : 1024 * (t.val / 2) + i.val < 2048) :
    @Eq EReal (iblk m c 0 t (ix2 i k)) (fst m c ⟨1024 * (t.val / 2) + i.val, h⟩ k) := by
  unfold fst
  blk_ext [iblk, V, idxs t]

theorem blk_b (t : Fin cfg0.N) (k : Fin 2048) (j : Fin 1024) (h : 1024 * (t.val % 2) + j.val < 2048) :
    @Eq EReal (iblk m c 1 t (ix2 j k)) (snd m c ⟨1024 * (t.val % 2) + j.val, h⟩ k) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 4 := lt_of_lt_of_eq t.isLt N_0
  blk_simp
  rw [after0_2, out_eq, eq_ix2 y]
  have hy0 : (y 0).val < 1024 := (y 0).isLt
  have hy1 : (y 1).val < 1024 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c a k * snd m c b k) (Fin.ext ?_) (Fin.ext ?_)
  · refine Eq.trans (b := 1024 * (t.val / 2) + (y 0).val) rfl ?_
    blk_simp [idxs t]
    try omega
  · refine Eq.trans (b := 1024 * (t.val % 2) + (y 1).val) rfl ?_
    blk_simp [idxs t]
    try omega

end Cert.OutProjDxIdeal.Mm

namespace Cert.OutProjDxRefIdeal.Mm

open Idealize.ShloMosaic Idealize.ShloMosaic.TcCoe Cert.OutProjDxRefIdeal Cert.OutProjDxRefIdeal.Gen

theorem res_at (x : FVec Ideal S2048x2048 .bf16) (y : FVec Ideal S2048x2048 .bf16) (i : Fin 2048) (j : Fin 2048) :
    @Eq EReal ((truncf .bf16 (Host.dotGeneral (F := Ideal) dot_S2048x2048_S2048x2048_S2048x2048_1_1_0_0_n_n none (extf .f32 x bitsLt_bf16_f32) (extf .f32 y bitsLt_bf16_f32)) bitsLt_bf16_f32) (ix2 i j))
      (∑ k : Fin 2048, x (ix2 i k) * y (ix2 j k)) := by
  pointwise

end Cert.OutProjDxRefIdeal.Mm

namespace Cert.OutProjDx.Mm

open Idealize.ShloMosaic Idealize.ShloMosaic.TcCoe Idealize.SL.Sem

theorem frame : Cert.quiescent_OutProjDx (hOutProjDx := Cert.OutProjDx.Gen.facts) := fun m ρ _ => Cert.OutProjDx.Gen.frame m ρ

theorem frame_ideal : Cert.quiescent_OutProjDxIdeal (hOutProjDxIdeal := Cert.OutProjDxIdeal.Gen.facts) := fun m ρ _ =>
  Cert.OutProjDxIdeal.Gen.frame m ρ

theorem frame_ref : Cert.quiescent_OutProjDxRefIdeal (hOutProjDxRefIdeal := Cert.OutProjDxRefIdeal.Gen.facts) := fun m ρ _ =>
  (θ_run Cert.OutProjDxRefIdeal.defs _ _).mono
    (fun r h => ⟨fun c => (h c).2, sem_eq_zero_of_no_sems (by decide) r.2⟩) (Cert.OutProjDxRefIdeal.Value.run m ρ)

theorem algebraic : Cert.algebraic_OutProjDxIdeal_OutProjDxRefIdeal (hOutProjDxIdeal := Cert.OutProjDxIdeal.Gen.facts)
    (hOutProjDxRefIdeal := Cert.OutProjDxRefIdeal.Gen.facts) := by
  intro m g m' g' _ hagree
  refine ⟨fun c y => Cert.OutProjDxIdeal.Mm.prod m c (y 0) (y 1),
    (θ_run Cert.OutProjDxIdeal.defs _ _).mono (fun r h c => ⟨(h c).1.trans (Cert.OutProjDxIdeal.Mm.arr m c), (h c).2⟩)
      (Cert.OutProjDxIdeal.Value.run_blocks m g),
    (θ_run Cert.OutProjDxRefIdeal.defs _ _).mono (fun r h c => ⟨(h c).1.trans ?_, (h c).2⟩) (Cert.OutProjDxRefIdeal.Value.run m' g')⟩
  obtain ⟨h0, h1⟩ := hagree c
  funext y
  rw [eq_ix2 y]
  refine (Cert.OutProjDxRefIdeal.Mm.res_at _ _ (y 0) (y 1)).trans ?_
  unfold Cert.OutProjDxIdeal.Mm.prod Cert.OutProjDxIdeal.Mm.fst Cert.OutProjDxIdeal.Mm.snd
  rw [h0, h1]
  rfl

end Cert.OutProjDx.Mm

end
-- ==== Proof.Mm.OutProjDw.lean ====
/- A product's weight gradient, `out_proj_dw`: the kernel's result array and the reference's result are the same sums. -/
module

public import proofs.«01_k».proof.Defs
public import proofs.«01_k».proof.Proof.Gen.OutProjDw.Frame
public import proofs.«01_k».proof.Proof.Gen.OutProjDwIdeal.Value
public import proofs.«01_k».proof.Proof.Gen.OutProjDwRefIdeal.Run
public import Idealize.ShloMosaic.Lib.Pipeline.ValueKit
public import Idealize.ShloMosaic.Lib.Quiescent

@[expose] public section

set_option maxRecDepth 16384

noncomputable section

namespace Cert.OutProjDwIdeal.Mm

open Idealize.ShloMosaic Idealize.ShloMosaic.TcCoe Cert.OutProjDwIdeal Cert.OutProjDwIdeal.Gen
open Idealize.ShloMosaic.Pipeline (Dat)

variable (m : (ℓ : Loc nD τ sig) → Buf (Elt Ideal) ℓ) (c : Dev nD)

/-- The two operands. -/
def fst (i : Fin 2048) (j : Fin 2048) : EReal := m ((c : Thread nD τ).loc main_arg0) (ix2 i j)
def snd (i : Fin 2048) (j : Fin 2048) : EReal := m ((c : Thread nD τ).loc main_arg1) (ix2 i j)

/-- An entry of the result. -/
def prod (i : Fin 2048) (j : Fin 2048) : EReal := ∑ k : Fin 2048, fst m c k i * snd m c k j

theorem idxs : ∀ t : Fin cfg0.N, win0_0.index t = ![0, t.val / 2] ∧ win0_1.index t = ![0, t.val % 2]
    ∧ win0_2.index t = ![t.val / 2, t.val % 2] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S2048x1024 .bf16) (y : Vec Ideal S2048x1024 .bf16) (i : Fin 1024) (j : Fin 1024) :
    @Eq EReal (k0_pay1 x y (ix2 i j)) (∑ k : Fin 2048, x (ix2 k i) * y (ix2 k j)) := by
  unfold k0_pay1
  pointwise

theorem out_eq (x : Vec Ideal S2048x1024 .bf16) (y : Vec Ideal S2048x1024 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 1024) (h : 1024 * (t.val / 2) + i.val < 2048) :
    @Eq EReal (iblk m c 0 t (ix2 k i)) (fst m c k ⟨1024 * (t.val / 2) + i.val, h⟩) := by
  unfold fst
  blk_ext [iblk, V, idxs t]

theorem blk_b (t : Fin cfg0.N) (k : Fin 2048) (j : Fin 1024) (h : 1024 * (t.val % 2) + j.val < 2048) :
    @Eq EReal (iblk m c 1 t (ix2 k j)) (snd m c k ⟨1024 * (t.val % 2) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 4 := lt_of_lt_of_eq t.isLt N_0
  blk_simp
  rw [after0_2, out_eq, eq_ix2 y]
  have hy0 : (y 0).val < 1024 := (y 0).isLt
  have hy1 : (y 1).val < 1024 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c k a * snd m c k b) (Fin.ext ?_) (Fin.ext ?_)
  · refine Eq.trans (b := 1024 * (t.val / 2) + (y 0).val) rfl ?_
    blk_simp [idxs t]
    try omega
  · refine Eq.trans (b := 1024 * (t.val % 2) + (y 1).val) rfl ?_
    blk_simp [idxs t]
    try omega

end Cert.OutProjDwIdeal.Mm

namespace Cert.OutProjDwRefIdeal.Mm

open Idealize.ShloMosaic Idealize.ShloMosaic.TcCoe Cert.OutProjDwRefIdeal Cert.OutProjDwRefIdeal.Gen

theorem res_at (x : FVec Ideal S2048x2048 .bf16) (y : FVec Ideal S2048x2048 .bf16) (i : Fin 2048) (j : Fin 2048) :
    @Eq EReal ((truncf .bf16 (transpose S2048x2048 [1, 0] (Host.dotGeneral (F := Ideal) dot_S2048x2048_S2048x2048_S2048x2048_0_0_1_1_n_n none (extf .f32 y bitsLt_bf16_f32) (extf .f32 x bitsLt_bf16_f32)) transposes_S2048x2048_S2048x2048_1_0) bitsLt_bf16_f32) (ix2 i j))
      (∑ k : Fin 2048, x (ix2 k i) * y (ix2 k j)) := by
  pointwise
  exact Finset.sum_congr rfl fun t _ => mul_comm _ _

end Cert.OutProjDwRefIdeal.Mm

namespace Cert.OutProjDw.Mm

open Idealize.ShloMosaic Idealize.ShloMosaic.TcCoe Idealize.SL.Sem

theorem frame : Cert.quiescent_OutProjDw (hOutProjDw := Cert.OutProjDw.Gen.facts) := fun m ρ _ => Cert.OutProjDw.Gen.frame m ρ

theorem frame_ideal : Cert.quiescent_OutProjDwIdeal (hOutProjDwIdeal := Cert.OutProjDwIdeal.Gen.facts) := fun m ρ _ =>
  Cert.OutProjDwIdeal.Gen.frame m ρ

theorem frame_ref : Cert.quiescent_OutProjDwRefIdeal (hOutProjDwRefIdeal := Cert.OutProjDwRefIdeal.Gen.facts) := fun m ρ _ =>
  (θ_run Cert.OutProjDwRefIdeal.defs _ _).mono
    (fun r h => ⟨fun c => (h c).2, sem_eq_zero_of_no_sems (by decide) r.2⟩) (Cert.OutProjDwRefIdeal.Value.run m ρ)

theorem algebraic : Cert.algebraic_OutProjDwIdeal_OutProjDwRefIdeal (hOutProjDwIdeal := Cert.OutProjDwIdeal.Gen.facts)
    (hOutProjDwRefIdeal := Cert.OutProjDwRefIdeal.Gen.facts) := by
  intro m g m' g' _ hagree
  refine ⟨fun c y => Cert.OutProjDwIdeal.Mm.prod m c (y 0) (y 1),
    (θ_run Cert.OutProjDwIdeal.defs _ _).mono (fun r h c => ⟨(h c).1.trans (Cert.OutProjDwIdeal.Mm.arr m c), (h c).2⟩)
      (Cert.OutProjDwIdeal.Value.run_blocks m g),
    (θ_run Cert.OutProjDwRefIdeal.defs _ _).mono (fun r h c => ⟨(h c).1.trans ?_, (h c).2⟩) (Cert.OutProjDwRefIdeal.Value.run m' g')⟩
  obtain ⟨h0, h1⟩ := hagree c
  funext y
  rw [eq_ix2 y]
  refine (Cert.OutProjDwRefIdeal.Mm.res_at _ _ (y 0) (y 1)).trans ?_
  unfold Cert.OutProjDwIdeal.Mm.prod Cert.OutProjDwIdeal.Mm.fst Cert.OutProjDwIdeal.Mm.snd
  rw [h0, h1]
  rfl

end Cert.OutProjDw.Mm

end
-- ==== Proof.Mm.InProjAg.lean ====
/- A product, `in_proj_ag`: the kernel's result array and the reference's result are the same sums. -/
module

public import proofs.«01_k».proof.Defs
public import proofs.«01_k».proof.Proof.Gen.InProjAg.Frame
public import proofs.«01_k».proof.Proof.Gen.InProjAgIdeal.Value
public import proofs.«01_k».proof.Proof.Gen.InProjAgRefIdeal.Run
public import Idealize.ShloMosaic.Lib.Pipeline.ValueKit
public import Idealize.ShloMosaic.Lib.Quiescent

@[expose] public section

set_option maxRecDepth 16384

noncomputable section

namespace Cert.InProjAgIdeal.Mm

open Idealize.ShloMosaic Idealize.ShloMosaic.TcCoe Cert.InProjAgIdeal Cert.InProjAgIdeal.Gen
open Idealize.ShloMosaic.Pipeline (Dat)

variable (m : (ℓ : Loc nD τ sig) → Buf (Elt Ideal) ℓ) (c : Dev nD)

/-- The two operands. -/
def fst (i : Fin 2048) (j : Fin 2048) : EReal := m ((c : Thread nD τ).loc main_arg0) (ix2 i j)
def snd (i : Fin 2048) (j : Fin 2048) : EReal := m ((c : Thread nD τ).loc main_arg1) (ix2 i j)

/-- An entry of the result. -/
def prod (i : Fin 2048) (j : Fin 2048) : EReal := ∑ k : Fin 2048, fst m c i k * snd m c k j

theorem idxs : ∀ t : Fin cfg0.N, win0_0.index t = ![t.val / 2, 0] ∧ win0_1.index t = ![0, t.val % 2]
    ∧ win0_2.index t = ![t.val / 2, t.val % 2] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S1024x2048 .bf16) (y : Vec Ideal S2048x1024 .bf16) (i : Fin 1024) (j : Fin 1024) :
    @Eq EReal (k0_pay1 x y (ix2 i j)) (∑ k : Fin 2048, x (ix2 i k) * y (ix2 k j)) := by
  unfold k0_pay1
  pointwise

theorem out_eq (x : Vec Ideal S1024x2048 .bf16) (y : Vec Ideal S2048x1024 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 1024) (h : 1024 * (t.val / 2) + i.val < 2048) :
    @Eq EReal (iblk m c 0 t (ix2 i k)) (fst m c ⟨1024 * (t.val / 2) + i.val, h⟩ k) := by
  unfold fst
  blk_ext [iblk, V, idxs t]

theorem blk_b (t : Fin cfg0.N) (k : Fin 2048) (j : Fin 1024) (h : 1024 * (t.val % 2) + j.val < 2048) :
    @Eq EReal (iblk m c 1 t (ix2 k j)) (snd m c k ⟨1024 * (t.val % 2) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 4 := lt_of_lt_of_eq t.isLt N_0
  blk_simp
  rw [after0_2, out_eq, eq_ix2 y]
  have hy0 : (y 0).val < 1024 := (y 0).isLt
  have hy1 : (y 1).val < 1024 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c a k * snd m c k b) (Fin.ext ?_) (Fin.ext ?_)
  · refine Eq.trans (b := 1024 * (t.val / 2) + (y 0).val) rfl ?_
    blk_simp [idxs t]
    try omega
  · refine Eq.trans (b := 1024 * (t.val % 2) + (y 1).val) rfl ?_
    blk_simp [idxs t]
    try omega

end Cert.InProjAgIdeal.Mm

namespace Cert.InProjAgRefIdeal.Mm

open Idealize.ShloMosaic Idealize.ShloMosaic.TcCoe Cert.InProjAgRefIdeal Cert.InProjAgRefIdeal.Gen

theorem res_at (x : FVec Ideal S2048x2048 .bf16) (y : FVec Ideal S2048x2048 .bf16) (i : Fin 2048) (j : Fin 2048) :
    @Eq EReal ((truncf .bf16 (Host.dotGeneral (F := Ideal) dot_S2048x2048_S2048x2048_S2048x2048_1_0_0_1_n_n none (extf .f32 x bitsLt_bf16_f32) (extf .f32 y bitsLt_bf16_f32)) bitsLt_bf16_f32) (ix2 i j))
      (∑ k : Fin 2048, x (ix2 i k) * y (ix2 k j)) := by
  pointwise

end Cert.InProjAgRefIdeal.Mm

namespace Cert.InProjAg.Mm

open Idealize.ShloMosaic Idealize.ShloMosaic.TcCoe Idealize.SL.Sem

theorem frame : Cert.quiescent_InProjAg (hInProjAg := Cert.InProjAg.Gen.facts) := fun m ρ _ => Cert.InProjAg.Gen.frame m ρ

theorem frame_ideal : Cert.quiescent_InProjAgIdeal (hInProjAgIdeal := Cert.InProjAgIdeal.Gen.facts) := fun m ρ _ =>
  Cert.InProjAgIdeal.Gen.frame m ρ

theorem frame_ref : Cert.quiescent_InProjAgRefIdeal (hInProjAgRefIdeal := Cert.InProjAgRefIdeal.Gen.facts) := fun m ρ _ =>
  (θ_run Cert.InProjAgRefIdeal.defs _ _).mono
    (fun r h => ⟨fun c => (h c).2, sem_eq_zero_of_no_sems (by decide) r.2⟩) (Cert.InProjAgRefIdeal.Value.run m ρ)

theorem algebraic : Cert.algebraic_InProjAgIdeal_InProjAgRefIdeal (hInProjAgIdeal := Cert.InProjAgIdeal.Gen.facts)
    (hInProjAgRefIdeal := Cert.InProjAgRefIdeal.Gen.facts) := by
  intro m g m' g' _ hagree
  refine ⟨fun c y => Cert.InProjAgIdeal.Mm.prod m c (y 0) (y 1),
    (θ_run Cert.InProjAgIdeal.defs _ _).mono (fun r h c => ⟨(h c).1.trans (Cert.InProjAgIdeal.Mm.arr m c), (h c).2⟩)
      (Cert.InProjAgIdeal.Value.run_blocks m g),
    (θ_run Cert.InProjAgRefIdeal.defs _ _).mono (fun r h c => ⟨(h c).1.trans ?_, (h c).2⟩) (Cert.InProjAgRefIdeal.Value.run m' g')⟩
  obtain ⟨h0, h1⟩ := hagree c
  funext y
  rw [eq_ix2 y]
  refine (Cert.InProjAgRefIdeal.Mm.res_at _ _ (y 0) (y 1)).trans ?_
  unfold Cert.InProjAgIdeal.Mm.prod Cert.InProjAgIdeal.Mm.fst Cert.InProjAgIdeal.Mm.snd
  rw [h0, h1]
  rfl

end Cert.InProjAg.Mm

end
-- ==== Proof.Mm.InProjAgDw.lean ====
/- A product's weight gradient, `in_proj_ag_dw`: the kernel's result array and the reference's result are the same sums. -/
module

public import proofs.«01_k».proof.Defs
public import proofs.«01_k».proof.Proof.Gen.InProjAgDw.Frame
public import proofs.«01_k».proof.Proof.Gen.InProjAgDwIdeal.Value
public import proofs.«01_k».proof.Proof.Gen.InProjAgDwRefIdeal.Run
public import Idealize.ShloMosaic.Lib.Pipeline.ValueKit
public import Idealize.ShloMosaic.Lib.Quiescent

@[expose] public section

set_option maxRecDepth 16384

noncomputable section

namespace Cert.InProjAgDwIdeal.Mm

open Idealize.ShloMosaic Idealize.ShloMosaic.TcCoe Cert.InProjAgDwIdeal Cert.InProjAgDwIdeal.Gen
open Idealize.ShloMosaic.Pipeline (Dat)

variable (m : (ℓ : Loc nD τ sig) → Buf (Elt Ideal) ℓ) (c : Dev nD)

/-- The two operands. -/
def fst (i : Fin 2048) (j : Fin 2048) : EReal := m ((c : Thread nD τ).loc main_arg0) (ix2 i j)
def snd (i : Fin 2048) (j : Fin 2048) : EReal := m ((c : Thread nD τ).loc main_arg1) (ix2 i j)

/-- An entry of the result. -/
def prod (i : Fin 2048) (j : Fin 2048) : EReal := ∑ k : Fin 2048, fst m c k i * snd m c k j

theorem idxs : ∀ t : Fin cfg0.N, win0_0.index t = ![0, t.val / 2] ∧ win0_1.index t = ![0, t.val % 2]
    ∧ win0_2.index t = ![t.val / 2, t.val % 2] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S2048x1024 .bf16) (y : Vec Ideal S2048x1024 .bf16) (i : Fin 1024) (j : Fin 1024) :
    @Eq EReal (k0_pay1 x y (ix2 i j)) (∑ k : Fin 2048, x (ix2 k i) * y (ix2 k j)) := by
  unfold k0_pay1
  pointwise

theorem out_eq (x : Vec Ideal S2048x1024 .bf16) (y : Vec Ideal S2048x1024 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 1024) (h : 1024 * (t.val / 2) + i.val < 2048) :
    @Eq EReal (iblk m c 0 t (ix2 k i)) (fst m c k ⟨1024 * (t.val / 2) + i.val, h⟩) := by
  unfold fst
  blk_ext [iblk, V, idxs t]

theorem blk_b (t : Fin cfg0.N) (k : Fin 2048) (j : Fin 1024) (h : 1024 * (t.val % 2) + j.val < 2048) :
    @Eq EReal (iblk m c 1 t (ix2 k j)) (snd m c k ⟨1024 * (t.val % 2) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 4 := lt_of_lt_of_eq t.isLt N_0
  blk_simp
  rw [after0_2, out_eq, eq_ix2 y]
  have hy0 : (y 0).val < 1024 := (y 0).isLt
  have hy1 : (y 1).val < 1024 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c k a * snd m c k b) (Fin.ext ?_) (Fin.ext ?_)
  · refine Eq.trans (b := 1024 * (t.val / 2) + (y 0).val) rfl ?_
    blk_simp [idxs t]
    try omega
  · refine Eq.trans (b := 1024 * (t.val % 2) + (y 1).val) rfl ?_
    blk_simp [idxs t]
    try omega

end Cert.InProjAgDwIdeal.Mm

namespace Cert.InProjAgDwRefIdeal.Mm

open Idealize.ShloMosaic Idealize.ShloMosaic.TcCoe Cert.InProjAgDwRefIdeal Cert.InProjAgDwRefIdeal.Gen

theorem res_at (x : FVec Ideal S2048x2048 .bf16) (y : FVec Ideal S2048x2048 .bf16) (i : Fin 2048) (j : Fin 2048) :
    @Eq EReal ((truncf .bf16 (transpose S2048x2048 [1, 0] (Host.dotGeneral (F := Ideal) dot_S2048x2048_S2048x2048_S2048x2048_0_0_1_1_n_n none (extf .f32 y bitsLt_bf16_f32) (extf .f32 x bitsLt_bf16_f32)) transposes_S2048x2048_S2048x2048_1_0) bitsLt_bf16_f32) (ix2 i j))
      (∑ k : Fin 2048, x (ix2 k i) * y (ix2 k j)) := by
  pointwise
  exact Finset.sum_congr rfl fun t _ => mul_comm _ _

end Cert.InProjAgDwRefIdeal.Mm

namespace Cert.InProjAgDw.Mm

open Idealize.ShloMosaic Idealize.ShloMosaic.TcCoe Idealize.SL.Sem

theorem frame : Cert.quiescent_InProjAgDw (hInProjAgDw := Cert.InProjAgDw.Gen.facts) := fun m ρ _ => Cert.InProjAgDw.Gen.frame m ρ

theorem frame_ideal : Cert.quiescent_InProjAgDwIdeal (hInProjAgDwIdeal := Cert.InProjAgDwIdeal.Gen.facts) := fun m ρ _ =>
  Cert.InProjAgDwIdeal.Gen.frame m ρ

theorem frame_ref : Cert.quiescent_InProjAgDwRefIdeal (hInProjAgDwRefIdeal := Cert.InProjAgDwRefIdeal.Gen.facts) := fun m ρ _ =>
  (θ_run Cert.InProjAgDwRefIdeal.defs _ _).mono
    (fun r h => ⟨fun c => (h c).2, sem_eq_zero_of_no_sems (by decide) r.2⟩) (Cert.InProjAgDwRefIdeal.Value.run m ρ)

theorem algebraic : Cert.algebraic_InProjAgDwIdeal_InProjAgDwRefIdeal (hInProjAgDwIdeal := Cert.InProjAgDwIdeal.Gen.facts)
    (hInProjAgDwRefIdeal := Cert.InProjAgDwRefIdeal.Gen.facts) := by
  intro m g m' g' _ hagree
  refine ⟨fun c y => Cert.InProjAgDwIdeal.Mm.prod m c (y 0) (y 1),
    (θ_run Cert.InProjAgDwIdeal.defs _ _).mono (fun r h c => ⟨(h c).1.trans (Cert.InProjAgDwIdeal.Mm.arr m c), (h c).2⟩)
      (Cert.InProjAgDwIdeal.Value.run_blocks m g),
    (θ_run Cert.InProjAgDwRefIdeal.defs _ _).mono (fun r h c => ⟨(h c).1.trans ?_, (h c).2⟩) (Cert.InProjAgDwRefIdeal.Value.run m' g')⟩
  obtain ⟨h0, h1⟩ := hagree c
  funext y
  rw [eq_ix2 y]
  refine (Cert.InProjAgDwRefIdeal.Mm.res_at _ _ (y 0) (y 1)).trans ?_
  unfold Cert.InProjAgDwIdeal.Mm.prod Cert.InProjAgDwIdeal.Mm.fst Cert.InProjAgDwIdeal.Mm.snd
  rw [h0, h1]
  rfl

end Cert.InProjAgDw.Mm

end
-- ==== Proof.Mm.InProjZ2.lean ====
/- A product, `in_proj_z2`: the kernel's result array and the reference's result are the same sums. -/
module

public import proofs.«01_k».proof.Defs
public import proofs.«01_k».proof.Proof.Gen.InProjZ2.Frame
public import proofs.«01_k».proof.Proof.Gen.InProjZ2Ideal.Value
public import proofs.«01_k».proof.Proof.Gen.InProjZ2RefIdeal.Run
public import Idealize.ShloMosaic.Lib.Pipeline.ValueKit
public import Idealize.ShloMosaic.Lib.Quiescent

@[expose] public section

set_option maxRecDepth 16384

noncomputable section

namespace Cert.InProjZ2Ideal.Mm

open Idealize.ShloMosaic Idealize.ShloMosaic.TcCoe Cert.InProjZ2Ideal Cert.InProjZ2Ideal.Gen
open Idealize.ShloMosaic.Pipeline (Dat)

variable (m : (ℓ : Loc nD τ sig) → Buf (Elt Ideal) ℓ) (c : Dev nD)

/-- The two operands. -/
def fst (i : Fin 2048) (j : Fin 2048) : EReal := m ((c : Thread nD τ).loc main_arg0) (ix2 i j)
def snd (i : Fin 2048) (j : Fin 1408) : EReal := m ((c : Thread nD τ).loc main_arg1) (ix2 i j)

/-- An entry of the result. -/
def prod (i : Fin 2048) (j : Fin 1408) : EReal := ∑ k : Fin 2048, fst m c i k * snd m c k j

theorem idxs : ∀ t : Fin cfg0.N, win0_0.index t = ![t.val / 1, 0] ∧ win0_1.index t = ![0, t.val % 1]
    ∧ win0_2.index t = ![t.val / 1, t.val % 1] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S1024x2048 .bf16) (y : Vec Ideal S2048x1408 .bf16) (i : Fin 1024) (j : Fin 1408) :
    @Eq EReal (k0_pay1 x y (ix2 i j)) (∑ k : Fin 2048, x (ix2 i k) * y (ix2 k j)) := by
  unfold k0_pay1
  pointwise

theorem out_eq (x : Vec Ideal S1024x2048 .bf16) (y : Vec Ideal S2048x1408 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 1024) (h : 1024 * (t.val / 1) + i.val < 2048) :
    @Eq EReal (iblk m c 0 t (ix2 i k)) (fst m c ⟨1024 * (t.val / 1) + i.val, h⟩ k) := by
  unfold fst
  blk_ext [iblk, V, idxs t]

theorem blk_b (t : Fin cfg0.N) (k : Fin 2048) (j : Fin 1408) (h : 1408 * (t.val % 1) + j.val < 1408) :
    @Eq EReal (iblk m c 1 t (ix2 k j)) (snd m c k ⟨1408 * (t.val % 1) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 2 := lt_of_lt_of_eq t.isLt N_0
  blk_simp
  rw [after0_2, out_eq, eq_ix2 y]
  have hy0 : (y 0).val < 1024 := (y 0).isLt
  have hy1 : (y 1).val < 1408 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c a k * snd m c k b) (Fin.ext ?_) (Fin.ext ?_)
  · refine Eq.trans (b := 1024 * (t.val / 1) + (y 0).val) rfl ?_
    blk_simp [idxs t]
    try omega
  · refine Eq.trans (b := 1408 * (t.val % 1) + (y 1).val) rfl ?_
    blk_simp [idxs t]
    try omega

end Cert.InProjZ2Ideal.Mm

namespace Cert.InProjZ2RefIdeal.Mm

open Idealize.ShloMosaic Idealize.ShloMosaic.TcCoe Cert.InProjZ2RefIdeal Cert.InProjZ2RefIdeal.Gen

theorem res_at (x : FVec Ideal S2048x2048 .bf16) (y : FVec Ideal S2048x1408 .bf16) (i : Fin 2048) (j : Fin 1408) :
    @Eq EReal ((truncf .bf16 (Host.dotGeneral (F := Ideal) dot_S2048x2048_S2048x1408_S2048x1408_1_0_0_1_n_n none (extf .f32 x bitsLt_bf16_f32) (extf .f32 y bitsLt_bf16_f32)) bitsLt_bf16_f32) (ix2 i j))
      (∑ k : Fin 2048, x (ix2 i k) * y (ix2 k j)) := by
  pointwise

end Cert.InProjZ2RefIdeal.Mm

namespace Cert.InProjZ2.Mm

open Idealize.ShloMosaic Idealize.ShloMosaic.TcCoe Idealize.SL.Sem

theorem frame : Cert.quiescent_InProjZ2 (hInProjZ2 := Cert.InProjZ2.Gen.facts) := fun m ρ _ => Cert.InProjZ2.Gen.frame m ρ

theorem frame_ideal : Cert.quiescent_InProjZ2Ideal (hInProjZ2Ideal := Cert.InProjZ2Ideal.Gen.facts) := fun m ρ _ =>
  Cert.InProjZ2Ideal.Gen.frame m ρ

theorem frame_ref : Cert.quiescent_InProjZ2RefIdeal (hInProjZ2RefIdeal := Cert.InProjZ2RefIdeal.Gen.facts) := fun m ρ _ =>
  (θ_run Cert.InProjZ2RefIdeal.defs _ _).mono
    (fun r h => ⟨fun c => (h c).2, sem_eq_zero_of_no_sems (by decide) r.2⟩) (Cert.InProjZ2RefIdeal.Value.run m ρ)

theorem algebraic : Cert.algebraic_InProjZ2Ideal_InProjZ2RefIdeal (hInProjZ2Ideal := Cert.InProjZ2Ideal.Gen.facts)
    (hInProjZ2RefIdeal := Cert.InProjZ2RefIdeal.Gen.facts) := by
  intro m g m' g' _ hagree
  refine ⟨fun c y => Cert.InProjZ2Ideal.Mm.prod m c (y 0) (y 1),
    (θ_run Cert.InProjZ2Ideal.defs _ _).mono (fun r h c => ⟨(h c).1.trans (Cert.InProjZ2Ideal.Mm.arr m c), (h c).2⟩)
      (Cert.InProjZ2Ideal.Value.run_blocks m g),
    (θ_run Cert.InProjZ2RefIdeal.defs _ _).mono (fun r h c => ⟨(h c).1.trans ?_, (h c).2⟩) (Cert.InProjZ2RefIdeal.Value.run m' g')⟩
  obtain ⟨h0, h1⟩ := hagree c
  funext y
  rw [eq_ix2 y]
  refine (Cert.InProjZ2RefIdeal.Mm.res_at _ _ (y 0) (y 1)).trans ?_
  unfold Cert.InProjZ2Ideal.Mm.prod Cert.InProjZ2Ideal.Mm.fst Cert.InProjZ2Ideal.Mm.snd
  rw [h0, h1]
  rfl

end Cert.InProjZ2.Mm

end
-- ==== Proof.Mm.InProjZ2Dw.lean ====
/- A product's weight gradient, `in_proj_z2_dw`: the kernel's result array and the reference's result are the same sums. -/
module

public import proofs.«01_k».proof.Defs
public import proofs.«01_k».proof.Proof.Gen.InProjZ2Dw.Frame
public import proofs.«01_k».proof.Proof.Gen.InProjZ2DwIdeal.Value
public import proofs.«01_k».proof.Proof.Gen.InProjZ2DwRefIdeal.Run
public import Idealize.ShloMosaic.Lib.Pipeline.ValueKit
public import Idealize.ShloMosaic.Lib.Quiescent

@[expose] public section

set_option maxRecDepth 16384

noncomputable section

namespace Cert.InProjZ2DwIdeal.Mm

open Idealize.ShloMosaic Idealize.ShloMosaic.TcCoe Cert.InProjZ2DwIdeal Cert.InProjZ2DwIdeal.Gen
open Idealize.ShloMosaic.Pipeline (Dat)

variable (m : (ℓ : Loc nD τ sig) → Buf (Elt Ideal) ℓ) (c : Dev nD)

/-- The two operands. -/
def fst (i : Fin 2048) (j : Fin 2048) : EReal := m ((c : Thread nD τ).loc main_arg0) (ix2 i j)
def snd (i : Fin 2048) (j : Fin 1408) : EReal := m ((c : Thread nD τ).loc main_arg1) (ix2 i j)

/-- An entry of the result. -/
def prod (i : Fin 2048) (j : Fin 1408) : EReal := ∑ k : Fin 2048, fst m c k i * snd m c k j

theorem idxs : ∀ t : Fin cfg0.N, win0_0.index t = ![0, t.val / 1] ∧ win0_1.index t = ![0, t.val % 1]
    ∧ win0_2.index t = ![t.val / 1, t.val % 1] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S2048x1024 .bf16) (y : Vec Ideal S2048x1408 .bf16) (i : Fin 1024) (j : Fin 1408) :
    @Eq EReal (k0_pay1 x y (ix2 i j)) (∑ k : Fin 2048, x (ix2 k i) * y (ix2 k j)) := by
  unfold k0_pay1
  pointwise

theorem out_eq (x : Vec Ideal S2048x1024 .bf16) (y : Vec Ideal S2048x1408 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 1024) (h : 1024 * (t.val / 1) + i.val < 2048) :
    @Eq EReal (iblk m c 0 t (ix2 k i)) (fst m c k ⟨1024 * (t.val / 1) + i.val, h⟩) := by
  unfold fst
  blk_ext [iblk, V, idxs t]

theorem blk_b (t : Fin cfg0.N) (k : Fin 2048) (j : Fin 1408) (h : 1408 * (t.val % 1) + j.val < 1408) :
    @Eq EReal (iblk m c 1 t (ix2 k j)) (snd m c k ⟨1408 * (t.val % 1) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 2 := lt_of_lt_of_eq t.isLt N_0
  blk_simp
  rw [after0_2, out_eq, eq_ix2 y]
  have hy0 : (y 0).val < 1024 := (y 0).isLt
  have hy1 : (y 1).val < 1408 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c k a * snd m c k b) (Fin.ext ?_) (Fin.ext ?_)
  · refine Eq.trans (b := 1024 * (t.val / 1) + (y 0).val) rfl ?_
    blk_simp [idxs t]
    try omega
  · refine Eq.trans (b := 1408 * (t.val % 1) + (y 1).val) rfl ?_
    blk_simp [idxs t]
    try omega

end Cert.InProjZ2DwIdeal.Mm

namespace Cert.InProjZ2DwRefIdeal.Mm

open Idealize.ShloMosaic Idealize.ShloMosaic.TcCoe Cert.InProjZ2DwRefIdeal Cert.InProjZ2DwRefIdeal.Gen

theorem res_at (x : FVec Ideal S2048x2048 .bf16) (y : FVec Ideal S2048x1408 .bf16) (i : Fin 2048) (j : Fin 1408) :
    @Eq EReal ((truncf .bf16 (transpose S2048x1408 [1, 0] (Host.dotGeneral (F := Ideal) dot_S2048x1408_S2048x2048_S1408x2048_0_0_1_1_n_n none (extf .f32 y bitsLt_bf16_f32) (extf .f32 x bitsLt_bf16_f32)) transposes_S1408x2048_S2048x1408_1_0) bitsLt_bf16_f32) (ix2 i j))
      (∑ k : Fin 2048, x (ix2 k i) * y (ix2 k j)) := by
  pointwise
  exact Finset.sum_congr rfl fun t _ => mul_comm _ _

end Cert.InProjZ2DwRefIdeal.Mm

namespace Cert.InProjZ2Dw.Mm

open Idealize.ShloMosaic Idealize.ShloMosaic.TcCoe Idealize.SL.Sem

theorem frame : Cert.quiescent_InProjZ2Dw (hInProjZ2Dw := Cert.InProjZ2Dw.Gen.facts) := fun m ρ _ => Cert.InProjZ2Dw.Gen.frame m ρ

theorem frame_ideal : Cert.quiescent_InProjZ2DwIdeal (hInProjZ2DwIdeal := Cert.InProjZ2DwIdeal.Gen.facts) := fun m ρ _ =>
  Cert.InProjZ2DwIdeal.Gen.frame m ρ

theorem frame_ref : Cert.quiescent_InProjZ2DwRefIdeal (hInProjZ2DwRefIdeal := Cert.InProjZ2DwRefIdeal.Gen.facts) := fun m ρ _ =>
  (θ_run Cert.InProjZ2DwRefIdeal.defs _ _).mono
    (fun r h => ⟨fun c => (h c).2, sem_eq_zero_of_no_sems (by decide) r.2⟩) (Cert.InProjZ2DwRefIdeal.Value.run m ρ)

theorem algebraic : Cert.algebraic_InProjZ2DwIdeal_InProjZ2DwRefIdeal (hInProjZ2DwIdeal := Cert.InProjZ2DwIdeal.Gen.facts)
    (hInProjZ2DwRefIdeal := Cert.InProjZ2DwRefIdeal.Gen.facts) := by
  intro m g m' g' _ hagree
  refine ⟨fun c y => Cert.InProjZ2DwIdeal.Mm.prod m c (y 0) (y 1),
    (θ_run Cert.InProjZ2DwIdeal.defs _ _).mono (fun r h c => ⟨(h c).1.trans (Cert.InProjZ2DwIdeal.Mm.arr m c), (h c).2⟩)
      (Cert.InProjZ2DwIdeal.Value.run_blocks m g),
    (θ_run Cert.InProjZ2DwRefIdeal.defs _ _).mono (fun r h c => ⟨(h c).1.trans ?_, (h c).2⟩) (Cert.InProjZ2DwRefIdeal.Value.run m' g')⟩
  obtain ⟨h0, h1⟩ := hagree c
  funext y
  rw [eq_ix2 y]
  refine (Cert.InProjZ2DwRefIdeal.Mm.res_at _ _ (y 0) (y 1)).trans ?_
  unfold Cert.InProjZ2DwIdeal.Mm.prod Cert.InProjZ2DwIdeal.Mm.fst Cert.InProjZ2DwIdeal.Mm.snd
  rw [h0, h1]
  rfl

end Cert.InProjZ2Dw.Mm

end
-- ==== Proof.Mm.QUp.lean ====
/- A product, `q_up`: the kernel's result array and the reference's result are the same sums. -/
module

public import proofs.«01_k».proof.Defs
public import proofs.«01_k».proof.Proof.Gen.QUp.Frame
public import proofs.«01_k».proof.Proof.Gen.QUpIdeal.Value
public import proofs.«01_k».proof.Proof.Gen.QUpRefIdeal.Run
public import Idealize.ShloMosaic.Lib.Pipeline.ValueKit
public import Idealize.ShloMosaic.Lib.Quiescent

@[expose] public section

set_option maxRecDepth 16384

noncomputable section

namespace Cert.QUpIdeal.Mm

open Idealize.ShloMosaic Idealize.ShloMosaic.TcCoe Cert.QUpIdeal Cert.QUpIdeal.Gen
open Idealize.ShloMosaic.Pipeline (Dat)

variable (m : (ℓ : Loc nD τ sig) → Buf (Elt Ideal) ℓ) (c : Dev nD)

/-- The two operands. -/
def fst (i : Fin 2048) (j : Fin 768) : EReal := m ((c : Thread nD τ).loc main_arg0) (ix2 i j)
def snd (i : Fin 768) (j : Fin 1536) : EReal := m ((c : Thread nD τ).loc main_arg1) (ix2 i j)

/-- An entry of the result. -/
def prod (i : Fin 2048) (j : Fin 1536) : EReal := ∑ k : Fin 768, fst m c i k * snd m c k j

theorem idxs : ∀ t : Fin cfg0.N, win0_0.index t = ![t.val / 1, 0] ∧ win0_1.index t = ![0, t.val % 1]
    ∧ win0_2.index t = ![t.val / 1, t.val % 1] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S1024x768 .bf16) (y : Vec Ideal S768x1536 .bf16) (i : Fin 1024) (j : Fin 1536) :
    @Eq EReal (k0_pay1 x y (ix2 i j)) (∑ k : Fin 768, x (ix2 i k) * y (ix2 k j)) := by
  unfold k0_pay1
  pointwise

theorem out_eq (x : Vec Ideal S1024x768 .bf16) (y : Vec Ideal S768x1536 .bf16) : out0_2 x y = k0_pay1 x y := by
  unfold out0_2
  refine (View.canon_unit_zero zero2 _ _).trans ?_
  rw [View.ld_unit_zero zero2, View.ld_unit_zero zero2]

theorem blk_a (t : Fin cfg0.N) (k : Fin 768) (i : Fin 1024) (h : 1024 * (t.val / 1) + i.val < 2048) :
    @Eq EReal (iblk m c 0 t (ix2 i k)) (fst m c ⟨1024 * (t.val / 1) + i.val, h⟩ k) := by
  unfold fst
  blk_ext [iblk, V, idxs t]

theorem blk_b (t : Fin cfg0.N) (k : Fin 768) (j : Fin 1536) (h : 1536 * (t.val % 1) + j.val < 1536) :
    @Eq EReal (iblk m c 1 t (ix2 k j)) (snd m c k ⟨1536 * (t.val % 1) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 2 := lt_of_lt_of_eq t.isLt N_0
  blk_simp
  rw [after0_2, out_eq, eq_ix2 y]
  have hy0 : (y 0).val < 1024 := (y 0).isLt
  have hy1 : (y 1).val < 1536 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c a k * snd m c k b) (Fin.ext ?_) (Fin.ext ?_)
  · refine Eq.trans (b := 1024 * (t.val / 1) + (y 0).val) rfl ?_
    blk_simp [idxs t]
    try omega
  · refine Eq.trans (b := 1536 * (t.val % 1) + (y 1).val) rfl ?_
    blk_simp [idxs t]
    try omega

end Cert.QUpIdeal.Mm

namespace Cert.QUpRefIdeal.Mm

open Idealize.ShloMosaic Idealize.ShloMosaic.TcCoe Cert.QUpRefIdeal Cert.QUpRefIdeal.Gen

theorem res_at (x : FVec Ideal S2048x768 .bf16) (y : FVec Ideal S768x1536 .bf16) (i : Fin 2048) (j : Fin 1536) :
    @Eq EReal ((truncf .bf16 (Host.dotGeneral (F := Ideal) dot_S2048x768_S768x1536_S2048x1536_1_0_0_1_n_n none (extf .f32 x bitsLt_bf16_f32) (extf .f32 y bitsLt_bf16_f32)) bitsLt_bf16_f32) (ix2 i j))
      (∑ k : Fin 768, x (ix2 i k) * y (ix2 k j)) := by
  pointwise

end Cert.QUpRefIdeal.Mm

namespace Cert.QUp.Mm

open Idealize.ShloMosaic Idealize.ShloMosaic.TcCoe Idealize.SL.Sem

theorem frame : Cert.quiescent_QUp (hQUp := Cert.QUp.Gen.facts) := fun m ρ _ => Cert.QUp.Gen.frame m ρ

theorem frame_ideal : Cert.quiescent_QUpIdeal (hQUpIdeal := Cert.QUpIdeal.Gen.facts) := fun m ρ _ =>
  Cert.QUpIdeal.Gen.frame m ρ

theorem frame_ref : Cert.quiescent_QUpRefIdeal (hQUpRefIdeal := Cert.QUpRefIdeal.Gen.facts) := fun m ρ _ =>
  (θ_run Cert.QUpRefIdeal.defs _ _).mono
    (fun r h => ⟨fun c => (h c).2, sem_eq_zero_of_no_sems (by decide) r.2⟩) (Cert.QUpRefIdeal.Value.run m ρ)

theorem algebraic : Cert.algebraic_QUpIdeal_QUpRefIdeal (hQUpIdeal := Cert.QUpIdeal.Gen.facts)
    (hQUpRefIdeal := Cert.QUpRefIdeal.Gen.facts) := by
  intro m g m' g' _ hagree
  refine ⟨fun c y => Cert.QUpIdeal.Mm.prod m c (y 0) (y 1),
    (θ_run Cert.QUpIdeal.defs _ _).mono (fun r h c => ⟨(h c).1.trans (Cert.QUpIdeal.Mm.arr m c), (h c).2⟩)
      (Cert.QUpIdeal.Value.run_blocks m g),
    (θ_run Cert.QUpRefIdeal.defs _ _).mono (fun r h c => ⟨(h c).1.trans ?_, (h c).2⟩) (Cert.QUpRefIdeal.Value.run m' g')⟩
  obtain ⟨h0, h1⟩ := hagree c
  funext y
  rw [eq_ix2 y]
  refine (Cert.QUpRefIdeal.Mm.res_at _ _ (y 0) (y 1)).trans ?_
  unfold Cert.QUpIdeal.Mm.prod Cert.QUpIdeal.Mm.fst Cert.QUpIdeal.Mm.snd
  rw [h0, h1]
  rfl

end Cert.QUp.Mm

end
-- ==== Proof.Mm.QUpDx.lean ====
/- A product's input gradient, `q_up_dx`: the kernel's result array and the reference's result are the same sums. -/
module

public import proofs.«01_k».proof.Defs
public import proofs.«01_k».proof.Proof.Gen.QUpDx.Frame
public import proofs.«01_k».proof.Proof.Gen.QUpDxIdeal.Value
public import proofs.«01_k».proof.Proof.Gen.QUpDxRefIdeal.Run
public import Idealize.ShloMosaic.Lib.Pipeline.ValueKit
public import Idealize.ShloMosaic.Lib.Quiescent

@[expose] public section

set_option maxRecDepth 16384

noncomputable section

namespace Cert.QUpDxIdeal.Mm

open Idealize.ShloMosaic Idealize.ShloMosaic.TcCoe Cert.QUpDxIdeal Cert.QUpDxIdeal.Gen
open Idealize.ShloMosaic.Pipeline (Dat)

variable (m : (ℓ : Loc nD τ sig) → Buf (Elt Ideal) ℓ) (c : Dev nD)

/-- The two operands. -/
def fst (i : Fin 2048) (j : Fin 1536) : EReal := m ((c : Thread nD τ).loc main_arg0) (ix2 i j)
def snd (i : Fin 768) (j : Fin 1536) : EReal := m ((c : Thread nD τ).loc main_arg1) (ix2 i j)

/-- An entry of the result. -/
def prod (i : Fin 2048) (j : Fin 768) : EReal := ∑ k : Fin 1536, fst m c i k * snd m c j k

theorem idxs : ∀ t : Fin cfg0.N, win0_0.index t = ![t.val / 1, 0] ∧ win0_1.index t = ![t.val % 1, 0]
    ∧ win0_2.index t = ![t.val / 1, t.val % 1] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S1024x1536 .bf16) (y : Vec Ideal S768x1536 .bf16) (i : Fin 1024) (j : Fin 768) :
    @Eq EReal (k0_pay1 x y (ix2 i j)) (∑ k : Fin 1536, x (ix2 i k) * y (ix2 j k)) := by
  unfold k0_pay1
  pointwise

theorem out_eq (x : Vec Ideal S1024x1536 .bf16) (y : Vec Ideal S768x1536 .bf16) : out0_2 x y = k0_pay1 x y := by
  unfold out0_2
  refine (View.canon_unit_zero zero2 _ _).trans ?_
  rw [View.ld_unit_zero zero2, View.ld_unit_zero zero2]

theorem blk_a (t : Fin cfg0.N) (k : Fin 1536) (i : Fin 1024) (h : 1024 * (t.val / 1) + i.val < 2048) :
    @Eq EReal (iblk m c 0 t (ix2 i k)) (fst m c ⟨1024 * (t.val / 1) + i.val, h⟩ k) := by
  unfold fst
  blk_ext [iblk, V, idxs t]

theorem blk_b (t : Fin cfg0.N) (k : Fin 1536) (j : Fin 768) (h : 768 * (t.val % 1) + j.val < 768) :
    @Eq EReal (iblk m c 1 t (ix2 j k)) (snd m c ⟨768 * (t.val % 1) + j.val, h⟩ k) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 2 := lt_of_lt_of_eq t.isLt N_0
  blk_simp
  rw [after0_2, out_eq, eq_ix2 y]
  have hy0 : (y 0).val < 1024 := (y 0).isLt
  have hy1 : (y 1).val < 768 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c a k * snd m c b k) (Fin.ext ?_) (Fin.ext ?_)
  · refine Eq.trans (b := 1024 * (t.val / 1) + (y 0).val) rfl ?_
    blk_simp [idxs t]
    try omega
  · refine Eq.trans (b := 768 * (t.val % 1) + (y 1).val) rfl ?_
    blk_simp [idxs t]
    try omega

end Cert.QUpDxIdeal.Mm

namespace Cert.QUpDxRefIdeal.Mm

open Idealize.ShloMosaic Idealize.ShloMosaic.TcCoe Cert.QUpDxRefIdeal Cert.QUpDxRefIdeal.Gen

theorem res_at (x : FVec Ideal S2048x1536 .bf16) (y : FVec Ideal S768x1536 .bf16) (i : Fin 2048) (j : Fin 768) :
    @Eq EReal ((truncf .bf16 (Host.dotGeneral (F := Ideal) dot_S2048x1536_S768x1536_S2048x768_1_1_0_0_n_n none (extf .f32 x bitsLt_bf16_f32) (extf .f32 y bitsLt_bf16_f32)) bitsLt_bf16_f32) (ix2 i j))
      (∑ k : Fin 1536, x (ix2 i k) * y (ix2 j k)) := by
  pointwise

end Cert.QUpDxRefIdeal.Mm

namespace Cert.QUpDx.Mm

open Idealize.ShloMosaic Idealize.ShloMosaic.TcCoe Idealize.SL.Sem

theorem frame : Cert.quiescent_QUpDx (hQUpDx := Cert.QUpDx.Gen.facts) := fun m ρ _ => Cert.QUpDx.Gen.frame m ρ

theorem frame_ideal : Cert.quiescent_QUpDxIdeal (hQUpDxIdeal := Cert.QUpDxIdeal.Gen.facts) := fun m ρ _ =>
  Cert.QUpDxIdeal.Gen.frame m ρ

theorem frame_ref : Cert.quiescent_QUpDxRefIdeal (hQUpDxRefIdeal := Cert.QUpDxRefIdeal.Gen.facts) := fun m ρ _ =>
  (θ_run Cert.QUpDxRefIdeal.defs _ _).mono
    (fun r h => ⟨fun c => (h c).2, sem_eq_zero_of_no_sems (by decide) r.2⟩) (Cert.QUpDxRefIdeal.Value.run m ρ)

theorem algebraic : Cert.algebraic_QUpDxIdeal_QUpDxRefIdeal (hQUpDxIdeal := Cert.QUpDxIdeal.Gen.facts)
    (hQUpDxRefIdeal := Cert.QUpDxRefIdeal.Gen.facts) := by
  intro m g m' g' _ hagree
  refine ⟨fun c y => Cert.QUpDxIdeal.Mm.prod m c (y 0) (y 1),
    (θ_run Cert.QUpDxIdeal.defs _ _).mono (fun r h c => ⟨(h c).1.trans (Cert.QUpDxIdeal.Mm.arr m c), (h c).2⟩)
      (Cert.QUpDxIdeal.Value.run_blocks m g),
    (θ_run Cert.QUpDxRefIdeal.defs _ _).mono (fun r h c => ⟨(h c).1.trans ?_, (h c).2⟩) (Cert.QUpDxRefIdeal.Value.run m' g')⟩
  obtain ⟨h0, h1⟩ := hagree c
  funext y
  rw [eq_ix2 y]
  refine (Cert.QUpDxRefIdeal.Mm.res_at _ _ (y 0) (y 1)).trans ?_
  unfold Cert.QUpDxIdeal.Mm.prod Cert.QUpDxIdeal.Mm.fst Cert.QUpDxIdeal.Mm.snd
  rw [h0, h1]
  rfl

end Cert.QUpDx.Mm

end
-- ==== Proof.Mm.QUpDw.lean ====
/- A product's weight gradient, `q_up_dw`: the kernel's result array and the reference's result are the same sums. -/
module

public import proofs.«01_k».proof.Defs
public import proofs.«01_k».proof.Proof.Gen.QUpDw.Frame
public import proofs.«01_k».proof.Proof.Gen.QUpDwIdeal.Value
public import proofs.«01_k».proof.Proof.Gen.QUpDwRefIdeal.Run
public import Idealize.ShloMosaic.Lib.Pipeline.ValueKit
public import Idealize.ShloMosaic.Lib.Quiescent

@[expose] public section

set_option maxRecDepth 16384

noncomputable section

namespace Cert.QUpDwIdeal.Mm

open Idealize.ShloMosaic Idealize.ShloMosaic.TcCoe Cert.QUpDwIdeal Cert.QUpDwIdeal.Gen
open Idealize.ShloMosaic.Pipeline (Dat)

variable (m : (ℓ : Loc nD τ sig) → Buf (Elt Ideal) ℓ) (c : Dev nD)

/-- The two operands. -/
def fst (i : Fin 2048) (j : Fin 768) : EReal := m ((c : Thread nD τ).loc main_arg0) (ix2 i j)
def snd (i : Fin 2048) (j : Fin 1536) : EReal := m ((c : Thread nD τ).loc main_arg1) (ix2 i j)

/-- An entry of the result. -/
def prod (i : Fin 768) (j : Fin 1536) : EReal := ∑ k : Fin 2048, fst m c k i * snd m c k j

theorem idxs : ∀ t : Fin cfg0.N, win0_0.index t = ![0, t.val / 1] ∧ win0_1.index t = ![0, t.val % 1]
    ∧ win0_2.index t = ![t.val / 1, t.val % 1] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S2048x768 .bf16) (y : Vec Ideal S2048x1536 .bf16) (i : Fin 768) (j : Fin 1536) :
    @Eq EReal (k0_pay1 x y (ix2 i j)) (∑ k : Fin 2048, x (ix2 k i) * y (ix2 k j)) := by
  unfold k0_pay1
  pointwise

theorem out_eq (x : Vec Ideal S2048x768 .bf16) (y : Vec Ideal S2048x1536 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 768) (h : 768 * (t.val / 1) + i.val < 768) :
    @Eq EReal (iblk m c 0 t (ix2 k i)) (fst m c k ⟨768 * (t.val / 1) + i.val, h⟩) := by
  unfold fst
  blk_ext [iblk, V, idxs t]

theorem blk_b (t : Fin cfg0.N) (k : Fin 2048) (j : Fin 1536) (h : 1536 * (t.val % 1) + j.val < 1536) :
    @Eq EReal (iblk m c 1 t (ix2 k j)) (snd m c k ⟨1536 * (t.val % 1) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 1 := lt_of_lt_of_eq t.isLt N_0
  blk_simp
  rw [after0_2, out_eq, eq_ix2 y]
  have hy0 : (y 0).val < 768 := (y 0).isLt
  have hy1 : (y 1).val < 1536 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c k a * snd m c k b) (Fin.ext ?_) (Fin.ext ?_)
  · refine Eq.trans (b := 768 * (t.val / 1) + (y 0).val) rfl ?_
    blk_simp [idxs t]
    try omega
  · refine Eq.trans (b := 1536 * (t.val % 1) + (y 1).val) rfl ?_
    blk_simp [idxs t]
    try omega

end Cert.QUpDwIdeal.Mm

namespace Cert.QUpDwRefIdeal.Mm

open Idealize.ShloMosaic Idealize.ShloMosaic.TcCoe Cert.QUpDwRefIdeal Cert.QUpDwRefIdeal.Gen

theorem res_at (x : FVec Ideal S2048x768 .bf16) (y : FVec Ideal S2048x1536 .bf16) (i : Fin 768) (j : Fin 1536) :
    @Eq EReal ((truncf .bf16 (transpose S768x1536 [1, 0] (Host.dotGeneral (F := Ideal) dot_S2048x1536_S2048x768_S1536x768_0_0_1_1_n_n none (extf .f32 y bitsLt_bf16_f32) (extf .f32 x bitsLt_bf16_f32)) transposes_S1536x768_S768x1536_1_0) bitsLt_bf16_f32) (ix2 i j))
      (∑ k : Fin 2048, x (ix2 k i) * y (ix2 k j)) := by
  pointwise
  exact Finset.sum_congr rfl fun t _ => mul_comm _ _

end Cert.QUpDwRefIdeal.Mm

namespace Cert.QUpDw.Mm

open Idealize.ShloMosaic Idealize.ShloMosaic.TcCoe Idealize.SL.Sem

theorem frame : Cert.quiescent_QUpDw (hQUpDw := Cert.QUpDw.Gen.facts) := fun m ρ _ => Cert.QUpDw.Gen.frame m ρ

theorem frame_ideal : Cert.quiescent_QUpDwIdeal (hQUpDwIdeal := Cert.QUpDwIdeal.Gen.facts) := fun m ρ _ =>
  Cert.QUpDwIdeal.Gen.frame m ρ

theorem frame_ref : Cert.quiescent_QUpDwRefIdeal (hQUpDwRefIdeal := Cert.QUpDwRefIdeal.Gen.facts) := fun m ρ _ =>
  (θ_run Cert.QUpDwRefIdeal.defs _ _).mono
    (fun r h => ⟨fun c => (h c).2, sem_eq_zero_of_no_sems (by decide) r.2⟩) (Cert.QUpDwRefIdeal.Value.run m ρ)

theorem algebraic : Cert.algebraic_QUpDwIdeal_QUpDwRefIdeal (hQUpDwIdeal := Cert.QUpDwIdeal.Gen.facts)
    (hQUpDwRefIdeal := Cert.QUpDwRefIdeal.Gen.facts) := by
  intro m g m' g' _ hagree
  refine ⟨fun c y => Cert.QUpDwIdeal.Mm.prod m c (y 0) (y 1),
    (θ_run Cert.QUpDwIdeal.defs _ _).mono (fun r h c => ⟨(h c).1.trans (Cert.QUpDwIdeal.Mm.arr m c), (h c).2⟩)
      (Cert.QUpDwIdeal.Value.run_blocks m g),
    (θ_run Cert.QUpDwRefIdeal.defs _ _).mono (fun r h c => ⟨(h c).1.trans ?_, (h c).2⟩) (Cert.QUpDwRefIdeal.Value.run m' g')⟩
  obtain ⟨h0, h1⟩ := hagree c
  funext y
  rw [eq_ix2 y]
  refine (Cert.QUpDwRefIdeal.Mm.res_at _ _ (y 0) (y 1)).trans ?_
  unfold Cert.QUpDwIdeal.Mm.prod Cert.QUpDwIdeal.Mm.fst Cert.QUpDwIdeal.Mm.snd
  rw [h0, h1]
  rfl

end Cert.QUpDw.Mm

end
-- ==== Proof.Mm.KvUp.lean ====
/- A product, `kv_up`: the kernel's result array and the reference's result are the same sums. -/
module

public import proofs.«01_k».proof.Defs
public import proofs.«01_k».proof.Proof.Gen.KvUp.Frame
public import proofs.«01_k».proof.Proof.Gen.KvUpIdeal.Value
public import proofs.«01_k».proof.Proof.Gen.KvUpRefIdeal.Run
public import Idealize.ShloMosaic.Lib.Pipeline.ValueKit
public import Idealize.ShloMosaic.Lib.Quiescent

@[expose] public section

set_option maxRecDepth 16384

noncomputable section

namespace Cert.KvUpIdeal.Mm

open Idealize.ShloMosaic Idealize.ShloMosaic.TcCoe Cert.KvUpIdeal Cert.KvUpIdeal.Gen
open Idealize.ShloMosaic.Pipeline (Dat)

variable (m : (ℓ : Loc nD τ sig) → Buf (Elt Ideal) ℓ) (c : Dev nD)

/-- The two operands. -/
def fst (i : Fin 2048) (j : Fin 512) : EReal := m ((c : Thread nD τ).loc main_arg0) (ix2 i j)
def snd (i : Fin 512) (j : Fin 2048) : EReal := m ((c : Thread nD τ).loc main_arg1) (ix2 i j)

/-- An entry of the result. -/
def prod (i : Fin 2048) (j : Fin 2048) : EReal := ∑ k : Fin 512, fst m c i k * snd m c k j

theorem idxs : ∀ t : Fin cfg0.N, win0_0.index t = ![t.val / 2, 0] ∧ win0_1.index t = ![0, t.val % 2]
    ∧ win0_2.index t = ![t.val / 2, t.val % 2] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S1024x512 .bf16) (y : Vec Ideal S512x1024 .bf16) (i : Fin 1024) (j : Fin 1024) :
    @Eq EReal (k0_pay1 x y (ix2 i j)) (∑ k : Fin 512, x (ix2 i k) * y (ix2 k j)) := by
  unfold k0_pay1
  pointwise

theorem out_eq (x : Vec Ideal S1024x512 .bf16) (y : Vec Ideal S512x1024 .bf16) : out0_2 x y = k0_pay1 x y := by
  unfold out0_2
  refine (View.canon_unit_zero zero2 _ _).trans ?_
  rw [View.ld_unit_zero zero2, View.ld_unit_zero zero2]

theorem blk_a (t : Fin cfg0.N) (k : Fin 512) (i : Fin 1024) (h : 1024 * (t.val / 2) + i.val < 2048) :
    @Eq EReal (iblk m c 0 t (ix2 i k)) (fst m c ⟨1024 * (t.val / 2) + i.val, h⟩ k) := by
  unfold fst
  blk_ext [iblk, V, idxs t]

theorem blk_b (t : Fin cfg0.N) (k : Fin 512) (j : Fin 1024) (h : 1024 * (t.val % 2) + j.val < 2048) :
    @Eq EReal (iblk m c 1 t (ix2 k j)) (snd m c k ⟨1024 * (t.val % 2) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 4 := lt_of_lt_of_eq t.isLt N_0
  blk_simp
  rw [after0_2, out_eq, eq_ix2 y]
  have hy0 : (y 0).val < 1024 := (y 0).isLt
  have hy1 : (y 1).val < 1024 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c a k * snd m c k b) (Fin.ext ?_) (Fin.ext ?_)
  · refine Eq.trans (b := 1024 * (t.val / 2) + (y 0).val) rfl ?_
    blk_simp [idxs t]
    try omega
  · refine Eq.trans (b := 1024 * (t.val % 2) + (y 1).val) rfl ?_
    blk_simp [idxs t]
    try omega

end Cert.KvUpIdeal.Mm

namespace Cert.KvUpRefIdeal.Mm

open Idealize.ShloMosaic Idealize.ShloMosaic.TcCoe Cert.KvUpRefIdeal Cert.KvUpRefIdeal.Gen

theorem res_at (x : FVec Ideal S2048x512 .bf16) (y : FVec Ideal S512x2048 .bf16) (i : Fin 2048) (j : Fin 2048) :
    @Eq EReal ((truncf .bf16 (Host.dotGeneral (F := Ideal) dot_S2048x512_S512x2048_S2048x2048_1_0_0_1_n_n none (extf .f32 x bitsLt_bf16_f32) (extf .f32 y bitsLt_bf16_f32)) bitsLt_bf16_f32) (ix2 i j))
      (∑ k : Fin 512, x (ix2 i k) * y (ix2 k j)) := by
  pointwise

end Cert.KvUpRefIdeal.Mm

namespace Cert.KvUp.Mm

open Idealize.ShloMosaic Idealize.ShloMosaic.TcCoe Idealize.SL.Sem

theorem frame : Cert.quiescent_KvUp (hKvUp := Cert.KvUp.Gen.facts) := fun m ρ _ => Cert.KvUp.Gen.frame m ρ

theorem frame_ideal : Cert.quiescent_KvUpIdeal (hKvUpIdeal := Cert.KvUpIdeal.Gen.facts) := fun m ρ _ =>
  Cert.KvUpIdeal.Gen.frame m ρ

theorem frame_ref : Cert.quiescent_KvUpRefIdeal (hKvUpRefIdeal := Cert.KvUpRefIdeal.Gen.facts) := fun m ρ _ =>
  (θ_run Cert.KvUpRefIdeal.defs _ _).mono
    (fun r h => ⟨fun c => (h c).2, sem_eq_zero_of_no_sems (by decide) r.2⟩) (Cert.KvUpRefIdeal.Value.run m ρ)

theorem algebraic : Cert.algebraic_KvUpIdeal_KvUpRefIdeal (hKvUpIdeal := Cert.KvUpIdeal.Gen.facts)
    (hKvUpRefIdeal := Cert.KvUpRefIdeal.Gen.facts) := by
  intro m g m' g' _ hagree
  refine ⟨fun c y => Cert.KvUpIdeal.Mm.prod m c (y 0) (y 1),
    (θ_run Cert.KvUpIdeal.defs _ _).mono (fun r h c => ⟨(h c).1.trans (Cert.KvUpIdeal.Mm.arr m c), (h c).2⟩)
      (Cert.KvUpIdeal.Value.run_blocks m g),
    (θ_run Cert.KvUpRefIdeal.defs _ _).mono (fun r h c => ⟨(h c).1.trans ?_, (h c).2⟩) (Cert.KvUpRefIdeal.Value.run m' g')⟩
  obtain ⟨h0, h1⟩ := hagree c
  funext y
  rw [eq_ix2 y]
  refine (Cert.KvUpRefIdeal.Mm.res_at _ _ (y 0) (y 1)).trans ?_
  unfold Cert.KvUpIdeal.Mm.prod Cert.KvUpIdeal.Mm.fst Cert.KvUpIdeal.Mm.snd
  rw [h0, h1]
  rfl

end Cert.KvUp.Mm

end
-- ==== Proof.Mm.KvUpDx.lean ====
/- A product's input gradient, `kv_up_dx`: the kernel's result array and the reference's result are the same sums. -/
module

public import proofs.«01_k».proof.Defs
public import proofs.«01_k».proof.Proof.Gen.KvUpDx.Frame
public import proofs.«01_k».proof.Proof.Gen.KvUpDxIdeal.Value
public import proofs.«01_k».proof.Proof.Gen.KvUpDxRefIdeal.Run
public import Idealize.ShloMosaic.Lib.Pipeline.ValueKit
public import Idealize.ShloMosaic.Lib.Quiescent

@[expose] public section

set_option maxRecDepth 16384

noncomputable section

namespace Cert.KvUpDxIdeal.Mm

open Idealize.ShloMosaic Idealize.ShloMosaic.TcCoe Cert.KvUpDxIdeal Cert.KvUpDxIdeal.Gen
open Idealize.ShloMosaic.Pipeline (Dat)

variable (m : (ℓ : Loc nD τ sig) → Buf (Elt Ideal) ℓ) (c : Dev nD)

/-- The two operands. -/
def fst (i : Fin 2048) (j : Fin 2048) : EReal := m ((c : Thread nD τ).loc main_arg0) (ix2 i j)
def snd (i : Fin 512) (j : Fin 2048) : EReal := m ((c : Thread nD τ).loc main_arg1) (ix2 i j)

/-- An entry of the result. -/
def prod (i : Fin 2048) (j : Fin 512) : EReal := ∑ k : Fin 2048, fst m c i k * snd m c j k

theorem idxs : ∀ t : Fin cfg0.N, win0_0.index t = ![t.val / 1, 0] ∧ win0_1.index t = ![t.val % 1, 0]
    ∧ win0_2.index t = ![t.val / 1, t.val % 1] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S1024x2048 .bf16) (y : Vec Ideal S512x2048 .bf16) (i : Fin 1024) (j : Fin 512) :
    @Eq EReal (k0_pay1 x y (ix2 i j)) (∑ k : Fin 2048, x (ix2 i k) * y (ix2 j k)) := by
  unfold k0_pay1
  pointwise

theorem out_eq (x : Vec Ideal S1024x2048 .bf16) (y : Vec Ideal S512x2048 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 1024) (h : 1024 * (t.val / 1) + i.val < 2048) :
    @Eq EReal (iblk m c 0 t (ix2 i k)) (fst m c ⟨1024 * (t.val / 1) + i.val, h⟩ k) := by
  unfold fst
  blk_ext [iblk, V, idxs t]

theorem blk_b (t : Fin cfg0.N) (k : Fin 2048) (j : Fin 512) (h : 512 * (t.val % 1) + j.val < 512) :
    @Eq EReal (iblk m c 1 t (ix2 j k)) (snd m c ⟨512 * (t.val % 1) + j.val, h⟩ k) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 2 := lt_of_lt_of_eq t.isLt N_0
  blk_simp
  rw [after0_2, out_eq, eq_ix2 y]
  have hy0 : (y 0).val < 1024 := (y 0).isLt
  have hy1 : (y 1).val < 512 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c a k * snd m c b k) (Fin.ext ?_) (Fin.ext ?_)
  · refine Eq.trans (b := 1024 * (t.val / 1) + (y 0).val) rfl ?_
    blk_simp [idxs t]
    try omega
  · refine Eq.trans (b := 512 * (t.val % 1) + (y 1).val) rfl ?_
    blk_simp [idxs t]
    try omega

end Cert.KvUpDxIdeal.Mm

namespace Cert.KvUpDxRefIdeal.Mm

open Idealize.ShloMosaic Idealize.ShloMosaic.TcCoe Cert.KvUpDxRefIdeal Cert.KvUpDxRefIdeal.Gen

theorem res_at (x : FVec Ideal S2048x2048 .bf16) (y : FVec Ideal S512x2048 .bf16) (i : Fin 2048) (j : Fin 512) :
    @Eq EReal ((truncf .bf16 (Host.dotGeneral (F := Ideal) dot_S2048x2048_S512x2048_S2048x512_1_1_0_0_n_n none (extf .f32 x bitsLt_bf16_f32) (extf .f32 y bitsLt_bf16_f32)) bitsLt_bf16_f32) (ix2 i j))
      (∑ k : Fin 2048, x (ix2 i k) * y (ix2 j k)) := by
  pointwise

end Cert.KvUpDxRefIdeal.Mm

namespace Cert.KvUpDx.Mm

open Idealize.ShloMosaic Idealize.ShloMosaic.TcCoe Idealize.SL.Sem

theorem frame : Cert.quiescent_KvUpDx (hKvUpDx := Cert.KvUpDx.Gen.facts) := fun m ρ _ => Cert.KvUpDx.Gen.frame m ρ

theorem frame_ideal : Cert.quiescent_KvUpDxIdeal (hKvUpDxIdeal := Cert.KvUpDxIdeal.Gen.facts) := fun m ρ _ =>
  Cert.KvUpDxIdeal.Gen.frame m ρ

theorem frame_ref : Cert.quiescent_KvUpDxRefIdeal (hKvUpDxRefIdeal := Cert.KvUpDxRefIdeal.Gen.facts) := fun m ρ _ =>
  (θ_run Cert.KvUpDxRefIdeal.defs _ _).mono
    (fun r h => ⟨fun c => (h c).2, sem_eq_zero_of_no_sems (by decide) r.2⟩) (Cert.KvUpDxRefIdeal.Value.run m ρ)

theorem algebraic : Cert.algebraic_KvUpDxIdeal_KvUpDxRefIdeal (hKvUpDxIdeal := Cert.KvUpDxIdeal.Gen.facts)
    (hKvUpDxRefIdeal := Cert.KvUpDxRefIdeal.Gen.facts) := by
  intro m g m' g' _ hagree
  refine ⟨fun c y => Cert.KvUpDxIdeal.Mm.prod m c (y 0) (y 1),
    (θ_run Cert.KvUpDxIdeal.defs _ _).mono (fun r h c => ⟨(h c).1.trans (Cert.KvUpDxIdeal.Mm.arr m c), (h c).2⟩)
      (Cert.KvUpDxIdeal.Value.run_blocks m g),
    (θ_run Cert.KvUpDxRefIdeal.defs _ _).mono (fun r h c => ⟨(h c).1.trans ?_, (h c).2⟩) (Cert.KvUpDxRefIdeal.Value.run m' g')⟩
  obtain ⟨h0, h1⟩ := hagree c
  funext y
  rw [eq_ix2 y]
  refine (Cert.KvUpDxRefIdeal.Mm.res_at _ _ (y 0) (y 1)).trans ?_
  unfold Cert.KvUpDxIdeal.Mm.prod Cert.KvUpDxIdeal.Mm.fst Cert.KvUpDxIdeal.Mm.snd
  rw [h0, h1]
  rfl

end Cert.KvUpDx.Mm

end
-- ==== Proof.Mm.KvUpDw.lean ====
/- A product's weight gradient, `kv_up_dw`: the kernel's result array and the reference's result are the same sums. -/
module

public import proofs.«01_k».proof.Defs
public import proofs.«01_k».proof.Proof.Gen.KvUpDw.Frame
public import proofs.«01_k».proof.Proof.Gen.KvUpDwIdeal.Value
public import proofs.«01_k».proof.Proof.Gen.KvUpDwRefIdeal.Run
public import Idealize.ShloMosaic.Lib.Pipeline.ValueKit
public import Idealize.ShloMosaic.Lib.Quiescent

@[expose] public section

set_option maxRecDepth 16384

noncomputable section

namespace Cert.KvUpDwIdeal.Mm

open Idealize.ShloMosaic Idealize.ShloMosaic.TcCoe Cert.KvUpDwIdeal Cert.KvUpDwIdeal.Gen
open Idealize.ShloMosaic.Pipeline (Dat)

variable (m : (ℓ : Loc nD τ sig) → Buf (Elt Ideal) ℓ) (c : Dev nD)

/-- The two operands. -/
def fst (i : Fin 2048) (j : Fin 512) : EReal := m ((c : Thread nD τ).loc main_arg0) (ix2 i j)
def snd (i : Fin 2048) (j : Fin 2048) : EReal := m ((c : Thread nD τ).loc main_arg1) (ix2 i j)

/-- An entry of the result. -/
def prod (i : Fin 512) (j : Fin 2048) : EReal := ∑ k : Fin 2048, fst m c k i * snd m c k j

theorem idxs : ∀ t : Fin cfg0.N, win0_0.index t = ![0, t.val / 2] ∧ win0_1.index t = ![0, t.val % 2]
    ∧ win0_2.index t = ![t.val / 2, t.val % 2] :=
  (by decide +kernel : ∀ t : Fin grid0.N, _)

theorem zero2 : (![0, 0] : Fin 2 → Nat) = fun _ => 0 := by
  funext a
  rcases a with ⟨_ | _ | n, h⟩
  · rfl
  · rfl
  · omega

theorem pay_at (x : Vec Ideal S2048x512 .bf16) (y : Vec Ideal S2048x1024 .bf16) (i : Fin 512) (j : Fin 1024) :
    @Eq EReal (k0_pay1 x y (ix2 i j)) (∑ k : Fin 2048, x (ix2 k i) * y (ix2 k j)) := by
  unfold k0_pay1
  pointwise

theorem out_eq (x : Vec Ideal S2048x512 .bf16) (y : Vec Ideal S2048x1024 .bf16) : out0_2 x y = k0_pay1 x y := by
  unfold out0_2
  refine (View.canon_unit_zero zero2 _ _).trans ?_
  rw [View.ld_unit_zero zero2, View.ld_unit_zero zero2]

theorem blk_a (t : Fin cfg0.N) (k : Fin 2048) (i : Fin 512) (h : 512 * (t.val / 2) + i.val < 512) :
    @Eq EReal (iblk m c 0 t (ix2 k i)) (fst m c k ⟨512 * (t.val / 2) + i.val, h⟩) := by
  unfold fst
  blk_ext [iblk, V, idxs t]

theorem blk_b (t : Fin cfg0.N) (k : Fin 2048) (j : Fin 1024) (h : 1024 * (t.val % 2) + j.val < 2048) :
    @Eq EReal (iblk m c 1 t (ix2 k j)) (snd m c k ⟨1024 * (t.val % 2) + j.val, h⟩) := by
  unfold snd
  blk_ext [iblk, V, idxs t]

theorem arr : (dats m 0 c).arrAt 2 (cfgs 0).N = fun y => prod m c (y 0) (y 1) := by
  refine (dats m 0 c).arrAt_eq_of_covers 2 _ (by decide +kernel) fun t _ y => ?_
  have ht : t.val < 2 := lt_of_lt_of_eq t.isLt N_0
  blk_simp
  rw [after0_2, out_eq, eq_ix2 y]
  have hy0 : (y 0).val < 512 := (y 0).isLt
  have hy1 : (y 1).val < 1024 := (y 1).isLt
  refine (pay_at _ _ (y 0) (y 1)).trans ?_
  unfold prod
  refine Finset.sum_congr rfl fun k _ => ?_
  rw [blk_a m c t k (y 0) (by omega), blk_b m c t k (y 1) (by omega)]
  refine congrArg₂ (fun a b => fst m c k a * snd m c k b) (Fin.ext ?_) (Fin.ext ?_)
  · refine Eq.trans (b := 512 * (t.val / 2) + (y 0).val) rfl ?_
    blk_simp [idxs t]
    try omega
  · refine Eq.trans (b := 1024 * (t.val % 2) + (y 1).val) rfl ?_
    blk_simp [idxs t]
    try omega

end Cert.KvUpDwIdeal.Mm

namespace Cert.KvUpDwRefIdeal.Mm

open Idealize.ShloMosaic Idealize.ShloMosaic.TcCoe Cert.KvUpDwRefIdeal Cert.KvUpDwRefIdeal.Gen

theorem res_at (x : FVec Ideal S2048x512 .bf16) (y : FVec Ideal S2048x2048 .bf16) (i : Fin 512) (j : Fin 2048) :
    @Eq EReal ((truncf .bf16 (transpose S512x2048 [1, 0] (Host.dotGeneral (F := Ideal) dot_S2048x2048_S2048x512_S2048x512_0_0_1_1_n_n none (extf .f32 y bitsLt_bf16_f32) (extf .f32 x bitsLt_bf16_f32)) transposes_S2048x512_S512x2048_1_0) bitsLt_bf16_f32) (ix2 i j))
      (∑ k : Fin 2048, x (ix2 k i) * y (ix2 k j)) := by
  pointwise
  exact Finset.sum_congr rfl fun t _ => mul_comm _ _

end Cert.KvUpDwRefIdeal.Mm

namespace Cert.KvUpDw.Mm

open Idealize.ShloMosaic Idealize.ShloMosaic.TcCoe Idealize.SL.Sem

theorem frame : Cert.quiescent_KvUpDw (hKvUpDw := Cert.KvUpDw.Gen.facts) := fun m ρ _ => Cert.KvUpDw.Gen.frame m ρ

theorem frame_ideal : Cert.quiescent_KvUpDwIdeal (hKvUpDwIdeal := Cert.KvUpDwIdeal.Gen.facts) := fun m ρ _ =>
  Cert.KvUpDwIdeal.Gen.frame m ρ

theorem frame_ref : Cert.quiescent_KvUpDwRefIdeal (hKvUpDwRefIdeal := Cert.KvUpDwRefIdeal.Gen.facts) := fun m ρ _ =>
  (θ_run Cert.KvUpDwRefIdeal.defs _ _).mono
    (fun r h => ⟨fun c => (h c).2, sem_eq_zero_of_no_sems (by decide) r.2⟩) (Cert.KvUpDwRefIdeal.Value.run m ρ)

theorem algebraic : Cert.algebraic_KvUpDwIdeal_KvUpDwRefIdeal (hKvUpDwIdeal := Cert.KvUpDwIdeal.Gen.facts)
    (hKvUpDwRefIdeal := Cert.KvUpDwRefIdeal.Gen.facts) := by
  intro m g m' g' _ hagree
  refine ⟨fun c y => Cert.KvUpDwIdeal.Mm.prod m c (y 0) (y 1),
    (θ_run Cert.KvUpDwIdeal.defs _ _).mono (fun r h c => ⟨(h c).1.trans (Cert.KvUpDwIdeal.Mm.arr m c), (h c).2⟩)
      (Cert.KvUpDwIdeal.Value.run_blocks m g),
    (θ_run Cert.KvUpDwRefIdeal.defs _ _).mono (fun r h c => ⟨(h c).1.trans ?_, (h c).2⟩) (Cert.KvUpDwRefIdeal.Value.run m' g')⟩
  obtain ⟨h0, h1⟩ := hagree c
  funext y
  rw [eq_ix2 y]
  refine (Cert.KvUpDwRefIdeal.Mm.res_at _ _ (y 0) (y 1)).trans ?_
  unfold Cert.KvUpDwIdeal.Mm.prod Cert.KvUpDwIdeal.Mm.fst Cert.KvUpDwIdeal.Mm.snd
  rw [h0, h1]
  rfl

end Cert.KvUpDw.Mm

end
-- ==== Proof.Mm.FfnDown.lean ====
/- The second feed-forward product, `ffn_down`: the kernel adds the two halves of each sum, the reference's sum is theirs. -/
module

public import proofs.«01_k».proof.Defs
public import proofs.«01_k».proof.Proof.Gen.FfnDown.Frame
public import proofs.«01_k».proof.Proof.Gen.FfnDownIdeal.Frame
public import proofs.«01_k».proof.Proof.Gen.FfnDownRefIdeal.Run
public import Idealize.ShloMosaic.Lib.Pipeline.ValueKit
public import Idealize.ShloMosaic.Lib.Quiescent

@[expose] public section

set_option maxRecDepth 16384

noncomputable section

namespace Cert.FfnDownIdeal.Mm

open Idealize.ShloMosaic Idealize.ShloMosaic.TcCoe Idealize.ShloMosaic.Tactic Cert.FfnDownIdeal Cert.FfnDownIdeal.Gen
open Idealize.ShloMosaic.Pipeline (Dat)

variable (m : (ℓ : Loc nD τ sig) → Buf (Elt Ideal) ℓ) (c : Dev nD)

theorem zero2 : (![0, 0] : Fin 2 → Nat) = fun _ => 0 := by
  funext a
  rcases a with ⟨_ | _ | n, h⟩
  · rfl
  · rfl
  · omega

theorem lt8 (t : Fin cfg0.N) : t.val < 8 := lt_of_lt_of_eq t.isLt N_0

/-- The two operands. -/
def fst (i : Fin 2048) (k : Fin 5632) : EReal := m ((c : Thread nD τ).loc main_arg0) (ix2 i k)
def snd (k : Fin 5632) (j : Fin 2048) : EReal := m ((c : Thread nD τ).loc main_arg1) (ix2 k j)

/-- The half of an entry that starts at k. -/
def half (i j : Fin 2048) (p : Fin 2) : EReal :=
  ∑ n : Fin 2816, fst m c i ⟨2816 * p.val + n.val, by omega⟩ * snd m c ⟨2816 * p.val + n.val, by omega⟩ j

/-- An entry of the result. -/
def prod (i j : Fin 2048) : EReal := half m c i j 0 + half m c i j 1

theorem idxs : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- The product of two blocks. -/
def mul (x : Vec Ideal S1024x2816 .bf16) (y : Vec Ideal S2816x1024 .bf16) (i j : Fin 1024) : EReal :=
  ∑ n : Fin 2816, x (ix2 i n) * y (ix2 n j)

theorem pay1_at (x : Vec Ideal S1024x2816 .bf16) (y : Vec Ideal S2816x1024 .bf16) (i j : Fin 1024) :
    @Eq EReal (k0_pay1 x y (ix2 i j)) (mul x y i j) := by
  unfold k0_pay1 mul
  pointwise

theorem pay2_at (s : Vec Ideal S1024x1024 .f32) (x : Vec Ideal S1024x2816 .bf16) (y : Vec Ideal S2816x1024 .bf16) (i j : Fin 1024) :
    @Eq EReal (k0_pay2 s x y (ix2 i j)) (s (ix2 i j) + mul x y i j) := by
  unfold k0_pay2 mul
  pointwise

section
variable (i : grid0.Coords) (a3 : Memref sig .tc .vmem S1024x2816 .bf16) (h3 : a3.IsWhole) (a4 : Memref sig .tc .vmem S2816x1024 .bf16)
  (h4 : a4.IsWhole) (a5 : Memref sig .tc .vmem S1024x1024 .f32) (h5 : a5.IsWhole) (a6 : Memref sig .tc .vmem S1024x1024 .f32) (h6 : a6.IsWhole)
  (x : Vec Ideal S1024x2816 .bf16) (y : Vec Ideal S2816x1024 .bf16) (s : Vec Ideal S1024x1024 .f32)

/-- The first point of a block leaves its product in the scratch. -/
theorem first (g0 : cond0_0 i) (g1 : ¬cond0_1 i) :
    sout0_A_0 c i a3 h3 a4 h4 a5 h5 a6 h6 g0 g1 x y = k0_pay1 x y := by
  unfold sout0_A_0
  rw [View.read_writes_eq_canon _ _ _ (scover0_A_0 c i a3 h3 a4 h4 a5 h5 a6 h6 g0 g1 x y)]
  unfold kernelRun0_A
  dsimp only
  rw [View.canon_unit_zero zero2]
  simp only [View.readAt_eq_ld, h3.read_unread, h4.read_unread, View.ld_unit_zero (S := S1024x2816) zero2, View.ld_unit_zero (S := S2816x1024) zero2]

/-- The last point adds its product and stores the sum in the block. -/
theorem last (g0 : ¬cond0_0 i) (g1 : cond0_1 i) :
    out0_B_2 c i a3 h3 a4 h4 a5 h5 a6 h6 g0 g1 x y s = k0_pay2 s x y := by
  unfold out0_B_2
  rw [View.read_writes_eq_canon _ _ _ (cover0_B_2 c i a3 h3 a4 h4 a5 h5 a6 h6 g0 g1 x y s)]
  unfold kernelRun0_B
  dsimp only
  rw [View.canon_unit_zero zero2]
  simp only [View.readAt_eq_ld, h3.read_unread, h4.read_unread, h6.read_unread, View.ld_unit_zero (S := S1024x2816) zero2,
    View.ld_unit_zero (S := S2816x1024) zero2, View.ld_unit_zero (S := S1024x1024) zero2]
end

theorem blk_a (t : Fin cfg0.N) (i : Fin 1024) (k : Fin 2816) (h : 1024 * (t.val / 4) + i.val < 2048) (h' : 2816 * (t.val % 2) + k.val < 5632) :
    @Eq EReal (iblk m c 0 t (ix2 i k)) (fst m c ⟨1024 * (t.val / 4) + i.val, h⟩ ⟨2816 * (t.val % 2) + k.val, h'⟩) := by
  unfold fst
  blk_ext [iblk, V, idxs t]

theorem blk_b (t : Fin cfg0.N) (k : Fin 2816) (j : Fin 1024) (h : 1024 * (t.val / 2 % 2) + j.val < 2048) (h' : 2816 * (t.val % 2) + k.val < 5632) :
    @Eq EReal (iblk m c 1 t (ix2 k j)) (snd m c ⟨2816 * (t.val % 2) + k.val, h'⟩ ⟨1024 * (t.val / 2 % 2) + j.val, h⟩) := by
  unfold snd
  blk_ext [iblk, V, idxs t]

/-- A point's product is a half of its entries' sums. -/
theorem mul_at (t : Fin cfg0.N) (i j : Fin 1024) (p : Fin 2) (I J : Fin 2048) (hp : t.val % 2 = p.val)
    (hI : I.val = 1024 * (t.val / 4) + i.val) (hJ : J.val = 1024 * (t.val / 2 % 2) + j.val) :
    mul (iblk m c 0 t) (iblk m c 1 t) i j = half m c I J p := by
  have hi := I.isLt
  have hj := J.isLt
  have hq := p.isLt
  unfold mul half
  refine Finset.sum_congr rfl fun n _ => ?_
  rw [blk_a m c t i n (by omega) (by omega), blk_b m c t n j (by omega) (by omega)]
  rw [show (⟨1024 * (t.val / 4) + i.val, by omega⟩ : Fin 2048) = I from Fin.ext hI.symm,
    show (⟨1024 * (t.val / 2 % 2) + j.val, by omega⟩ : Fin 2048) = J from Fin.ext hJ.symm]
  exact congrArg (fun a => fst m c I a * snd m c a J) (Fin.ext (by show 2816 * (t.val % 2) + n.val = 2816 * p.val + n.val; omega))

theorem after_first (t : Fin cfg0.N) (h : t.val % 2 = 0) :
    (outsAt0 m c t.val t.isLt).2 = k0_pay1 (iblk m c 0 t) (iblk m c 1 t) := by
  rw [outsAt0_A m c t h (by omega)]
  dsimp only
  rw [first]

theorem after_last (n : ℕ) (hn : n + 1 < cfg0.N) (h : (n + 1) % 2 = 1) :
    (outsAt0 m c (n + 1) hn).1 = k0_pay2 (outsAt0 m c n (by omega)).2 (iblk m c 0 ⟨n + 1, hn⟩) (iblk m c 1 ⟨n + 1, hn⟩) := by
  rw [outsAt0_B m c ⟨n + 1, hn⟩ (by show ¬(n + 1) % 2 = 0; omega) h]
  dsimp only
  rw [last]
  rfl

/-- What the last point of a block stores: the two products' sum. -/
theorem whole (b : ℕ) (hb : b + 1 < cfg0.N) (h : b % 2 = 0) (i j : Fin 1024) (I J : Fin 2048)
    (hI : I.val = 1024 * (b / 4) + i.val) (hJ : J.val = 1024 * (b / 2 % 2) + j.val) :
    @Eq EReal ((outsAt0 m c (b + 1) hb).1 (ix2 i j)) (prod m c I J) := by
  rw [after_last m c b hb (by omega)]
  refine (pay2_at _ _ _ i j).trans ?_
  rw [after_first m c ⟨b, by omega⟩ h, pay1_at]
  rw [mul_at m c ⟨b, by omega⟩ i j 0 I J h hI hJ,
    mul_at m c ⟨b + 1, hb⟩ i j 1 I J (by show (b + 1) % 2 = 1; omega) (by show I.val = 1024 * ((b + 1) / 4) + i.val; omega) (by show J.val = 1024 * ((b + 1) / 2 % 2) + j.val; omega)]
  rfl

theorem arr : (dats m 0 c).arrAt 2 (cfgs 0).N = fun y => prod m c (y 0) (y 1) := by
  refine (dats m 0 c).arrAt_eq_of_covers 2 _ (by decide +kernel) fun t hf y => ?_
  have ht := lt8 t
  have hm : t.val % 2 = 1 := (flush0_2 t).mp hf
  blk_simp
  rw [after0_2, eq_ix2 y]
  have hy0 : (y 0).val < 1024 := (y 0).isLt
  have hy1 : (y 1).val < 1024 := (y 1).isLt
  obtain ⟨b, hb⟩ : ∃ b, t.val = b + 1 := ⟨t.val - 1, by omega⟩
  have key := whole m c b (by rw [← hb]; exact t.isLt) (by omega) (y 0) (y 1) ⟨1024 * (t.val / 4) + (y 0).val, by omega⟩
    ⟨1024 * (t.val / 2 % 2) + (y 1).val, by omega⟩ (by show 1024 * (t.val / 4) + (y 0).val = _; omega) (by show 1024 * (t.val / 2 % 2) + (y 1).val = _; omega)
  have e : ∀ (n : ℕ) (h : n < cfg0.N), t.val = n → (outsAt0 m c t.val t.isLt).1 = (outsAt0 m c n h).1 := by
    rintro n h rfl
    rfl
  rw [e _ _ hb]
  refine key.trans ?_
  refine congrArg₂ (fun a b => prod m c a b) (Fin.ext ?_) (Fin.ext ?_)
  · refine Eq.trans (b := 1024 * (t.val / 4) + (y 0).val) rfl ?_
    blk_simp [idxs t]
    try omega
  · refine Eq.trans (b := 1024 * (t.val / 2 % 2) + (y 1).val) rfl ?_
    blk_simp [idxs t]
    try omega

/-- At the end the result array holds the product, and the operands are as they were. -/
theorem ends (r : PUnit × MemSt nD τ sig (Elt Ideal)) (h : Pipeline.FramePost cfgs (dats m) 0 (V m) r) (c : Dev nD) :
    r.2.mem ((c : Thread nD τ).loc main_v0) = (fun y => prod m c (y 0) (y 1))
    ∧ r.2.mem ((c : Thread nD τ).loc main_arg0) = m ((c : Thread nD τ).loc main_arg0)
    ∧ r.2.mem ((c : Thread nD τ).loc main_arg1) = m ((c : Thread nD τ).loc main_arg1) := by
  have hc := (h c).1
  refine ⟨(hc 2).trans (arr m c), (hc 0).trans ?_, (hc 1).trans ?_⟩
  · rw [(dats m 0 c).arrAt_in 0 rfl, A_eq]
  · rw [(dats m 0 c).arrAt_in 1 rfl, A_eq]

end Cert.FfnDownIdeal.Mm

namespace Cert.FfnDownRefIdeal.Mm

open Idealize.ShloMosaic Idealize.ShloMosaic.TcCoe Cert.FfnDownRefIdeal Cert.FfnDownRefIdeal.Gen

/-- A sum of 5632 terms is that of its two halves. -/
theorem halves (f : Fin 5632 → EReal) : ∑ k : Fin 5632, f k
    = ∑ n : Fin 2816, f ⟨2816 * (0 : Fin 2).val + n.val, by have := n.isLt; show 2816 * 0 + n.val < 5632; omega⟩
      + ∑ n : Fin 2816, f ⟨2816 * (1 : Fin 2).val + n.val, by have := n.isLt; show 2816 * 1 + n.val < 5632; omega⟩ := by
  refine (Fin.sum_univ_add (a := 2816) (b := 2816) f).trans ?_
  refine congrArg₂ (· + ·) ?_ ?_
  · exact Finset.sum_congr rfl fun n _ => congrArg f (Fin.ext (by show n.val = 2816 * 0 + n.val; omega))
  · exact Finset.sum_congr rfl fun n _ => congrArg f (Fin.ext (by show 2816 + n.val = 2816 * 1 + n.val; omega))

theorem res_at (x : FVec Ideal S2048x5632 .bf16) (y : FVec Ideal S5632x2048 .bf16) (i j : Fin 2048) :
    @Eq EReal (Host.dotGeneral (F := Ideal) dot_S2048x5632_S5632x2048_S2048x2048_1_0_0_1_n_n none (extf .f32 x bitsLt_bf16_f32) (extf .f32 y bitsLt_bf16_f32) (ix2 i j))
      (∑ n : Fin 2816, x (ix2 i ⟨2816 * (0 : Fin 2).val + n.val, by have := n.isLt; show 2816 * 0 + n.val < 5632; omega⟩) * y (ix2 ⟨2816 * (0 : Fin 2).val + n.val, by have := n.isLt; show 2816 * 0 + n.val < 5632; omega⟩ j)
        + ∑ n : Fin 2816, x (ix2 i ⟨2816 * (1 : Fin 2).val + n.val, by have := n.isLt; show 2816 * 1 + n.val < 5632; omega⟩) * y (ix2 ⟨2816 * (1 : Fin 2).val + n.val, by have := n.isLt; show 2816 * 1 + n.val < 5632; omega⟩ j)) := by
  refine Eq.trans ?_ (halves fun k => x (ix2 i k) * y (ix2 k j))
  pointwise

end Cert.FfnDownRefIdeal.Mm

namespace Cert.FfnDown.Mm

open Idealize.ShloMosaic Idealize.ShloMosaic.TcCoe Idealize.SL.Sem

theorem frame : Cert.quiescent_FfnDown (hFfnDown := Cert.FfnDown.Gen.facts) := fun m ρ _ => Cert.FfnDown.Gen.frame m ρ

theorem frame_ideal : Cert.quiescent_FfnDownIdeal (hFfnDownIdeal := Cert.FfnDownIdeal.Gen.facts) := fun m ρ _ =>
  Cert.FfnDownIdeal.Gen.frame m ρ

theorem frame_ref : Cert.quiescent_FfnDownRefIdeal (hFfnDownRefIdeal := Cert.FfnDownRefIdeal.Gen.facts) := fun m ρ _ =>
  (θ_run Cert.FfnDownRefIdeal.defs _ _).mono
    (fun r h => ⟨fun c => (h c).2, sem_eq_zero_of_no_sems (by decide) r.2⟩) (Cert.FfnDownRefIdeal.Value.run m ρ)

theorem algebraic : Cert.algebraic_FfnDownIdeal_FfnDownRefIdeal (hFfnDownIdeal := Cert.FfnDownIdeal.Gen.facts)
    (hFfnDownRefIdeal := Cert.FfnDownRefIdeal.Gen.facts) := by
  intro m g m' g' _ hagree
  refine ⟨fun c y => Cert.FfnDownIdeal.Mm.prod m c (y 0) (y 1),
    (θ_run Cert.FfnDownIdeal.defs _ _).mono (fun r h c => Cert.FfnDownIdeal.Mm.ends m r h c)
      (Cert.FfnDownIdeal.Gen.run_main m g),
    (θ_run Cert.FfnDownRefIdeal.defs _ _).mono (fun r h c => ⟨(h c).1.trans ?_, (h c).2⟩) (Cert.FfnDownRefIdeal.Value.run m' g')⟩
  obtain ⟨h0, h1⟩ := hagree c
  funext y
  rw [eq_ix2 y]
  refine (Cert.FfnDownRefIdeal.Mm.res_at _ _ (y 0) (y 1)).trans ?_
  unfold Cert.FfnDownIdeal.Mm.prod Cert.FfnDownIdeal.Mm.half Cert.FfnDownIdeal.Mm.fst Cert.FfnDownIdeal.Mm.snd
  rw [h0, h1]
  rfl

end Cert.FfnDown.Mm

end
-- ==== Proof.Mm.InProjDx.lean ====
/- The input projections' input gradient, `in_proj_dx`: the kernel and the reference add the same two products. -/
module

public import proofs.«01_k».proof.Defs
public import proofs.«01_k».proof.Proof.Gen.InProjDx.Frame
public import proofs.«01_k».proof.Proof.Gen.InProjDxIdeal.Value
public import proofs.«01_k».proof.Proof.Gen.InProjDxRefIdeal.Run
public import Idealize.ShloMosaic.Lib.Pipeline.ValueKit
public import Idealize.ShloMosaic.Lib.Quiescent

@[expose] public section

set_option maxRecDepth 16384

noncomputable section

namespace Cert.InProjDxIdeal.Mm

open Idealize.ShloMosaic Idealize.ShloMosaic.TcCoe Idealize.ShloMosaic.Tactic Cert.InProjDxIdeal Cert.InProjDxIdeal.Gen
open Idealize.ShloMosaic.Pipeline (Dat)

variable (m : (ℓ : Loc nD τ sig) → Buf (Elt Ideal) ℓ) (c : Dev nD)

theorem zero2 : (![0, 0] : Fin 2 → Nat) = fun _ => 0 := by
  funext a
  rcases a with ⟨_ | _ | n, h⟩
  · rfl
  · rfl
  · omega

theorem lt8 (t : Fin cfg0.N) : t.val < 8 := lt_of_lt_of_eq t.isLt N_0

/-- The four operands. -/
def dA (i : Fin 2048) (k : Fin 2048) : EReal := m ((c : Thread nD τ).loc main_arg0) (ix2 i k)
def wA (j : Fin 2048) (k : Fin 2048) : EReal := m ((c : Thread nD τ).loc main_arg1) (ix2 j k)
def dZ (i : Fin 2048) (k : Fin 1408) : EReal := m ((c : Thread nD τ).loc main_arg2) (ix2 i k)
def wZ (j : Fin 2048) (k : Fin 1408) : EReal := m ((c : Thread nD τ).loc main_arg3) (ix2 j k)

/-- The two products an entry of the result adds. -/
def prodA (i j : Fin 2048) : EReal := ∑ k : Fin 2048, dA m c i k * wA m c j k
def prodZ (i j : Fin 2048) : EReal := ∑ k : Fin 1408, dZ m c i k * wZ m c j k

/-- An entry of the result. -/
def prod (i j : Fin 2048) : EReal := prodA m c i j + prodZ m c i j

theorem idxs : ∀ t : Fin cfg0.N, win0_0.index t = ![t.val / 4, 0] ∧ win0_1.index t = ![t.val / 2 % 2, 0]
    ∧ win0_2.index t = ![t.val / 4, 0] ∧ win0_3.index t = ![t.val / 2 % 2, 0] ∧ win0_4.index t = ![t.val / 4, t.val / 2 % 2] :=
  (by decide +kernel : ∀ t : Fin grid0.N, _)

theorem pay1_at (x y : Vec Ideal S1024x2048 .bf16) (i j : Fin 1024) :
    @Eq EReal (k0_pay1 x y (ix2 i j)) (∑ k : Fin 2048, x (ix2 i k) * y (ix2 j k)) := by
  unfold k0_pay1
  pointwise

theorem pay2_at (s : Vec Ideal S1024x1024 .f32) (x y : Vec Ideal S1024x1408 .bf16) (i j : Fin 1024) :
    @Eq EReal (k0_pay2 s x y (ix2 i j)) (s (ix2 i j) + ∑ k : Fin 1408, x (ix2 i k) * y (ix2 j k)) := by
  unfold k0_pay2
  pointwise

section
variable (i : grid0.Coords) (a3 : Memref sig .tc .vmem S1024x2048 .bf16) (h3 : a3.IsWhole) (a4 : Memref sig .tc .vmem S1024x2048 .bf16) (h4 : a4.IsWhole)
  (a5 : Memref sig .tc .vmem S1024x1408 .bf16) (h5 : a5.IsWhole) (a6 : Memref sig .tc .vmem S1024x1408 .bf16) (h6 : a6.IsWhole)
  (a7 : Memref sig .tc .vmem S1024x1024 .f32) (h7 : a7.IsWhole) (a8 : Memref sig .tc .vmem S1024x1024 .f32) (h8 : a8.IsWhole)
  (x y : Vec Ideal S1024x2048 .bf16) (z w : Vec Ideal S1024x1408 .bf16) (s : Vec Ideal S1024x1024 .f32)

/-- The first point of a block leaves the first pair's product in the scratch. -/
theorem first (g0 : cond0_0 i) (g1 : ¬cond0_1 i) :
    sout0_A_0 c i a3 h3 a4 h4 a5 h5 a6 h6 a7 h7 a8 h8 g0 g1 x y z w = k0_pay1 x y := by
  unfold sout0_A_0
  rw [View.read_writes_eq_canon _ _ _ (scover0_A_0 c i a3 h3 a4 h4 a5 h5 a6 h6 a7 h7 a8 h8 g0 g1 x y z w)]
  unfold kernelRun0_A
  dsimp only
  rw [View.canon_unit_zero zero2]
  simp only [View.readAt_eq_ld, h3.read_unread, h4.read_unread, View.ld_unit_zero (S := S1024x2048) zero2]

/-- The last point adds the second pair's product and stores the sum in the block. -/
theorem last (g0 : ¬cond0_0 i) (g1 : cond0_1 i) :
    out0_B_4 c i a3 h3 a4 h4 a5 h5 a6 h6 a7 h7 a8 h8 g0 g1 x y z w s = k0_pay2 s z w := by
  unfold out0_B_4
  rw [View.read_writes_eq_canon _ _ _ (cover0_B_4 c i a3 h3 a4 h4 a5 h5 a6 h6 a7 h7 a8 h8 g0 g1 x y z w s)]
  unfold kernelRun0_B
  dsimp only
  rw [View.canon_unit_zero zero2]
  simp only [View.readAt_eq_ld, h5.read_unread, h6.read_unread, h8.read_unread, View.ld_unit_zero (S := S1024x1408) zero2,
    View.ld_unit_zero (S := S1024x1024) zero2]
end

theorem blk_a (t : Fin cfg0.N) (i : Fin 1024) (k : Fin 2048) (I : Fin 2048) (hI : I.val = 1024 * (t.val / 4) + i.val) :
    @Eq EReal (iblk m c 0 t (ix2 i k)) (dA m c I k) := by
  have h : 1024 * (t.val / 4) + i.val < 2048 := hI ▸ I.isLt
  rw [show I = ⟨1024 * (t.val / 4) + i.val, h⟩ from Fin.ext hI]
  unfold dA
  blk_ext [iblk, V, idxs t]

theorem blk_b (t : Fin cfg0.N) (i : Fin 1024) (k : Fin 2048) (I : Fin 2048) (hI : I.val = 1024 * (t.val / 2 % 2) + i.val) :
    @Eq EReal (iblk m c 1 t (ix2 i k)) (wA m c I k) := by
  have h : 1024 * (t.val / 2 % 2) + i.val < 2048 := hI ▸ I.isLt
  rw [show I = ⟨1024 * (t.val / 2 % 2) + i.val, h⟩ from Fin.ext hI]
  unfold wA
  blk_ext [iblk, V, idxs t]

theorem blk_z (t : Fin cfg0.N) (i : Fin 1024) (k : Fin 1408) (I : Fin 2048) (hI : I.val = 1024 * (t.val / 4) + i.val) :
    @Eq EReal (iblk m c 2 t (ix2 i k)) (dZ m c I k) := by
  have h : 1024 * (t.val / 4) + i.val < 2048 := hI ▸ I.isLt
  rw [show I = ⟨1024 * (t.val / 4) + i.val, h⟩ from Fin.ext hI]
  unfold dZ
  blk_ext [iblk, V, idxs t]

theorem blk_w (t : Fin cfg0.N) (i : Fin 1024) (k : Fin 1408) (I : Fin 2048) (hI : I.val = 1024 * (t.val / 2 % 2) + i.val) :
    @Eq EReal (iblk m c 3 t (ix2 i k)) (wZ m c I k) := by
  have h : 1024 * (t.val / 2 % 2) + i.val < 2048 := hI ▸ I.isLt
  rw [show I = ⟨1024 * (t.val / 2 % 2) + i.val, h⟩ from Fin.ext hI]
  unfold wZ
  blk_ext [iblk, V, idxs t]

theorem after_first (t : Fin cfg0.N) (h : t.val % 2 = 0) :
    (outsAt0 m c t.val t.isLt).2 = k0_pay1 (iblk m c 0 t) (iblk m c 1 t) := by
  rw [outsAt0_A m c t h (by omega)]
  dsimp only
  rw [first]

theorem after_last (n : ℕ) (hn : n + 1 < cfg0.N) (h : (n + 1) % 2 = 1) :
    (outsAt0 m c (n + 1) hn).1 = k0_pay2 (outsAt0 m c n (by omega)).2 (iblk m c 2 ⟨n + 1, hn⟩) (iblk m c 3 ⟨n + 1, hn⟩) := by
  rw [outsAt0_B m c ⟨n + 1, hn⟩ (by show ¬(n + 1) % 2 = 0; omega) h]
  dsimp only
  rw [last]
  rfl

/-- What the last point of a block stores: the two products' sum. -/
theorem whole (b : ℕ) (hb : b + 1 < cfg0.N) (h : b % 2 = 0) (i j : Fin 1024) (I J : Fin 2048)
    (hI : I.val = 1024 * (b / 4) + i.val) (hJ : J.val = 1024 * (b / 2 % 2) + j.val) :
    @Eq EReal ((outsAt0 m c (b + 1) hb).1 (ix2 i j)) (prod m c I J) := by
  rw [after_last m c b hb (by omega)]
  refine (pay2_at _ _ _ i j).trans ?_
  rw [after_first m c ⟨b, by omega⟩ h, pay1_at]
  unfold prod prodA prodZ
  refine congrArg₂ (fun a b : EReal => a + b) (Finset.sum_congr rfl fun k _ => ?_) (Finset.sum_congr rfl fun k _ => ?_)
  · rw [blk_a m c ⟨b, by omega⟩ i k I hI, blk_b m c ⟨b, by omega⟩ j k J hJ]
  · rw [blk_z m c ⟨b + 1, hb⟩ i k I (by show I.val = 1024 * ((b + 1) / 4) + i.val; omega),
      blk_w m c ⟨b + 1, hb⟩ j k J (by show J.val = 1024 * ((b + 1) / 2 % 2) + j.val; omega)]

theorem arr : (dats m 0 c).arrAt 4 (cfgs 0).N = fun y => prod m c (y 0) (y 1) := by
  refine (dats m 0 c).arrAt_eq_of_covers 4 _ (by decide +kernel) fun t hf y => ?_
  have ht := lt8 t
  have hm : t.val % 2 = 1 := (flush0_4 t).mp hf
  blk_simp
  rw [after0_4, eq_ix2 y]
  have hy0 : (y 0).val < 1024 := (y 0).isLt
  have hy1 : (y 1).val < 1024 := (y 1).isLt
  obtain ⟨b, hb⟩ : ∃ b, t.val = b + 1 := ⟨t.val - 1, by omega⟩
  have key := whole m c b (by rw [← hb]; exact t.isLt) (by omega) (y 0) (y 1) ⟨1024 * (t.val / 4) + (y 0).val, by omega⟩
    ⟨1024 * (t.val / 2 % 2) + (y 1).val, by omega⟩ (by show 1024 * (t.val / 4) + (y 0).val = _; omega) (by show 1024 * (t.val / 2 % 2) + (y 1).val = _; omega)
  have e : ∀ (n : ℕ) (h : n < cfg0.N), t.val = n → (outsAt0 m c t.val t.isLt).1 = (outsAt0 m c n h).1 := by
    rintro n h rfl
    rfl
  rw [e _ _ hb]
  refine key.trans ?_
  refine congrArg₂ (fun a b => prod m c a b) (Fin.ext ?_) (Fin.ext ?_)
  · refine Eq.trans (b := 1024 * (t.val / 4) + (y 0).val) rfl ?_
    blk_simp [idxs t]
    try omega
  · refine Eq.trans (b := 1024 * (t.val / 2 % 2) + (y 1).val) rfl ?_
    blk_simp [idxs t]
    try omega

end Cert.InProjDxIdeal.Mm

namespace Cert.InProjDxRefIdeal.Mm

open Idealize.ShloMosaic Idealize.ShloMosaic.TcCoe Cert.InProjDxRefIdeal Cert.InProjDxRefIdeal.Gen

theorem res_at (x y : FVec Ideal S2048x2048 .bf16) (z w : FVec Ideal S2048x1408 .bf16) (i j : Fin 2048) :
    @Eq EReal (addf (Host.dotGeneral (F := Ideal) dot_S2048x1408_S2048x1408_S2048x2048_1_1_0_0_n_n none (extf .f32 z bitsLt_bf16_f32) (extf .f32 w bitsLt_bf16_f32))
        (Host.dotGeneral (F := Ideal) dot_S2048x2048_S2048x2048_S2048x2048_1_1_0_0_n_n none (extf .f32 x bitsLt_bf16_f32) (extf .f32 y bitsLt_bf16_f32)) (ix2 i j))
      (∑ k : Fin 2048, x (ix2 i k) * y (ix2 j k) + ∑ k : Fin 1408, z (ix2 i k) * w (ix2 j k)) := by
  refine Eq.trans ?_ (add_comm (∑ k : Fin 1408, z (ix2 i k) * w (ix2 j k) : EReal) _)
  pointwise

end Cert.InProjDxRefIdeal.Mm

namespace Cert.InProjDx.Mm

open Idealize.ShloMosaic Idealize.ShloMosaic.TcCoe Idealize.SL.Sem

theorem frame : Cert.quiescent_InProjDx (hInProjDx := Cert.InProjDx.Gen.facts) := fun m ρ _ => Cert.InProjDx.Gen.frame m ρ

theorem frame_ideal : Cert.quiescent_InProjDxIdeal (hInProjDxIdeal := Cert.InProjDxIdeal.Gen.facts) := fun m ρ _ =>
  Cert.InProjDxIdeal.Gen.frame m ρ

theorem frame_ref : Cert.quiescent_InProjDxRefIdeal (hInProjDxRefIdeal := Cert.InProjDxRefIdeal.Gen.facts) := fun m ρ _ =>
  (θ_run Cert.InProjDxRefIdeal.defs _ _).mono
    (fun r h => ⟨fun c => (h c).2, sem_eq_zero_of_no_sems (by decide) r.2⟩) (Cert.InProjDxRefIdeal.Value.run m ρ)

theorem algebraic : Cert.algebraic_InProjDxIdeal_InProjDxRefIdeal (hInProjDxIdeal := Cert.InProjDxIdeal.Gen.facts)
    (hInProjDxRefIdeal := Cert.InProjDxRefIdeal.Gen.facts) := by
  intro m g m' g' _ hagree
  refine ⟨fun c y => Cert.InProjDxIdeal.Mm.prod m c (y 0) (y 1),
    (θ_run Cert.InProjDxIdeal.defs _ _).mono (fun r h c => ⟨(h c).1.trans ((Cert.InProjDxIdeal.Value.final4 m c).symm.trans (Cert.InProjDxIdeal.Mm.arr m c)), (h c).2⟩)
      (Cert.InProjDxIdeal.Value.run m g),
    (θ_run Cert.InProjDxRefIdeal.defs _ _).mono (fun r h c => ⟨(h c).1.trans ?_, (h c).2⟩) (Cert.InProjDxRefIdeal.Value.run m' g')⟩
  obtain ⟨h0, h1, h2, h3⟩ := hagree c
  funext y
  rw [eq_ix2 y]
  refine (Cert.InProjDxRefIdeal.Mm.res_at _ _ _ _ (y 0) (y 1)).trans ?_
  unfold Cert.InProjDxIdeal.Mm.prod Cert.InProjDxIdeal.Mm.prodA Cert.InProjDxIdeal.Mm.prodZ Cert.InProjDxIdeal.Mm.dA Cert.InProjDxIdeal.Mm.wA Cert.InProjDxIdeal.Mm.dZ Cert.InProjDxIdeal.Mm.wZ
  rw [h0, h1, h2, h3]
  rfl

end Cert.InProjDx.Mm

end
-- ==== Proof.Mm.FfnUp.lean ====
/- The first feed-forward product with its activation, `ffn_up`: both results of the kernel are the reference's, entry by entry. -/
module

public import proofs.«01_k».proof.Defs
public import proofs.«01_k».proof.Proof.Gen.FfnUp.Frame
public import proofs.«01_k».proof.Proof.Gen.FfnUpIdeal.Value
public import proofs.«01_k».proof.Proof.Gen.FfnUpRefIdeal.Run
public import Idealize.ShloMosaic.Lib.Pipeline.ValueKit
public import Idealize.ShloMosaic.Lib.Quiescent

@[expose] public section

set_option maxRecDepth 16384

noncomputable section

namespace Cert.FfnUpIdeal.Mm

open Idealize.ShloMosaic Idealize.ShloMosaic.TcCoe Idealize.ShloMosaic.Tactic Cert.FfnUpIdeal Cert.FfnUpIdeal.Gen
open Idealize.ShloMosaic.Pipeline (Dat)

variable (m : (ℓ : Loc nD τ sig) → Buf (Elt Ideal) ℓ) (c : Dev nD)

theorem zero2 : (![0, 0] : Fin 2 → Nat) = fun _ => 0 := by
  funext a
  rcases a with ⟨_ | _ | n, h⟩
  · rfl
  · rfl
  · omega

theorem zero3 : (![0, 0, 0] : Fin 3 → Nat) = fun _ => 0 := by
  funext a
  rcases a with ⟨_ | _ | _ | n, h⟩
  · rfl
  · rfl
  · rfl
  · omega

/-- The two operands. -/
def inp (i : Fin 2048) (k : Fin 2048) : EReal := m ((c : Thread nD τ).loc main_arg0) (ix2 i k)
def wgt (p : Fin 4) (k : Fin 2048) (n : Fin 2816) : EReal := m ((c : Thread nD τ).loc main_arg1) (ix3 p k n)

/-- The gate times its sigmoid, times the up projection. -/
def silu (g u : EReal) : EReal := g * Ideal.div 1 (1 + Ideal.exp (-g)) * u

/-- An entry of the product with the weights' part p. -/
def pre (i : Fin 2048) (p : Fin 4) (n : Fin 2816) : EReal := ∑ k : Fin 2048, inp m c i k * wgt m c p k n

/-- The entries of the two results. -/
def gu (i : Fin 2048) (f : Fin 11264) : EReal := pre m c i ⟨f.val / 2816, by omega⟩ ⟨f.val % 2816, by omega⟩
def act (i : Fin 2048) (f : Fin 5632) : EReal :=
  silu (pre m c i ⟨f.val / 1408, by omega⟩ ⟨f.val % 1408, by omega⟩) (pre m c i ⟨f.val / 1408, by omega⟩ ⟨1408 + f.val % 1408, by omega⟩)

theorem idxs : ∀ t : Fin cfg0.N, win0_0.index t = ![t.val % 4, 0] ∧ win0_1.index t = ![t.val / 4, 0, 0]
    ∧ win0_2.index t = ![t.val % 4, t.val / 4] ∧ win0_3.index t = ![t.val % 4, t.val / 4] :=
  (by decide +kernel : ∀ t : Fin grid0.N, _)

/-- The product of a strip of 256 rows with a part of the weights. -/
def mul (x : Vec Ideal S256x2048 .bf16) (y : Vec Ideal S1x2048x2816 .bf16) (i : Fin 256) (n : Fin 2816) : EReal :=
  ∑ k : Fin 2048, x (ix2 i k) * y (ix3 0 k n)

theorem pay3_at (x : Vec Ideal S256x2048 .bf16) (y : Vec Ideal S1x2048x2816 .bf16) (i : Fin 256) (n : Fin 2816) :
    @Eq EReal (k0_pay3 x y (ix2 i n)) (mul x y i n) := by
  unfold k0_pay3 k0_pay2 mul
  pointwise

theorem pay7_at (x : Vec Ideal S256x2048 .bf16) (y : Vec Ideal S1x2048x2816 .bf16) (i : Fin 256) (n : Fin 2816) :
    @Eq EReal (k0_pay7 x y (ix2 i n)) (mul x y i n) := by
  unfold k0_pay7 k0_pay5 mul
  pointwise

theorem pay4_at (x : Vec Ideal S256x2048 .bf16) (y : Vec Ideal S1x2048x2816 .bf16) (i : Fin 256) (n : Fin 1408) :
    @Eq EReal (k0_pay4 x y (ix2 i n)) (silu (mul x y i ⟨n.val, by omega⟩) (mul x y i ⟨1408 + n.val, by omega⟩)) := by
  unfold k0_pay4 k0_pay2 mul silu
  pointwise
  rw [zero_sub]

theorem pay1_at (x : Vec Ideal S256x2048 .bf16) (y : Vec Ideal S1x2048x2816 .bf16) (i : Fin 256) (n : Fin 1408) :
    @Eq EReal (k0_pay1 (k0_pay5 x y) (k0_pay6 x y) (k0_pay8 x y) (Scalar.ofBits (F := Ideal) .f32 0x3F800000#32) (ix2 i n))
      (silu (mul x y i ⟨n.val, by omega⟩) (mul x y i ⟨1408 + n.val, by omega⟩)) := by
  unfold k0_pay1 k0_pay8 k0_pay6 k0_pay5 mul silu
  pointwise
  rw [zero_sub]

/-- The product of a block of 512 rows. -/
def blk (x : Vec Ideal S512x2048 .bf16) (y : Vec Ideal S1x2048x2816 .bf16) (i : Fin 512) (n : Fin 2816) : EReal :=
  ∑ k : Fin 2048, x (ix2 i k) * y (ix3 0 k n)

theorem strip_at (x : Vec Ideal S512x2048 .bf16) (y : Vec Ideal S1x2048x2816 .bf16) (i : Fin 512) (j : Fin 256) (n : Fin 2816)
    (h : i.val = 0 + j.val) : mul (View.ld x r0_0) (View.ld y r0_1) j n = blk x y i n := by
  unfold mul blk
  rw [View.ld_unit_zero zero3]
  refine Finset.sum_congr rfl fun k _ => congrArg (fun a => a * y (ix3 0 k n)) ?_
  refine congrArg x (funext fun a => ?_)
  rcases a with ⟨_ | _ | a, ha⟩
  · exact Fin.ext (by show 0 + 1 * j.val = i.val; omega)
  · exact Fin.ext (by show 0 + 1 * k.val = k.val; omega)
  · exact absurd ha (by show ¬(a + 1 + 1 < 2); omega)

theorem strip_at' (x : Vec Ideal S512x2048 .bf16) (y : Vec Ideal S1x2048x2816 .bf16) (i : Fin 512) (j : Fin 256) (n : Fin 2816)
    (h : i.val = 256 + j.val) : mul (View.ld x r0_4) (View.ld y r0_1) j n = blk x y i n := by
  unfold mul blk
  rw [View.ld_unit_zero zero3]
  refine Finset.sum_congr rfl fun k _ => congrArg (fun a => a * y (ix3 0 k n)) ?_
  refine congrArg x (funext fun a => ?_)
  rcases a with ⟨_ | _ | a, ha⟩
  · exact Fin.ext (by show 256 + 1 * j.val = i.val; omega)
  · exact Fin.ext (by show 0 + 1 * k.val = k.val; omega)
  · exact absurd ha (by show ¬(a + 1 + 1 < 2); omega)

theorem out2_at (x : Vec Ideal S512x2048 .bf16) (y : Vec Ideal S1x2048x2816 .bf16) (i : Fin 512) (n : Fin 2816) :
    @Eq EReal (out0_2 x y (ix2 i n)) (blk x y i n) := by
  unfold out0_2
  refine View.canon_eq_of_allAt _ _ _ (cover0_2 _ _ _) ?_
  refine View.allAt_cons_unit _ _ _ _ _ ?_ (View.allAt_cons_unit _ _ _ _ _ ?_ (View.allAt_nil _ _))
  · intro (z : S256x2816.Idx) hz
    have h0 : i.val = 256 + (z 0).val := hz 0
    have h1 : n.val = 0 + (z 1).val := hz 1
    obtain rfl : n = z 1 := Fin.ext (by omega)
    rw [eq_ix2 z]
    exact (pay7_at _ _ (z 0) (z 1)).trans (strip_at' x y i (z 0) (z 1) h0)
  · intro (z : S256x2816.Idx) hz
    have h0 : i.val = 0 + (z 0).val := hz 0
    have h1 : n.val = 0 + (z 1).val := hz 1
    obtain rfl : n = z 1 := Fin.ext (by omega)
    rw [eq_ix2 z]
    exact (pay3_at _ _ (z 0) (z 1)).trans (strip_at x y i (z 0) (z 1) h0)

theorem out3_at (x : Vec Ideal S512x2048 .bf16) (y : Vec Ideal S1x2048x2816 .bf16) (i : Fin 512) (n : Fin 1408) :
    @Eq EReal (out0_3 x y (ix2 i n)) (silu (blk x y i ⟨n.val, by omega⟩) (blk x y i ⟨1408 + n.val, by omega⟩)) := by
  unfold out0_3
  refine View.canon_eq_of_allAt _ _ _ (cover0_3 _ _ _) ?_
  refine View.allAt_cons_unit _ _ _ _ _ ?_ (View.allAt_cons_unit _ _ _ _ _ ?_ (View.allAt_nil _ _))
  · intro (z : S256x1408.Idx) hz
    have h0 : i.val = 256 + (z 0).val := hz 0
    have h1 : n.val = 0 + (z 1).val := hz 1
    obtain rfl : n = z 1 := Fin.ext (by omega)
    rw [eq_ix2 z]
    refine (pay1_at _ _ (z 0) (z 1)).trans ?_
    rw [strip_at' x y i (z 0) _ h0, strip_at' x y i (z 0) _ h0]
    rfl
  · intro (z : S256x1408.Idx) hz
    have h0 : i.val = 0 + (z 0).val := hz 0
    have h1 : n.val = 0 + (z 1).val := hz 1
    obtain rfl : n = z 1 := Fin.ext (by omega)
    rw [eq_ix2 z]
    refine (pay4_at _ _ (z 0) (z 1)).trans ?_
    rw [strip_at x y i (z 0) _ h0, strip_at x y i (z 0) _ h0]
    rfl

theorem lt16 (t : Fin cfg0.N) : t.val < 16 := lt_of_lt_of_eq t.isLt N_0

theorem blk_x (t : Fin cfg0.N) (i : Fin 512) (k : Fin 2048) (h : 512 * (t.val % 4) + i.val < 2048) :
    @Eq EReal (iblk m c 0 t (ix2 i k)) (inp m c ⟨512 * (t.val % 4) + i.val, h⟩ k) := by
  unfold inp
  blk_ext [iblk, V, idxs t]

theorem blk_w (t : Fin cfg0.N) (k : Fin 2048) (n : Fin 2816) (h : t.val / 4 < 4) :
    @Eq EReal (iblk m c 1 t (ix3 0 k n)) (wgt m c ⟨t.val / 4, h⟩ k n) := by
  unfold wgt
  blk_ext [iblk, V, idxs t]

theorem blk_at (t : Fin cfg0.N) (i : Fin 512) (n : Fin 2816) (I : Fin 2048) (p : Fin 4) (hI : I.val = 512 * (t.val % 4) + i.val) (hp : p.val = t.val / 4) :
    blk (iblk m c 0 t) (iblk m c 1 t) i n = pre m c I p n := by
  have hi := I.isLt
  have hq := p.isLt
  unfold blk pre
  refine Finset.sum_congr rfl fun k _ => ?_
  rw [blk_x m c t i k (by omega), blk_w m c t k n (by omega)]
  rw [show (⟨512 * (t.val % 4) + i.val, by omega⟩ : Fin 2048) = I from Fin.ext hI.symm, show (⟨t.val / 4, by omega⟩ : Fin 4) = p from Fin.ext hp.symm]

theorem arr2 : (dats m 0 c).arrAt 2 (cfgs 0).N = fun y => gu m c (y 0) (y 1) := by
  refine (dats m 0 c).arrAt_eq_of_covers 2 _ (by decide +kernel) fun t _ y => ?_
  have ht := lt16 t
  blk_simp
  rw [after0_2, eq_ix2 y]
  have hy0 : (y 0).val < 512 := (y 0).isLt
  have hy1 : (y 1).val < 2816 := (y 1).isLt
  refine (out2_at _ _ (y 0) (y 1)).trans ?_
  refine Eq.trans (b := gu m c ⟨512 * (t.val % 4) + (y 0).val, by omega⟩ ⟨2816 * (t.val / 4) + (y 1).val, by omega⟩) ?_ ?_
  · rw [blk_at m c t (y 0) (y 1) ⟨512 * (t.val % 4) + (y 0).val, by omega⟩ ⟨t.val / 4, by omega⟩ rfl rfl]
    unfold gu
    refine congrArg₂ (fun p n => pre m c ⟨512 * (t.val % 4) + (y 0).val, by omega⟩ p n) (Fin.ext ?_) (Fin.ext ?_)
    · show t.val / 4 = (2816 * (t.val / 4) + (y 1).val) / 2816
      omega
    · show (y 1).val = (2816 * (t.val / 4) + (y 1).val) % 2816
      omega
  refine congrArg₂ (fun a b => gu m c a b) (Fin.ext ?_) (Fin.ext ?_)
  · refine Eq.trans (b := 512 * (t.val % 4) + (y 0).val) rfl ?_
    blk_simp [idxs t]
    try omega
  · refine Eq.trans (b := 2816 * (t.val / 4) + (y 1).val) rfl ?_
    blk_simp [idxs t]
    try omega

theorem arr3 : (dats m 0 c).arrAt 3 (cfgs 0).N = fun y => act m c (y 0) (y 1) := by
  refine (dats m 0 c).arrAt_eq_of_covers 3 _ (by decide +kernel) fun t _ y => ?_
  have ht := lt16 t
  blk_simp
  rw [after0_3, eq_ix2 y]
  have hy0 : (y 0).val < 512 := (y 0).isLt
  have hy1 : (y 1).val < 1408 := (y 1).isLt
  refine (out3_at _ _ (y 0) (y 1)).trans ?_
  refine Eq.trans (b := act m c ⟨512 * (t.val % 4) + (y 0).val, by omega⟩ ⟨1408 * (t.val / 4) + (y 1).val, by omega⟩) ?_ ?_
  · rw [blk_at m c t (y 0) _ ⟨512 * (t.val % 4) + (y 0).val, by omega⟩ ⟨t.val / 4, by omega⟩ rfl rfl,
      blk_at m c t (y 0) _ ⟨512 * (t.val % 4) + (y 0).val, by omega⟩ ⟨t.val / 4, by omega⟩ rfl rfl]
    unfold act
    have e0 : (⟨t.val / 4, by omega⟩ : Fin 4) = ⟨(1408 * (t.val / 4) + (y 1).val) / 1408, by omega⟩ := Fin.ext (by
      show t.val / 4 = (1408 * (t.val / 4) + (y 1).val) / 1408
      omega)
    have e1 : (1408 * (t.val / 4) + (y 1).val) % 1408 = (y 1).val := by omega
    refine congrArg₂ silu ?_ ?_
    · exact congrArg₂ (fun p n => pre m c ⟨512 * (t.val % 4) + (y 0).val, by omega⟩ p n) e0 (Fin.ext e1.symm)
    · exact congrArg₂ (fun p n => pre m c ⟨512 * (t.val % 4) + (y 0).val, by omega⟩ p n) e0 (Fin.ext (congrArg (1408 + ·) e1.symm))
  refine congrArg₂ (fun a b => act m c a b) (Fin.ext ?_) (Fin.ext ?_)
  · refine Eq.trans (b := 512 * (t.val % 4) + (y 0).val) rfl ?_
    blk_simp [idxs t]
    try omega
  · refine Eq.trans (b := 1408 * (t.val / 4) + (y 1).val) rfl ?_
    blk_simp [idxs t]
    try omega

end Cert.FfnUpIdeal.Mm

namespace Cert.FfnUpRefIdeal.Mm

open Idealize.ShloMosaic Idealize.ShloMosaic.TcCoe Cert.FfnUpRefIdeal Cert.FfnUpRefIdeal.Gen

/-- An entry of the product with the weights' part p. -/
def pre (x : FVec Ideal S2048x2048 .bf16) (y : FVec Ideal S4x2048x2816 .bf16) (i : Fin 2048) (p : Fin 4) (n : Fin 2816) : EReal :=
  ∑ k : Fin 2048, x (ix2 i k) * y (ix3 p k n)

theorem gu_at (x : FVec Ideal S2048x2048 .bf16) (y : FVec Ideal S4x2048x2816 .bf16) (i : Fin 2048) (f : Fin 11264) :
    @Eq EReal (truncf .bf16 (shapeCast _ (Host.dotGeneral (F := Ideal) dot_S2048x2048_S4x2048x2816_S2048x4x2816_1_1_0_02_n_n none (extf .f32 x bitsLt_bf16_f32) (extf .f32 y bitsLt_bf16_f32)) shapeCasts_S2048x4x2816_S2048x11264) bitsLt_bf16_f32 (ix2 i f))
      (pre x y i ⟨f.val / 2816, by omega⟩ ⟨f.val % 2816, by omega⟩) := by
  unfold pre
  pointwise

theorem act_at (x : FVec Ideal S2048x2048 .bf16) (y : FVec Ideal S4x2048x2816 .bf16) (i : Fin 2048) (f : Fin 5632) :
    @Eq EReal (truncf .bf16 (shapeCast _ (mulf (mulf (extractStridedSlice S2048x4x1408 ![0, 0, 0] (Host.dotGeneral (F := Ideal) dot_S2048x2048_S4x2048x2816_S2048x4x2816_1_1_0_02_n_n none (extf .f32 x bitsLt_bf16_f32) (extf .f32 y bitsLt_bf16_f32)) slices_S2048x4x2816_S2048x4x1408_0_0_0) (Host.divf (broadcastInDim S2048x4x1408 ![] bcast_S_S2048x4x1408 (constant S_ .f32 0x3F800000#32)) (addf (broadcastInDim S2048x4x1408 ![] bcast_S_S2048x4x1408 (constant S_ .f32 0x3F800000#32)) (Host.exp (Host.negf (extractStridedSlice S2048x4x1408 ![0, 0, 0] (Host.dotGeneral (F := Ideal) dot_S2048x2048_S4x2048x2816_S2048x4x2816_1_1_0_02_n_n none (extf .f32 x bitsLt_bf16_f32) (extf .f32 y bitsLt_bf16_f32)) slices_S2048x4x2816_S2048x4x1408_0_0_0)))))) (extractStridedSlice S2048x4x1408 ![0, 0, 1408] (Host.dotGeneral (F := Ideal) dot_S2048x2048_S4x2048x2816_S2048x4x2816_1_1_0_02_n_n none (extf .f32 x bitsLt_bf16_f32) (extf .f32 y bitsLt_bf16_f32)) slices_S2048x4x2816_S2048x4x1408_0_0_1408)) shapeCasts_S2048x4x1408_S2048x5632) bitsLt_bf16_f32 (ix2 i f))
      (Cert.FfnUpIdeal.Mm.silu (pre x y i ⟨f.val / 1408, by omega⟩ ⟨f.val % 1408, by omega⟩)
        (pre x y i ⟨f.val / 1408, by omega⟩ ⟨1408 + f.val % 1408, by omega⟩)) := by
  unfold pre Cert.FfnUpIdeal.Mm.silu
  pointwise

end Cert.FfnUpRefIdeal.Mm

namespace Cert.FfnUp.Mm

open Idealize.ShloMosaic Idealize.ShloMosaic.TcCoe Idealize.SL.Sem

theorem frame : Cert.quiescent_FfnUp (hFfnUp := Cert.FfnUp.Gen.facts) := fun m ρ _ => Cert.FfnUp.Gen.frame m ρ

theorem frame_ideal : Cert.quiescent_FfnUpIdeal (hFfnUpIdeal := Cert.FfnUpIdeal.Gen.facts) := fun m ρ _ =>
  Cert.FfnUpIdeal.Gen.frame m ρ

theorem frame_ref : Cert.quiescent_FfnUpRefIdeal (hFfnUpRefIdeal := Cert.FfnUpRefIdeal.Gen.facts) := fun m ρ _ =>
  (θ_run Cert.FfnUpRefIdeal.defs _ _).mono
    (fun r h => ⟨fun c => (h c).2.2, sem_eq_zero_of_no_sems (by decide) r.2⟩) (Cert.FfnUpRefIdeal.Value.run m ρ)

theorem algebraic : Cert.algebraic_FfnUpIdeal_FfnUpRefIdeal (hFfnUpIdeal := Cert.FfnUpIdeal.Gen.facts)
    (hFfnUpRefIdeal := Cert.FfnUpRefIdeal.Gen.facts) := by
  intro m g m' g' _ hagree
  refine ⟨fun c y => Cert.FfnUpIdeal.Mm.gu m c (y 0) (y 1), fun c y => Cert.FfnUpIdeal.Mm.act m c (y 0) (y 1),
    (θ_run Cert.FfnUpIdeal.defs _ _).mono (fun r h c => ⟨(h c).1.trans (Cert.FfnUpIdeal.Mm.arr2 m c), (h c).2.1.trans (Cert.FfnUpIdeal.Mm.arr3 m c), (h c).2.2⟩)
      (Cert.FfnUpIdeal.Value.run_blocks m g),
    (θ_run Cert.FfnUpRefIdeal.defs _ _).mono (fun r h c => ⟨(h c).1.trans ?_, (h c).2.1.trans ?_, (h c).2.2⟩) (Cert.FfnUpRefIdeal.Value.run m' g')⟩
  · obtain ⟨h0, h1⟩ := hagree c
    funext y
    rw [eq_ix2 y]
    refine (Cert.FfnUpRefIdeal.Mm.gu_at _ _ (y 0) (y 1)).trans ?_
    unfold Cert.FfnUpIdeal.Mm.gu Cert.FfnUpIdeal.Mm.pre Cert.FfnUpIdeal.Mm.inp Cert.FfnUpIdeal.Mm.wgt Cert.FfnUpRefIdeal.Mm.pre
    rw [h0, h1]
    rfl
  · obtain ⟨h0, h1⟩ := hagree c
    funext y
    rw [eq_ix2 y]
    refine (Cert.FfnUpRefIdeal.Mm.act_at _ _ (y 0) (y 1)).trans ?_
    unfold Cert.FfnUpIdeal.Mm.act Cert.FfnUpIdeal.Mm.pre Cert.FfnUpIdeal.Mm.inp Cert.FfnUpIdeal.Mm.wgt Cert.FfnUpRefIdeal.Mm.pre
    rw [h0, h1]
    rfl

end Cert.FfnUp.Mm

end
-- ==== Proof.Mm.DownDx.lean ====
/- The input gradient of the down projection and of its activation, `ffn_down_dx`: the kernel's result is the reference's, entry by entry. -/
module

public import proofs.«01_k».proof.Defs
public import proofs.«01_k».proof.Proof.Gen.DownDx.Frame
public import proofs.«01_k».proof.Proof.Gen.DownDxIdeal.Value
public import proofs.«01_k».proof.Proof.Gen.DownDxRefIdeal.Run
public import proofs.«01_k».proof.Proof.Att.Finite
public import Idealize.ShloMosaic.Lib.Pipeline.ValueKit
public import Idealize.ShloMosaic.Lib.Quiescent

@[expose] public section

set_option maxRecDepth 16384

noncomputable section

namespace Cert.DownDx.Mm

open Idealize.ShloMosaic Cert.Att

/-- The sigmoid. -/
def sg (g : EReal) : EReal := Ideal.div 1 (1 + Ideal.exp (-g))

/-- The gradients of the up projection and of the gate, as the kernel computes them. -/
def dup (D G : EReal) : EReal := D * sg G * G
def dgt (D G U : EReal) : EReal := D * sg G * U * (1 + G - G * sg G)

/-- The same as the chain rule gives them. -/
def rup (D G : EReal) : EReal := G * sg G * D
def rgt (D G U : EReal) : EReal := D * U * sg G + G * (D * U) * (sg G * (1 - sg G))

/-- An entry of the gradient times the transposed weights. -/
def act (d : (⟨2, ![2048, 2048]⟩ : Shape).Idx → EReal) (w : (⟨2, ![5632, 2048]⟩ : Shape).Idx → EReal) (i : Fin 2048) (j : Fin 5632) : EReal :=
  ∑ k : Fin 2048, d (ix2 i k) * w (ix2 j k)

/-- The gate and the up projection at a column of the activation: 1408 columns of the gate, then as many of the other, four times. -/
def gate (g : (⟨2, ![2048, 11264]⟩ : Shape).Idx → EReal) (i : Fin 2048) (j : Fin 5632) : EReal :=
  g (ix2 i ⟨j.val / 1408 * 2816 + j.val % 1408, by omega⟩)
def up (g : (⟨2, ![2048, 11264]⟩ : Shape).Idx → EReal) (i : Fin 2048) (j : Fin 5632) : EReal :=
  g (ix2 i ⟨j.val / 1408 * 2816 + 1408 + j.val % 1408, by omega⟩)

/-- The column of the activation that a column of the result belongs to. -/
def col (f : Fin 11264) : Fin 5632 := ⟨f.val / 2816 * 1408 + f.val % 1408, by omega⟩

/-- An entry of the result, as the kernel computes it. -/
def res (d : (⟨2, ![2048, 2048]⟩ : Shape).Idx → EReal) (w : (⟨2, ![5632, 2048]⟩ : Shape).Idx → EReal) (g : (⟨2, ![2048, 11264]⟩ : Shape).Idx → EReal)
    (i : Fin 2048) (f : Fin 11264) : EReal :=
  if f.val % 2816 < 1408 then dgt (act d w i (col f)) (gate g i (col f)) (up g i (col f)) else dup (act d w i (col f)) (gate g i (col f))

theorem act_real {d : (⟨2, ![2048, 2048]⟩ : Shape).Idx → EReal} {w : (⟨2, ![5632, 2048]⟩ : Shape).Idx → EReal} (hd : ∀ i k, IsR (d (ix2 i k)))
    (hw : ∀ j k, IsR (w (ix2 j k))) (i : Fin 2048) (j : Fin 5632) : IsR (act d w i j) :=
  IsR.sum _ fun k => (hd i k).mul (hw j k)

theorem sg_real {G : EReal} (h : IsR G) : IsR (sg G) := by
  obtain ⟨g, rfl⟩ := h
  refine IsR.div ⟨1, EReal.coe_one.symm⟩ ⟨1 + Real.exp (-g), by positivity, ?_⟩
  rw [← EReal.coe_neg, show Ideal.exp ((-g : ℝ) : EReal) = (Real.exp (-g) : EReal) from rfl, EReal.coe_add, EReal.coe_one]

theorem up_eq {D G : EReal} : rup D G = dup D G := by
  unfold rup dup
  rw [mul_comm, mul_comm G, ← mul_assoc]

theorem gt_eq {D G U : EReal} (hD : IsR D) (hG : IsR G) (hU : IsR U) : rgt D G U = dgt D G U := by
  unfold rgt dgt
  obtain ⟨s, hs⟩ := sg_real hG
  rw [hs]
  obtain ⟨d, rfl⟩ := hD
  obtain ⟨g, rfl⟩ := hG
  obtain ⟨u, rfl⟩ := hU
  rw [← EReal.coe_one]
  simp only [← EReal.coe_mul, ← EReal.coe_add, ← EReal.coe_sub]
  refine congrArg _ ?_
  ring

end Cert.DownDx.Mm

namespace Cert.DownDxIdeal.Mm

open Idealize.ShloMosaic Idealize.ShloMosaic.TcCoe Idealize.ShloMosaic.Tactic Cert.DownDxIdeal Cert.DownDxIdeal.Gen Cert.DownDx.Mm
open Idealize.ShloMosaic.Pipeline (Dat)

variable (m : (ℓ : Loc nD τ sig) → Buf (Elt Ideal) ℓ) (c : Dev nD)

theorem zero2 : (![0, 0] : Fin 2 → Nat) = fun _ => 0 := by
  funext a
  rcases a with ⟨_ | _ | n, h⟩
  · rfl
  · rfl
  · omega

theorem idxs : ∀ t : Fin cfg0.N, win0_0.index t = ![t.val % 4, 0] ∧ win0_1.index t = ![t.val / 4, 0]
    ∧ win0_2.index t = ![t.val % 4, t.val / 4] ∧ win0_3.index t = ![t.val % 4, t.val / 4] :=
  (by decide +kernel : ∀ t : Fin grid0.N, _)

/-- The product of a strip of 256 rows with a block of the transposed weights. -/
def mul (x : Vec Ideal S256x2048 .bf16) (y : Vec Ideal S1408x2048 .bf16) (i : Fin 256) (n : Fin 1408) : EReal :=
  ∑ k : Fin 2048, x (ix2 i k) * y (ix2 n k)

theorem pay8_at (x : Vec Ideal S256x2048 .bf16) (y : Vec Ideal S1408x2048 .bf16) (g u : Vec Ideal S256x1408 .bf16) (i : Fin 256) (n : Fin 1408) :
    @Eq EReal (k0_pay8 x y g u (ix2 i n)) (dgt (mul x y i n) (g (ix2 i n)) (u (ix2 i n))) := by
  unfold k0_pay8 k0_pay7 k0_pay6 k0_pay5 mul dgt sg
  pointwise
  rw [zero_sub]

theorem pay9_at (x : Vec Ideal S256x2048 .bf16) (y : Vec Ideal S1408x2048 .bf16) (g : Vec Ideal S256x1408 .bf16) (i : Fin 256) (n : Fin 1408) :
    @Eq EReal (k0_pay9 x y g (ix2 i n)) (dup (mul x y i n) (g (ix2 i n))) := by
  unfold k0_pay9 k0_pay7 k0_pay6 k0_pay5 mul dup sg
  pointwise
  rw [zero_sub]

theorem pay3_at (x : Vec Ideal S256x2048 .bf16) (y : Vec Ideal S1408x2048 .bf16) (g u : Vec Ideal S256x1408 .bf16) (i : Fin 256) (n : Fin 1408) :
    @Eq EReal (k0_pay3 (k0_pay10 x y) (k0_pay11 g) u (ix2 i n)) (dgt (mul x y i n) (g (ix2 i n)) (u (ix2 i n))) := by
  unfold k0_pay3 k0_pay2 k0_pay1 k0_pay10 k0_pay11 mul dgt sg
  pointwise
  rw [zero_sub]

theorem pay4_at (x : Vec Ideal S256x2048 .bf16) (y : Vec Ideal S1408x2048 .bf16) (g : Vec Ideal S256x1408 .bf16) (i : Fin 256) (n : Fin 1408) :
    @Eq EReal (k0_pay4 (k0_pay10 x y) (k0_pay11 g) (ix2 i n)) (dup (mul x y i n) (g (ix2 i n))) := by
  unfold k0_pay4 k0_pay2 k0_pay1 k0_pay10 k0_pay11 mul dup sg
  pointwise
  rw [zero_sub]

/-- The product of a block of 512 rows. -/
def blk (x : Vec Ideal S512x2048 .bf16) (y : Vec Ideal S1408x2048 .bf16) (i : Fin 512) (n : Fin 1408) : EReal :=
  ∑ k : Fin 2048, x (ix2 i k) * y (ix2 n k)

/-- An entry of the block that a grid point leaves. -/
def ent (x : Vec Ideal S512x2048 .bf16) (y : Vec Ideal S1408x2048 .bf16) (g : Vec Ideal S512x2816 .bf16) (i : Fin 512) (n : Fin 2816) : EReal :=
  if n.val < 1408 then dgt (blk x y i ⟨n.val % 1408, by omega⟩) (g (ix2 i ⟨n.val % 1408, by omega⟩)) (g (ix2 i ⟨1408 + n.val % 1408, by omega⟩))
  else dup (blk x y i ⟨n.val % 1408, by omega⟩) (g (ix2 i ⟨n.val % 1408, by omega⟩))

theorem strip0 (x : Vec Ideal S512x2048 .bf16) (y : Vec Ideal S1408x2048 .bf16) (i : Fin 512) (j : Fin 256) (n : Fin 1408)
    (h : i.val = 0 + j.val) : mul (View.ld x r0_0) (View.ld y r0_1) j n = blk x y i n := by
  unfold mul blk
  rw [View.ld_unit_zero zero2]
  refine Finset.sum_congr rfl fun k _ => congrArg (fun a => a * y (ix2 n k)) ?_
  refine congrArg x (funext fun a => ?_)
  rcases a with ⟨_ | _ | a, ha⟩
  · exact Fin.ext (by show 0 + 1 * j.val = i.val; omega)
  · exact Fin.ext (by show 0 + 1 * k.val = k.val; omega)
  · exact absurd ha (by show ¬(a + 1 + 1 < 2); omega)

theorem strip1 (x : Vec Ideal S512x2048 .bf16) (y : Vec Ideal S1408x2048 .bf16) (i : Fin 512) (j : Fin 256) (n : Fin 1408)
    (h : i.val = 256 + j.val) : mul (View.ld x r0_4) (View.ld y r0_1) j n = blk x y i n := by
  unfold mul blk
  rw [View.ld_unit_zero zero2]
  refine Finset.sum_congr rfl fun k _ => congrArg (fun a => a * y (ix2 n k)) ?_
  refine congrArg x (funext fun a => ?_)
  rcases a with ⟨_ | _ | a, ha⟩
  · exact Fin.ext (by show 256 + 1 * j.val = i.val; omega)
  · exact Fin.ext (by show 0 + 1 * k.val = k.val; omega)
  · exact absurd ha (by show ¬(a + 1 + 1 < 2); omega)

theorem ld2 (g : Vec Ideal S512x2816 .bf16) (i : Fin 512) (n : Fin 2816) (j : Fin 256) (q : Fin 1408) (h : i.val = 0 + j.val)
    (h' : n.val = 0 + q.val) : View.ld g r0_2 (ix2 j q) = g (ix2 i n) := by
  refine congrArg g (funext fun a => ?_)
  rcases a with ⟨_ | _ | a, ha⟩
  · exact Fin.ext (by show 0 + 1 * j.val = i.val; omega)
  · exact Fin.ext (by show 0 + 1 * q.val = n.val; omega)
  · exact absurd ha (by show ¬(a + 1 + 1 < 2); omega)

theorem ld3 (g : Vec Ideal S512x2816 .bf16) (i : Fin 512) (n : Fin 2816) (j : Fin 256) (q : Fin 1408) (h : i.val = 0 + j.val)
    (h' : n.val = 1408 + q.val) : View.ld g r0_3 (ix2 j q) = g (ix2 i n) := by
  refine congrArg g (funext fun a => ?_)
  rcases a with ⟨_ | _ | a, ha⟩
  · exact Fin.ext (by show 0 + 1 * j.val = i.val; omega)
  · exact Fin.ext (by show 1408 + 1 * q.val = n.val; omega)
  · exact absurd ha (by show ¬(a + 1 + 1 < 2); omega)

theorem ld5 (g : Vec Ideal S512x2816 .bf16) (i : Fin 512) (n : Fin 2816) (j : Fin 256) (q : Fin 1408) (h : i.val = 256 + j.val)
    (h' : n.val = 0 + q.val) : View.ld g r0_5 (ix2 j q) = g (ix2 i n) := by
  refine congrArg g (funext fun a => ?_)
  rcases a with ⟨_ | _ | a, ha⟩
  · exact Fin.ext (by show 256 + 1 * j.val = i.val; omega)
  · exact Fin.ext (by show 0 + 1 * q.val = n.val; omega)
  · exact absurd ha (by show ¬(a + 1 + 1 < 2); omega)

theorem ld6 (g : Vec Ideal S512x2816 .bf16) (i : Fin 512) (n : Fin 2816) (j : Fin 256) (q : Fin 1408) (h : i.val = 256 + j.val)
    (h' : n.val = 1408 + q.val) : View.ld g r0_6 (ix2 j q) = g (ix2 i n) := by
  refine congrArg g (funext fun a => ?_)
  rcases a with ⟨_ | _ | a, ha⟩
  · exact Fin.ext (by show 256 + 1 * j.val = i.val; omega)
  · exact Fin.ext (by show 1408 + 1 * q.val = n.val; omega)
  · exact absurd ha (by show ¬(a + 1 + 1 < 2); omega)

theorem piece_pay4 (x : Vec Ideal S512x2048 .bf16) (y : Vec Ideal S1408x2048 .bf16) (g : Vec Ideal S512x2816 .bf16) (i : Fin 512) (n : Fin 2816)
    (j : Fin 256) (q : Fin 1408) (h0 : i.val = 256 + j.val) (h1 : n.val = 1408 + q.val) :
    dup (mul (View.ld x r0_4) (View.ld y r0_1) j q) (View.ld g r0_5 (ix2 j q)) = ent x y g i n := by
  have hq := q.isLt
  have e : (⟨n.val % 1408, by omega⟩ : Fin 1408) = q := Fin.ext (by show n.val % 1408 = q.val; omega)
  unfold ent
  rw [if_neg (by omega), strip1 x y i j _ h0, e,
    ld5 g i ⟨n.val % 1408, by omega⟩ j q h0 (by show n.val % 1408 = 0 + q.val; omega)]

theorem piece_pay3 (x : Vec Ideal S512x2048 .bf16) (y : Vec Ideal S1408x2048 .bf16) (g : Vec Ideal S512x2816 .bf16) (i : Fin 512) (n : Fin 2816)
    (j : Fin 256) (q : Fin 1408) (h0 : i.val = 256 + j.val) (h1 : n.val = 0 + q.val) :
    dgt (mul (View.ld x r0_4) (View.ld y r0_1) j q) (View.ld g r0_5 (ix2 j q)) (View.ld g r0_6 (ix2 j q)) = ent x y g i n := by
  have hq := q.isLt
  have e : (⟨n.val % 1408, by omega⟩ : Fin 1408) = q := Fin.ext (by show n.val % 1408 = q.val; omega)
  unfold ent
  rw [if_pos (by omega), strip1 x y i j _ h0, e,
    ld5 g i ⟨n.val % 1408, by omega⟩ j q h0 (by show n.val % 1408 = 0 + q.val; omega),
    ld6 g i ⟨1408 + n.val % 1408, by omega⟩ j q h0 (by show 1408 + n.val % 1408 = 1408 + q.val; omega)]

theorem piece_pay9 (x : Vec Ideal S512x2048 .bf16) (y : Vec Ideal S1408x2048 .bf16) (g : Vec Ideal S512x2816 .bf16) (i : Fin 512) (n : Fin 2816)
    (j : Fin 256) (q : Fin 1408) (h0 : i.val = 0 + j.val) (h1 : n.val = 1408 + q.val) :
    dup (mul (View.ld x r0_0) (View.ld y r0_1) j q) (View.ld g r0_2 (ix2 j q)) = ent x y g i n := by
  have hq := q.isLt
  have e : (⟨n.val % 1408, by omega⟩ : Fin 1408) = q := Fin.ext (by show n.val % 1408 = q.val; omega)
  unfold ent
  rw [if_neg (by omega), strip0 x y i j _ h0, e,
    ld2 g i ⟨n.val % 1408, by omega⟩ j q h0 (by show n.val % 1408 = 0 + q.val; omega)]

theorem piece_pay8 (x : Vec Ideal S512x2048 .bf16) (y : Vec Ideal S1408x2048 .bf16) (g : Vec Ideal S512x2816 .bf16) (i : Fin 512) (n : Fin 2816)
    (j : Fin 256) (q : Fin 1408) (h0 : i.val = 0 + j.val) (h1 : n.val = 0 + q.val) :
    dgt (mul (View.ld x r0_0) (View.ld y r0_1) j q) (View.ld g r0_2 (ix2 j q)) (View.ld g r0_3 (ix2 j q)) = ent x y g i n := by
  have hq := q.isLt
  have e : (⟨n.val % 1408, by omega⟩ : Fin 1408) = q := Fin.ext (by show n.val % 1408 = q.val; omega)
  unfold ent
  rw [if_pos (by omega), strip0 x y i j _ h0, e,
    ld2 g i ⟨n.val % 1408, by omega⟩ j q h0 (by show n.val % 1408 = 0 + q.val; omega),
    ld3 g i ⟨1408 + n.val % 1408, by omega⟩ j q h0 (by show 1408 + n.val % 1408 = 1408 + q.val; omega)]

theorem out3_at (x : Vec Ideal S512x2048 .bf16) (y : Vec Ideal S1408x2048 .bf16) (g : Vec Ideal S512x2816 .bf16) (i : Fin 512) (n : Fin 2816) :
    @Eq EReal (out0_3 x y g (ix2 i n)) (ent x y g i n) := by
  unfold out0_3
  refine View.canon_eq_of_allAt _ _ _ (cover0_3 _ _ _ _ _) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · intro (z : S256x1408.Idx) hz
    rw [eq_ix2 z]
    exact (pay4_at _ _ _ (z 0) (z 1)).trans (piece_pay4 x y g i n (z 0) (z 1) (hz 0) (hz 1))
  · intro (z : S256x1408.Idx) hz
    rw [eq_ix2 z]
    exact (pay3_at _ _ _ _ (z 0) (z 1)).trans (piece_pay3 x y g i n (z 0) (z 1) (hz 0) (hz 1))
  · intro (z : S256x1408.Idx) hz
    rw [eq_ix2 z]
    exact (pay9_at _ _ _ (z 0) (z 1)).trans (piece_pay9 x y g i n (z 0) (z 1) (hz 0) (hz 1))
  · intro (z : S256x1408.Idx) hz
    rw [eq_ix2 z]
    exact (pay8_at _ _ _ _ (z 0) (z 1)).trans (piece_pay8 x y g i n (z 0) (z 1) (hz 0) (hz 1))

theorem lt16 (t : Fin cfg0.N) : t.val < 16 := lt_of_lt_of_eq t.isLt N_0

theorem blk_d (t : Fin cfg0.N) (i : Fin 512) (k : Fin 2048) (h : 512 * (t.val % 4) + i.val < 2048) :
    @Eq EReal (iblk m c 0 t (ix2 i k)) (m ((c : Thread nD τ).loc main_arg0) (ix2 ⟨512 * (t.val % 4) + i.val, h⟩ k)) := by
  blk_ext [iblk, V, idxs t]

theorem blk_w (t : Fin cfg0.N) (n : Fin 1408) (k : Fin 2048) (h : 1408 * (t.val / 4) + n.val < 5632) :
    @Eq EReal (iblk m c 1 t (ix2 n k)) (m ((c : Thread nD τ).loc main_arg1) (ix2 ⟨1408 * (t.val / 4) + n.val, h⟩ k)) := by
  blk_ext [iblk, V, idxs t]

theorem blk_g (t : Fin cfg0.N) (i : Fin 512) (n : Fin 2816) (I : Fin 2048) (f : Fin 11264) (hI : I.val = 512 * (t.val % 4) + i.val)
    (hf : f.val = 2816 * (t.val / 4) + n.val) :
    @Eq EReal (iblk m c 2 t (ix2 i n)) (m ((c : Thread nD τ).loc main_arg2) (ix2 I f)) := by
  rw [show I = ⟨512 * (t.val % 4) + i.val, hI ▸ I.isLt⟩ from Fin.ext hI, show f = ⟨2816 * (t.val / 4) + n.val, hf ▸ f.isLt⟩ from Fin.ext hf]
  blk_ext [iblk, V, idxs t]

theorem blk_at (t : Fin cfg0.N) (i : Fin 512) (n : Fin 1408) (I : Fin 2048) (j : Fin 5632) (hI : I.val = 512 * (t.val % 4) + i.val)
    (hj : j.val = 1408 * (t.val / 4) + n.val) :
    blk (iblk m c 0 t) (iblk m c 1 t) i n = act (m ((c : Thread nD τ).loc main_arg0)) (m ((c : Thread nD τ).loc main_arg1)) I j := by
  have hi := I.isLt
  have hq := j.isLt
  unfold blk act
  refine Finset.sum_congr rfl fun k _ => ?_
  rw [blk_d m c t i k (by omega), blk_w m c t n k (by omega)]
  rw [show (⟨512 * (t.val % 4) + i.val, by omega⟩ : Fin 2048) = I from Fin.ext hI.symm, show (⟨1408 * (t.val / 4) + n.val, by omega⟩ : Fin 5632) = j from Fin.ext hj.symm]

/-- The result. -/
def out (i : Fin 2048) (f : Fin 11264) : EReal :=
  res (m ((c : Thread nD τ).loc main_arg0)) (m ((c : Thread nD τ).loc main_arg1)) (m ((c : Thread nD τ).loc main_arg2)) i f

theorem ent_at (t : Fin cfg0.N) (i : Fin 512) (n : Fin 2816) (I : Fin 2048) (f : Fin 11264) (hI : I.val = 512 * (t.val % 4) + i.val)
    (hf : f.val = 2816 * (t.val / 4) + n.val) : ent (iblk m c 0 t) (iblk m c 1 t) (iblk m c 2 t) i n = out m c I f := by
  have hn := n.isLt
  have hc : (col f).val = f.val / 2816 * 1408 + f.val % 1408 := rfl
  have eb := blk_at m c t i ⟨n.val % 1408, by omega⟩ I (col f) hI (by rw [hc]; show _ = 1408 * (t.val / 4) + n.val % 1408; omega)
  have eg : @Eq EReal (iblk m c 2 t (ix2 i ⟨n.val % 1408, by omega⟩)) (gate (m ((c : Thread nD τ).loc main_arg2)) I (col f)) :=
    blk_g m c t i ⟨n.val % 1408, by omega⟩ I _ hI (by
      show (col f).val / 1408 * 2816 + (col f).val % 1408 = 2816 * (t.val / 4) + n.val % 1408
      omega)
  have eu : @Eq EReal (iblk m c 2 t (ix2 i ⟨1408 + n.val % 1408, by omega⟩)) (up (m ((c : Thread nD τ).loc main_arg2)) I (col f)) :=
    blk_g m c t i ⟨1408 + n.val % 1408, by omega⟩ I _ hI (by
      show (col f).val / 1408 * 2816 + 1408 + (col f).val % 1408 = 2816 * (t.val / 4) + (1408 + n.val % 1408)
      omega)
  have hm : f.val % 2816 = n.val := by omega
  unfold ent out res
  rw [hm, eb, eg, eu]

theorem arr3 : (dats m 0 c).arrAt 3 (cfgs 0).N = fun y => out m c (y 0) (y 1) := by
  refine (dats m 0 c).arrAt_eq_of_covers 3 _ (by decide +kernel) fun t _ y => ?_
  have ht := lt16 t
  blk_simp
  rw [after0_3, eq_ix2 y]
  have hy0 : (y 0).val < 512 := (y 0).isLt
  have hy1 : (y 1).val < 2816 := (y 1).isLt
  refine (out3_at _ _ _ (y 0) (y 1)).trans ?_
  refine (ent_at m c t (y 0) (y 1) ⟨512 * (t.val % 4) + (y 0).val, by omega⟩ ⟨2816 * (t.val / 4) + (y 1).val, by omega⟩ rfl rfl).trans ?_
  refine congrArg₂ (fun a b => out m c a b) (Fin.ext ?_) (Fin.ext ?_)
  · refine Eq.trans (b := 512 * (t.val % 4) + (y 0).val) rfl ?_
    blk_simp [idxs t]
    try omega
  · refine Eq.trans (b := 2816 * (t.val / 4) + (y 1).val) rfl ?_
    blk_simp [idxs t]
    try omega

theorem pre_facts : Cert.Pre_finite3.Facts := ⟨by decide, by decide, by decide, by decide⟩

end Cert.DownDxIdeal.Mm

namespace Cert.DownDxRefIdeal.Mm

open Idealize.ShloMosaic Idealize.ShloMosaic.TcCoe Cert.DownDx.Mm Cert.DownDxRefIdeal Cert.DownDxRefIdeal.Gen

theorem x_at (d : FVec Ideal S2048x2048 .bf16) (w : FVec Ideal S5632x2048 .bf16) (g : FVec Ideal S2048x11264 .bf16) (i : Fin 2048) (j : Fin 5632) :
    @Eq EReal ((mulf (mulf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632) (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632)))))) (Host.dotGeneral (F := Ideal) dot_S2048x2048_S5632x2048_S2048x5632_1_1_0_0_n_n none (extf .f32 d bitsLt_bf16_f32) (extf .f32 w bitsLt_bf16_f32))) (ix2 i j))
      (rup (act d w i j) (gate g i j)) := by
  unfold act gate rup sg
  pointwise

theorem y_at (d : FVec Ideal S2048x2048 .bf16) (w : FVec Ideal S5632x2048 .bf16) (g : FVec Ideal S2048x11264 .bf16) (i : Fin 2048) (j : Fin 5632) :
    @Eq EReal ((addf (mulf (mulf (Host.dotGeneral (F := Ideal) dot_S2048x2048_S5632x2048_S2048x5632_1_1_0_0_n_n none (extf .f32 d bitsLt_bf16_f32) (extf .f32 w bitsLt_bf16_f32)) (shapeCast _ (shapeCast _ (extractStridedSlice S2048x4x1x1408 ![0, 0, 1, 0] (shapeCast _ (extf .f32 g bitsLt_bf16_f32) shapeCasts_S2048x11264_S2048x4x2x1408) slices_S2048x4x2x1408_S2048x4x1x1408_0_0_1_0) shapeCasts_S2048x4x1x1408_S2048x4x1408) shapeCasts_S2048x4x1408_S2048x5632)) (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632)))))) (mulf (mulf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632) (mulf (Host.dotGeneral (F := Ideal) dot_S2048x2048_S5632x2048_S2048x5632_1_1_0_0_n_n none (extf .f32 d bitsLt_bf16_f32) (extf .f32 w bitsLt_bf16_f32)) (shapeCast _ (shapeCast _ (extractStridedSlice S2048x4x1x1408 ![0, 0, 1, 0] (shapeCast _ (extf .f32 g bitsLt_bf16_f32) shapeCasts_S2048x11264_S2048x4x2x1408) slices_S2048x4x2x1408_S2048x4x1x1408_0_0_1_0) shapeCasts_S2048x4x1x1408_S2048x4x1408) shapeCasts_S2048x4x1408_S2048x5632))) (mulf (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632))))) (subf (broadcastInDim S2048x5632 ![] bcast_S_S2048x5632 (constant (F := Ideal) S_ .f32 0x3F800000#32)) (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632))))))))) (ix2 i j))
      (rgt (act d w i j) (gate g i j) (up g i j)) := by
  unfold act gate up rgt sg
  pointwise

theorem pads_at (X Y : FVec Ideal S2048x5632 .f32) (i : Fin 2048) (f : Fin 11264) :
    @Eq EReal ((truncf .bf16 (shapeCast _ (addf (pad S2048x4x2x1408 ![0, 0, 1, 0] ![0, 0, 0, 0] ![0, 0, 0, 0] (broadcastInDim S2048x4x1x1408 ![0, 1, 3] bcast_S2048x4x1408_S2048x4x1x1408_0_1_3 (shapeCast _ X shapeCasts_S2048x5632_S2048x4x1408)) (constant (F := Ideal) S_ .f32 0x00000000#32) pads_S2048x4x1x1408_S2048x4x2x1408_000_000_100_000 h_S_) (pad S2048x4x2x1408 ![0, 0, 0, 0] ![0, 0, 1, 0] ![0, 0, 0, 0] (broadcastInDim S2048x4x1x1408 ![0, 1, 3] bcast_S2048x4x1408_S2048x4x1x1408_0_1_3 (shapeCast _ Y shapeCasts_S2048x5632_S2048x4x1408)) (constant (F := Ideal) S_ .f32 0x00000000#32) pads_S2048x4x1x1408_S2048x4x2x1408_000_000_010_000 h_S_)) shapeCasts_S2048x4x2x1408_S2048x11264) bitsLt_bf16_f32) (ix2 i f))
      (if f.val % 2816 < 1408 then Y (ix2 i ⟨f.val / 2816 * 1408 + f.val % 1408, by omega⟩) else X (ix2 i ⟨f.val / 2816 * 1408 + f.val % 1408, by omega⟩)) := by
  pointwise
  by_cases h : f.val % 2816 < 1408
  · rw [if_pos h, dif_neg (by omega), dif_pos (by omega), zero_add]
  · rw [if_neg h, dif_pos (by omega), dif_neg (by omega), add_zero]

theorem ends_at (d : FVec Ideal S2048x2048 .bf16) (w : FVec Ideal S5632x2048 .bf16) (g : FVec Ideal S2048x11264 .bf16) (i : Fin 2048) (f : Fin 11264) :
    @Eq EReal ((truncf .bf16 (shapeCast _ (addf (pad S2048x4x2x1408 ![0, 0, 1, 0] ![0, 0, 0, 0] ![0, 0, 0, 0] (broadcastInDim S2048x4x1x1408 ![0, 1, 3] bcast_S2048x4x1408_S2048x4x1x1408_0_1_3 (shapeCast _ (mulf (mulf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632) (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632)))))) (Host.dotGeneral (F := Ideal) dot_S2048x2048_S5632x2048_S2048x5632_1_1_0_0_n_n none (extf .f32 d bitsLt_bf16_f32) (extf .f32 w bitsLt_bf16_f32))) shapeCasts_S2048x5632_S2048x4x1408)) (constant (F := Ideal) S_ .f32 0x00000000#32) pads_S2048x4x1x1408_S2048x4x2x1408_000_000_100_000 h_S_) (pad S2048x4x2x1408 ![0, 0, 0, 0] ![0, 0, 1, 0] ![0, 0, 0, 0] (broadcastInDim S2048x4x1x1408 ![0, 1, 3] bcast_S2048x4x1408_S2048x4x1x1408_0_1_3 (shapeCast _ (addf (mulf (mulf (Host.dotGeneral (F := Ideal) dot_S2048x2048_S5632x2048_S2048x5632_1_1_0_0_n_n none (extf .f32 d bitsLt_bf16_f32) (extf .f32 w bitsLt_bf16_f32)) (shapeCast _ (shapeCast _ (extractStridedSlice S2048x4x1x1408 ![0, 0, 1, 0] (shapeCast _ (extf .f32 g bitsLt_bf16_f32) shapeCasts_S2048x11264_S2048x4x2x1408) slices_S2048x4x2x1408_S2048x4x1x1408_0_0_1_0) shapeCasts_S2048x4x1x1408_S2048x4x1408) shapeCasts_S2048x4x1408_S2048x5632)) (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632)))))) (mulf (mulf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632) (mulf (Host.dotGeneral (F := Ideal) dot_S2048x2048_S5632x2048_S2048x5632_1_1_0_0_n_n none (extf .f32 d bitsLt_bf16_f32) (extf .f32 w bitsLt_bf16_f32)) (shapeCast _ (shapeCast _ (extractStridedSlice S2048x4x1x1408 ![0, 0, 1, 0] (shapeCast _ (extf .f32 g bitsLt_bf16_f32) shapeCasts_S2048x11264_S2048x4x2x1408) slices_S2048x4x2x1408_S2048x4x1x1408_0_0_1_0) shapeCasts_S2048x4x1x1408_S2048x4x1408) shapeCasts_S2048x4x1408_S2048x5632))) (mulf (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632))))) (subf (broadcastInDim S2048x5632 ![] bcast_S_S2048x5632 (constant (F := Ideal) S_ .f32 0x3F800000#32)) (Host.divf (broadcastInDim S2048x5632 ![] bcast_S_S2048x5632 (constant (F := Ideal) S_ .f32 0x3F800000#32)) (addf (broadcastInDim S2048x5632 ![] bcast_S_S2048x5632 (constant (F := Ideal) S_ .f32 0x3F800000#32)) (Host.exp (Host.negf (shapeCast _ (shapeCast _ (extractStridedSlice S2048x4x1x1408 ![0, 0, 0, 0] (shapeCast _ (extf .f32 g bitsLt_bf16_f32) shapeCasts_S2048x11264_S2048x4x2x1408) slices_S2048x4x2x1408_S2048x4x1x1408_0_0_0_0) shapeCasts_S2048x4x1x1408_S2048x4x1408) shapeCasts_S2048x4x1408_S2048x5632))))))))) shapeCasts_S2048x5632_S2048x4x1408)) (constant (F := Ideal) S_ .f32 0x00000000#32) pads_S2048x4x1x1408_S2048x4x2x1408_000_000_010_000 h_S_)) shapeCasts_S2048x4x2x1408_S2048x11264) bitsLt_bf16_f32) (ix2 i f))
      (if f.val % 2816 < 1408 then rgt (act d w i (col f)) (gate g i (col f)) (up g i (col f)) else rup (act d w i (col f)) (gate g i (col f))) := by
  refine (pads_at _ _ i f).trans ?_
  exact congrArg₂ (fun a b : EReal => if f.val % 2816 < 1408 then a else b) (y_at d w g i (col f)) (x_at d w g i (col f))

end Cert.DownDxRefIdeal.Mm

namespace Cert.DownDx.Mm

open Idealize.ShloMosaic Idealize.ShloMosaic.TcCoe Idealize.SL.Sem Cert.Att

/-- The reference's entry is the kernel's when the arguments are real numbers. -/
theorem ref_at (d : FVec Ideal Cert.DownDxRefIdeal.S2048x2048 .bf16) (w : FVec Ideal Cert.DownDxRefIdeal.S5632x2048 .bf16)
    (g : FVec Ideal Cert.DownDxRefIdeal.S2048x11264 .bf16) (hd : ∀ i k, IsR (d (ix2 i k))) (hw : ∀ j k, IsR (w (ix2 j k))) (hg : ∀ i f, IsR (g (ix2 i f)))
    (i : Fin 2048) (f : Fin 11264) :
    (if f.val % 2816 < 1408 then rgt (act d w i (col f)) (gate g i (col f)) (up g i (col f)) else rup (act d w i (col f)) (gate g i (col f)))
      = res d w g i f := by
  unfold res
  rw [up_eq, gt_eq (G := gate g i (col f)) (U := up g i (col f)) (act_real hd hw i _) (hg _ _) (hg _ _)]

theorem frame : Cert.quiescent_DownDx (hDownDx := Cert.DownDx.Gen.facts) := fun m ρ _ => Cert.DownDx.Gen.frame m ρ

theorem frame_ideal : Cert.quiescent_DownDxIdeal (hDownDxIdeal := Cert.DownDxIdeal.Gen.facts) := fun m ρ _ =>
  Cert.DownDxIdeal.Gen.frame m ρ

theorem frame_ref : Cert.quiescent_DownDxRefIdeal (hDownDxRefIdeal := Cert.DownDxRefIdeal.Gen.facts) := fun m ρ _ =>
  (θ_run Cert.DownDxRefIdeal.defs _ _).mono
    (fun r h => ⟨fun c => (h c).2, sem_eq_zero_of_no_sems (by decide) r.2⟩) (Cert.DownDxRefIdeal.Value.run m ρ)

theorem algebraic : Cert.algebraic_DownDxIdeal_DownDxRefIdeal_pre_finite3 (hDownDxIdeal := Cert.DownDxIdeal.Gen.facts)
    (hDownDxRefIdeal := Cert.DownDxRefIdeal.Gen.facts) (hPre_finite3 := Cert.DownDxIdeal.Mm.pre_facts) := by
  intro m g m' g' hpre hagree
  refine ⟨fun c y => Cert.DownDxIdeal.Mm.out m c (y 0) (y 1),
    (θ_run Cert.DownDxIdeal.defs _ _).mono (fun r h c => ⟨(h c).1.trans (Cert.DownDxIdeal.Mm.arr3 m c), (h c).2⟩)
      (Cert.DownDxIdeal.Value.run_blocks m g),
    (θ_run Cert.DownDxRefIdeal.defs _ _).mono (fun r h c => ⟨(h c).1.trans ?_, (h c).2⟩) (Cert.DownDxRefIdeal.Value.run m' g')⟩
  obtain ⟨h0, h1, h2⟩ := hagree c
  obtain ⟨p0, p1, p2⟩ := hpre c
  funext y
  rw [eq_ix2 y]
  unfold Cert.DownDxRefIdeal.Value.res_main_v25
  refine (Cert.DownDxRefIdeal.Mm.ends_at _ _ _ (y 0) (y 1)).trans ?_
  rw [h0, h1, h2]
  exact ref_at _ _ _ (fun i k => isR_of_cmp (congrFun p0 (ix2 i k))) (fun j k => isR_of_cmp (congrFun p1 (ix2 j k)))
    (fun i f => isR_of_cmp (congrFun p2 (ix2 i f))) (y 0) (y 1)

end Cert.DownDx.Mm

end
-- ==== Proof.Mm.All.lean ====
/- The further calls, one module each. -/
module

public import proofs.«01_k».proof.Proof.Mm.OutProj
public import proofs.«01_k».proof.Proof.Mm.OutProjDx
public import proofs.«01_k».proof.Proof.Mm.OutProjDw
public import proofs.«01_k».proof.Proof.Mm.InProjAg
public import proofs.«01_k».proof.Proof.Mm.InProjAgDw
public import proofs.«01_k».proof.Proof.Mm.InProjZ2
public import proofs.«01_k».proof.Proof.Mm.InProjZ2Dw
public import proofs.«01_k».proof.Proof.Mm.QUp
public import proofs.«01_k».proof.Proof.Mm.QUpDx
public import proofs.«01_k».proof.Proof.Mm.QUpDw
public import proofs.«01_k».proof.Proof.Mm.KvUp
public import proofs.«01_k».proof.Proof.Mm.KvUpDx
public import proofs.«01_k».proof.Proof.Mm.KvUpDw
public import proofs.«01_k».proof.Proof.Mm.FfnDown
public import proofs.«01_k».proof.Proof.Mm.InProjDx
public import proofs.«01_k».proof.Proof.Mm.FfnUp
public import proofs.«01_k».proof.Proof.Mm.DownDx
-- ==== Proof.lean ====
/- The attention's gradient: both runs end, the arguments stay, and over exact arithmetic the kernel's four results are
   the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.GateUpDwIdeal.Value
public import proofs.«01_k».proof.Proof.Gen.DownDwIdeal.Value
public import proofs.«01_k».proof.Proof.Gen.GateUpDxIdeal.Value
public import proofs.«01_k».proof.Proof.Gen.GateUpDw
public import proofs.«01_k».proof.Proof.Gen.GateUpDw.Frame
public import proofs.«01_k».proof.Proof.Gen.GateUpDwIdeal
public import proofs.«01_k».proof.Proof.Gen.GateUpDwRefIdeal
public import proofs.«01_k».proof.Proof.Gen.GateUpDwRefIdeal.Run
public import proofs.«01_k».proof.Proof.Gen.DownDw
public import proofs.«01_k».proof.Proof.Gen.DownDw.Frame
public import proofs.«01_k».proof.Proof.Gen.DownDwIdeal
public import proofs.«01_k».proof.Proof.Gen.DownDwRefIdeal
public import proofs.«01_k».proof.Proof.Gen.DownDwRefIdeal.Run
public import proofs.«01_k».proof.Proof.Gen.GateUpDx
public import proofs.«01_k».proof.Proof.Gen.GateUpDx.Frame
public import proofs.«01_k».proof.Proof.Gen.GateUpDxIdeal
public import proofs.«01_k».proof.Proof.Gen.GateUpDxRefIdeal
public import proofs.«01_k».proof.Proof.Gen.GateUpDxRefIdeal.Run
public import proofs.«01_k».proof.Proof.Att.Final
public import proofs.«01_k».proof.Proof.Att.Finite
public import proofs.«01_k».proof.Proof.Att.Frame
public import proofs.«01_k».proof.Proof.Att.RefOut
public import proofs.«01_k».proof.Proof.Ffn.Claims
public import proofs.«01_k».proof.Proof.Mm.All
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Att

/-! ### The runs -/

section

local instance : Cert.Kernel.Facts := Cert.Kernel.Gen.facts
local instance : Cert.KernelIdeal.Facts := Cert.KernelIdeal.Gen.facts

/-- The kernel prints the same from both programs: its body, -/
theorem body_eq : @Cert.Kernel.cc0_attention_bwd Bits _ _ = @Cert.KernelIdeal.cc0_attention_bwd Bits _ _ := rfl

set_option maxHeartbeats 2000000 in
/-- the body table, -/
theorem bodies_eq : Cert.Kernel.defs₀ (F := Bits) = Cert.KernelIdeal.defs₀ (F := Bits) := by
  refine congrArg Defs.onTc (funext fun l => funext fun x => ?_)
  obtain rfl : l = 0 := Fin.ext (by omega)
  obtain ⟨t, s⟩ := x
  rfl

/-- the table with the pipeline, -/
theorem defs_eq : Cert.Kernel.defs (F := Bits) = Cert.KernelIdeal.defs (F := Bits) :=
  congrArg (Pipeline.defs (Cert.KernelIdeal.pcfgs (F := Bits))) bodies_eq

/-- and the host's program. -/
theorem main_eq : Cert.Kernel.main (F := Bits) = Cert.KernelIdeal.main (F := Bits) := rfl

/-- A run of one program is a run of an equal one. -/
theorem run_of_eq {nD : Nat} {τ : Topo} {sig : RefSig} {V : EltTy → Type} {Λ : Labels} {d d' : Defs nD τ sig V Λ}
    {p p' : Dev nD → Prog (TpuEff nD τ sig V Λ .tc) PUnit} (hd : d = d') (hp : p = p') {s : MemSt nD τ sig V}
    {Q : _ → Prop} (h : θ_run d' (onTc (τ := τ) p') s Q) : θ_run d (onTc (τ := τ) p) s Q := by
  subst hd hp; exact h

set_option maxHeartbeats 2000000 in
theorem frame_kernel : Cert.quiescent_Kernel (hKernel := Cert.Kernel.Gen.facts) := by
  intro m ρ _
  refine run_of_eq defs_eq main_eq ?_
  exact Cert.KernelIdeal.Att.frame (F := Bits) m ρ

end

theorem frame_ideal : Cert.quiescent_KernelIdeal (hKernelIdeal := Cert.KernelIdeal.Gen.facts) := fun m ρ _ =>
  Cert.KernelIdeal.Att.frame m ρ

theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩) (Cert.ReferenceIdeal.Value.run m ρ)

/-! ### The values -/

section

variable (m : (ℓ : Loc Cert.KernelIdeal.nD Cert.KernelIdeal.τ Cert.KernelIdeal.sig) → Buf (Elt Ideal) ℓ)
  (c : Dev Cert.KernelIdeal.nD)

/-- The kernel's run, its results as the gradients of its arguments. -/
theorem run_ideal (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v24_0)
          = (fun y => Cert.KernelIdeal.Att.rQn (Cert.KernelIdeal.Att.args m c) (y 0) (y 1))
        ∧ r.2.mem ((c.tc : Thread Cert.KernelIdeal.nD Cert.KernelIdeal.τ).loc Cert.KernelIdeal.main_v24_1)
          = (fun y => Cert.KernelIdeal.Att.rQp (Cert.KernelIdeal.Att.args m c) (y 0) (y 1))
        ∧ r.2.mem ((c.tc : Thread Cert.KernelIdeal.nD Cert.KernelIdeal.τ).loc Cert.KernelIdeal.main_v24_2)
          = (fun y => Cert.KernelIdeal.Att.rKv (Cert.KernelIdeal.Att.args m c) (y 0) (y 1))
        ∧ r.2.mem ((c.tc : Thread Cert.KernelIdeal.nD Cert.KernelIdeal.τ).loc Cert.KernelIdeal.main_v24_3)
          = (fun y => (Cert.KernelIdeal.Att.args m c).gKp (y 0) (y 1))) :=
  (θ_run Cert.KernelIdeal.defs _ _).mono
    (fun _ h c => ⟨((h.1 c).1 7).trans (Cert.KernelIdeal.Att.arr_qn m c), ((h.1 c).1 8).trans (Cert.KernelIdeal.Att.arr_qp m c),
      ((h.1 c).1 9).trans (Cert.KernelIdeal.Att.arr_kv m c), ((h.1 c).1 10).trans (Cert.KernelIdeal.Att.arr_kp m c)⟩)
    (Cert.KernelIdeal.Att.run_main m ρ)

end

section

variable (W : Valuation Cert.ReferenceIdeal.τ Cert.ReferenceIdeal.sig (Elt Ideal)) (A : Args)
  (hA : Cert.ReferenceIdeal.Att.args W = A) (hr : A.Real)

include hA hr

theorem ref_qn : Cert.ReferenceIdeal.Att.outQn W = fun y => Cert.KernelIdeal.Att.rQn A (y 0) (y 1) := by
  subst hA
  funext y
  rw [eq_ix2 y]
  obtain ⟨h, j, e⟩ := exists_c128 (y 1)
  refine (congrArg (fun k => Cert.ReferenceIdeal.Att.outQn W (ix2 (y 0) k)) e).trans
    ((Cert.ReferenceIdeal.Att.outQn_at W hr (y 0) h j).trans (Eq.trans ?_ (congrArg (fun k =>
      Cert.KernelIdeal.Att.rQn (Cert.ReferenceIdeal.Att.args W) (y 0) k) e).symm))
  unfold Cert.KernelIdeal.Att.rQn c128
  refine congrArg₂ (fun a b => (Cert.ReferenceIdeal.Att.args W).gQn (y 0) a b) (Fin.ext ?_) (Fin.ext ?_)
  · show h.val = (h.val * 128 + j.val) / 128; omega
  · show j.val = (h.val * 128 + j.val) % 128; omega

theorem ref_qp : Cert.ReferenceIdeal.Att.outQp W = fun y => Cert.KernelIdeal.Att.rQp A (y 0) (y 1) := by
  subst hA
  funext y
  rw [eq_ix2 y]
  obtain ⟨h, d, e⟩ := exists_c64 (y 1)
  refine (congrArg (fun k => Cert.ReferenceIdeal.Att.outQp W (ix2 (y 0) k)) e).trans
    ((Cert.ReferenceIdeal.Att.outQp_at W hr (y 0) h d).trans (Eq.trans ?_ (congrArg (fun k =>
      Cert.KernelIdeal.Att.rQp (Cert.ReferenceIdeal.Att.args W) (y 0) k) e).symm))
  unfold Cert.KernelIdeal.Att.rQp c64
  refine congrArg₂ (fun a b => (Cert.ReferenceIdeal.Att.args W).gQp (y 0) a b) (Fin.ext ?_) (Fin.ext ?_)
  · show h.val = (h.val * 64 + d.val) / 64; omega
  · show d.val = (h.val * 64 + d.val) % 64; omega

theorem ref_kv : Cert.ReferenceIdeal.Att.outKv W = fun y => Cert.KernelIdeal.Att.rKv A (y 0) (y 1) := by
  subst hA
  funext y
  rw [eq_ix2 y]
  rcases exists_kv (y 1) with ⟨h, j, e⟩ | ⟨h, j, e⟩
  · refine (congrArg (fun k => Cert.ReferenceIdeal.Att.outKv W (ix2 (y 0) k)) e).trans
      ((Cert.ReferenceIdeal.Att.outKv_k W hr (y 0) h j).trans (Eq.trans ?_ (congrArg (fun k =>
        Cert.KernelIdeal.Att.rKv (Cert.ReferenceIdeal.Att.args W) (y 0) k) e).symm))
    unfold Cert.KernelIdeal.Att.rKv ck
    refine Eq.trans ?_ (dif_pos (show (h.val * 256 + j.val) % 256 < 128 by omega)).symm
    refine congrArg₂ (fun a b => (Cert.ReferenceIdeal.Att.args W).gKn (y 0) a b) (Fin.ext ?_) (Fin.ext ?_)
    · show h.val = (h.val * 256 + j.val) / 256; omega
    · show j.val = (h.val * 256 + j.val) % 256; omega
  · refine (congrArg (fun k => Cert.ReferenceIdeal.Att.outKv W (ix2 (y 0) k)) e).trans
      ((Cert.ReferenceIdeal.Att.outKv_v W hr (y 0) h j).trans (Eq.trans ?_ (congrArg (fun k =>
        Cert.KernelIdeal.Att.rKv (Cert.ReferenceIdeal.Att.args W) (y 0) k) e).symm))
    unfold Cert.KernelIdeal.Att.rKv cv
    refine Eq.trans ?_ (dif_neg (show ¬(h.val * 256 + (128 + j.val)) % 256 < 128 by omega)).symm
    refine congrArg₂ (fun a b => (Cert.ReferenceIdeal.Att.args W).gV (y 0) a b) (Fin.ext ?_) (Fin.ext ?_)
    · show h.val = (h.val * 256 + (128 + j.val)) / 256; omega
    · show j.val = (h.val * 256 + (128 + j.val)) % 256 - 128; omega

theorem ref_kp : Cert.ReferenceIdeal.Att.outKp W = fun y => A.gKp (y 0) (y 1) := by
  subst hA
  funext y
  rw [eq_ix2 y]
  exact Cert.ReferenceIdeal.Att.outKp_at W hr (y 0) (y 1)

end

theorem algebraic : Cert.algebraic_KernelIdeal_ReferenceIdeal_pre_finite (hKernelIdeal := Cert.KernelIdeal.Gen.facts)
    (hReferenceIdeal := Cert.ReferenceIdeal.Gen.facts) (hPre_finite := Cert.KernelIdeal.Att.pre_facts) := by
  intro m g m' g' hpre hagree
  have hA : ∀ c, Cert.ReferenceIdeal.Att.args (StableHlo.launchContents m' c) = Cert.KernelIdeal.Att.args m c := by
    intro c
    obtain ⟨h0, h1, h2, h3, h4, h5⟩ := hagree c
    unfold Cert.ReferenceIdeal.Att.args Cert.KernelIdeal.Att.args
    refine congr (congr (congr (congr (congr (congrArg Args.mk ?_) ?_) ?_) ?_) ?_) ?_
    · funext s k; exact congrFun h0 (ix2 s k)
    · funext s k; exact congrFun h1 (ix2 s k)
    · funext s k; exact congrFun h2 (ix2 s k)
    · funext s k; exact congrFun h3 (ix2 s k)
    · funext s; exact congrFun h4 (ix2 0 s)
    · funext s k; exact congrFun h5 (ix2 s k)
  refine ⟨fun c y => Cert.KernelIdeal.Att.rQn (Cert.KernelIdeal.Att.args m c) (y 0) (y 1),
    fun c y => Cert.KernelIdeal.Att.rQp (Cert.KernelIdeal.Att.args m c) (y 0) (y 1),
    fun c y => Cert.KernelIdeal.Att.rKv (Cert.KernelIdeal.Att.args m c) (y 0) (y 1),
    fun c y => (Cert.KernelIdeal.Att.args m c).gKp (y 0) (y 1), (θ_run Cert.KernelIdeal.defs _ _).mono (fun r h c => ?_) (θ_run_and (run_ideal m g) (Cert.KernelIdeal.Att.frame m g)),
    (θ_run Cert.ReferenceIdeal.defs _ _).mono (fun r h c => ?_) (Cert.ReferenceIdeal.Value.run m' g')⟩
  · exact ⟨(h.1 c).1, (h.1 c).2.1, (h.1 c).2.2.1, (h.1 c).2.2.2, h.2.1 c⟩
  · have hr := Cert.KernelIdeal.Att.real_args m c hpre
    obtain ⟨h1, h2, h3, h4, ha⟩ := h c
    exact ⟨h1.trans (ref_qn _ _ (hA c) hr), h2.trans (ref_qp _ _ (hA c) hr), h3.trans (ref_kv _ _ (hA c) hr),
      h4.trans (ref_kp _ _ (hA c) hr), ha⟩

theorem claim : Cert.Claim :=
  ⟨Cert.Kernel.Gen.facts, Cert.KernelIdeal.Gen.facts, Cert.ReferenceIdeal.Gen.facts, Cert.GateUpDw.Gen.facts,
    Cert.GateUpDwIdeal.Gen.facts, Cert.GateUpDwRefIdeal.Gen.facts, Cert.DownDw.Gen.facts, Cert.DownDwIdeal.Gen.facts,
    Cert.DownDwRefIdeal.Gen.facts, Cert.GateUpDx.Gen.facts, Cert.GateUpDxIdeal.Gen.facts, Cert.GateUpDxRefIdeal.Gen.facts,
    Cert.OutProj.Gen.facts, Cert.OutProjIdeal.Gen.facts, Cert.OutProjRefIdeal.Gen.facts, Cert.OutProjDx.Gen.facts,
    Cert.OutProjDxIdeal.Gen.facts, Cert.OutProjDxRefIdeal.Gen.facts, Cert.OutProjDw.Gen.facts, Cert.OutProjDwIdeal.Gen.facts,
    Cert.OutProjDwRefIdeal.Gen.facts, Cert.InProjAg.Gen.facts, Cert.InProjAgIdeal.Gen.facts, Cert.InProjAgRefIdeal.Gen.facts,
    Cert.InProjAgDw.Gen.facts, Cert.InProjAgDwIdeal.Gen.facts, Cert.InProjAgDwRefIdeal.Gen.facts, Cert.InProjZ2.Gen.facts,
    Cert.InProjZ2Ideal.Gen.facts, Cert.InProjZ2RefIdeal.Gen.facts, Cert.InProjZ2Dw.Gen.facts, Cert.InProjZ2DwIdeal.Gen.facts,
    Cert.InProjZ2DwRefIdeal.Gen.facts, Cert.QUp.Gen.facts, Cert.QUpIdeal.Gen.facts, Cert.QUpRefIdeal.Gen.facts,
    Cert.QUpDx.Gen.facts, Cert.QUpDxIdeal.Gen.facts, Cert.QUpDxRefIdeal.Gen.facts, Cert.QUpDw.Gen.facts,
    Cert.QUpDwIdeal.Gen.facts, Cert.QUpDwRefIdeal.Gen.facts, Cert.KvUp.Gen.facts, Cert.KvUpIdeal.Gen.facts,
    Cert.KvUpRefIdeal.Gen.facts, Cert.KvUpDx.Gen.facts, Cert.KvUpDxIdeal.Gen.facts, Cert.KvUpDxRefIdeal.Gen.facts,
    Cert.KvUpDw.Gen.facts, Cert.KvUpDwIdeal.Gen.facts, Cert.KvUpDwRefIdeal.Gen.facts, Cert.FfnDown.Gen.facts,
    Cert.FfnDownIdeal.Gen.facts, Cert.FfnDownRefIdeal.Gen.facts, Cert.InProjDx.Gen.facts, Cert.InProjDxIdeal.Gen.facts,
    Cert.InProjDxRefIdeal.Gen.facts, Cert.FfnUp.Gen.facts, Cert.FfnUpIdeal.Gen.facts, Cert.FfnUpRefIdeal.Gen.facts,
    Cert.DownDx.Gen.facts, Cert.DownDxIdeal.Gen.facts, Cert.DownDxRefIdeal.Gen.facts, Cert.KernelIdeal.Att.pre_facts,
    Cert.DownDxIdeal.Mm.pre_facts,
    frame_kernel, frame_ideal, fun m g _ => frame_ideal m g trivial, frame_reference, fun m g _ => frame_reference m g trivial,
    gateUpDw_frame, gateUpDw_frame_ideal, gateUpDw_frame_ref, downDw_frame, downDw_frame_ideal, downDw_frame_ref, gateUpDx_frame,
    gateUpDx_frame_ideal, gateUpDx_frame_ref, Cert.OutProj.Mm.frame, Cert.OutProj.Mm.frame_ideal, Cert.OutProj.Mm.frame_ref,
    Cert.OutProjDx.Mm.frame, Cert.OutProjDx.Mm.frame_ideal, Cert.OutProjDx.Mm.frame_ref, Cert.OutProjDw.Mm.frame,
    Cert.OutProjDw.Mm.frame_ideal, Cert.OutProjDw.Mm.frame_ref, Cert.InProjAg.Mm.frame, Cert.InProjAg.Mm.frame_ideal,
    Cert.InProjAg.Mm.frame_ref, Cert.InProjAgDw.Mm.frame, Cert.InProjAgDw.Mm.frame_ideal, Cert.InProjAgDw.Mm.frame_ref,
    Cert.InProjZ2.Mm.frame, Cert.InProjZ2.Mm.frame_ideal, Cert.InProjZ2.Mm.frame_ref, Cert.InProjZ2Dw.Mm.frame,
    Cert.InProjZ2Dw.Mm.frame_ideal, Cert.InProjZ2Dw.Mm.frame_ref, Cert.QUp.Mm.frame, Cert.QUp.Mm.frame_ideal,
    Cert.QUp.Mm.frame_ref, Cert.QUpDx.Mm.frame, Cert.QUpDx.Mm.frame_ideal, Cert.QUpDx.Mm.frame_ref, Cert.QUpDw.Mm.frame,
    Cert.QUpDw.Mm.frame_ideal, Cert.QUpDw.Mm.frame_ref, Cert.KvUp.Mm.frame, Cert.KvUp.Mm.frame_ideal, Cert.KvUp.Mm.frame_ref,
    Cert.KvUpDx.Mm.frame, Cert.KvUpDx.Mm.frame_ideal, Cert.KvUpDx.Mm.frame_ref, Cert.KvUpDw.Mm.frame, Cert.KvUpDw.Mm.frame_ideal,
    Cert.KvUpDw.Mm.frame_ref, Cert.FfnDown.Mm.frame, Cert.FfnDown.Mm.frame_ideal, Cert.FfnDown.Mm.frame_ref,
    Cert.InProjDx.Mm.frame, Cert.InProjDx.Mm.frame_ideal, Cert.InProjDx.Mm.frame_ref, Cert.FfnUp.Mm.frame,
    Cert.FfnUp.Mm.frame_ideal, Cert.FfnUp.Mm.frame_ref,
    Cert.DownDx.Mm.frame, Cert.DownDx.Mm.frame_ideal, fun m g _ => Cert.DownDx.Mm.frame_ideal m g trivial,
    Cert.DownDx.Mm.frame_ref, fun m g _ => Cert.DownDx.Mm.frame_ref m g trivial, trivial, algebraic, trivial, gateUpDw_algebraic,
    trivial, downDw_algebraic, trivial, gateUpDx_algebraic, trivial, Cert.OutProj.Mm.algebraic,
    trivial, Cert.OutProjDx.Mm.algebraic, trivial, Cert.OutProjDw.Mm.algebraic, trivial, Cert.InProjAg.Mm.algebraic,
    trivial, Cert.InProjAgDw.Mm.algebraic, trivial, Cert.InProjZ2.Mm.algebraic, trivial, Cert.InProjZ2Dw.Mm.algebraic,
    trivial, Cert.QUp.Mm.algebraic, trivial, Cert.QUpDx.Mm.algebraic, trivial, Cert.QUpDw.Mm.algebraic,
    trivial, Cert.KvUp.Mm.algebraic, trivial, Cert.KvUpDx.Mm.algebraic, trivial, Cert.KvUpDw.Mm.algebraic,
    trivial, Cert.FfnDown.Mm.algebraic, trivial, Cert.InProjDx.Mm.algebraic, trivial, Cert.FfnUp.Mm.algebraic,
    trivial, Cert.DownDx.Mm.algebraic⟩

end Cert.Proof

end
